-- ==== Defs.lean ====
def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInBwd (m : (ℓ : Loc Cert.MixInBwd.nD Cert.MixInBwd.τ Cert.MixInBwd.sig) → Buf (Elt Bits) ℓ) : Prop :=
  True

def Pre_MixInBwdIdeal (m : (ℓ : Loc Cert.MixInBwdIdeal.nD Cert.MixInBwdIdeal.τ Cert.MixInBwdIdeal.sig) → Buf (Elt Ideal) ℓ) : Prop :=
  True

def Pre_MixInBwdIdeal_mix_finite [hPre_mix_finite : Cert.Pre_mix_finite.Facts] (m : (ℓ : Loc Cert.MixInBwdIdeal.nD Cert.MixInBwdIdeal.τ Cert.MixInBwdIdeal.sig) → Buf (Elt Ideal) ℓ) : Prop :=
  ∀ c : Dev Cert.MixInBwdIdeal.nD,
    (Cert.Pre_mix_finite.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5))) = (fun _ => 1#1)

def Pre_MixInBwdRefIdeal (m : (ℓ : Loc Cert.MixInBwdRefIdeal.nD Cert.MixInBwdRefIdeal.τ Cert.MixInBwdRefIdeal.sig) → Buf (Elt Ideal) ℓ) : Prop :=
  True

def Pre_MixInBwdRefIdeal_mix_finite [hPre_mix_finite : Cert.Pre_mix_finite.Facts] (m : (ℓ : Loc Cert.MixInBwdRefIdeal.nD Cert.MixInBwdRefIdeal.τ Cert.MixInBwdRefIdeal.sig) → Buf (Elt Ideal) ℓ) : Prop :=
  ∀ c : Dev Cert.MixInBwdRefIdeal.nD,
    (Cert.Pre_mix_finite.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5))) = (fun _ => 1#1)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4)
      ∧ r.2.mem ((c.tc : Thread Cert.GradIn.nD Cert.GradIn.τ).loc Cert.GradIn.main_arg5) = m ((c.tc : Thread Cert.GradIn.nD Cert.GradIn.τ).loc Cert.GradIn.main_arg5))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
      ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2)
      ∧ r.2.mem ((c.tc : Thread Cert.GradInRefIdeal.nD Cert.GradInRefIdeal.τ).loc Cert.GradInRefIdeal.main_arg3) = m ((c.tc : Thread Cert.GradInRefIdeal.nD Cert.GradInRefIdeal.τ).loc Cert.GradInRefIdeal.main_arg3)
      ∧ r.2.mem ((c.tc : Thread Cert.GradInRefIdeal.nD Cert.GradInRefIdeal.τ).loc Cert.GradInRefIdeal.main_arg4) = m ((c.tc : Thread Cert.GradInRefIdeal.nD Cert.GradInRefIdeal.τ).loc Cert.GradInRefIdeal.main_arg4)
      ∧ r.2.mem ((c.tc : Thread Cert.GradInRefIdeal.nD Cert.GradInRefIdeal.τ).loc Cert.GradInRefIdeal.main_arg5) = m ((c.tc : Thread Cert.GradInRefIdeal.nD Cert.GradInRefIdeal.τ).loc Cert.GradInRefIdeal.main_arg5))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1)
      ∧ r.2.mem ((c.tc : Thread Cert.GradOut.nD Cert.GradOut.τ).loc Cert.GradOut.main_arg2) = m ((c.tc : Thread Cert.GradOut.nD Cert.GradOut.τ).loc Cert.GradOut.main_arg2))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
      ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1)
      ∧ r.2.mem ((c.tc : Thread Cert.GradOutRefIdeal.nD Cert.GradOutRefIdeal.τ).loc Cert.GradOutRefIdeal.main_arg2) = m ((c.tc : Thread Cert.GradOutRefIdeal.nD Cert.GradOutRefIdeal.τ).loc Cert.GradOutRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3))
      ∧ r.2.sem = fun _ => 0)

def quiescent_MixInBwd [hMixInBwd : Cert.MixInBwd.Facts] : Prop :=
  ∀ (m : (ℓ : Loc Cert.MixInBwd.nD Cert.MixInBwd.τ Cert.MixInBwd.sig) → Buf (Elt Bits) ℓ) (g : Dev Cert.MixInBwd.nD → PrngReg), Pre_MixInBwd m →
    θ_run (Cert.MixInBwd.defs (F := Bits)) (onTc (τ := Cert.MixInBwd.τ) (Cert.MixInBwd.main (F := Bits))) ⟨m, fun _ => 0, g⟩ (fun r => (∀ c : Dev Cert.MixInBwd.nD,
      r.2.mem ((c.tc : Thread Cert.MixInBwd.nD Cert.MixInBwd.τ).loc Cert.MixInBwd.main_arg0) = m ((c.tc : Thread Cert.MixInBwd.nD Cert.MixInBwd.τ).loc Cert.MixInBwd.main_arg0)
      ∧ r.2.mem ((c.tc : Thread Cert.MixInBwd.nD Cert.MixInBwd.τ).loc Cert.MixInBwd.main_arg1) = m ((c.tc : Thread Cert.MixInBwd.nD Cert.MixInBwd.τ).loc Cert.MixInBwd.main_arg1)
      ∧ r.2.mem ((c.tc : Thread Cert.MixInBwd.nD Cert.MixInBwd.τ).loc Cert.MixInBwd.main_arg2) = m ((c.tc : Thread Cert.MixInBwd.nD Cert.MixInBwd.τ).loc Cert.MixInBwd.main_arg2)
      ∧ r.2.mem ((c.tc : Thread Cert.MixInBwd.nD Cert.MixInBwd.τ).loc Cert.MixInBwd.main_arg3) = m ((c.tc : Thread Cert.MixInBwd.nD Cert.MixInBwd.τ).loc Cert.MixInBwd.main_arg3)
      ∧ r.2.mem ((c.tc : Thread Cert.MixInBwd.nD Cert.MixInBwd.τ).loc Cert.MixInBwd.main_arg4) = m ((c.tc : Thread Cert.MixInBwd.nD Cert.MixInBwd.τ).loc Cert.MixInBwd.main_arg4)
      ∧ r.2.mem ((c.tc : Thread Cert.MixInBwd.nD Cert.MixInBwd.τ).loc Cert.MixInBwd.main_arg5) = m ((c.tc : Thread Cert.MixInBwd.nD Cert.MixInBwd.τ).loc Cert.MixInBwd.main_arg5))
      ∧ r.2.sem = fun _ => 0)

def quiescent_MixInBwdIdeal [hMixInBwdIdeal : Cert.MixInBwdIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
      ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5))
      ∧ r.2.sem = fun _ => 0)

def quiescent_MixInBwdIdeal_pre_mix_finite [hMixInBwdIdeal : Cert.MixInBwdIdeal.Facts] [hPre_mix_finite : Cert.Pre_mix_finite.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal_mix_finite m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
      ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5))
      ∧ r.2.sem = fun _ => 0)

def quiescent_MixInBwdRefIdeal [hMixInBwdRefIdeal : Cert.MixInBwdRefIdeal.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4)
      ∧ r.2.mem ((c.tc : Thread Cert.MixInBwdRefIdeal.nD Cert.MixInBwdRefIdeal.τ).loc Cert.MixInBwdRefIdeal.main_arg5) = m ((c.tc : Thread Cert.MixInBwdRefIdeal.nD Cert.MixInBwdRefIdeal.τ).loc Cert.MixInBwdRefIdeal.main_arg5))
      ∧ r.2.sem = fun _ => 0)

def quiescent_MixInBwdRefIdeal_pre_mix_finite [hMixInBwdRefIdeal : Cert.MixInBwdRefIdeal.Facts] [hPre_mix_finite : Cert.Pre_mix_finite.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal_mix_finite m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4)
      ∧ r.2.mem ((c.tc : Thread Cert.MixInBwdRefIdeal.nD Cert.MixInBwdRefIdeal.τ).loc Cert.MixInBwdRefIdeal.main_arg5) = m ((c.tc : Thread Cert.MixInBwdRefIdeal.nD Cert.MixInBwdRefIdeal.τ).loc Cert.MixInBwdRefIdeal.main_arg5))
      ∧ r.2.sem = fun _ => 0)

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v5)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v5) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v6) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v5)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v5) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v5) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)
      ∧ m' ((c.tc : Thread Cert.GradInRefIdeal.nD Cert.GradInRefIdeal.τ).loc Cert.GradInRefIdeal.main_arg2) = m ((c.tc : Thread Cert.GradInIdeal.nD Cert.GradInIdeal.τ).loc Cert.GradInIdeal.main_arg2)
      ∧ m' ((c.tc : Thread Cert.GradInRefIdeal.nD Cert.GradInRefIdeal.τ).loc Cert.GradInRefIdeal.main_arg3) = m ((c.tc : Thread Cert.GradInIdeal.nD Cert.GradInIdeal.τ).loc Cert.GradInIdeal.main_arg3)
      ∧ m' ((c.tc : Thread Cert.GradInRefIdeal.nD Cert.GradInRefIdeal.τ).loc Cert.GradInRefIdeal.main_arg4) = m ((c.tc : Thread Cert.GradInIdeal.nD Cert.GradInIdeal.τ).loc Cert.GradInIdeal.main_arg4)
      ∧ m' ((c.tc : Thread Cert.GradInRefIdeal.nD Cert.GradInRefIdeal.τ).loc Cert.GradInRefIdeal.main_arg5) = m ((c.tc : Thread Cert.GradInIdeal.nD Cert.GradInIdeal.τ).loc Cert.GradInIdeal.main_arg5)) →
    ∃ (v0 : (c : Dev Cert.GradInIdeal.nD) → Buf (Elt Ideal) ((c.tc : Thread Cert.GradInIdeal.nD Cert.GradInIdeal.τ).loc Cert.GradInIdeal.main_v12)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v12) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4)
          ∧ r.2.mem ((c.tc : Thread Cert.GradInIdeal.nD Cert.GradInIdeal.τ).loc Cert.GradInIdeal.main_arg5) = m ((c.tc : Thread Cert.GradInIdeal.nD Cert.GradInIdeal.τ).loc Cert.GradInIdeal.main_arg5))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v11) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1)
          ∧ r.2.mem ((c.tc : Thread Cert.GradInRefIdeal.nD Cert.GradInRefIdeal.τ).loc Cert.GradInRefIdeal.main_arg2) = m' ((c.tc : Thread Cert.GradInRefIdeal.nD Cert.GradInRefIdeal.τ).loc Cert.GradInRefIdeal.main_arg2)
          ∧ r.2.mem ((c.tc : Thread Cert.GradInRefIdeal.nD Cert.GradInRefIdeal.τ).loc Cert.GradInRefIdeal.main_arg3) = m' ((c.tc : Thread Cert.GradInRefIdeal.nD Cert.GradInRefIdeal.τ).loc Cert.GradInRefIdeal.main_arg3)
          ∧ r.2.mem ((c.tc : Thread Cert.GradInRefIdeal.nD Cert.GradInRefIdeal.τ).loc Cert.GradInRefIdeal.main_arg4) = m' ((c.tc : Thread Cert.GradInRefIdeal.nD Cert.GradInRefIdeal.τ).loc Cert.GradInRefIdeal.main_arg4)
          ∧ r.2.mem ((c.tc : Thread Cert.GradInRefIdeal.nD Cert.GradInRefIdeal.τ).loc Cert.GradInRefIdeal.main_arg5) = m' ((c.tc : Thread Cert.GradInRefIdeal.nD Cert.GradInRefIdeal.τ).loc Cert.GradInRefIdeal.main_arg5))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)
      ∧ m' ((c.tc : Thread Cert.GradOutRefIdeal.nD Cert.GradOutRefIdeal.τ).loc Cert.GradOutRefIdeal.main_arg2) = m ((c.tc : Thread Cert.GradOutIdeal.nD Cert.GradOutIdeal.τ).loc Cert.GradOutIdeal.main_arg2)) →
    ∃ (v0 : (c : Dev Cert.GradOutIdeal.nD) → Buf (Elt Ideal) ((c.tc : Thread Cert.GradOutIdeal.nD Cert.GradOutIdeal.τ).loc Cert.GradOutIdeal.main_v6)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v6) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1)
          ∧ r.2.mem ((c.tc : Thread Cert.GradOutIdeal.nD Cert.GradOutIdeal.τ).loc Cert.GradOutIdeal.main_arg2) = m ((c.tc : Thread Cert.GradOutIdeal.nD Cert.GradOutIdeal.τ).loc Cert.GradOutIdeal.main_arg2))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v5) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1)
          ∧ r.2.mem ((c.tc : Thread Cert.GradOutRefIdeal.nD Cert.GradOutRefIdeal.τ).loc Cert.GradOutRefIdeal.main_arg2) = m' ((c.tc : Thread Cert.GradOutRefIdeal.nD Cert.GradOutRefIdeal.τ).loc Cert.GradOutRefIdeal.main_arg2))

def preserves_FfnBwd_FfnBwdIdeal : Prop :=
  True

def algebraic_FfnBwdIdeal_FfnBwdRefIdeal_pre_ffn_finite [hFfnBwdIdeal : Cert.FfnBwdIdeal.Facts] [hFfnBwdRefIdeal : Cert.FfnBwdRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)
      ∧ m' ((c.tc : Thread Cert.FfnBwdRefIdeal.nD Cert.FfnBwdRefIdeal.τ).loc Cert.FfnBwdRefIdeal.main_arg7) = m ((c.tc : Thread Cert.FfnBwdIdeal.nD Cert.FfnBwdIdeal.τ).loc Cert.FfnBwdIdeal.main_arg7)) →
    ∃ (v0 : (c : Dev Cert.FfnBwdIdeal.nD) → Buf (Elt Ideal) ((c.tc : Thread Cert.FfnBwdIdeal.nD Cert.FfnBwdIdeal.τ).loc Cert.FfnBwdIdeal.main_v51_0)) (v1 : (c : Dev Cert.FfnBwdIdeal.nD) → Buf (Elt Ideal) ((c.tc : Thread Cert.FfnBwdIdeal.nD Cert.FfnBwdIdeal.τ).loc Cert.FfnBwdIdeal.main_v51_1)) (v2 : (c : Dev Cert.FfnBwdIdeal.nD) → Buf (Elt Ideal) ((c.tc : Thread Cert.FfnBwdIdeal.nD Cert.FfnBwdIdeal.τ).loc Cert.FfnBwdIdeal.main_v51_2)) (v3 : (c : Dev Cert.FfnBwdIdeal.nD) → Buf (Elt Ideal) ((c.tc : Thread Cert.FfnBwdIdeal.nD Cert.FfnBwdIdeal.τ).loc Cert.FfnBwdIdeal.main_v51_3)) (v4 : (c : Dev Cert.FfnBwdIdeal.nD) → Buf (Elt Ideal) ((c.tc : Thread Cert.FfnBwdIdeal.nD Cert.FfnBwdIdeal.τ).loc Cert.FfnBwdIdeal.main_v51_4)) (v5 : (c : Dev Cert.FfnBwdIdeal.nD) → Buf (Elt Ideal) ((c.tc : Thread Cert.FfnBwdIdeal.nD Cert.FfnBwdIdeal.τ).loc Cert.FfnBwdIdeal.main_v51_5)) (v6 : (c : Dev Cert.FfnBwdIdeal.nD) → Buf (Elt Ideal) ((c.tc : Thread Cert.FfnBwdIdeal.nD Cert.FfnBwdIdeal.τ).loc Cert.FfnBwdIdeal.main_v51_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v51_0) = v0 c
          ∧ r.2.mem ((c.tc : Thread Cert.FfnBwdIdeal.nD Cert.FfnBwdIdeal.τ).loc Cert.FfnBwdIdeal.main_v51_1) = v1 c
          ∧ r.2.mem ((c.tc : Thread Cert.FfnBwdIdeal.nD Cert.FfnBwdIdeal.τ).loc Cert.FfnBwdIdeal.main_v51_2) = v2 c
          ∧ r.2.mem ((c.tc : Thread Cert.FfnBwdIdeal.nD Cert.FfnBwdIdeal.τ).loc Cert.FfnBwdIdeal.main_v51_3) = v3 c
          ∧ r.2.mem ((c.tc : Thread Cert.FfnBwdIdeal.nD Cert.FfnBwdIdeal.τ).loc Cert.FfnBwdIdeal.main_v51_4) = v4 c
          ∧ r.2.mem ((c.tc : Thread Cert.FfnBwdIdeal.nD Cert.FfnBwdIdeal.τ).loc Cert.FfnBwdIdeal.main_v51_5) = v5 c
          ∧ r.2.mem ((c.tc : Thread Cert.FfnBwdIdeal.nD Cert.FfnBwdIdeal.τ).loc Cert.FfnBwdIdeal.main_v51_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v97) = v0 c
          ∧ r.2.mem ((c.tc : Thread Cert.FfnBwdRefIdeal.nD Cert.FfnBwdRefIdeal.τ).loc Cert.FfnBwdRefIdeal.main_v100) = v1 c
          ∧ r.2.mem ((c.tc : Thread Cert.FfnBwdRefIdeal.nD Cert.FfnBwdRefIdeal.τ).loc Cert.FfnBwdRefIdeal.main_v103) = v2 c
          ∧ r.2.mem ((c.tc : Thread Cert.FfnBwdRefIdeal.nD Cert.FfnBwdRefIdeal.τ).loc Cert.FfnBwdRefIdeal.main_v104) = v3 c
          ∧ r.2.mem ((c.tc : Thread Cert.FfnBwdRefIdeal.nD Cert.FfnBwdRefIdeal.τ).loc Cert.FfnBwdRefIdeal.main_v106) = v4 c
          ∧ r.2.mem ((c.tc : Thread Cert.FfnBwdRefIdeal.nD Cert.FfnBwdRefIdeal.τ).loc Cert.FfnBwdRefIdeal.main_v108) = v5 c
          ∧ r.2.mem ((c.tc : Thread Cert.FfnBwdRefIdeal.nD Cert.FfnBwdRefIdeal.τ).loc Cert.FfnBwdRefIdeal.main_v109) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v10_0)) (v1 : (c : Dev Cert.FfnFwdIdeal.nD) → Buf (Elt Ideal) ((c.tc : Thread Cert.FfnFwdIdeal.nD Cert.FfnFwdIdeal.τ).loc Cert.FfnFwdIdeal.main_v10_1)) (v2 : (c : Dev Cert.FfnFwdIdeal.nD) → Buf (Elt Ideal) ((c.tc : Thread Cert.FfnFwdIdeal.nD Cert.FfnFwdIdeal.τ).loc Cert.FfnFwdIdeal.main_v10_2)) (v3 : (c : Dev Cert.FfnFwdIdeal.nD) → Buf (Elt Ideal) ((c.tc : Thread Cert.FfnFwdIdeal.nD Cert.FfnFwdIdeal.τ).loc Cert.FfnFwdIdeal.main_v10_3)) (v4 : (c : Dev Cert.FfnFwdIdeal.nD) → Buf (Elt Ideal) ((c.tc : Thread Cert.FfnFwdIdeal.nD Cert.FfnFwdIdeal.τ).loc Cert.FfnFwdIdeal.main_v10_4)) (v5 : (c : Dev Cert.FfnFwdIdeal.nD) → Buf (Elt Ideal) ((c.tc : Thread Cert.FfnFwdIdeal.nD Cert.FfnFwdIdeal.τ).loc Cert.FfnFwdIdeal.main_v10_5)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v10_0) = v0 c
          ∧ r.2.mem ((c.tc : Thread Cert.FfnFwdIdeal.nD Cert.FfnFwdIdeal.τ).loc Cert.FfnFwdIdeal.main_v10_1) = v1 c
          ∧ r.2.mem ((c.tc : Thread Cert.FfnFwdIdeal.nD Cert.FfnFwdIdeal.τ).loc Cert.FfnFwdIdeal.main_v10_2) = v2 c
          ∧ r.2.mem ((c.tc : Thread Cert.FfnFwdIdeal.nD Cert.FfnFwdIdeal.τ).loc Cert.FfnFwdIdeal.main_v10_3) = v3 c
          ∧ r.2.mem ((c.tc : Thread Cert.FfnFwdIdeal.nD Cert.FfnFwdIdeal.τ).loc Cert.FfnFwdIdeal.main_v10_4) = v4 c
          ∧ r.2.mem ((c.tc : Thread Cert.FfnFwdIdeal.nD Cert.FfnFwdIdeal.τ).loc Cert.FfnFwdIdeal.main_v10_5) = v5 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v37) = v0 c
          ∧ r.2.mem ((c.tc : Thread Cert.FfnFwdRefIdeal.nD Cert.FfnFwdRefIdeal.τ).loc Cert.FfnFwdRefIdeal.main_v40) = v1 c
          ∧ r.2.mem ((c.tc : Thread Cert.FfnFwdRefIdeal.nD Cert.FfnFwdRefIdeal.τ).loc Cert.FfnFwdRefIdeal.main_v41) = v2 c
          ∧ r.2.mem ((c.tc : Thread Cert.FfnFwdRefIdeal.nD Cert.FfnFwdRefIdeal.τ).loc Cert.FfnFwdRefIdeal.main_v43) = v3 c
          ∧ r.2.mem ((c.tc : Thread Cert.FfnFwdRefIdeal.nD Cert.FfnFwdRefIdeal.τ).loc Cert.FfnFwdRefIdeal.main_v45) = v4 c
          ∧ r.2.mem ((c.tc : Thread Cert.FfnFwdRefIdeal.nD Cert.FfnFwdRefIdeal.τ).loc Cert.FfnFwdRefIdeal.main_v47) = v5 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v6_0)) (v1 : (c : Dev Cert.MixOutIdeal.nD) → Buf (Elt Ideal) ((c.tc : Thread Cert.MixOutIdeal.nD Cert.MixOutIdeal.τ).loc Cert.MixOutIdeal.main_v6_1)) (v2 : (c : Dev Cert.MixOutIdeal.nD) → Buf (Elt Ideal) ((c.tc : Thread Cert.MixOutIdeal.nD Cert.MixOutIdeal.τ).loc Cert.MixOutIdeal.main_v6_2)) (v3 : (c : Dev Cert.MixOutIdeal.nD) → Buf (Elt Ideal) ((c.tc : Thread Cert.MixOutIdeal.nD Cert.MixOutIdeal.τ).loc Cert.MixOutIdeal.main_v6_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6_0) = v0 c
          ∧ r.2.mem ((c.tc : Thread Cert.MixOutIdeal.nD Cert.MixOutIdeal.τ).loc Cert.MixOutIdeal.main_v6_1) = v1 c
          ∧ r.2.mem ((c.tc : Thread Cert.MixOutIdeal.nD Cert.MixOutIdeal.τ).loc Cert.MixOutIdeal.main_v6_2) = v2 c
          ∧ r.2.mem ((c.tc : Thread Cert.MixOutIdeal.nD Cert.MixOutIdeal.τ).loc Cert.MixOutIdeal.main_v6_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v62) = v0 c
          ∧ r.2.mem ((c.tc : Thread Cert.MixOutRefIdeal.nD Cert.MixOutRefIdeal.τ).loc Cert.MixOutRefIdeal.main_v64) = v1 c
          ∧ r.2.mem ((c.tc : Thread Cert.MixOutRefIdeal.nD Cert.MixOutRefIdeal.τ).loc Cert.MixOutRefIdeal.main_v65) = v2 c
          ∧ r.2.mem ((c.tc : Thread Cert.MixOutRefIdeal.nD Cert.MixOutRefIdeal.τ).loc Cert.MixOutRefIdeal.main_v67) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)) →
    ∃ (v0 : (c : Dev Cert.MixInIdeal.nD) → Buf (Elt Ideal) ((c.tc : Thread Cert.MixInIdeal.nD Cert.MixInIdeal.τ).loc Cert.MixInIdeal.main_v4_0)) (v1 : (c : Dev Cert.MixInIdeal.nD) → Buf (Elt Ideal) ((c.tc : Thread Cert.MixInIdeal.nD Cert.MixInIdeal.τ).loc Cert.MixInIdeal.main_v4_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4_0) = v0 c
          ∧ r.2.mem ((c.tc : Thread Cert.MixInIdeal.nD Cert.MixInIdeal.τ).loc Cert.MixInIdeal.main_v4_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v27) = v0 c
          ∧ r.2.mem ((c.tc : Thread Cert.MixInRefIdeal.nD Cert.MixInRefIdeal.τ).loc Cert.MixInRefIdeal.main_v30) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3))

def preserves_MixInBwd_MixInBwdIdeal : Prop :=
  True

def algebraic_MixInBwdIdeal_MixInBwdRefIdeal_pre_mix_finite [hMixInBwdIdeal : Cert.MixInBwdIdeal.Facts] [hMixInBwdRefIdeal : Cert.MixInBwdRefIdeal.Facts] [hPre_mix_finite : Cert.Pre_mix_finite.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg)
    (m' : (ℓ : Loc Cert.MixInBwdRefIdeal.nD Cert.MixInBwdRefIdeal.τ Cert.MixInBwdRefIdeal.sig) → Buf (Elt Ideal) ℓ) (g' : Dev Cert.MixInBwdRefIdeal.nD → PrngReg), Pre_MixInBwdIdeal_mix_finite m →
    (∀ c : Dev Cert.MixInBwdIdeal.nD,
      m' ((c.tc : Thread Cert.MixInBwdRefIdeal.nD Cert.MixInBwdRefIdeal.τ).loc Cert.MixInBwdRefIdeal.main_arg0) = m ((c.tc : Thread Cert.MixInBwdIdeal.nD Cert.MixInBwdIdeal.τ).loc Cert.MixInBwdIdeal.main_arg0)
      ∧ m' ((c.tc : Thread Cert.MixInBwdRefIdeal.nD Cert.MixInBwdRefIdeal.τ).loc Cert.MixInBwdRefIdeal.main_arg1) = m ((c.tc : Thread Cert.MixInBwdIdeal.nD Cert.MixInBwdIdeal.τ).loc Cert.MixInBwdIdeal.main_arg1)
      ∧ m' ((c.tc : Thread Cert.MixInBwdRefIdeal.nD Cert.MixInBwdRefIdeal.τ).loc Cert.MixInBwdRefIdeal.main_arg2) = m ((c.tc : Thread Cert.MixInBwdIdeal.nD Cert.MixInBwdIdeal.τ).loc Cert.MixInBwdIdeal.main_arg2)
      ∧ m' ((c.tc : Thread Cert.MixInBwdRefIdeal.nD Cert.MixInBwdRefIdeal.τ).loc Cert.MixInBwdRefIdeal.main_arg3) = m ((c.tc : Thread Cert.MixInBwdIdeal.nD Cert.MixInBwdIdeal.τ).loc Cert.MixInBwdIdeal.main_arg3)
      ∧ m' ((c.tc : Thread Cert.MixInBwdRefIdeal.nD Cert.MixInBwdRefIdeal.τ).loc Cert.MixInBwdRefIdeal.main_arg4) = m ((c.tc : Thread Cert.MixInBwdIdeal.nD Cert.MixInBwdIdeal.τ).loc Cert.MixInBwdIdeal.main_arg4)
      ∧ m' ((c.tc : Thread Cert.MixInBwdRefIdeal.nD Cert.MixInBwdRefIdeal.τ).loc Cert.MixInBwdRefIdeal.main_arg5) = m ((c.tc : Thread Cert.MixInBwdIdeal.nD Cert.MixInBwdIdeal.τ).loc Cert.MixInBwdIdeal.main_arg5)) →
    ∃ (v0 : (c : Dev Cert.MixInBwdIdeal.nD) → Buf (Elt Ideal) ((c.tc : Thread Cert.MixInBwdIdeal.nD Cert.MixInBwdIdeal.τ).loc Cert.MixInBwdIdeal.main_v20_0)) (v1 : (c : Dev Cert.MixInBwdIdeal.nD) → Buf (Elt Ideal) ((c.tc : Thread Cert.MixInBwdIdeal.nD Cert.MixInBwdIdeal.τ).loc Cert.MixInBwdIdeal.main_v20_1)) (v2 : (c : Dev Cert.MixInBwdIdeal.nD) → Buf (Elt Ideal) ((c.tc : Thread Cert.MixInBwdIdeal.nD Cert.MixInBwdIdeal.τ).loc Cert.MixInBwdIdeal.main_v20_2)),
      θ_run (Cert.MixInBwdIdeal.defs (F := Ideal)) (onTc (τ := Cert.MixInBwdIdeal.τ) (Cert.MixInBwdIdeal.main (F := Ideal))) ⟨m, fun _ => 0, g⟩ (fun r => ∀ c : Dev Cert.MixInBwdIdeal.nD,
          r.2.mem ((c.tc : Thread Cert.MixInBwdIdeal.nD Cert.MixInBwdIdeal.τ).loc Cert.MixInBwdIdeal.main_v20_0) = v0 c
          ∧ r.2.mem ((c.tc : Thread Cert.MixInBwdIdeal.nD Cert.MixInBwdIdeal.τ).loc Cert.MixInBwdIdeal.main_v20_1) = v1 c
          ∧ r.2.mem ((c.tc : Thread Cert.MixInBwdIdeal.nD Cert.MixInBwdIdeal.τ).loc Cert.MixInBwdIdeal.main_v20_2) = v2 c
          ∧ r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
          ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
          ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
          ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
          ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
          ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5))
      ∧ θ_run (Cert.MixInBwdRefIdeal.defs (F := Ideal)) (onTc (τ := Cert.MixInBwdRefIdeal.τ) (Cert.MixInBwdRefIdeal.main (F := Ideal))) ⟨m', fun _ => 0, g'⟩ (fun r => ∀ c : Dev Cert.MixInBwdRefIdeal.nD,
          r.2.mem ((c.tc : Thread Cert.MixInBwdRefIdeal.nD Cert.MixInBwdRefIdeal.τ).loc Cert.MixInBwdRefIdeal.main_v64) = v0 c
          ∧ r.2.mem ((c.tc : Thread Cert.MixInBwdRefIdeal.nD Cert.MixInBwdRefIdeal.τ).loc Cert.MixInBwdRefIdeal.main_v66) = v1 c
          ∧ r.2.mem ((c.tc : Thread Cert.MixInBwdRefIdeal.nD Cert.MixInBwdRefIdeal.τ).loc Cert.MixInBwdRefIdeal.main_v67) = v2 c
          ∧ r.2.mem ((c.tc : Thread Cert.MixInBwdRefIdeal.nD Cert.MixInBwdRefIdeal.τ).loc Cert.MixInBwdRefIdeal.main_arg0) = m' ((c.tc : Thread Cert.MixInBwdRefIdeal.nD Cert.MixInBwdRefIdeal.τ).loc Cert.MixInBwdRefIdeal.main_arg0)
          ∧ r.2.mem ((c.tc : Thread Cert.MixInBwdRefIdeal.nD Cert.MixInBwdRefIdeal.τ).loc Cert.MixInBwdRefIdeal.main_arg1) = m' ((c.tc : Thread Cert.MixInBwdRefIdeal.nD Cert.MixInBwdRefIdeal.τ).loc Cert.MixInBwdRefIdeal.main_arg1)
          ∧ r.2.mem ((c.tc : Thread Cert.MixInBwdRefIdeal.nD Cert.MixInBwdRefIdeal.τ).loc Cert.MixInBwdRefIdeal.main_arg2) = m' ((c.tc : Thread Cert.MixInBwdRefIdeal.nD Cert.MixInBwdRefIdeal.τ).loc Cert.MixInBwdRefIdeal.main_arg2)
          ∧ r.2.mem ((c.tc : Thread Cert.MixInBwdRefIdeal.nD Cert.MixInBwdRefIdeal.τ).loc Cert.MixInBwdRefIdeal.main_arg3) = m' ((c.tc : Thread Cert.MixInBwdRefIdeal.nD Cert.MixInBwdRefIdeal.τ).loc Cert.MixInBwdRefIdeal.main_arg3)
          ∧ r.2.mem ((c.tc : Thread Cert.MixInBwdRefIdeal.nD Cert.MixInBwdRefIdeal.τ).loc Cert.MixInBwdRefIdeal.main_arg4) = m' ((c.tc : Thread Cert.MixInBwdRefIdeal.nD Cert.MixInBwdRefIdeal.τ).loc Cert.MixInBwdRefIdeal.main_arg4)
          ∧ r.2.mem ((c.tc : Thread Cert.MixInBwdRefIdeal.nD Cert.MixInBwdRefIdeal.τ).loc Cert.MixInBwdRefIdeal.main_arg5) = m' ((c.tc : Thread Cert.MixInBwdRefIdeal.nD Cert.MixInBwdRefIdeal.τ).loc Cert.MixInBwdRefIdeal.main_arg5))

def Claim : Prop :=
  ∃ (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hMixOut : Cert.MixOut.Facts) (hMixOutIdeal : Cert.MixOutIdeal.Facts) (hMixOutRefIdeal : Cert.MixOutRefIdeal.Facts) (hMixIn : Cert.MixIn.Facts) (hMixInIdeal : Cert.MixInIdeal.Facts) (hMixInRefIdeal : Cert.MixInRefIdeal.Facts) (hMixInBwd : Cert.MixInBwd.Facts) (hMixInBwdIdeal : Cert.MixInBwdIdeal.Facts) (hMixInBwdRefIdeal : Cert.MixInBwdRefIdeal.Facts) (hPre_ffn_finite : Cert.Pre_ffn_finite.Facts) (hPre_mix_finite : Cert.Pre_mix_finite.Facts),
    quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInBwd (hMixInBwd := hMixInBwd)
    ∧ quiescent_MixInBwdIdeal (hMixInBwdIdeal := hMixInBwdIdeal)
    ∧ quiescent_MixInBwdIdeal_pre_mix_finite (hMixInBwdIdeal := hMixInBwdIdeal) (hPre_mix_finite := hPre_mix_finite)
    ∧ quiescent_MixInBwdRefIdeal (hMixInBwdRefIdeal := hMixInBwdRefIdeal)
    ∧ quiescent_MixInBwdRefIdeal_pre_mix_finite (hMixInBwdRefIdeal := hMixInBwdRefIdeal) (hPre_mix_finite := hPre_mix_finite)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_FfnBwd_FfnBwdIdeal
    ∧ algebraic_FfnBwdIdeal_FfnBwdRefIdeal_pre_ffn_finite (hFfnBwdIdeal := hFfnBwdIdeal) (hFfnBwdRefIdeal := hFfnBwdRefIdeal) (hPre_ffn_finite := hPre_ffn_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixOut_MixOutIdeal
    ∧ algebraic_MixOutIdeal_MixOutRefIdeal (hMixOutIdeal := hMixOutIdeal) (hMixOutRefIdeal := hMixOutRefIdeal)
    ∧ preserves_MixIn_MixInIdeal
    ∧ algebraic_MixInIdeal_MixInRefIdeal (hMixInIdeal := hMixInIdeal) (hMixInRefIdeal := hMixInRefIdeal)
    ∧ preserves_MixInBwd_MixInBwdIdeal
    ∧ algebraic_MixInBwdIdeal_MixInBwdRefIdeal_pre_mix_finite (hMixInBwdIdeal := hMixInBwdIdeal) (hMixInBwdRefIdeal := hMixInBwdRefIdeal) (hPre_mix_finite := hPre_mix_finite)
-- ==== Pre_ffn_finite.lean ====
abbrev S4x2048x1024 : Shape := ⟨3, ![4, 2048, 1024]⟩
abbrev S4x6x1024 : Shape := ⟨3, ![4, 6, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1 : Shape := ⟨1, ![1]⟩
abbrev S7 : Shape := ⟨1, ![7]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x6x1024 : S_.BroadcastsInDim S4x6x1024 (![] : Fin 0 → Fin S4x6x1024.rank)
  reducesTo_S4x6x1024_S_d0_1_2 : S4x6x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1 : S_.BroadcastsInDim S1 (![] : Fin 0 → Fin S1.rank)
  concatenates_S1_S1_S1_S1_S1_S1_S1_S7_d0 : Shape.Concatenates [S1, S1, S1, S1, S1, S1, S1] S7 0
  reducesTo_S7_S_d0 : S7.ReducesTo [0] S_

variable [Facts]

def fn_part2 {F : FTy → Type} [FloatOps F] (main_v27 : IVec S_ 1) (main_v28 : IVec S1 1) (main_v29 : IVec S1 1) (main_v30 : IVec S1 1) (main_v31 : IVec S1 1) (main_v32 : IVec S1 1) (main_v33 : IVec S1 1) : IVec S_ 1 :=
  let main_v34 : IVec S1 1 := broadcastInDim S1 ![] bcast_S_S1 main_v27
  let main_v35 : IVec S7 1 := concatenate S7 0 [⟨S1, main_v28⟩, ⟨S1, main_v29⟩, ⟨S1, main_v30⟩, ⟨S1, main_v31⟩, ⟨S1, main_v32⟩, ⟨S1, main_v33⟩, ⟨S1, main_v34⟩] concatenates_S1_S1_S1_S1_S1_S1_S1_S7_d0
  let main_c_12 : IVec S_ 1 := constantI S_ 1 1#1
  let main_v36 : IVec S_ 1 := (fun x v => Host.reduce IntOp.andi x v reducesTo_S7_S_d0 h_S_) main_v35 main_c_12
  main_v36

def fn_part1 {F : FTy → Type} [FloatOps F] (main_arg5 : FVec F S1024x2816 .f32) (main_arg6 : FVec F S1024x2816 .f32) (main_arg7 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg5
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1024x2816 .f32 := Host.absf main_arg6
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S2816x1024 .f32 := Host.absf main_arg7
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S1 1 := broadcastInDim S1 ![] bcast_S_S1 main_v3
  let main_v29 : IVec S1 1 := broadcastInDim S1 ![] bcast_S_S1 main_v7
  let main_v30 : IVec S1 1 := broadcastInDim S1 ![] bcast_S_S1 main_v11
  let main_v31 : IVec S1 1 := broadcastInDim S1 ![] bcast_S_S1 main_v15
  let main_v32 : IVec S1 1 := broadcastInDim S1 ![] bcast_S_S1 main_v19
  let main_v33 : IVec S1 1 := broadcastInDim S1 ![] bcast_S_S1 main_v23
  fn_part2 (F := F) main_v27 main_v28 main_v29 main_v30 main_v31 main_v32 main_v33

def fn {F : FTy → Type} [FloatOps F] (main_arg0 : FVec F S4x2048x1024 .f32) (main_arg1 : FVec F S4x2048x1024 .f32) (main_arg2 : FVec F S4x2048x1024 .f32) (main_arg3 : FVec F S4x6x1024 .f32) (main_arg4 : FVec F S1x1024 .f32) (main_arg5 : FVec F S1024x2816 .f32) (main_arg6 : FVec F S1024x2816 .f32) (main_arg7 : FVec F S2816x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S4x6x1024 .f32 := Host.absf main_arg3
  let main_cst_2 : FVec F S_ .f32 := constant S_ .f32 0x7F800000#32
  let main_v9 : FVec F S4x6x1024 .f32 := broadcastInDim S4x6x1024 ![] bcast_S_S4x6x1024 main_cst_2
  let main_v10 : IVec S4x6x1024 1 := cmpf .olt main_v8 main_v9
  let main_c_3 : IVec S_ 1 := constantI S_ 1 1#1
  let main_v11 : IVec S_ 1 := (fun x v => Host.reduce IntOp.andi x v reducesTo_S4x6x1024_S_d0_1_2 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg5 main_arg6 main_arg7 main_v3 main_v7 main_v11 main_v15
-- ==== Pre_mix_finite.lean ====
abbrev S4x2048x2560 : Shape := ⟨3, ![4, 2048, 2560]⟩
abbrev S4x2048x1024 : Shape := ⟨3, ![4, 2048, 1024]⟩
abbrev S4x6x1024 : Shape := ⟨3, ![4, 6, 1024]⟩
abbrev S1x1024 : Shape := ⟨2, ![1, 1024]⟩
abbrev S1024x2560 : Shape := ⟨2, ![1024, 2560]⟩
abbrev S_ : Shape := ⟨0, ![]⟩

class Facts : Prop where
  bcast_S_S4x2048x2560 : S_.BroadcastsInDim S4x2048x2560 (![] : Fin 0 → Fin S4x2048x2560.rank)
  reducesTo_S4x2048x2560_S_d0_1_2 : S4x2048x2560.ReducesTo [0, 1, 2] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x6x1024 : S_.BroadcastsInDim S4x6x1024 (![] : Fin 0 → Fin S4x6x1024.rank)
  reducesTo_S4x6x1024_S_d0_1_2 : S4x6x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_

variable [Facts]

def fn_part1 {F : FTy → Type} [FloatOps F] (main_arg5 : FVec F S1024x2560 .f32) (main_v3 : IVec S_ 1) (main_v7 : IVec S_ 1) (main_v11 : IVec S_ 1) (main_v15 : IVec S_ 1) : IVec S_ 1 :=
  let main_v16 : FVec F S1024x2560 .f32 := Host.absf main_arg5
  let main_cst_6 : FVec F S_ .f32 := constant S_ .f32 0x7F800000#32
  let main_v17 : FVec F S1024x2560 .f32 := broadcastInDim S1024x2560 ![] bcast_S_S1024x2560 main_cst_6
  let main_v18 : IVec S1024x2560 1 := cmpf .olt main_v16 main_v17
  let main_c_7 : IVec S_ 1 := constantI S_ 1 1#1
  let main_v19 : IVec S_ 1 := (fun x v => Host.reduce IntOp.andi x v reducesTo_S1024x2560_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4x2048x2560 .f32) (main_arg1 : FVec F S4x2048x1024 .f32) (main_arg2 : FVec F S4x2048x1024 .f32) (main_arg3 : FVec F S4x6x1024 .f32) (main_arg4 : FVec F S1x1024 .f32) (main_arg5 : FVec F S1024x2560 .f32) : IVec S_ 1 :=
  let main_v0 : FVec F S4x2048x2560 .f32 := Host.absf main_arg0
  let main_cst : FVec F S_ .f32 := constant S_ .f32 0x7F800000#32
  let main_v1 : FVec F S4x2048x2560 .f32 := broadcastInDim S4x2048x2560 ![] bcast_S_S4x2048x2560 main_cst
  let main_v2 : IVec S4x2048x2560 1 := cmpf .olt main_v0 main_v1
  let main_c : IVec S_ 1 := constantI S_ 1 1#1
  let main_v3 : IVec S_ 1 := (fun x v => Host.reduce IntOp.andi x v reducesTo_S4x2048x2560_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : FVec F S4x6x1024 .f32 := Host.absf main_arg3
  let main_cst_2 : FVec F S_ .f32 := constant S_ .f32 0x7F800000#32
  let main_v9 : FVec F S4x6x1024 .f32 := broadcastInDim S4x6x1024 ![] bcast_S_S4x6x1024 main_cst_2
  let main_v10 : IVec S4x6x1024 1 := cmpf .olt main_v8 main_v9
  let main_c_3 : IVec S_ 1 := constantI S_ 1 1#1
  let main_v11 : IVec S_ 1 := (fun x v => Host.reduce IntOp.andi x v reducesTo_S4x6x1024_S_d0_1_2 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg5 main_v3 main_v7 main_v11 main_v15
-- ==== GradUp.lean ====
abbrev S4x2048x1024 : Shape := ⟨3, ![4, 2048, 1024]⟩
abbrev S4x2048x2816 : Shape := ⟨3, ![4, 2048, 2816]⟩
abbrev S8192x11x256 : Shape := ⟨3, ![8192, 11, 256]⟩
abbrev S11x8192x256 : Shape := ⟨3, ![11, 8192, 256]⟩
abbrev S8192x1024 : Shape := ⟨2, ![8192, 1024]⟩
abbrev S11x256x1024 : Shape := ⟨3, ![11, 256, 1024]⟩
abbrev S11x1024x256 : Shape := ⟨3, ![11, 1024, 256]⟩
abbrev S1024x1024 : Shape := ⟨2, ![1024, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2816, .f32⟩
  | .hbm, ⟨2, _⟩ => ⟨S8192x11x256, .f32⟩
  | .hbm, ⟨3, _⟩ => ⟨S11x8192x256, .f32⟩
  | .hbm, ⟨4, _⟩ => ⟨S11x8192x256, .bf16⟩
  | .hbm, ⟨5, _⟩ => ⟨S8192x1024, .f32⟩
  | .hbm, ⟨6, _⟩ => ⟨S8192x1024, .bf16⟩
  | .hbm, ⟨7, _⟩ => ⟨S11x256x1024, .bf16⟩
  | .local _ .vmem, ⟨0, _⟩ => ⟨S11x1024x256, .bf16⟩
  | .local _ .vmem, ⟨1, _⟩ => ⟨S11x1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S11x256x1024, .bf16⟩
  | .local _ .vmem, ⟨5, _⟩ => ⟨S11x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v124 : BitVec 1 := Scalar.cmpi .eq arg0 c7_i32
  let v125 : BitVec 32 := Scalar.extui v124
  let c0_i32_121 : BitVec 32 := 0#32
  let v126 : BitVec 1 := Scalar.cmpi .ne v125 c0_i32_121
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S11x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradUpRefIdeal.lean ====
abbrev S4x2048x1024 : Shape := ⟨3, ![4, 2048, 1024]⟩
abbrev S4x2048x2816 : Shape := ⟨3, ![4, 2048, 2816]⟩
abbrev S_ : Shape := ⟨0, ![]⟩
abbrev S1024x2816 : Shape := ⟨2, ![1024, 2816]⟩
abbrev S2816x1024 : Shape := ⟨2, ![2816, 1024]⟩
abbrev S11x256x1024 : Shape := ⟨3, ![11, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2816, .f32⟩
  | .hbm, ⟨2, _⟩ => ⟨S_, .f32⟩
  | .hbm, ⟨3, _⟩ => ⟨S1024x2816, .f32⟩
  | .hbm, ⟨4, _⟩ => ⟨S4x2048x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S11x256x1024, .f32⟩
  | .hbm, ⟨9, _⟩ => ⟨S11x256x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradDown.lean ====
abbrev S4x2048x2816 : Shape := ⟨3, ![4, 2048, 2816]⟩
abbrev S4x2048x1024 : Shape := ⟨3, ![4, 2048, 1024]⟩
abbrev S8192x11x256 : Shape := ⟨3, ![8192, 11, 256]⟩
abbrev S11x8192x256 : Shape := ⟨3, ![11, 8192, 256]⟩
abbrev S8192x1024 : Shape := ⟨2, ![8192, 1024]⟩
abbrev S11x256x1024 : Shape := ⟨3, ![11, 256, 1024]⟩
abbrev S11x1024x256 : Shape := ⟨3, ![11, 1024, 256]⟩
abbrev S1024x1024 : Shape := ⟨2, ![1024, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S8192x11x256, .f32⟩
  | .hbm, ⟨3, _⟩ => ⟨S11x8192x256, .f32⟩
  | .hbm, ⟨4, _⟩ => ⟨S11x8192x256, .bf16⟩
  | .hbm, ⟨5, _⟩ => ⟨S8192x1024, .f32⟩
  | .hbm, ⟨6, _⟩ => ⟨S8192x1024, .bf16⟩
  | .hbm, ⟨7, _⟩ => ⟨S11x256x1024, .bf16⟩
  | .local _ .vmem, ⟨0, _⟩ => ⟨S11x1024x256, .bf16⟩
  | .local _ .vmem, ⟨1, _⟩ => ⟨S11x1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S11x256x1024, .bf16⟩
  | .local _ .vmem, ⟨5, _⟩ => ⟨S11x256x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v124 : BitVec 1 := Scalar.cmpi .eq arg0 c7_i32
  let v125 : BitVec 32 := Scalar.extui v124
  let c0_i32_121 : BitVec 32 := 0#32
  let v126 : BitVec 1 := Scalar.cmpi .ne v125 c0_i32_121
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S11x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GradDownRefIdeal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩
abbrev S11x256x1024 : Shape := ⟨3, ![11, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S_, .f32⟩
  | .hbm, ⟨3, _⟩ => ⟨S2816x1024, .f32⟩
  | .hbm, ⟨4, _⟩ => ⟨S4x2048x1024, .f32⟩
  | .hbm, ⟨5, _⟩ => ⟨S1024x2816, .f32⟩
  | .hbm, ⟨6, _⟩ => ⟨S2816x1024, .f32⟩
  | .hbm, ⟨7, _⟩ => ⟨S11x256x1024, .f32⟩
  | .hbm, ⟨8, _⟩ => ⟨S11x256x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradIn.lean ====
abbrev S4x2048x1024 : Shape := ⟨3, ![4, 2048, 1024]⟩
abbrev S4x2048x512 : Shape := ⟨3, ![4, 2048, 512]⟩
abbrev S8192x512 : Shape := ⟨2, ![8192, 512]⟩
abbrev S8192x1024 : Shape := ⟨2, ![8192, 1024]⟩
abbrev S2560x1024 : Shape := ⟨2, ![2560, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 19
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S8192x512, .f32⟩
  | .hbm, ⟨7, _⟩ => ⟨S8192x512, .bf16⟩
  | .hbm, ⟨8, _⟩ => ⟨S8192x512, .f32⟩
  | .hbm, ⟨9, _⟩ => ⟨S8192x512, .bf16⟩
  | .hbm, ⟨10, _⟩ => ⟨S8192x512, .f32⟩
  | .hbm, ⟨11, _⟩ => ⟨S8192x512, .bf16⟩
  | .hbm, ⟨12, _⟩ => ⟨S8192x512, .f32⟩
  | .hbm, ⟨13, _⟩ => ⟨S8192x512, .bf16⟩
  | .hbm, ⟨14, _⟩ => ⟨S8192x512, .f32⟩
  | .hbm, ⟨15, _⟩ => ⟨S8192x512, .bf16⟩
  | .hbm, ⟨16, _⟩ => ⟨S8192x1024, .f32⟩
  | .hbm, ⟨17, _⟩ => ⟨S8192x1024, .bf16⟩
  | .hbm, ⟨18, _⟩ => ⟨S2560x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S2560x1024, .bf16⟩
  | .local _ .vmem, ⟨13, _⟩ => ⟨S2560x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v53 : BitVec 1 := Scalar.cmpi .eq arg0 c7_i32
  let v54 : BitVec 32 := Scalar.extui v53
  let c0_i32_40 : BitVec 32 := 0#32
  let v55 : BitVec 1 := Scalar.cmpi .ne v54 c0_i32_40
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradInRefIdeal.lean ====
abbrev S4x2048x1024 : Shape := ⟨3, ![4, 2048, 1024]⟩
abbrev S4x2048x512 : Shape := ⟨3, ![4, 2048, 512]⟩
abbrev S_ : Shape := ⟨0, ![]⟩
abbrev S1024x2560 : Shape := ⟨2, ![1024, 2560]⟩
abbrev S4x2048x2560 : Shape := ⟨3, ![4, 2048, 2560]⟩
abbrev S2560x1024 : Shape := ⟨2, ![2560, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x512, .f32⟩
  | .hbm, ⟨2, _⟩ => ⟨S4x2048x512, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S_, .f32⟩
  | .hbm, ⟨7, _⟩ => ⟨S1024x2560, .f32⟩
  | .hbm, ⟨8, _⟩ => ⟨S4x2048x2560, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S4x2048x2560, .f32⟩
  | .hbm, ⟨15, _⟩ => ⟨S2560x1024, .f32⟩
  | .hbm, ⟨16, _⟩ => ⟨S1024x2560, .f32⟩
  | .hbm, ⟨17, _⟩ => ⟨S2560x1024, .f32⟩
  | .hbm, ⟨18, _⟩ => ⟨S2560x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== GradOut.lean ====
abbrev S4x2048x512 : Shape := ⟨3, ![4, 2048, 512]⟩
abbrev S4x2048x1024 : Shape := ⟨3, ![4, 2048, 1024]⟩
abbrev S8192x512 : Shape := ⟨2, ![8192, 512]⟩
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S8192x512, .f32⟩
  | .hbm, ⟨4, _⟩ => ⟨S8192x512, .bf16⟩
  | .hbm, ⟨5, _⟩ => ⟨S8192x512, .f32⟩
  | .hbm, ⟨6, _⟩ => ⟨S8192x512, .bf16⟩
  | .hbm, ⟨7, _⟩ => ⟨S8192x1024, .f32⟩
  | .hbm, ⟨8, _⟩ => ⟨S8192x1024, .bf16⟩
  | .hbm, ⟨9, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GradOutRefIdeal.lean ====
abbrev S4x2048x512 : Shape := ⟨3, ![4, 2048, 512]⟩
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x2048x1024, .f32⟩
  | .hbm, ⟨4, _⟩ => ⟨S_, .f32⟩
  | .hbm, ⟨5, _⟩ => ⟨S1024x1024, .f32⟩
  | .hbm, ⟨6, _⟩ => ⟨S4x2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnBwd.lean ====
abbrev S4x2048x1024 : Shape := ⟨3, ![4, 2048, 1024]⟩
abbrev S4x6x1024 : Shape := ⟨3, ![4, 6, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S4x1x1024 : Shape := ⟨3, ![4, 1, 1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2816 : Shape := ⟨3, ![4, 2048, 2816]⟩
abbrev S4x8x1024 : Shape := ⟨3, ![4, 8, 1024]⟩
abbrev S8192x1024 : Shape := ⟨2, ![8192, 1024]⟩
abbrev S8192x11x256 : Shape := ⟨3, ![8192, 11, 256]⟩
abbrev S11x8192x256 : Shape := ⟨3, ![11, 8192, 256]⟩
abbrev S8x1024 : Shape := ⟨2, ![8, 1024]⟩
abbrev S256x1024 : Shape := ⟨2, ![256, 1024]⟩
abbrev S11x256x256 : Shape := ⟨3, ![11, 256, 256]⟩
abbrev S1x8x1024 : Shape := ⟨3, ![1, 8, 1024]⟩
abbrev S3 : Shape := ⟨1, ![3]⟩
abbrev S1 : Shape := ⟨1, ![1]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 72
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x6x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S4x1x1024, .f32⟩
  | .hbm, ⟨10, _⟩ => ⟨S4x1024, .f32⟩
  | .hbm, ⟨11, _⟩ => ⟨S4x1x1024, .f32⟩
  | .hbm, ⟨12, _⟩ => ⟨S4x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x2048x1024, .f32⟩
  | .hbm, ⟨34, _⟩ => ⟨S4x2048x1024, .f32⟩
  | .hbm, ⟨35, _⟩ => ⟨S4x1x1024, .f32⟩
  | .hbm, ⟨36, _⟩ => ⟨S4x2048x1024, .f32⟩
  | .hbm, ⟨37, _⟩ => ⟨S4x2048x1024, .f32⟩
  | .hbm, ⟨38, _⟩ => ⟨S4x2048x2816, .f32⟩
  | .hbm, ⟨39, _⟩ => ⟨S4x2048x2816, .f32⟩
  | .hbm, ⟨40, _⟩ => ⟨S4x1x1024, .f32⟩
  | .hbm, ⟨41, _⟩ => ⟨S4x1024, .f32⟩
  | .hbm, ⟨42, _⟩ => ⟨S4x1x1024, .f32⟩
  | .hbm, ⟨43, _⟩ => ⟨S4x2048x1024, .f32⟩
  | .hbm, ⟨44, _⟩ => ⟨S4x2048x1024, .f32⟩
  | .hbm, ⟨45, _⟩ => ⟨S_, .i32⟩
  | .hbm, ⟨46, _⟩ => ⟨S_, .f32⟩
  | .hbm, ⟨47, _⟩ => ⟨S4x8x1024, .f32⟩
  | .hbm, ⟨48, _⟩ => ⟨S8192x1024, .f32⟩
  | .hbm, ⟨49, _⟩ => ⟨S8192x1024, .bf16⟩
  | .hbm, ⟨50, _⟩ => ⟨S8192x11x256, .f32⟩
  | .hbm, ⟨51, _⟩ => ⟨S11x8192x256, .f32⟩
  | .hbm, ⟨52, _⟩ => ⟨S11x8192x256, .bf16⟩
  | .hbm, ⟨53, _⟩ => ⟨S8192x11x256, .f32⟩
  | .hbm, ⟨54, _⟩ => ⟨S11x8192x256, .f32⟩
  | .hbm, ⟨55, _⟩ => ⟨S11x8192x256, .bf16⟩
  | .hbm, ⟨56, _⟩ => ⟨S2816x1024, .f32⟩
  | .hbm, ⟨57, _⟩ => ⟨S2816x1024, .bf16⟩
  | .hbm, ⟨58, _⟩ => ⟨S2816x1024, .f32⟩
  | .hbm, ⟨59, _⟩ => ⟨S2816x1024, .bf16⟩
  | .hbm, ⟨60, _⟩ => ⟨S2816x1024, .bf16⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S11x8192x256, .bf16⟩
  | .hbm, ⟨66, _⟩ => ⟨S11x8192x256, .bf16⟩
  | .hbm, ⟨67, _⟩ => ⟨S11x8192x256, .bf16⟩
  | .hbm, ⟨68, _⟩ => ⟨S8192x1024, .f32⟩
  | .hbm, ⟨69, _⟩ => ⟨S8192x1024, .bf16⟩
  | .hbm, ⟨70, _⟩ => ⟨S8x1024, .f32⟩
  | .hbm, ⟨71, _⟩ => ⟨S4x8x1024, .f32⟩
  | .local _ .vmem, ⟨0, _⟩ => ⟨S256x1024, .bf16⟩
  | .local _ .vmem, ⟨1, _⟩ => ⟨S256x1024, .bf16⟩
  | .local _ .vmem, ⟨2, _⟩ => ⟨S11x256x256, .bf16⟩
  | .local _ .vmem, ⟨3, _⟩ => ⟨S11x256x256, .bf16⟩
  | .local _ .vmem, ⟨4, _⟩ => ⟨S11x256x256, .bf16⟩
  | .local _ .vmem, ⟨5, _⟩ => ⟨S11x256x256, .bf16⟩
  | .local _ .vmem, ⟨6, _⟩ => ⟨S1x8x1024, .f32⟩
  | .local _ .vmem, ⟨7, _⟩ => ⟨S1x8x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S11x256x256, .bf16⟩
  | .local _ .vmem, ⟨16, _⟩ => ⟨S11x256x256, .bf16⟩
  | .local _ .vmem, ⟨17, _⟩ => ⟨S11x256x256, .bf16⟩
  | .local _ .vmem, ⟨18, _⟩ => ⟨S11x256x256, .bf16⟩
  | .local _ .vmem, ⟨19, _⟩ => ⟨S11x256x256, .bf16⟩
  | .local _ .vmem, ⟨20, _⟩ => ⟨S11x256x256, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S1x8x1024, .f32⟩
  | .local _ .vmem, ⟨27, _⟩ => ⟨S1x8x1024, .f32⟩
  | .local _ .vmem, ⟨28, _⟩ => ⟨S2816x1024, .bf16⟩
  | .local _ .vmem, ⟨29, _⟩ => ⟨S2816x1024, .bf16⟩
  | .local _ .vmem, ⟨30, _⟩ => ⟨S2816x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51_0 : Ref sig .tc := ⟨.hbm, 65, rfl⟩
abbrev main_v51_1 : Ref sig .tc := ⟨.hbm, 66, rfl⟩
abbrev main_v51_2 : Ref sig .tc := ⟨.hbm, 67, rfl⟩
abbrev main_v51_3 : Ref sig .tc := ⟨.hbm, 68, rfl⟩
abbrev main_v51_4 : Ref sig .tc := ⟨.hbm, 69, rfl⟩
abbrev main_v51_5 : Ref sig .tc := ⟨.hbm, 70, rfl⟩
abbrev main_v51_6 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S11x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S11x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S11x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S11x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S11x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnBwdRefIdeal.lean ====
abbrev S4x2048x1024 : Shape := ⟨3, ![4, 2048, 1024]⟩
abbrev S4x6x1024 : Shape := ⟨3, ![4, 6, 1024]⟩
abbrev S1x1024 : Shape := ⟨2, ![1, 1024]⟩
abbrev S1024x2816 : Shape := ⟨2, ![1024, 2816]⟩
abbrev S2816x1024 : Shape := ⟨2, ![2816, 1024]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2816 : Shape := ⟨3, ![4, 2048, 2816]⟩
abbrev S4x3x1024 : Shape := ⟨3, ![4, 3, 1024]⟩
abbrev S8192x11x256 : Shape := ⟨3, ![8192, 11, 256]⟩
abbrev S11x8192x256 : Shape := ⟨3, ![11, 8192, 256]⟩
abbrev S8192x1024 : Shape := ⟨2, ![8192, 1024]⟩
abbrev S8x1024 : Shape := ⟨2, ![8, 1024]⟩
abbrev S4x8x1024 : Shape := ⟨3, ![4, 8, 1024]⟩

abbrev nBuf : Space → Nat
  | .hbm => 161
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S4x6x1024, .f32⟩
  | 4 => ⟨S1x1024, .f32⟩
  | 5 => ⟨S1024x2816, .f32⟩
  | 6 => ⟨S1024x2816, .f32⟩
  | 7 => ⟨S2816x1024, .f32⟩
  | 8 => ⟨S4x1x1024, .f32⟩
  | 9 => ⟨S4x1024, .f32⟩
  | 10 => ⟨S4x1x1024, .f32⟩
  | 11 => ⟨S4x1024, .f32⟩
  | 12 => ⟨S4x1x1024, .f32⟩
  | 13 => ⟨S4x1024, .f32⟩
  | 14 => ⟨S4x1x1024, .f32⟩
  | 15 => ⟨S4x1024, .f32⟩
  | 16 => ⟨S1024, .f32⟩
  | 17 => ⟨S4x2048x1024, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1, .f32⟩
  | 28 => ⟨S4x2048x1, .f32⟩
  | 29 => ⟨S_, .f32⟩
  | 30 => ⟨S4x2048x1, .f32⟩
  | 31 => ⟨S4x2048x1, .f32⟩
  | 32 => ⟨S4x2048x1024, .f32⟩
  | 33 => ⟨S4x2048x1024, .f32⟩
  | 34 => ⟨S1x1x1024, .f32⟩
  | 35 => ⟨S4x2048x1024, .f32⟩
  | 36 => ⟨S4x2048x1024, .f32⟩
  | 37 => ⟨S4x1x1024, .f32⟩
  | 38 => ⟨S_, .f32⟩
  | 39 => ⟨S4x1x1024, .f32⟩
  | 40 => ⟨S4x1x1024, .f32⟩
  | 41 => ⟨S4x2048x1024, .f32⟩
  | 42 => ⟨S4x2048x1024, .f32⟩
  | 43 => ⟨S4x1x1024, .f32⟩
  | 44 => ⟨S4x2048x1024, .f32⟩
  | 45 => ⟨S4x2048x1024, .f32⟩
  | 46 => ⟨S4x2048x2816, .f32⟩
  | 47 => ⟨S4x2048x2816, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S_, .f32⟩
  | 54 => ⟨S4x2048x2816, .f32⟩
  | 55 => ⟨S4x2048x2816, .f32⟩
  | 56 => ⟨S4x2048x2816, .f32⟩
  | 57 => ⟨S4x2048x2816, .f32⟩
  | 58 => ⟨S4x1x1024, .f32⟩
  | 59 => ⟨S4x2048x2816, .f32⟩
  | 60 => ⟨S4x2048x2816, .f32⟩
  | 61 => ⟨S_, .f32⟩
  | 62 => ⟨S4x2048x2816, .f32⟩
  | 63 => ⟨S4x2048x2816, .f32⟩
  | 64 => ⟨S_, .f32⟩
  | 65 => ⟨S4x2048x2816, .f32⟩
  | 66 => ⟨S4x2048x2816, .f32⟩
  | 67 => ⟨S_, .f32⟩
  | 68 => ⟨S4x2048x2816, .f32⟩
  | 69 => ⟨S4x2048x2816, .f32⟩
  | 70 => ⟨S4x2048x2816, .f32⟩
  | 71 => ⟨S4x2048x2816, .f32⟩
  | 72 => ⟨S4x2048x2816, .f32⟩
  | 73 => ⟨S4x2048x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x2816, .f32⟩
  | 79 => ⟨S4x2048x2816, .f32⟩
  | 80 => ⟨S4x2048x2816, .f32⟩
  | 81 => ⟨S4x2048x2816, .f32⟩
  | 82 => ⟨S4x2048x2816, .f32⟩
  | 83 => ⟨S4x2048x2816, .f32⟩
  | 84 => ⟨S4x2048x2816, .f32⟩
  | 85 => ⟨S4x2048x1024, .f32⟩
  | 86 => ⟨S4x2048x1024, .f32⟩
  | 87 => ⟨S4x2048x1024, .f32⟩
  | 88 => ⟨S_, .f32⟩
  | 89 => ⟨S4x1024, .f32⟩
  | 90 => ⟨S4x1x1024, .f32⟩
  | 91 => ⟨S_, .f32⟩
  | 92 => ⟨S4x1024, .f32⟩
  | 93 => ⟨S4x2048x1024, .f32⟩
  | 94 => ⟨S_, .f32⟩
  | 95 => ⟨S4x1024, .f32⟩
  | 96 => ⟨S4x1x1024, .f32⟩
  | 97 => ⟨S4x2048x1024, .f32⟩
  | 98 => ⟨S4x2048x1024, .f32⟩
  | 99 => ⟨S_, .f32⟩
  | 100 => ⟨S4x1024, .f32⟩
  | 101 => ⟨S4x2048x1024, .f32⟩
  | 102 => ⟨S_, .f32⟩
  | 103 => ⟨S1024, .f32⟩
  | 104 => ⟨S1x1x1024, .f32⟩
  | 105 => ⟨S4x2048x1024, .f32⟩
  | 106 => ⟨S4x2048x1024, .f32⟩
  | 107 => ⟨S_, .f32⟩
  | 108 => ⟨S1024, .f32⟩
  | 109 => ⟨S4x2048x1024, .f32⟩
  | 110 => ⟨S_, .f32⟩
  | 111 => ⟨S4x2048, .f32⟩
  | 112 => ⟨S4x2048x1, .f32⟩
  | 113 => ⟨S4x2048x1024, .f32⟩
  | 114 => ⟨S4x2048x1024, .f32⟩
  | 115 => ⟨S4x2048x1, .f32⟩
  | 116 => ⟨S_, .f32⟩
  | 117 => ⟨S4x2048x1, .f32⟩
  | 118 => ⟨S4x2048x1, .f32⟩
  | 119 => ⟨S_, .f32⟩
  | 120 => ⟨S4x2048, .f32⟩
  | 121 => ⟨S4x2048x1024, .f32⟩
  | 122 => ⟨S4x2048x1024, .f32⟩
  | 123 => ⟨S4x2048x1024, .f32⟩
  | 124 => ⟨S4x2048x1024, .f32⟩
  | 125 => ⟨S4x2048x1024, .f32⟩
  | 126 => ⟨S4x2048x1024, .f32⟩
  | 127 => ⟨S4x1x1024, .f32⟩
  | _ => ⟨S4x2048x1024, .f32⟩

abbrev hbmTy0_1 (i : Nat) : BufTy := match i % 128 with
  | 0 => ⟨S4x2048x1024, .f32⟩
  | 1 => ⟨S4x2048x1024, .f32⟩
  | 2 => ⟨S4x2048x1024, .f32⟩
  | 3 => ⟨S4x2048x1024, .f32⟩
  | 4 => ⟨S4x2048x1024, .f32⟩
  | 5 => ⟨S_, .f32⟩
  | 6 => ⟨S4x1024, .f32⟩
  | 7 => ⟨S4x1x1024, .f32⟩
  | 8 => ⟨S_, .f32⟩
  | 9 => ⟨S4x1024, .f32⟩
  | 10 => ⟨S4x1x1024, .f32⟩
  | 11 => ⟨S4x1x1024, .f32⟩
  | 12 => ⟨S4x1x1024, .f32⟩
  | 13 => ⟨S4x3x1024, .f32⟩
  | 14 => ⟨S8192x11x256, .f32⟩
  | 15 => ⟨S11x8192x256, .f32⟩
  | 16 => ⟨S11x8192x256, .bf16⟩
  | 17 => ⟨S8192x11x256, .f32⟩
  | 18 => ⟨S11x8192x256, .f32⟩
  | 19 => ⟨S11x8192x256, .bf16⟩
  | 20 => ⟨S8192x11x256, .f32⟩
  | 21 => ⟨S11x8192x256, .f32⟩
  | 22 => ⟨S11x8192x256, .bf16⟩
  | 23 => ⟨S8192x1024, .f32⟩
  | 24 => ⟨S8192x1024, .f32⟩
  | 25 => ⟨S8192x1024, .bf16⟩
  | 26 => ⟨S1x1024, .f32⟩
  | 27 => ⟨S_, .i32⟩
  | 28 => ⟨S_, .f32⟩
  | 29 => ⟨S8x1024, .f32⟩
  | 30 => ⟨S_, .i32⟩
  | 31 => ⟨S_, .f32⟩
  | 32 => ⟨S4x8x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_v38_2 : Ref sig .tc := ⟨.hbm, 66, rfl⟩
abbrev main_call1_cst_1 : Ref sig .tc := ⟨.hbm, 67, rfl⟩
abbrev main_call1_v6 : Ref sig .tc := ⟨.hbm, 68, rfl⟩
abbrev main_call1_v7 : Ref sig .tc := ⟨.hbm, 69, rfl⟩
abbrev main_v38_1 : Ref sig .tc := ⟨.hbm, 70, rfl⟩
abbrev main_v38_0 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_4 : Ref sig .tc := ⟨.hbm, 88, rfl⟩
abbrev main_v52 : Ref sig .tc := ⟨.hbm, 89, rfl⟩
abbrev main_v53 : Ref sig .tc := ⟨.hbm, 90, rfl⟩
abbrev main_cst_5 : Ref sig .tc := ⟨.hbm, 91, rfl⟩
abbrev main_v54 : Ref sig .tc := ⟨.hbm, 92, rfl⟩
abbrev main_v55 : Ref sig .tc := ⟨.hbm, 93, rfl⟩
abbrev main_cst_6 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_7 : Ref sig .tc := ⟨.hbm, 99, rfl⟩
abbrev main_v60 : Ref sig .tc := ⟨.hbm, 100, rfl⟩
abbrev main_v61 : Ref sig .tc := ⟨.hbm, 101, rfl⟩
abbrev main_cst_8 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_cst_10 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_11 : Ref sig .tc := ⟨.hbm, 116, rfl⟩
abbrev main_v73 : Ref sig .tc := ⟨.hbm, 117, rfl⟩
abbrev main_v74 : Ref sig .tc := ⟨.hbm, 118, rfl⟩
abbrev main_cst_12 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_13 : Ref sig .tc := ⟨.hbm, 133, rfl⟩
abbrev main_v88 : Ref sig .tc := ⟨.hbm, 134, rfl⟩
abbrev main_v89 : Ref sig .tc := ⟨.hbm, 135, rfl⟩
abbrev main_cst_14 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c : Ref sig .tc := ⟨.hbm, 155, rfl⟩
abbrev main_call3_v0 : Ref sig .tc := ⟨.hbm, 156, rfl⟩
abbrev main_v108 : Ref sig .tc := ⟨.hbm, 157, rfl⟩
abbrev main_c_15 : Ref sig .tc := ⟨.hbm, 158, rfl⟩
abbrev main_call4_v0 : Ref sig .tc := ⟨.hbm, 159, rfl⟩
abbrev main_v109 : Ref sig .tc := ⟨.hbm, 160, rfl⟩

abbrev nD : Nat := 1
abbrev τ : Topo := Topo.v7x

variable {F : FTy → Type} [FloatOps F]
-- ==== FfnFwd.lean ====
abbrev S4x2048x1024 : Shape := ⟨3, ![4, 2048, 1024]⟩
abbrev S4x6x1024 : Shape := ⟨3, ![4, 6, 1024]⟩
abbrev S1024x2816 : Shape := ⟨2, ![1024, 2816]⟩
abbrev S2816x1024 : Shape := ⟨2, ![2816, 1024]⟩
abbrev S_ : Shape := ⟨0, ![]⟩
abbrev S4x8x1024 : Shape := ⟨3, ![4, 8, 1024]⟩
abbrev S8192x1024 : Shape := ⟨2, ![8192, 1024]⟩
abbrev S11x8192x256 : Shape := ⟨3, ![11, 8192, 256]⟩
abbrev S8x1024 : Shape := ⟨2, ![8, 1024]⟩
abbrev S512x1024 : Shape := ⟨2, ![512, 1024]⟩
abbrev S1x8x1024 : Shape := ⟨3, ![1, 8, 1024]⟩
abbrev S11x512x256 : Shape := ⟨3, ![11, 512, 256]⟩
abbrev S3 : Shape := ⟨1, ![3]⟩
abbrev S1 : Shape := ⟨1, ![1]⟩
abbrev S256x1024 : Shape := ⟨2, ![256, 1024]⟩
abbrev S512x256 : Shape := ⟨2, ![512, 256]⟩
abbrev S1x512x256 : Shape := ⟨3, ![1, 512, 256]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 25
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S_, .i32⟩
  | .hbm, ⟨8, _⟩ => ⟨S_, .f32⟩
  | .hbm, ⟨9, _⟩ => ⟨S4x8x1024, .f32⟩
  | .hbm, ⟨10, _⟩ => ⟨S8192x1024, .f32⟩
  | .hbm, ⟨11, _⟩ => ⟨S8192x1024, .bf16⟩
  | .hbm, ⟨12, _⟩ => ⟨S2816x1024, .f32⟩
  | .hbm, ⟨13, _⟩ => ⟨S2816x1024, .bf16⟩
  | .hbm, ⟨14, _⟩ => ⟨S2816x1024, .f32⟩
  | .hbm, ⟨15, _⟩ => ⟨S2816x1024, .bf16⟩
  | .hbm, ⟨16, _⟩ => ⟨S2816x1024, .bf16⟩
  | .hbm, ⟨17, _⟩ => ⟨S8192x1024, .f32⟩
  | .hbm, ⟨18, _⟩ => ⟨S8192x1024, .f32⟩
  | .hbm, ⟨19, _⟩ => ⟨S11x8192x256, .bf16⟩
  | .hbm, ⟨20, _⟩ => ⟨S11x8192x256, .bf16⟩
  | .hbm, ⟨21, _⟩ => ⟨S8192x1024, .f32⟩
  | .hbm, ⟨22, _⟩ => ⟨S8192x1024, .bf16⟩
  | .hbm, ⟨23, _⟩ => ⟨S8x1024, .f32⟩
  | .hbm, ⟨24, _⟩ => ⟨S4x8x1024, .f32⟩
  | .local _ .vmem, ⟨0, _⟩ => ⟨S512x1024, .bf16⟩
  | .local _ .vmem, ⟨1, _⟩ => ⟨S512x1024, .bf16⟩
  | .local _ .vmem, ⟨2, _⟩ => ⟨S1x8x1024, .f32⟩
  | .local _ .vmem, ⟨3, _⟩ => ⟨S1x8x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S1x8x1024, .f32⟩
  | .local _ .vmem, ⟨18, _⟩ => ⟨S1x8x1024, .f32⟩
  | .local _ .vmem, ⟨19, _⟩ => ⟨S2816x1024, .bf16⟩
  | .local _ .vmem, ⟨20, _⟩ => ⟨S2816x1024, .bf16⟩
  | .local _ .vmem, ⟨21, _⟩ => ⟨S2816x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S11x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S4x2048x1024 : Shape := ⟨3, ![4, 2048, 1024]⟩
abbrev S4x6x1024 : Shape := ⟨3, ![4, 6, 1024]⟩
abbrev S1024x2816 : Shape := ⟨2, ![1024, 2816]⟩
abbrev S2816x1024 : Shape := ⟨2, ![2816, 1024]⟩
abbrev S4x2048x2816 : Shape := ⟨3, ![4, 2048, 2816]⟩
abbrev S4x1x1024 : Shape := ⟨3, ![4, 1, 1024]⟩
abbrev S4x1024 : Shape := ⟨2, ![4, 1024]⟩
abbrev S_ : Shape := ⟨0, ![]⟩
abbrev S4x2048 : Shape := ⟨2, ![4, 2048]⟩
abbrev S1024 : Shape := ⟨1, ![1024]⟩
abbrev S8192x11x256 : Shape := ⟨3, ![8192, 11, 256]⟩
abbrev S11x8192x256 : Shape := ⟨3, ![11, 8192, 256]⟩
abbrev S8192x1024 : Shape := ⟨2, ![8192, 1024]⟩
abbrev S1x1024 : Shape := ⟨2, ![1, 1024]⟩
abbrev S8x1024 : Shape := ⟨2, ![8, 1024]⟩
abbrev S4x8x1024 : Shape := ⟨3, ![4, 8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4x2048x2816, .f32⟩
  | .hbm, ⟨8, _⟩ => ⟨S4x2048x2816, .f32⟩
  | .hbm, ⟨9, _⟩ => ⟨S4x1x1024, .f32⟩
  | .hbm, ⟨10, _⟩ => ⟨S4x1024, .f32⟩
  | .hbm, ⟨11, _⟩ => ⟨S4x2048x2816, .f32⟩
  | .hbm, ⟨12, _⟩ => ⟨S4x2048x2816, .f32⟩
  | .hbm, ⟨13, _⟩ => ⟨S_, .f32⟩
  | .hbm, ⟨14, _⟩ => ⟨S4x2048x2816, .f32⟩
  | .hbm, ⟨15, _⟩ => ⟨S4x2048x2816, .f32⟩
  | .hbm, ⟨16, _⟩ => ⟨S_, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S4x2048x2816, .f32⟩
  | .hbm, ⟨21, _⟩ => ⟨S4x2048x1024, .f32⟩
  | .hbm, ⟨22, _⟩ => ⟨S4x1x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x2048, .f32⟩
  | .hbm, ⟨44, _⟩ => ⟨S_, .f32⟩
  | .hbm, ⟨45, _⟩ => ⟨S4x2048, .f32⟩
  | .hbm, ⟨46, _⟩ => ⟨S4x2048, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x1024, .f32⟩
  | .hbm, ⟨54, _⟩ => ⟨S4x1x1024, .f32⟩
  | .hbm, ⟨55, _⟩ => ⟨S_, .f32⟩
  | .hbm, ⟨56, _⟩ => ⟨S4x1024, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S1024, .f32⟩
  | .hbm, ⟨61, _⟩ => ⟨S8192x11x256, .f32⟩
  | .hbm, ⟨62, _⟩ => ⟨S11x8192x256, .f32⟩
  | .hbm, ⟨63, _⟩ => ⟨S11x8192x256, .bf16⟩
  | .hbm, ⟨64, _⟩ => ⟨S8192x11x256, .f32⟩
  | .hbm, ⟨65, _⟩ => ⟨S11x8192x256, .f32⟩
  | .hbm, ⟨66, _⟩ => ⟨S11x8192x256, .bf16⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S1x1024, .f32⟩
  | .hbm, ⟨71, _⟩ => ⟨S_, .i32⟩
  | .hbm, ⟨72, _⟩ => ⟨S_, .f32⟩
  | .hbm, ⟨73, _⟩ => ⟨S8x1024, .f32⟩
  | .hbm, ⟨74, _⟩ => ⟨S4x1x1024, .f32⟩
  | .hbm, ⟨75, _⟩ => ⟨S_, .i32⟩
  | .hbm, ⟨76, _⟩ => ⟨S_, .f32⟩
  | .hbm, ⟨77, _⟩ => ⟨S4x8x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_cst_4 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_cst_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c : Ref sig .tc := ⟨.hbm, 71, rfl⟩
abbrev main_call1_v0 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_call2_v0 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== MixOut.lean ====
abbrev S4x2048x512 : Shape := ⟨3, ![4, 2048, 512]⟩
abbrev S4x2048x1024 : Shape := ⟨3, ![4, 2048, 1024]⟩
abbrev S4x6x1024 : Shape := ⟨3, ![4, 6, 1024]⟩
abbrev S1x512 : Shape := ⟨2, ![1, 512]⟩
abbrev S1x1024 : Shape := ⟨2, ![1, 1024]⟩
abbrev S1024x1024 : Shape := ⟨2, ![1024, 1024]⟩
abbrev S_ : Shape := ⟨0, ![]⟩
abbrev S4x8x1024 : Shape := ⟨3, ![4, 8, 1024]⟩
abbrev S8192x512 : Shape := ⟨2, ![8192, 512]⟩
abbrev S8192x1024 : Shape := ⟨2, ![8192, 1024]⟩
abbrev S512x512 : Shape := ⟨2, ![512, 512]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S1x1x1024 : Shape := ⟨3, ![1, 1, 1024]⟩

abbrev nBuf : Space → Nat
  | .hbm => 20
  | .vmem => 20
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x6x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1024x1024, .f32⟩
  | .hbm, ⟨8, _⟩ => ⟨S_, .i32⟩
  | .hbm, ⟨9, _⟩ => ⟨S_, .f32⟩
  | .hbm, ⟨10, _⟩ => ⟨S4x8x1024, .f32⟩
  | .hbm, ⟨11, _⟩ => ⟨S8192x512, .f32⟩
  | .hbm, ⟨12, _⟩ => ⟨S8192x512, .f32⟩
  | .hbm, ⟨13, _⟩ => ⟨S8192x512, .bf16⟩
  | .hbm, ⟨14, _⟩ => ⟨S8192x1024, .f32⟩
  | .hbm, ⟨15, _⟩ => ⟨S1024x1024, .bf16⟩
  | .hbm, ⟨16, _⟩ => ⟨S8192x512, .bf16⟩
  | .hbm, ⟨17, _⟩ => ⟨S8192x1024, .bf16⟩
  | .hbm, ⟨18, _⟩ => ⟨S8192x1024, .f32⟩
  | .hbm, ⟨19, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1024x1024, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutRefIdeal.lean ====
abbrev S4x2048x512 : Shape := ⟨3, ![4, 2048, 512]⟩
abbrev S4x2048x1024 : Shape := ⟨3, ![4, 2048, 1024]⟩
abbrev S4x6x1024 : Shape := ⟨3, ![4, 6, 1024]⟩
abbrev S1x512 : Shape := ⟨2, ![1, 512]⟩
abbrev S1x1024 : Shape := ⟨2, ![1, 1024]⟩
abbrev S1024x1024 : Shape := ⟨2, ![1024, 1024]⟩
abbrev S4x1x1024 : Shape := ⟨3, ![4, 1, 1024]⟩
abbrev S4x1024 : Shape := ⟨2, ![4, 1024]⟩
abbrev S512 : Shape := ⟨1, ![512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S1024 : Shape := ⟨1, ![1024]⟩
abbrev S1x1x1024 : Shape := ⟨3, ![1, 1, 1024]⟩
abbrev S8192x512 : Shape := ⟨2, ![8192, 512]⟩
abbrev S8192x1024 : Shape := ⟨2, ![8192, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x6x1024, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1024x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1024, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x512, .f32⟩
  | .hbm, ⟨23, _⟩ => ⟨S4x2048x512, .f32⟩
  | .hbm, ⟨24, _⟩ => ⟨S4x2048x512, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x512, .f32⟩
  | .hbm, ⟨32, _⟩ => ⟨S4x2048x512, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1, .f32⟩
  | .hbm, ⟨37, _⟩ => ⟨S4x2048x512, .f32⟩
  | .hbm, ⟨38, _⟩ => ⟨S4x2048x512, .f32⟩
  | .hbm, ⟨39, _⟩ => ⟨S1x1x512, .f32⟩
  | .hbm, ⟨40, _⟩ => ⟨S4x2048x512, .f32⟩
  | .hbm, ⟨41, _⟩ => ⟨S4x2048x512, .f32⟩
  | .hbm, ⟨42, _⟩ => ⟨S1x1x512, .f32⟩
  | .hbm, ⟨43, _⟩ => ⟨S4x2048x512, .f32⟩
  | .hbm, ⟨44, _⟩ => ⟨S4x2048x512, .f32⟩
  | .hbm, ⟨45, _⟩ => ⟨S4x2048x512, .f32⟩
  | .hbm, ⟨46, _⟩ => ⟨S4x2048x512, .f32⟩
  | .hbm, ⟨47, _⟩ => ⟨S_, .f32⟩
  | .hbm, ⟨48, _⟩ => ⟨S4x2048x512, .f32⟩
  | .hbm, ⟨49, _⟩ => ⟨S4x2048x512, .f32⟩
  | .hbm, ⟨50, _⟩ => ⟨S_, .f32⟩
  | .hbm, ⟨51, _⟩ => ⟨S4x2048x512, .f32⟩
  | .hbm, ⟨52, _⟩ => ⟨S4x2048x512, .f32⟩
  | .hbm, ⟨53, _⟩ => ⟨S4x2048x512, .f32⟩
  | .hbm, ⟨54, _⟩ => ⟨S4x2048x1024, .f32⟩
  | .hbm, ⟨55, _⟩ => ⟨S4x2048x1024, .f32⟩
  | .hbm, ⟨56, _⟩ => ⟨S4x1x1024, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S1024, .f32⟩
  | .hbm, ⟨61, _⟩ => ⟨S4x2048x1024, .f32⟩
  | .hbm, ⟨62, _⟩ => ⟨S_, .f32⟩
  | .hbm, ⟨63, _⟩ => ⟨S4x2048, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1, .f32⟩
  | .hbm, ⟨72, _⟩ => ⟨S4x2048x1024, .f32⟩
  | .hbm, ⟨73, _⟩ => ⟨S4x2048x1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | .hbm, ⟨77, _⟩ => ⟨S4x1x1024, .f32⟩
  | .hbm, ⟨78, _⟩ => ⟨S_, .f32⟩
  | .hbm, ⟨79, _⟩ => ⟨S4x1x1024, .f32⟩
  | .hbm, ⟨80, _⟩ => ⟨S4x1x1024, .f32⟩
  | .hbm, ⟨81, _⟩ => ⟨S4x2048x1024, .f32⟩
  | .hbm, ⟨82, _⟩ => ⟨S4x2048x1024, .f32⟩
  | .hbm, ⟨83, _⟩ => ⟨S4x1x1024, .f32⟩
  | .hbm, ⟨84, _⟩ => ⟨S4x2048x1024, .f32⟩
  | .hbm, ⟨85, _⟩ => ⟨S4x2048x1024, .f32⟩
  | .hbm, ⟨86, _⟩ => ⟨S8192x512, .f32⟩
  | .hbm, ⟨87, _⟩ => ⟨S8192x512, .bf16⟩
  | .hbm, ⟨88, _⟩ => ⟨S8192x1024, .f32⟩
  | .hbm, ⟨89, _⟩ => ⟨S8192x1024, .bf16⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== MixIn.lean ====
abbrev S4x2048x1024 : Shape := ⟨3, ![4, 2048, 1024]⟩
abbrev S4x6x1024 : Shape := ⟨3, ![4, 6, 1024]⟩
abbrev S1x1024 : Shape := ⟨2, ![1, 1024]⟩
abbrev S1024x2560 : Shape := ⟨2, ![1024, 2560]⟩
abbrev S_ : Shape := ⟨0, ![]⟩
abbrev S4x8x1024 : Shape := ⟨3, ![4, 8, 1024]⟩
abbrev S8192x1024 : Shape := ⟨2, ![8192, 1024]⟩
abbrev S2560x1024 : Shape := ⟨2, ![2560, 1024]⟩
abbrev S20x8192x128 : Shape := ⟨3, ![20, 8192, 128]⟩
abbrev S512x1024 : Shape := ⟨2, ![512, 1024]⟩
abbrev S1x8x1024 : Shape := ⟨3, ![1, 8, 1024]⟩
abbrev S20x512x128 : Shape := ⟨3, ![20, 512, 128]⟩
abbrev S128x1024 : Shape := ⟨2, ![128, 1024]⟩
abbrev S128 : Shape := ⟨1, ![128]⟩
abbrev S128x1 : Shape := ⟨2, ![128, 1]⟩
abbrev S1x1x1024 : Shape := ⟨3, ![1, 1, 1024]⟩
abbrev S128x2560 : Shape := ⟨2, ![128, 2560]⟩
abbrev S128x128 : Shape := ⟨2, ![128, 128]⟩
abbrev S1x128x128 : Shape := ⟨3, ![1, 128, 128]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x6x1024, .f32⟩
  | .hbm, ⟨2, _⟩ => ⟨S1x1024, .f32⟩
  | .hbm, ⟨3, _⟩ => ⟨S1024x2560, .f32⟩
  | .hbm, ⟨4, _⟩ => ⟨S_, .i32⟩
  | .hbm, ⟨5, _⟩ => ⟨S_, .f32⟩
  | .hbm, ⟨6, _⟩ => ⟨S4x8x1024, .f32⟩
  | .hbm, ⟨7, _⟩ => ⟨S8192x1024, .f32⟩
  | .hbm, ⟨8, _⟩ => ⟨S2560x1024, .f32⟩
  | .hbm, ⟨9, _⟩ => ⟨S2560x1024, .bf16⟩
  | .hbm, ⟨10, _⟩ => ⟨S8192x1024, .bf16⟩
  | .hbm, ⟨11, _⟩ => ⟨S20x8192x128, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S2560x1024, .bf16⟩
  | .local _ .vmem, ⟨6, _⟩ => ⟨S512x1024, .bf16⟩
  | .local _ .vmem, ⟨7, _⟩ => ⟨S512x1024, .bf16⟩
  | .local _ .vmem, ⟨8, _⟩ => ⟨S20x512x128, .f32⟩
  | .local _ .vmem, ⟨9, _⟩ => ⟨S20x512x128, .f32⟩
  | .local _ .vmem, ⟨10, _⟩ => ⟨S1024x2560, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixInRefIdeal.lean ====
abbrev S4x2048x1024 : Shape := ⟨3, ![4, 2048, 1024]⟩
abbrev S4x6x1024 : Shape := ⟨3, ![4, 6, 1024]⟩
abbrev S1x1024 : Shape := ⟨2, ![1, 1024]⟩
abbrev S1024x2560 : Shape := ⟨2, ![1024, 2560]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S4x2048x2560 : Shape := ⟨3, ![4, 2048, 2560]⟩
abbrev S8192x20x128 : Shape := ⟨3, ![8192, 20, 128]⟩
abbrev S20x8192x128 : Shape := ⟨3, ![20, 8192, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x6x1024, .f32⟩
  | .hbm, ⟨2, _⟩ => ⟨S1x1024, .f32⟩
  | .hbm, ⟨3, _⟩ => ⟨S1024x2560, .f32⟩
  | .hbm, ⟨4, _⟩ => ⟨S4x1x1024, .f32⟩
  | .hbm, ⟨5, _⟩ => ⟨S4x1024, .f32⟩
  | .hbm, ⟨6, _⟩ => ⟨S4x1x1024, .f32⟩
  | .hbm, ⟨7, _⟩ => ⟨S4x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x2048x1024, .f32⟩
  | .hbm, ⟨30, _⟩ => ⟨S4x2048x1024, .f32⟩
  | .hbm, ⟨31, _⟩ => ⟨S4x1x1024, .f32⟩
  | .hbm, ⟨32, _⟩ => ⟨S4x2048x1024, .f32⟩
  | .hbm, ⟨33, _⟩ => ⟨S4x2048x1024, .f32⟩
  | .hbm, ⟨34, _⟩ => ⟨S8192x1024, .f32⟩
  | .hbm, ⟨35, _⟩ => ⟨S8192x1024, .bf16⟩
  | .hbm, ⟨36, _⟩ => ⟨S4x2048x2560, .f32⟩
  | .hbm, ⟨37, _⟩ => ⟨S8192x20x128, .f32⟩
  | .hbm, ⟨38, _⟩ => ⟨S20x8192x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== MixInBwd.lean ====
abbrev S4x2048x2560 : Shape := ⟨3, ![4, 2048, 2560]⟩
abbrev S4x2048x1024 : Shape := ⟨3, ![4, 2048, 1024]⟩
abbrev S4x6x1024 : Shape := ⟨3, ![4, 6, 1024]⟩
abbrev S1x1024 : Shape := ⟨2, ![1, 1024]⟩
abbrev S1024x2560 : Shape := ⟨2, ![1024, 2560]⟩
abbrev S4x2048x512 : Shape := ⟨3, ![4, 2048, 512]⟩
abbrev S8192x512 : Shape := ⟨2, ![8192, 512]⟩
abbrev S_ : Shape := ⟨0, ![]⟩
abbrev S4x8x1024 : Shape := ⟨3, ![4, 8, 1024]⟩
abbrev S2560x1024 : Shape := ⟨2, ![2560, 1024]⟩
abbrev S8192x1024 : Shape := ⟨2, ![8192, 1024]⟩
abbrev S8x1024 : Shape := ⟨2, ![8, 1024]⟩
abbrev S512x512 : Shape := ⟨2, ![512, 512]⟩
abbrev S512x1024 : Shape := ⟨2, ![512, 1024]⟩
abbrev S1x8x1024 : Shape := ⟨3, ![1, 8, 1024]⟩
abbrev S512 : Shape := ⟨1, ![512]⟩
abbrev S512x1 : Shape := ⟨2, ![512, 1]⟩
abbrev S1x1x1024 : Shape := ⟨3, ![1, 1, 1024]⟩
abbrev S1024 : Shape := ⟨1, ![1024]⟩

abbrev nBuf : Space → Nat
  | .hbm => 31
  | .vmem => 23
  | .smem => 0
  | _ => 0

abbrev bufTy : (tb : Table) → Fin (tcTables nBuf tb) → BufTy
  | .hbm, ⟨0, _⟩ => ⟨S4x2048x2560, .f32⟩
  | .hbm, ⟨1, _⟩ => ⟨S4x2048x1024, .f32⟩
  | .hbm, ⟨2, _⟩ => ⟨S4x2048x1024, .f32⟩
  | .hbm, ⟨3, _⟩ => ⟨S4x6x1024, .f32⟩
  | .hbm, ⟨4, _⟩ => ⟨S1x1024, .f32⟩
  | .hbm, ⟨5, _⟩ => ⟨S1024x2560, .f32⟩
  | .hbm, ⟨6, _⟩ => ⟨S4x2048x512, .f32⟩
  | .hbm, ⟨7, _⟩ => ⟨S8192x512, .f32⟩
  | .hbm, ⟨8, _⟩ => ⟨S8192x512, .bf16⟩
  | .hbm, ⟨9, _⟩ => ⟨S4x2048x512, .f32⟩
  | .hbm, ⟨10, _⟩ => ⟨S8192x512, .f32⟩
  | .hbm, ⟨11, _⟩ => ⟨S8192x512, .bf16⟩
  | .hbm, ⟨12, _⟩ => ⟨S4x2048x512, .f32⟩
  | .hbm, ⟨13, _⟩ => ⟨S8192x512, .f32⟩
  | .hbm, ⟨14, _⟩ => ⟨S8192x512, .bf16⟩
  | .hbm, ⟨15, _⟩ => ⟨S4x2048x512, .f32⟩
  | .hbm, ⟨16, _⟩ => ⟨S8192x512, .f32⟩
  | .hbm, ⟨17, _⟩ => ⟨S8192x512, .bf16⟩
  | .hbm, ⟨18, _⟩ => ⟨S4x2048x512, .f32⟩
  | .hbm, ⟨19, _⟩ => ⟨S8192x512, .f32⟩
  | .hbm, ⟨20, _⟩ => ⟨S8192x512, .bf16⟩
  | .hbm, ⟨21, _⟩ => ⟨S_, .i32⟩
  | .hbm, ⟨22, _⟩ => ⟨S_, .f32⟩
  | .hbm, ⟨23, _⟩ => ⟨S4x8x1024, .f32⟩
  | .hbm, ⟨24, _⟩ => ⟨S2560x1024, .f32⟩
  | .hbm, ⟨25, _⟩ => ⟨S2560x1024, .bf16⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8x1024, .f32⟩
  | .hbm, ⟨30, _⟩ => ⟨S4x8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2560x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x8x1024, .f32⟩
  | .local _ .vmem, ⟨16, _⟩ => ⟨S1x8x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | .local _ .vmem, ⟨21, _⟩ => ⟨S1x8x1024, .f32⟩
  | .local _ .vmem, ⟨22, _⟩ => ⟨S1x8x1024, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixInBwdRefIdeal.lean ====
abbrev S4x2048x2560 : Shape := ⟨3, ![4, 2048, 2560]⟩
abbrev S4x2048x1024 : Shape := ⟨3, ![4, 2048, 1024]⟩
abbrev S4x6x1024 : Shape := ⟨3, ![4, 6, 1024]⟩
abbrev S1x1024 : Shape := ⟨2, ![1, 1024]⟩
abbrev S1024x2560 : Shape := ⟨2, ![1024, 2560]⟩
abbrev S4x1x1024 : Shape := ⟨3, ![4, 1, 1024]⟩
abbrev S4x1024 : Shape := ⟨2, ![4, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2x1024 : Shape := ⟨3, ![4, 2, 1024]⟩
abbrev S8192x1024 : Shape := ⟨2, ![8192, 1024]⟩
abbrev S8x1024 : Shape := ⟨2, ![8, 1024]⟩
abbrev S4x8x1024 : Shape := ⟨3, ![4, 8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x2048x1024, .f32⟩
  | .hbm, ⟨2, _⟩ => ⟨S4x2048x1024, .f32⟩
  | .hbm, ⟨3, _⟩ => ⟨S4x6x1024, .f32⟩
  | .hbm, ⟨4, _⟩ => ⟨S1x1024, .f32⟩
  | .hbm, ⟨5, _⟩ => ⟨S1024x2560, .f32⟩
  | .hbm, ⟨6, _⟩ => ⟨S4x1x1024, .f32⟩
  | .hbm, ⟨7, _⟩ => ⟨S4x1024, .f32⟩
  | .hbm, ⟨8, _⟩ => ⟨S4x1x1024, .f32⟩
  | .hbm, ⟨9, _⟩ => ⟨S4x1024, .f32⟩
  | .hbm, ⟨10, _⟩ => ⟨S1024, .f32⟩
  | .hbm, ⟨11, _⟩ => ⟨S4x2048x1024, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S1x1x1024, .f32⟩
  | .hbm, ⟨29, _⟩ => ⟨S4x2048x1024, .f32⟩
  | .hbm, ⟨30, _⟩ => ⟨S4x2048x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x2048x1024, .f32⟩
  | .hbm, ⟨36, _⟩ => ⟨S4x2048x1024, .f32⟩
  | .hbm, ⟨37, _⟩ => ⟨S4x1x1024, .f32⟩
  | .hbm, ⟨38, _⟩ => ⟨S4x2048x1024, .f32⟩
  | .hbm, ⟨39, _⟩ => ⟨S4x2048x1024, .f32⟩
  | .hbm, ⟨40, _⟩ => ⟨S4x2048x2560, .f32⟩
  | .hbm, ⟨41, _⟩ => ⟨S4x2048x1024, .f32⟩
  | .hbm, ⟨42, _⟩ => ⟨S_, .f32⟩
  | .hbm, ⟨43, _⟩ => ⟨S4x1024, .f32⟩
  | .hbm, ⟨44, _⟩ => ⟨S4x1x1024, .f32⟩
  | .hbm, ⟨45, _⟩ => ⟨S_, .f32⟩
  | .hbm, ⟨46, _⟩ => ⟨S4x1024, .f32⟩
  | .hbm, ⟨47, _⟩ => ⟨S4x2048x1024, .f32⟩
  | .hbm, ⟨48, _⟩ => ⟨S_, .f32⟩
  | .hbm, ⟨49, _⟩ => ⟨S4x1024, .f32⟩
  | .hbm, ⟨50, _⟩ => ⟨S4x1x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x1024, .f32⟩
  | .hbm, ⟨55, _⟩ => ⟨S4x2048x1024, .f32⟩
  | .hbm, ⟨56, _⟩ => ⟨S_, .f32⟩
  | .hbm, ⟨57, _⟩ => ⟨S1024, .f32⟩
  | .hbm, ⟨58, _⟩ => ⟨S1x1x1024, .f32⟩
  | .hbm, ⟨59, _⟩ => ⟨S4x2048x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S4x2048x1024, .f32⟩
  | .hbm, ⟨64, _⟩ => ⟨S_, .f32⟩
  | .hbm, ⟨65, _⟩ => ⟨S4x2048, .f32⟩
  | .hbm, ⟨66, _⟩ => ⟨S4x2048x1, .f32⟩
  | .hbm, ⟨67, _⟩ => ⟨S4x2048x1024, .f32⟩
  | .hbm, ⟨68, _⟩ => ⟨S4x2048x1024, .f32⟩
  | .hbm, ⟨69, _⟩ => ⟨S4x2048x1, .f32⟩
  | .hbm, ⟨70, _⟩ => ⟨S_, .f32⟩
  | .hbm, ⟨71, _⟩ => ⟨S4x2048x1, .f32⟩
  | .hbm, ⟨72, _⟩ => ⟨S4x2048x1, .f32⟩
  | .hbm, ⟨73, _⟩ => ⟨S_, .f32⟩
  | .hbm, ⟨74, _⟩ => ⟨S4x2048, .f32⟩
  | .hbm, ⟨75, _⟩ => ⟨S4x2048x1024, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x1x1024, .f32⟩
  | .hbm, ⟨81, _⟩ => ⟨S4x1x1024, .f32⟩
  | .hbm, ⟨82, _⟩ => ⟨S4x2x1024, .f32⟩
  | .hbm, ⟨83, _⟩ => ⟨S4x2048x1024, .f32⟩
  | .hbm, ⟨84, _⟩ => ⟨S8192x1024, .f32⟩
  | .hbm, ⟨85, _⟩ => ⟨S1x1024, .f32⟩
  | .hbm, ⟨86, _⟩ => ⟨S_, .i32⟩
  | .hbm, ⟨87, _⟩ => ⟨S_, .f32⟩
  | .hbm, ⟨88, _⟩ => ⟨S8x1024, .f32⟩
  | .hbm, ⟨89, _⟩ => ⟨S_, .i32⟩
  | .hbm, ⟨90, _⟩ => ⟨S_, .f32⟩
  | .hbm, ⟨91, _⟩ => ⟨S4x8x1024, .f32⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c : Ref sig .tc := ⟨.hbm, 86, rfl⟩
abbrev main_call0_v0 : Ref sig .tc := ⟨.hbm, 87, rfl⟩
abbrev main_v66 : Ref sig .tc := ⟨.hbm, 88, rfl⟩
abbrev main_c_13 : Ref sig .tc := ⟨.hbm, 89, rfl⟩
abbrev main_call1_v0 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Common.lean ====
module
public import Idealize.ShloMosaic.Lib.Pipeline.ValueKit
public import Idealize.ShloMosaic.Lib.Pipeline.ReadBack
public import Idealize.ShloMosaic.Lib.Pointwise

/-! Facts that the value proofs of several calls share: where a stored rectangle lies, and sums over rows taken block by
block. -/

@[expose] public section
noncomputable section
namespace Cert.Common
open Idealize.ShloMosaic

/-- Where a rectangle puts its index, axis by axis. -/
theorem emb_norm {s : Shape} (r : Rect s) (x : r.shape.Idx) :
    r.emb x = Shape.Idx.norm fun a => ⟨r.toLoadRect.off a + r.toLoadRect.stride a * (x a).val, r.toLoadRect.coord_lt a (x a).isLt⟩ := rfl

/-- Blocks of `b` rows taken one after another are the rows. -/
theorem sum_blocks {M : Type*} [AddCommMonoid M] (b : ℕ) (F : ℕ → M) (a : ℕ) :
    ∑ t ∈ Finset.range a, ∑ k : Fin b, F (b * t + k.val) = ∑ n ∈ Finset.range (b * a), F n := by
  induction a with
  | zero => simp
  | succ a ih => rw [Finset.sum_range_succ, ih, Nat.mul_succ, Finset.sum_range_add, Fin.sum_univ_eq_sum_range (fun k => F (b * a + k))]

/-- The same, the blocks numbered by `Fin a`. -/
theorem sum_blocks_fin {M : Type*} [AddCommMonoid M] (a b : ℕ) (F : ℕ → M) :
    ∑ t : Fin a, ∑ k : Fin b, F (b * t.val + k.val) = ∑ n ∈ Finset.range (b * a), F n := by
  rw [← sum_blocks, ← Fin.sum_univ_eq_sum_range (fun t => ∑ k : Fin b, F (b * t + k.val))]

end Cert.Common
end
-- ==== Proof.GradUp.lean ====
module
public import proofs.«01_k».proof.Defs
public import proofs.«01_k».proof.Proof.Gen.GradUpIdeal.Value
public import proofs.«01_k».proof.Proof.Gen.GradUpRefIdeal.Read
public import proofs.«01_k».proof.Proof.Gen.GradUpRefIdeal.Run
public import Idealize.ShloMosaic.Lib.Claim
public import proofs.«01_k».proof.Proof.Common

/-! The product of the two feed-forward arrays over all tokens: what the accumulator holds after each block of rows,
and that its last contents are the reference's sum over sequences and positions. -/

@[expose] public section
set_option maxRecDepth 16384
noncomputable section
namespace Cert.GradUpIdeal.Value
open Cert.GradUpIdeal Cert.GradUpIdeal.Gen Idealize.ShloMosaic Idealize.ShloMosaic.TcCoe Idealize.SL.Sem

/-- What one block of rows adds to the accumulator. -/
def term (x0 : Vec Ideal S11x1024x256 .bf16) (x1 : Vec Ideal S1024x1024 .bf16) (j : S11x256x1024.Idx) : EReal :=
  ∑ k : Fin 1024, x0 (ix3 (j 0) k (j 1)) * x1 (ix2 k (j 2))

section Cases
variable (c : Dev nD) (i : grid0.Coords) (a1 : Memref sig .tc .vmem S11x1024x256 .bf16) (h1 : a1.IsWhole) (a2 : Memref sig .tc .vmem S1024x1024 .bf16) (h2 : a2.IsWhole) (a3 : Memref sig .tc .vmem S11x256x1024 .bf16) (h3 : a3.IsWhole) (a4 : Memref sig .tc .vmem S11x256x1024 .f32) (h4 : a4.IsWhole)
    (x0 : Vec Ideal S11x1024x256 .bf16) (x1 : Vec Ideal S1024x1024 .bf16) (xs0 : Vec Ideal S11x256x1024 .f32)

theorem sout_B (hc0 : ¬cond0_0 i) (hc1 : ¬cond0_1 i) :
    sout0_B_0 c i a1 h1 a2 h2 a3 h3 a4 h4 hc0 hc1 x0 x1 xs0 = fun j => xs0 j + term x0 x1 j := by
  funext j
  have hcov := scover0_B_0 c i a1 h1 a2 h2 a3 h3 a4 h4 hc0 hc1 x0 x1 xs0 j
  unfold sout0_B_0
  rw [View.read_writes_eq_canon _ _ _ (scover0_B_0 c i a1 h1 a2 h2 a3 h3 a4 h4 hc0 hc1 x0 x1 xs0)]
  refine View.canon_apply_of_pieces (fun j => xs0 j + term x0 x1 j) _ ?_ j hcov
  refine View.PiecesOf.mem (G := fun j => xs0 j + term x0 x1 j) ?_
  unfold kernelRun0_B
  dsimp only
  sl_unfold_words
  unfold_payloads
  simp only [View.readAt_eq_ld, h1.read_unread, h2.read_unread, h4.read_unread]
  refine ⟨?_, ?_, ?_, ?_, ?_, ?_, ?_, ?_, ?_, ?_, ?_, trivial⟩
  all_goals
    intro x
    idx_vars x
    pointwise [term, Common.emb_norm]

theorem sout_C (hc0 : ¬cond0_0 i) (hc1 : cond0_1 i) :
    sout0_C_0 c i a1 h1 a2 h2 a3 h3 a4 h4 hc0 hc1 x0 x1 xs0 = fun j => xs0 j + term x0 x1 j := by
  funext j
  have hcov := scover0_C_0 c i a1 h1 a2 h2 a3 h3 a4 h4 hc0 hc1 x0 x1 xs0 j
  unfold sout0_C_0
  rw [View.read_writes_eq_canon _ _ _ (scover0_C_0 c i a1 h1 a2 h2 a3 h3 a4 h4 hc0 hc1 x0 x1 xs0)]
  refine View.canon_apply_of_pieces (fun j => xs0 j + term x0 x1 j) _ ?_ j hcov
  refine View.PiecesOf.mem (G := fun j => xs0 j + term x0 x1 j) ?_
  unfold kernelRun0_C
  dsimp only
  sl_unfold_words
  unfold_payloads
  simp only [View.readAt_eq_ld, h1.read_unread, h2.read_unread, h4.read_unread]
  refine ⟨?_, ?_, ?_, ?_, ?_, ?_, ?_, ?_, ?_, ?_, ?_, trivial⟩
  all_goals
    intro x
    idx_vars x
    pointwise [term, Common.emb_norm]

theorem out_C (hc0 : ¬cond0_0 i) (hc1 : cond0_1 i) :
    out0_C_2 c i a1 h1 a2 h2 a3 h3 a4 h4 hc0 hc1 x0 x1 xs0 = fun j => xs0 j + term x0 x1 j := by
  rw [← sout_C c i a1 h1 a2 h2 a3 h3 a4 h4 x0 x1 xs0 hc0 hc1]
  unfold sout0_C_0 out0_C_2
  rw [View.read_writes_eq_canon _ _ _ (scover0_C_0 c i a1 h1 a2 h2 a3 h3 a4 h4 hc0 hc1 x0 x1 xs0), View.read_writes_junk_eq_canon]
  unfold kernelRun0_C
  dsimp only
  sl_unfold_words
  rw [View.canon_unit_zero (by funext a; fin_cases a <;> rfl), View.readCov_eq_canon']
  unfold_payloads
  funext j
  idx_vars j
  pointwise

theorem sout_A (hc0 : cond0_0 i) (hc1 : ¬cond0_1 i) :
    sout0_A_0 c i a1 h1 a2 h2 a3 h3 a4 h4 hc0 hc1 x0 x1 = fun j => term x0 x1 j := by
  funext j
  have hcov := scover0_A_0 c i a1 h1 a2 h2 a3 h3 a4 h4 hc0 hc1 x0 x1 j
  unfold sout0_A_0
  rw [View.read_writes_eq_canon _ _ _ (scover0_A_0 c i a1 h1 a2 h2 a3 h3 a4 h4 hc0 hc1 x0 x1)]
  clear hcov
  unfold kernelRun0_A
  dsimp only
  sl_unfold_words
  simp (disch := decide) only [↓View.readCov_skip, ↓View.readCov_fill]
  refine View.canon_append_of_piecesOf (Val := Elt Ideal) (s := S11x256x1024) (e := .f32) (fun j => term x0 x1 j) [_] [_, _, _, _, _, _, _, _, _, _, _] ?_ j ?_
  · unfold_payloads
    simp only [View.readAt_eq_ld, h1.read_unread, h2.read_unread]
    refine ⟨?_, ?_, ?_, ?_, ?_, ?_, ?_, ?_, ?_, ?_, ?_, trivial⟩
    all_goals
      intro x
      idx_vars x
      pointwise [term, Common.emb_norm]
  · exact View.cover_of_tiled_head _ _ _ rfl j
end Cases

variable (m : (ℓ : Loc nD τ sig) → Buf (Elt Ideal) ℓ)

/-- One token's product in entry `(p, q)`. -/
def tok (h : Vec Ideal S4x2048x1024 .f32) (d : Vec Ideal S4x2048x2816 .f32) (p : Fin 2816) (q : Fin 1024) (n : ℕ) : EReal :=
  d (ix3 ⟨n / 2048 % 4, Nat.mod_lt _ (by decide)⟩ ⟨n % 2048, Nat.mod_lt _ (by decide)⟩ p) * h (ix3 ⟨n / 2048 % 4, Nat.mod_lt _ (by decide)⟩ ⟨n % 2048, Nat.mod_lt _ (by decide)⟩ q)

/-- The column of the whole array that column `r` of tile `a` is. -/
def col (a : Fin 11) (r : Fin 256) : Fin 2816 := ⟨a.val * 256 + r.val, by omega⟩

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem term_eq (c : Dev nD) (t : Fin cfg0.N) (j : S11x256x1024.Idx) :
    term (iblk m c 0 t) (iblk m c 1 t) j = ∑ k : Fin 1024, tok (m ((c : Thread nD τ).loc main_arg0)) (m ((c : Thread nD τ).loc main_arg1)) (col (j 0) (j 1)) (j 2) (1024 * t.val + k.val) := by
  have ht : t.val < 8 := lt_of_lt_of_eq t.isLt N_0
  unfold term
  refine Finset.sum_congr rfl fun k _ => ?_
  idx_vars j
  unfold tok col
  congr 1
  · blk_simp [iblk, V, idx0 t]
    entry_read
    pointwise
    blk_ext [idx0 t]
  · blk_simp [iblk, V, idx1 t]
    entry_read
    pointwise
    blk_ext [idx1 t]

/-- The accumulator after point `t`. -/
theorem acc_eq (c : Dev nD) (t : Fin cfg0.N) (j : S11x256x1024.Idx) :
    (outsAt0 m c t.val t.isLt).2 j = 0 + ∑ n ∈ Finset.range (t.val + 1), ∑ k : Fin 1024, tok (m ((c : Thread nD τ).loc main_arg0)) (m ((c : Thread nD τ).loc main_arg1)) (col (j 0) (j 1)) (j 2) (1024 * n + k.val) := by
  refine Pipeline.eq_sum_of_reset_step_apply_single (fun n h => (outsAt0 m c n h).2) 8 (fun _ => 0)
    (fun n j => ∑ k : Fin 1024, tok (m ((c : Thread nD τ).loc main_arg0)) (m ((c : Thread nD τ).loc main_arg1)) (col (j 0) (j 1)) (j 2) (1024 * n + k.val)) ?_ ?_ (le_of_eq N_0) t j
  · intro t h0 j
    have h1 : ¬t.val % 8 = 7 := by omega
    rw [← term_eq, outsAt0_A m c t h0 h1, zero_add]
    dsimp only
    rw [sout_A]
  · intro t h0 j
    rw [← term_eq]
    by_cases h1 : t.val % 8 = 7
    · rw [outsAt0_C m c t h0 h1]
      dsimp only
      rw [sout_C]
    · rw [outsAt0_B m c t h0 h1]
      dsimp only
      rw [sout_B]

theorem result_eq (c : Dev nD) (j : S11x256x1024.Idx) :
    G2 m c j = ∑ n ∈ Finset.range 8192, tok (m ((c : Thread nD τ).loc main_arg0)) (m ((c : Thread nD τ).loc main_arg1)) (col (j 0) (j 1)) (j 2) n := by
  have hN : 7 < cfg0.N := lt_of_lt_of_eq (by decide) N_0.symm
  have e : (G2 m c : Vec Ideal S11x256x1024 .bf16) j = (outsAt0 m c 7 hN).2 j := by
    rw [G2_last, ← outsAt0_sweep m c 7 hN]
    obtain ⟨t, ht⟩ : ∃ t : Fin cfg0.N, t.val = 7 := ⟨⟨7, hN⟩, rfl⟩
    have h0 : ¬t.val % 8 = 0 := by omega
    have h1 : t.val % 8 = 7 := by omega
    have key : ((outsAt0 m c t.val t.isLt).1 : Vec Ideal S11x256x1024 .bf16) j = (outsAt0 m c t.val t.isLt).2 j := by
      rw [outsAt0_C m c t h0 h1]
      dsimp only
      rw [out_C, sout_C]
    simp only [ht] at key
    exact key
  rw [e, acc_eq m c ⟨7, hN⟩ j, zero_add, Common.sum_blocks]
  rfl

theorem ref_eq (h : Vec Ideal S4x2048x1024 .f32) (d : Vec Ideal S4x2048x2816 .f32) (j : S11x256x1024.Idx) :
    (Cert.GradUpRefIdeal.Read.val_main_v6 (F := Ideal) h d : Vec Ideal S11x256x1024 .bf16) j = ∑ n ∈ Finset.range 8192, tok h d (col (j 0) (j 1)) (j 2) n := by
  have e : ∑ a : Fin 4, ∑ b : Fin 2048, d (ix3 a b (col (j 0) (j 1))) * h (ix3 a b (j 2)) = ∑ n ∈ Finset.range 8192, tok h d (col (j 0) (j 1)) (j 2) n := by
    rw [← Common.sum_blocks_fin 4 2048]
    refine Finset.sum_congr rfl fun a _ => Finset.sum_congr rfl fun b _ => ?_
    unfold tok
    have e1 : (2048 * a.val + b.val) / 2048 % 4 = a.val := by omega
    have e2 : (2048 * a.val + b.val) % 2048 = b.val := by omega
    simp only [e1, e2]
  rw [← e]
  idx_vars j
  unfold col
  unfold Cert.GradUpRefIdeal.Read.val_main_v6 Cert.GradUpRefIdeal.Read.val_main_v5 Cert.GradUpRefIdeal.Read.val_main_v4 Cert.GradUpRefIdeal.Read.val_main_v3 Cert.GradUpRefIdeal.Read.val_main_v2
  pointwise
end Cert.GradUpIdeal.Value

namespace Cert.GradUpProof
open Idealize.ShloMosaic Idealize.ShloMosaic.TcCoe Idealize.SL.Sem

theorem frame_ri : Cert.quiescent_GradUpRefIdeal := fun m ρ _ =>
  (θ_run Cert.GradUpRefIdeal.defs _ _).mono (fun r h => ⟨fun c => (h c).2, sem_eq_zero_of_no_sems (by decide) r.2⟩)
    (Cert.GradUpRefIdeal.Value.run (F := Ideal) m ρ)

theorem algebraic : Cert.algebraic_GradUpIdeal_GradUpRefIdeal := by
  pair_intro
  · run_from Cert.GradUpIdeal.Value.run m g
  · run_from Cert.GradUpRefIdeal.Value.run m' g'
    funext j
    exact (Cert.GradUpIdeal.Value.ref_eq _ _ j).trans (Cert.GradUpIdeal.Value.result_eq m c j).symm

end Cert.GradUpProof
end
-- ==== Proof.GradDown.lean ====
module
public import proofs.«01_k».proof.Defs
public import proofs.«01_k».proof.Proof.Gen.GradDownIdeal.Value
public import proofs.«01_k».proof.Proof.Gen.GradDownRefIdeal.Read
public import proofs.«01_k».proof.Proof.Gen.GradDownRefIdeal.Run
public import Idealize.ShloMosaic.Lib.Claim
public import proofs.«01_k».proof.Proof.Common

/-! The product of the two feed-forward arrays over all tokens: what the accumulator holds after each block of rows,
and that its last contents are the reference's sum over sequences and positions. -/

@[expose] public section
set_option maxRecDepth 16384
noncomputable section
namespace Cert.GradDownIdeal.Value
open Cert.GradDownIdeal Cert.GradDownIdeal.Gen Idealize.ShloMosaic Idealize.ShloMosaic.TcCoe Idealize.SL.Sem

/-- What one block of rows adds to the accumulator. -/
def term (x0 : Vec Ideal S11x1024x256 .bf16) (x1 : Vec Ideal S1024x1024 .bf16) (j : S11x256x1024.Idx) : EReal :=
  ∑ k : Fin 1024, x0 (ix3 (j 0) k (j 1)) * x1 (ix2 k (j 2))

section Cases
variable (c : Dev nD) (i : grid0.Coords) (a1 : Memref sig .tc .vmem S11x1024x256 .bf16) (h1 : a1.IsWhole) (a2 : Memref sig .tc .vmem S1024x1024 .bf16) (h2 : a2.IsWhole) (a3 : Memref sig .tc .vmem S11x256x1024 .bf16) (h3 : a3.IsWhole) (a4 : Memref sig .tc .vmem S11x256x1024 .f32) (h4 : a4.IsWhole)
    (x0 : Vec Ideal S11x1024x256 .bf16) (x1 : Vec Ideal S1024x1024 .bf16) (xs0 : Vec Ideal S11x256x1024 .f32)

theorem sout_B (hc0 : ¬cond0_0 i) (hc1 : ¬cond0_1 i) :
    sout0_B_0 c i a1 h1 a2 h2 a3 h3 a4 h4 hc0 hc1 x0 x1 xs0 = fun j => xs0 j + term x0 x1 j := by
  funext j
  have hcov := scover0_B_0 c i a1 h1 a2 h2 a3 h3 a4 h4 hc0 hc1 x0 x1 xs0 j
  unfold sout0_B_0
  rw [View.read_writes_eq_canon _ _ _ (scover0_B_0 c i a1 h1 a2 h2 a3 h3 a4 h4 hc0 hc1 x0 x1 xs0)]
  refine View.canon_apply_of_pieces (fun j => xs0 j + term x0 x1 j) _ ?_ j hcov
  refine View.PiecesOf.mem (G := fun j => xs0 j + term x0 x1 j) ?_
  unfold kernelRun0_B
  dsimp only
  sl_unfold_words
  unfold_payloads
  simp only [View.readAt_eq_ld, h1.read_unread, h2.read_unread, h4.read_unread]
  refine ⟨?_, ?_, ?_, ?_, ?_, ?_, ?_, ?_, ?_, ?_, ?_, trivial⟩
  all_goals
    intro x
    idx_vars x
    pointwise [term, Common.emb_norm]

theorem sout_C (hc0 : ¬cond0_0 i) (hc1 : cond0_1 i) :
    sout0_C_0 c i a1 h1 a2 h2 a3 h3 a4 h4 hc0 hc1 x0 x1 xs0 = fun j => xs0 j + term x0 x1 j := by
  funext j
  have hcov := scover0_C_0 c i a1 h1 a2 h2 a3 h3 a4 h4 hc0 hc1 x0 x1 xs0 j
  unfold sout0_C_0
  rw [View.read_writes_eq_canon _ _ _ (scover0_C_0 c i a1 h1 a2 h2 a3 h3 a4 h4 hc0 hc1 x0 x1 xs0)]
  refine View.canon_apply_of_pieces (fun j => xs0 j + term x0 x1 j) _ ?_ j hcov
  refine View.PiecesOf.mem (G := fun j => xs0 j + term x0 x1 j) ?_
  unfold kernelRun0_C
  dsimp only
  sl_unfold_words
  unfold_payloads
  simp only [View.readAt_eq_ld, h1.read_unread, h2.read_unread, h4.read_unread]
  refine ⟨?_, ?_, ?_, ?_, ?_, ?_, ?_, ?_, ?_, ?_, ?_, trivial⟩
  all_goals
    intro x
    idx_vars x
    pointwise [term, Common.emb_norm]

theorem out_C (hc0 : ¬cond0_0 i) (hc1 : cond0_1 i) :
    out0_C_2 c i a1 h1 a2 h2 a3 h3 a4 h4 hc0 hc1 x0 x1 xs0 = fun j => xs0 j + term x0 x1 j := by
  rw [← sout_C c i a1 h1 a2 h2 a3 h3 a4 h4 x0 x1 xs0 hc0 hc1]
  unfold sout0_C_0 out0_C_2
  rw [View.read_writes_eq_canon _ _ _ (scover0_C_0 c i a1 h1 a2 h2 a3 h3 a4 h4 hc0 hc1 x0 x1 xs0), View.read_writes_junk_eq_canon]
  unfold kernelRun0_C
  dsimp only
  sl_unfold_words
  rw [View.canon_unit_zero (by funext a; fin_cases a <;> rfl), View.readCov_eq_canon']
  unfold_payloads
  funext j
  idx_vars j
  pointwise

theorem sout_A (hc0 : cond0_0 i) (hc1 : ¬cond0_1 i) :
    sout0_A_0 c i a1 h1 a2 h2 a3 h3 a4 h4 hc0 hc1 x0 x1 = fun j => term x0 x1 j := by
  funext j
  have hcov := scover0_A_0 c i a1 h1 a2 h2 a3 h3 a4 h4 hc0 hc1 x0 x1 j
  unfold sout0_A_0
  rw [View.read_writes_eq_canon _ _ _ (scover0_A_0 c i a1 h1 a2 h2 a3 h3 a4 h4 hc0 hc1 x0 x1)]
  clear hcov
  unfold kernelRun0_A
  dsimp only
  sl_unfold_words
  simp (disch := decide) only [↓View.readCov_skip, ↓View.readCov_fill]
  refine View.canon_append_of_piecesOf (Val := Elt Ideal) (s := S11x256x1024) (e := .f32) (fun j => term x0 x1 j) [_] [_, _, _, _, _, _, _, _, _, _, _] ?_ j ?_
  · unfold_payloads
    simp only [View.readAt_eq_ld, h1.read_unread, h2.read_unread]
    refine ⟨?_, ?_, ?_, ?_, ?_, ?_, ?_, ?_, ?_, ?_, ?_, trivial⟩
    all_goals
      intro x
      idx_vars x
      pointwise [term, Common.emb_norm]
  · exact View.cover_of_tiled_head _ _ _ rfl j
end Cases

variable (m : (ℓ : Loc nD τ sig) → Buf (Elt Ideal) ℓ)

/-- One token's product in entry `(p, q)`. -/
def tok (h : Vec Ideal S4x2048x1024 .f32) (d : Vec Ideal S4x2048x2816 .f32) (p : Fin 2816) (q : Fin 1024) (n : ℕ) : EReal :=
  d (ix3 ⟨n / 2048 % 4, Nat.mod_lt _ (by decide)⟩ ⟨n % 2048, Nat.mod_lt _ (by decide)⟩ p) * h (ix3 ⟨n / 2048 % 4, Nat.mod_lt _ (by decide)⟩ ⟨n % 2048, Nat.mod_lt _ (by decide)⟩ q)

/-- The column of the whole array that column `r` of tile `a` is. -/
def col (a : Fin 11) (r : Fin 256) : Fin 2816 := ⟨a.val * 256 + r.val, by omega⟩

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem term_eq (c : Dev nD) (t : Fin cfg0.N) (j : S11x256x1024.Idx) :
    term (iblk m c 0 t) (iblk m c 1 t) j = ∑ k : Fin 1024, tok (m ((c : Thread nD τ).loc main_arg1)) (m ((c : Thread nD τ).loc main_arg0)) (col (j 0) (j 1)) (j 2) (1024 * t.val + k.val) := by
  have ht : t.val < 8 := lt_of_lt_of_eq t.isLt N_0
  unfold term
  refine Finset.sum_congr rfl fun k _ => ?_
  idx_vars j
  unfold tok col
  congr 1
  · blk_simp [iblk, V, idx0 t]
    entry_read
    pointwise
    blk_ext [idx0 t]
  · blk_simp [iblk, V, idx1 t]
    entry_read
    pointwise
    blk_ext [idx1 t]

/-- The accumulator after point `t`. -/
theorem acc_eq (c : Dev nD) (t : Fin cfg0.N) (j : S11x256x1024.Idx) :
    (outsAt0 m c t.val t.isLt).2 j = 0 + ∑ n ∈ Finset.range (t.val + 1), ∑ k : Fin 1024, tok (m ((c : Thread nD τ).loc main_arg1)) (m ((c : Thread nD τ).loc main_arg0)) (col (j 0) (j 1)) (j 2) (1024 * n + k.val) := by
  refine Pipeline.eq_sum_of_reset_step_apply_single (fun n h => (outsAt0 m c n h).2) 8 (fun _ => 0)
    (fun n j => ∑ k : Fin 1024, tok (m ((c : Thread nD τ).loc main_arg1)) (m ((c : Thread nD τ).loc main_arg0)) (col (j 0) (j 1)) (j 2) (1024 * n + k.val)) ?_ ?_ (le_of_eq N_0) t j
  · intro t h0 j
    have h1 : ¬t.val % 8 = 7 := by omega
    rw [← term_eq, outsAt0_A m c t h0 h1, zero_add]
    dsimp only
    rw [sout_A]
  · intro t h0 j
    rw [← term_eq]
    by_cases h1 : t.val % 8 = 7
    · rw [outsAt0_C m c t h0 h1]
      dsimp only
      rw [sout_C]
    · rw [outsAt0_B m c t h0 h1]
      dsimp only
      rw [sout_B]

theorem result_eq (c : Dev nD) (j : S11x256x1024.Idx) :
    G2 m c j = ∑ n ∈ Finset.range 8192, tok (m ((c : Thread nD τ).loc main_arg1)) (m ((c : Thread nD τ).loc main_arg0)) (col (j 0) (j 1)) (j 2) n := by
  have hN : 7 < cfg0.N := lt_of_lt_of_eq (by decide) N_0.symm
  have e : (G2 m c : Vec Ideal S11x256x1024 .bf16) j = (outsAt0 m c 7 hN).2 j := by
    rw [G2_last, ← outsAt0_sweep m c 7 hN]
    obtain ⟨t, ht⟩ : ∃ t : Fin cfg0.N, t.val = 7 := ⟨⟨7, hN⟩, rfl⟩
    have h0 : ¬t.val % 8 = 0 := by omega
    have h1 : t.val % 8 = 7 := by omega
    have key : ((outsAt0 m c t.val t.isLt).1 : Vec Ideal S11x256x1024 .bf16) j = (outsAt0 m c t.val t.isLt).2 j := by
      rw [outsAt0_C m c t h0 h1]
      dsimp only
      rw [out_C, sout_C]
    simp only [ht] at key
    exact key
  rw [e, acc_eq m c ⟨7, hN⟩ j, zero_add, Common.sum_blocks]
  rfl

theorem ref_eq (h : Vec Ideal S4x2048x1024 .f32) (d : Vec Ideal S4x2048x2816 .f32) (j : S11x256x1024.Idx) :
    (Cert.GradDownRefIdeal.Read.val_main_v5 (F := Ideal) d h : Vec Ideal S11x256x1024 .bf16) j = ∑ n ∈ Finset.range 8192, tok h d (col (j 0) (j 1)) (j 2) n := by
  have e : ∑ a : Fin 4, ∑ b : Fin 2048, h (ix3 a b (j 2)) * d (ix3 a b (col (j 0) (j 1))) = ∑ n ∈ Finset.range 8192, tok h d (col (j 0) (j 1)) (j 2) n := by
    rw [← Common.sum_blocks_fin 4 2048]
    refine Finset.sum_congr rfl fun a _ => Finset.sum_congr rfl fun b _ => ?_
    unfold tok
    have e1 : (2048 * a.val + b.val) / 2048 % 4 = a.val := by omega
    have e2 : (2048 * a.val + b.val) % 2048 = b.val := by omega
    simp only [e1, e2]
    exact mul_comm _ _
  rw [← e]
  idx_vars j
  unfold col
  unfold Cert.GradDownRefIdeal.Read.val_main_v5 Cert.GradDownRefIdeal.Read.val_main_v4 Cert.GradDownRefIdeal.Read.val_main_v3 Cert.GradDownRefIdeal.Read.val_main_v2
  pointwise
end Cert.GradDownIdeal.Value

namespace Cert.GradDownProof
open Idealize.ShloMosaic Idealize.ShloMosaic.TcCoe Idealize.SL.Sem

theorem frame_ri : Cert.quiescent_GradDownRefIdeal := fun m ρ _ =>
  (θ_run Cert.GradDownRefIdeal.defs _ _).mono (fun r h => ⟨fun c => (h c).2, sem_eq_zero_of_no_sems (by decide) r.2⟩)
    (Cert.GradDownRefIdeal.Value.run (F := Ideal) m ρ)

theorem algebraic : Cert.algebraic_GradDownIdeal_GradDownRefIdeal := by
  pair_intro
  · run_from Cert.GradDownIdeal.Value.run m g
  · run_from Cert.GradDownRefIdeal.Value.run m' g'
    funext j
    exact (Cert.GradDownIdeal.Value.ref_eq _ _ j).trans (Cert.GradDownIdeal.Value.result_eq m c j).symm

end Cert.GradDownProof
end
-- ==== Proof.GradIn.lean ====
module
public import proofs.«01_k».proof.Defs
public import proofs.«01_k».proof.Proof.Gen.GradInIdeal.Value
public import proofs.«01_k».proof.Proof.Gen.GradInRefIdeal.Read
public import proofs.«01_k».proof.Proof.Gen.GradInRefIdeal.Run
public import Idealize.ShloMosaic.Lib.Claim
public import proofs.«01_k».proof.Proof.Common

/-! The product of the normed input with the five cotangents of the mixer's input projection: what the accumulator holds after each
block of tokens, and that its last contents are the reference's sum over sequences and positions. -/

@[expose] public section
set_option maxRecDepth 16384
noncomputable section
namespace Cert.GradInIdeal.Value
open Cert.GradInIdeal Cert.GradInIdeal.Gen Idealize.ShloMosaic Idealize.ShloMosaic.TcCoe Idealize.SL.Sem

/-- Which of the arrays side by side holds row `p` of the result, and in which of its columns. -/
def part (p : Fin 2560) : Fin 5 := ⟨p.val / 512, by omega⟩
def colOf (p : Fin 2560) : Fin 512 := ⟨p.val % 512, by omega⟩

/-- What one block of tokens adds to the accumulator. -/
def term (f : Fin 5 → Vec Ideal S1024x512 .bf16) (y : Vec Ideal S1024x1024 .bf16) (j : S2560x1024.Idx) : EReal :=
  ∑ k : Fin 1024, f (part (j 0)) (ix2 k (colOf (j 0))) * y (ix2 k (j 1))

theorem term_at (f : Fin 5 → Vec Ideal S1024x512 .bf16) (y : Vec Ideal S1024x1024 .bf16) (a : Fin 5) (x : Fin 512) (p : Fin 2560) (q : Fin 1024)
    (h : p.val = 512 * a.val + x.val) : term f y (ix2 p q) = ∑ k : Fin 1024, f a (ix2 k x) * y (ix2 k q) := by
  have e1 : part p = a := Fin.ext (show p.val / 512 = a.val by omega)
  have e2 : colOf p = x := Fin.ext (show p.val % 512 = x.val by omega)
  show ∑ k : Fin 1024, f (part p) (ix2 k (colOf p)) * y (ix2 k q) = _
  rw [e1, e2]

section Cases
variable (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1024x1024 .bf16) (h6 : a6.IsWhole) (a7 : Memref sig .tc .vmem S2560x1024 .bf16) (h7 : a7.IsWhole) (a8 : Memref sig .tc .vmem S2560x1024 .f32) (h8 : a8.IsWhole)
    (x0 x1 x2 x3 x4 : Vec Ideal S1024x512 .bf16) (y : Vec Ideal S1024x1024 .bf16) (xs0 : Vec Ideal S2560x1024 .f32)

theorem sout_B (hc0 : ¬cond0_0 i) (hc1 : ¬cond0_1 i) :
    sout0_B_0 c i a1 h1 a2 h2 a3 h3 a4 h4 a5 h5 a6 h6 a7 h7 a8 h8 hc0 hc1 x0 x1 x2 x3 x4 y xs0 = fun j => xs0 j + term ![x0, x1, x2, x3, x4] y j := by
  funext j
  have hcov := scover0_B_0 c i a1 h1 a2 h2 a3 h3 a4 h4 a5 h5 a6 h6 a7 h7 a8 h8 hc0 hc1 x0 x1 x2 x3 x4 y xs0 j
  unfold sout0_B_0
  rw [View.read_writes_eq_canon _ _ _ (scover0_B_0 c i a1 h1 a2 h2 a3 h3 a4 h4 a5 h5 a6 h6 a7 h7 a8 h8 hc0 hc1 x0 x1 x2 x3 x4 y xs0)]
  refine View.canon_apply_of_pieces (fun j => xs0 j + term ![x0, x1, x2, x3, x4] y j) _ ?_ j hcov
  refine View.PiecesOf.mem (G := fun j => xs0 j + term ![x0, x1, x2, x3, x4] y j) ?_
  unfold kernelRun0_B
  dsimp only
  sl_unfold_words
  unfold_payloads
  simp only [View.readAt_eq_ld, h1.read_unread, h2.read_unread, h3.read_unread, h4.read_unread, h5.read_unread, h6.read_unread, h8.read_unread]
  refine ⟨?_, ?_, ?_, ?_, ?_, trivial⟩
  all_goals
    intro x
    idx_vars x
    pointwise [Common.emb_norm]
    first
    | (rw [term_at _ _ 4 x0 _ _ (by dsimp only; omega)]; rfl)
    | (rw [term_at _ _ 3 x0 _ _ (by dsimp only; omega)]; rfl)
    | (rw [term_at _ _ 2 x0 _ _ (by dsimp only; omega)]; rfl)
    | (rw [term_at _ _ 1 x0 _ _ (by dsimp only; omega)]; rfl)
    | (rw [term_at _ _ 0 x0 _ _ (by dsimp only; omega)]; rfl)

theorem sout_C (hc0 : ¬cond0_0 i) (hc1 : cond0_1 i) :
    sout0_C_0 c i a1 h1 a2 h2 a3 h3 a4 h4 a5 h5 a6 h6 a7 h7 a8 h8 hc0 hc1 x0 x1 x2 x3 x4 y xs0 = fun j => xs0 j + term ![x0, x1, x2, x3, x4] y j := by
  funext j
  have hcov := scover0_C_0 c i a1 h1 a2 h2 a3 h3 a4 h4 a5 h5 a6 h6 a7 h7 a8 h8 hc0 hc1 x0 x1 x2 x3 x4 y xs0 j
  unfold sout0_C_0
  rw [View.read_writes_eq_canon _ _ _ (scover0_C_0 c i a1 h1 a2 h2 a3 h3 a4 h4 a5 h5 a6 h6 a7 h7 a8 h8 hc0 hc1 x0 x1 x2 x3 x4 y xs0)]
  refine View.canon_apply_of_pieces (fun j => xs0 j + term ![x0, x1, x2, x3, x4] y j) _ ?_ j hcov
  refine View.PiecesOf.mem (G := fun j => xs0 j + term ![x0, x1, x2, x3, x4] y j) ?_
  unfold kernelRun0_C
  dsimp only
  sl_unfold_words
  unfold_payloads
  simp only [View.readAt_eq_ld, h1.read_unread, h2.read_unread, h3.read_unread, h4.read_unread, h5.read_unread, h6.read_unread, h8.read_unread]
  refine ⟨?_, ?_, ?_, ?_, ?_, trivial⟩
  all_goals
    intro x
    idx_vars x
    pointwise [Common.emb_norm]
    first
    | (rw [term_at _ _ 4 x0 _ _ (by dsimp only; omega)]; rfl)
    | (rw [term_at _ _ 3 x0 _ _ (by dsimp only; omega)]; rfl)
    | (rw [term_at _ _ 2 x0 _ _ (by dsimp only; omega)]; rfl)
    | (rw [term_at _ _ 1 x0 _ _ (by dsimp only; omega)]; rfl)
    | (rw [term_at _ _ 0 x0 _ _ (by dsimp only; omega)]; rfl)

theorem out_C (hc0 : ¬cond0_0 i) (hc1 : cond0_1 i) :
    out0_C_6 c i a1 h1 a2 h2 a3 h3 a4 h4 a5 h5 a6 h6 a7 h7 a8 h8 hc0 hc1 x0 x1 x2 x3 x4 y xs0 = fun j => xs0 j + term ![x0, x1, x2, x3, x4] y j := by
  rw [← sout_C c i a1 h1 a2 h2 a3 h3 a4 h4 a5 h5 a6 h6 a7 h7 a8 h8 x0 x1 x2 x3 x4 y xs0 hc0 hc1]
  unfold sout0_C_0 out0_C_6
  rw [View.read_writes_eq_canon _ _ _ (scover0_C_0 c i a1 h1 a2 h2 a3 h3 a4 h4 a5 h5 a6 h6 a7 h7 a8 h8 hc0 hc1 x0 x1 x2 x3 x4 y xs0), View.read_writes_junk_eq_canon]
  unfold kernelRun0_C
  dsimp only
  sl_unfold_words
  rw [View.canon_unit_zero (by funext a; fin_cases a <;> rfl), View.readCov_eq_canon']
  unfold_payloads
  funext j
  idx_vars j
  pointwise

theorem sout_A (hc0 : cond0_0 i) (hc1 : ¬cond0_1 i) :
    sout0_A_0 c i a1 h1 a2 h2 a3 h3 a4 h4 a5 h5 a6 h6 a7 h7 a8 h8 hc0 hc1 x0 x1 x2 x3 x4 y = fun j => term ![x0, x1, x2, x3, x4] y j := by
  funext j
  unfold sout0_A_0
  rw [View.read_writes_eq_canon _ _ _ (scover0_A_0 c i a1 h1 a2 h2 a3 h3 a4 h4 a5 h5 a6 h6 a7 h7 a8 h8 hc0 hc1 x0 x1 x2 x3 x4 y)]
  unfold kernelRun0_A
  dsimp only
  sl_unfold_words
  simp (disch := decide) only [↓View.readCov_skip, ↓View.readCov_fill]
  refine View.canon_append_of_piecesOf (Val := Elt Ideal) (s := S2560x1024) (e := .f32) (fun j => term ![x0, x1, x2, x3, x4] y j) [_] [_, _, _, _, _] ?_ j ?_
  · unfold_payloads
    simp only [View.readAt_eq_ld, h1.read_unread, h2.read_unread, h3.read_unread, h4.read_unread, h5.read_unread, h6.read_unread]
    refine ⟨?_, ?_, ?_, ?_, ?_, trivial⟩
    all_goals
      intro x
      idx_vars x
      pointwise [Common.emb_norm]
      first
      | (rw [term_at _ _ 4 x0 _ _ (by dsimp only; omega)]; rfl)
      | (rw [term_at _ _ 3 x0 _ _ (by dsimp only; omega)]; rfl)
      | (rw [term_at _ _ 2 x0 _ _ (by dsimp only; omega)]; rfl)
      | (rw [term_at _ _ 1 x0 _ _ (by dsimp only; omega)]; rfl)
      | (rw [term_at _ _ 0 x0 _ _ (by dsimp only; omega)]; rfl)
  · exact View.cover_of_tiled_head _ _ _ rfl j
end Cases

variable (m : (ℓ : Loc nD τ sig) → Buf (Elt Ideal) ℓ)

/-- One token's product in entry `(p, q)`. -/
def tok (f : Fin 5 → Vec Ideal S4x2048x512 .f32) (h : Vec Ideal S4x2048x1024 .f32) (p : Fin 2560) (q : Fin 1024) (n : ℕ) : EReal :=
  f (part p) (ix3 ⟨n / 2048 % 4, Nat.mod_lt _ (by decide)⟩ ⟨n % 2048, Nat.mod_lt _ (by decide)⟩ (colOf p)) * h (ix3 ⟨n / 2048 % 4, Nat.mod_lt _ (by decide)⟩ ⟨n % 2048, Nat.mod_lt _ (by decide)⟩ q)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

set_option maxHeartbeats 1000000 in
theorem term_eq (c : Dev nD) (t : Fin cfg0.N) (j : S2560x1024.Idx) :
    term ![iblk m c 0 t, iblk m c 1 t, iblk m c 2 t, iblk m c 3 t, iblk m c 4 t] (iblk m c 5 t) j = ∑ k : Fin 1024, tok ![m ((c : Thread nD τ).loc main_arg1), m ((c : Thread nD τ).loc main_arg2), m ((c : Thread nD τ).loc main_arg3), m ((c : Thread nD τ).loc main_arg4), m ((c : Thread nD τ).loc main_arg5)] (m ((c : Thread nD τ).loc main_arg0)) (j 0) (j 1) (1024 * t.val + k.val) := by
  have ht : t.val < 8 := lt_of_lt_of_eq t.isLt N_0
  unfold term
  refine Finset.sum_congr rfl fun k _ => ?_
  idx_vars j
  unfold tok
  congr 1
  · generalize part j0 = a
    generalize colOf j0 = x
    fin_cases a
    · change (iblk m c 0 t : Vec Ideal S1024x512 .bf16) (ix2 k x) = (m ((c : Thread nD τ).loc main_arg1) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx0 t]
      entry_read
      pointwise
      blk_ext [idx0 t]
    · change (iblk m c 1 t : Vec Ideal S1024x512 .bf16) (ix2 k x) = (m ((c : Thread nD τ).loc main_arg2) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx1 t]
      entry_read
      pointwise
      blk_ext [idx1 t]
    · change (iblk m c 2 t : Vec Ideal S1024x512 .bf16) (ix2 k x) = (m ((c : Thread nD τ).loc main_arg3) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx2 t]
      entry_read
      pointwise
      blk_ext [idx2 t]
    · change (iblk m c 3 t : Vec Ideal S1024x512 .bf16) (ix2 k x) = (m ((c : Thread nD τ).loc main_arg4) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx3 t]
      entry_read
      pointwise
      blk_ext [idx3 t]
    · change (iblk m c 4 t : Vec Ideal S1024x512 .bf16) (ix2 k x) = (m ((c : Thread nD τ).loc main_arg5) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx4 t]
      entry_read
      pointwise
      blk_ext [idx4 t]
  · blk_simp [iblk, V, idx5 t]
    entry_read
    pointwise
    blk_ext [idx5 t]

/-- The accumulator after point `t`. -/
theorem acc_eq (c : Dev nD) (t : Fin cfg0.N) (j : S2560x1024.Idx) :
    (outsAt0 m c t.val t.isLt).2 j = 0 + ∑ n ∈ Finset.range (t.val + 1), ∑ k : Fin 1024, tok ![m ((c : Thread nD τ).loc main_arg1), m ((c : Thread nD τ).loc main_arg2), m ((c : Thread nD τ).loc main_arg3), m ((c : Thread nD τ).loc main_arg4), m ((c : Thread nD τ).loc main_arg5)] (m ((c : Thread nD τ).loc main_arg0)) (j 0) (j 1) (1024 * n + k.val) := by
  refine Pipeline.eq_sum_of_reset_step_apply_single (fun n h => (outsAt0 m c n h).2) 8 (fun _ => 0)
    (fun n j => ∑ k : Fin 1024, tok ![m ((c : Thread nD τ).loc main_arg1), m ((c : Thread nD τ).loc main_arg2), m ((c : Thread nD τ).loc main_arg3), m ((c : Thread nD τ).loc main_arg4), m ((c : Thread nD τ).loc main_arg5)] (m ((c : Thread nD τ).loc main_arg0)) (j 0) (j 1) (1024 * n + k.val)) ?_ ?_ (le_of_eq N_0) t j
  · intro t h0 j
    have h1 : ¬t.val % 8 = 7 := by omega
    rw [← term_eq, outsAt0_A m c t h0 h1, zero_add]
    dsimp only
    rw [sout_A]
  · intro t h0 j
    rw [← term_eq]
    by_cases h1 : t.val % 8 = 7
    · rw [outsAt0_C m c t h0 h1]
      dsimp only
      rw [sout_C]
    · rw [outsAt0_B m c t h0 h1]
      dsimp only
      rw [sout_B]

theorem result_eq (c : Dev nD) (j : S2560x1024.Idx) :
    G6 m c j = ∑ n ∈ Finset.range 8192, tok ![m ((c : Thread nD τ).loc main_arg1), m ((c : Thread nD τ).loc main_arg2), m ((c : Thread nD τ).loc main_arg3), m ((c : Thread nD τ).loc main_arg4), m ((c : Thread nD τ).loc main_arg5)] (m ((c : Thread nD τ).loc main_arg0)) (j 0) (j 1) n := by
  have hN : 7 < cfg0.N := lt_of_lt_of_eq (by decide) N_0.symm
  have e : (G6 m c : Vec Ideal S2560x1024 .bf16) j = (outsAt0 m c 7 hN).2 j := by
    rw [G6_last, ← outsAt0_sweep m c 7 hN]
    obtain ⟨t, ht⟩ : ∃ t : Fin cfg0.N, t.val = 7 := ⟨⟨7, hN⟩, rfl⟩
    have h0 : ¬t.val % 8 = 0 := by omega
    have h1 : t.val % 8 = 7 := by omega
    have key : ((outsAt0 m c t.val t.isLt).1 : Vec Ideal S2560x1024 .bf16) j = (outsAt0 m c t.val t.isLt).2 j := by
      rw [outsAt0_C m c t h0 h1]
      dsimp only
      rw [out_C, sout_C]
    simp only [ht] at key
    exact key
  rw [e, acc_eq m c ⟨7, hN⟩ j, zero_add, Common.sum_blocks]
  rfl

theorem cat_eq (d0 d1 d2 d3 d4 : Vec Ideal S4x2048x512 .f32) (a : Fin 4) (b : Fin 2048) (p : Fin 2560) :
    (Cert.GradInRefIdeal.Read.val_main_v7 (F := Ideal) d0 d1 d2 d3 d4 : Vec Ideal Cert.GradInRefIdeal.S4x2048x2560 .f32) (ix3 a b p) = (![d0, d1, d2, d3, d4] : Fin 5 → Vec Ideal S4x2048x512 .f32) (part p) (ix3 a b (colOf p)) :=
  concatenate_ofFn_apply (t := Cert.GradInRefIdeal.S4x2048x2560) (s₁ := S4x2048x512) 2 (![d0, d1, d2, d3, d4] : Fin 5 → Vec Ideal S4x2048x512 .f32)
    _ rfl 512 rfl (ix3 a b p) (part p) rfl (ix3 a b (colOf p)) rfl (by
      intro w hw
      match w with
      | ⟨0, _⟩ => rfl
      | ⟨1, _⟩ => rfl
      | ⟨2, _⟩ => exact absurd rfl hw)

theorem ref_eq (h : Vec Ideal S4x2048x1024 .f32) (d0 d1 d2 d3 d4 : Vec Ideal S4x2048x512 .f32) (j : S2560x1024.Idx) :
    (Cert.GradInRefIdeal.Read.val_main_v11 (F := Ideal) h d0 d1 d2 d3 d4 : Vec Ideal S2560x1024 .bf16) j = ∑ n ∈ Finset.range 8192, tok ![d0, d1, d2, d3, d4] h (j 0) (j 1) n := by
  have e : ∑ a : Fin 4, ∑ b : Fin 2048, (![d0, d1, d2, d3, d4] : Fin 5 → Vec Ideal S4x2048x512 .f32) (part (j 0)) (ix3 a b (colOf (j 0))) * h (ix3 a b (j 1)) = ∑ n ∈ Finset.range 8192, tok ![d0, d1, d2, d3, d4] h (j 0) (j 1) n := by
    rw [← Common.sum_blocks_fin 4 2048]
    refine Finset.sum_congr rfl fun a _ => Finset.sum_congr rfl fun b _ => ?_
    unfold tok
    have e1 : (2048 * a.val + b.val) / 2048 % 4 = a.val := by omega
    have e2 : (2048 * a.val + b.val) % 2048 = b.val := by omega
    simp only [e1, e2]
  rw [← e]
  idx_vars j
  unfold Cert.GradInRefIdeal.Read.val_main_v11 Cert.GradInRefIdeal.Read.val_main_v10 Cert.GradInRefIdeal.Read.val_main_v9 Cert.GradInRefIdeal.Read.val_main_v8
  generalize hD : Cert.GradInRefIdeal.Read.val_main_v7 (F := Ideal) d0 d1 d2 d3 d4 = D
  pointwise
  subst hD
  refine Finset.sum_congr rfl fun a _ => Finset.sum_congr rfl fun b _ => ?_
  rw [cat_eq]
end Cert.GradInIdeal.Value

namespace Cert.GradInProof
open Idealize.ShloMosaic Idealize.ShloMosaic.TcCoe Idealize.SL.Sem

theorem frame_ri : Cert.quiescent_GradInRefIdeal := fun m ρ _ =>
  (θ_run Cert.GradInRefIdeal.defs _ _).mono (fun r h => ⟨fun c => (h c).2, sem_eq_zero_of_no_sems (by decide) r.2⟩)
    (Cert.GradInRefIdeal.Value.run (F := Ideal) m ρ)

theorem algebraic : Cert.algebraic_GradInIdeal_GradInRefIdeal := by
  pair_intro
  · run_from Cert.GradInIdeal.Value.run m g
  · run_from Cert.GradInRefIdeal.Value.run m' g'
    funext j
    refine (Cert.GradInIdeal.Value.ref_eq _ _ _ _ _ _ j).trans ?_
    obtain ⟨-, e1, e2, e3, e4, e5⟩ := hagree c
    rw [e1, e2, e3, e4, e5]
    exact (Cert.GradInIdeal.Value.result_eq m c j).symm

end Cert.GradInProof
end
-- ==== Proof.GradOut.lean ====
module
public import proofs.«01_k».proof.Defs
public import proofs.«01_k».proof.Proof.Gen.GradOutIdeal.Value
public import proofs.«01_k».proof.Proof.Gen.GradOutRefIdeal.Read
public import proofs.«01_k».proof.Proof.Gen.GradOutRefIdeal.Run
public import Idealize.ShloMosaic.Lib.Claim
public import proofs.«01_k».proof.Proof.Common

/-! The product of the two branches, side by side, with the cotangent of the mixer's output: what the accumulator holds after each
block of tokens, and that its last contents are the reference's sum over sequences and positions. -/

@[expose] public section
set_option maxRecDepth 16384
noncomputable section
namespace Cert.GradOutIdeal.Value
open Cert.GradOutIdeal Cert.GradOutIdeal.Gen Idealize.ShloMosaic Idealize.ShloMosaic.TcCoe Idealize.SL.Sem

/-- Which of the arrays side by side holds row `p` of the result, and in which of its columns. -/
def part (p : Fin 1024) : Fin 2 := ⟨p.val / 512, by omega⟩
def colOf (p : Fin 1024) : Fin 512 := ⟨p.val % 512, by omega⟩

/-- What one block of tokens adds to the accumulator. -/
def term (f : Fin 2 → Vec Ideal S1024x512 .bf16) (y : Vec Ideal S1024x1024 .bf16) (j : S1024x1024.Idx) : EReal :=
  ∑ k : Fin 1024, f (part (j 0)) (ix2 k (colOf (j 0))) * y (ix2 k (j 1))

theorem term_at (f : Fin 2 → Vec Ideal S1024x512 .bf16) (y : Vec Ideal S1024x1024 .bf16) (a : Fin 2) (x : Fin 512) (p : Fin 1024) (q : Fin 1024)
    (h : p.val = 512 * a.val + x.val) : term f y (ix2 p q) = ∑ k : Fin 1024, f a (ix2 k x) * y (ix2 k q) := by
  have e1 : part p = a := Fin.ext (show p.val / 512 = a.val by omega)
  have e2 : colOf p = x := Fin.ext (show p.val % 512 = x.val by omega)
  show ∑ k : Fin 1024, f (part p) (ix2 k (colOf p)) * y (ix2 k q) = _
  rw [e1, e2]

section Cases
variable (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole)
    (x0 x1 : Vec Ideal S1024x512 .bf16) (y : Vec Ideal S1024x1024 .bf16) (xs0 : Vec Ideal S1024x1024 .f32)

theorem sout_B (hc0 : ¬cond0_0 i) (hc1 : ¬cond0_1 i) :
    sout0_B_0 c i a1 h1 a2 h2 a3 h3 a4 h4 a5 h5 hc0 hc1 x0 x1 y xs0 = fun j => xs0 j + term ![x0, x1] y j := by
  funext j
  have hcov := scover0_B_0 c i a1 h1 a2 h2 a3 h3 a4 h4 a5 h5 hc0 hc1 x0 x1 y xs0 j
  unfold sout0_B_0
  rw [View.read_writes_eq_canon _ _ _ (scover0_B_0 c i a1 h1 a2 h2 a3 h3 a4 h4 a5 h5 hc0 hc1 x0 x1 y xs0)]
  refine View.canon_apply_of_pieces (fun j => xs0 j + term ![x0, x1] y j) _ ?_ j hcov
  refine View.PiecesOf.mem (G := fun j => xs0 j + term ![x0, x1] y j) ?_
  unfold kernelRun0_B
  dsimp only
  sl_unfold_words
  unfold_payloads
  simp only [View.readAt_eq_ld, h1.read_unread, h2.read_unread, h3.read_unread, h5.read_unread]
  refine ⟨?_, ?_, trivial⟩
  all_goals
    intro x
    idx_vars x
    pointwise [Common.emb_norm]
    first
    | (rw [term_at _ _ 1 x0 _ _ (by dsimp only; omega)]; rfl)
    | (rw [term_at _ _ 0 x0 _ _ (by dsimp only; omega)]; rfl)

theorem sout_C (hc0 : ¬cond0_0 i) (hc1 : cond0_1 i) :
    sout0_C_0 c i a1 h1 a2 h2 a3 h3 a4 h4 a5 h5 hc0 hc1 x0 x1 y xs0 = fun j => xs0 j + term ![x0, x1] y j := by
  funext j
  have hcov := scover0_C_0 c i a1 h1 a2 h2 a3 h3 a4 h4 a5 h5 hc0 hc1 x0 x1 y xs0 j
  unfold sout0_C_0
  rw [View.read_writes_eq_canon _ _ _ (scover0_C_0 c i a1 h1 a2 h2 a3 h3 a4 h4 a5 h5 hc0 hc1 x0 x1 y xs0)]
  refine View.canon_apply_of_pieces (fun j => xs0 j + term ![x0, x1] y j) _ ?_ j hcov
  refine View.PiecesOf.mem (G := fun j => xs0 j + term ![x0, x1] y j) ?_
  unfold kernelRun0_C
  dsimp only
  sl_unfold_words
  unfold_payloads
  simp only [View.readAt_eq_ld, h1.read_unread, h2.read_unread, h3.read_unread, h5.read_unread]
  refine ⟨?_, ?_, trivial⟩
  all_goals
    intro x
    idx_vars x
    pointwise [Common.emb_norm]
    first
    | (rw [term_at _ _ 1 x0 _ _ (by dsimp only; omega)]; rfl)
    | (rw [term_at _ _ 0 x0 _ _ (by dsimp only; omega)]; rfl)

theorem out_C (hc0 : ¬cond0_0 i) (hc1 : cond0_1 i) :
    out0_C_3 c i a1 h1 a2 h2 a3 h3 a4 h4 a5 h5 hc0 hc1 x0 x1 y xs0 = fun j => xs0 j + term ![x0, x1] y j := by
  rw [← sout_C c i a1 h1 a2 h2 a3 h3 a4 h4 a5 h5 x0 x1 y xs0 hc0 hc1]
  unfold sout0_C_0 out0_C_3
  rw [View.read_writes_eq_canon _ _ _ (scover0_C_0 c i a1 h1 a2 h2 a3 h3 a4 h4 a5 h5 hc0 hc1 x0 x1 y xs0), View.read_writes_junk_eq_canon]
  unfold kernelRun0_C
  dsimp only
  sl_unfold_words
  rw [View.canon_unit_zero (by funext a; fin_cases a <;> rfl), View.readCov_eq_canon']
  unfold_payloads
  funext j
  idx_vars j
  pointwise

theorem sout_A (hc0 : cond0_0 i) (hc1 : ¬cond0_1 i) :
    sout0_A_0 c i a1 h1 a2 h2 a3 h3 a4 h4 a5 h5 hc0 hc1 x0 x1 y = fun j => term ![x0, x1] y j := by
  funext j
  unfold sout0_A_0
  rw [View.read_writes_eq_canon _ _ _ (scover0_A_0 c i a1 h1 a2 h2 a3 h3 a4 h4 a5 h5 hc0 hc1 x0 x1 y)]
  unfold kernelRun0_A
  dsimp only
  sl_unfold_words
  simp (disch := decide) only [↓View.readCov_skip, ↓View.readCov_fill]
  refine View.canon_append_of_piecesOf (Val := Elt Ideal) (s := S1024x1024) (e := .f32) (fun j => term ![x0, x1] y j) [_] [_, _] ?_ j ?_
  · unfold_payloads
    simp only [View.readAt_eq_ld, h1.read_unread, h2.read_unread, h3.read_unread]
    refine ⟨?_, ?_, trivial⟩
    all_goals
      intro x
      idx_vars x
      pointwise [Common.emb_norm]
      first
      | (rw [term_at _ _ 1 x0 _ _ (by dsimp only; omega)]; rfl)
      | (rw [term_at _ _ 0 x0 _ _ (by dsimp only; omega)]; rfl)
  · exact View.cover_of_tiled_head _ _ _ rfl j
end Cases

variable (m : (ℓ : Loc nD τ sig) → Buf (Elt Ideal) ℓ)

/-- One token's product in entry `(p, q)`. -/
def tok (f : Fin 2 → Vec Ideal S4x2048x512 .f32) (h : Vec Ideal S4x2048x1024 .f32) (p : Fin 1024) (q : Fin 1024) (n : ℕ) : EReal :=
  f (part p) (ix3 ⟨n / 2048 % 4, Nat.mod_lt _ (by decide)⟩ ⟨n % 2048, Nat.mod_lt _ (by decide)⟩ (colOf p)) * h (ix3 ⟨n / 2048 % 4, Nat.mod_lt _ (by decide)⟩ ⟨n % 2048, Nat.mod_lt _ (by decide)⟩ q)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)

set_option maxHeartbeats 1000000 in
theorem term_eq (c : Dev nD) (t : Fin cfg0.N) (j : S1024x1024.Idx) :
    term ![iblk m c 0 t, iblk m c 1 t] (iblk m c 2 t) j = ∑ k : Fin 1024, tok ![m ((c : Thread nD τ).loc main_arg0), m ((c : Thread nD τ).loc main_arg1)] (m ((c : Thread nD τ).loc main_arg2)) (j 0) (j 1) (1024 * t.val + k.val) := by
  have ht : t.val < 8 := lt_of_lt_of_eq t.isLt N_0
  unfold term
  refine Finset.sum_congr rfl fun k _ => ?_
  idx_vars j
  unfold tok
  congr 1
  · generalize part j0 = a
    generalize colOf j0 = x
    fin_cases a
    · change (iblk m c 0 t : Vec Ideal S1024x512 .bf16) (ix2 k x) = (m ((c : Thread nD τ).loc main_arg0) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx0 t]
      entry_read
      pointwise
      blk_ext [idx0 t]
    · change (iblk m c 1 t : Vec Ideal S1024x512 .bf16) (ix2 k x) = (m ((c : Thread nD τ).loc main_arg1) : Vec Ideal S4x2048x512 .f32)
        (ix3 ⟨(1024 * t.val + k.val) / 2048 % 4, Nat.mod_lt _ (by decide)⟩ ⟨(1024 * t.val + k.val) % 2048, Nat.mod_lt _ (by decide)⟩ x)
      blk_simp [iblk, V, idx1 t]
      entry_read
      pointwise
      blk_ext [idx1 t]
  · blk_simp [iblk, V, idx2 t]
    entry_read
    pointwise
    blk_ext [idx2 t]

/-- The accumulator after point `t`. -/
theorem acc_eq (c : Dev nD) (t : Fin cfg0.N) (j : S1024x1024.Idx) :
    (outsAt0 m c t.val t.isLt).2 j = 0 + ∑ n ∈ Finset.range (t.val + 1), ∑ k : Fin 1024, tok ![m ((c : Thread nD τ).loc main_arg0), m ((c : Thread nD τ).loc main_arg1)] (m ((c : Thread nD τ).loc main_arg2)) (j 0) (j 1) (1024 * n + k.val) := by
  refine Pipeline.eq_sum_of_reset_step_apply_single (fun n h => (outsAt0 m c n h).2) 8 (fun _ => 0)
    (fun n j => ∑ k : Fin 1024, tok ![m ((c : Thread nD τ).loc main_arg0), m ((c : Thread nD τ).loc main_arg1)] (m ((c : Thread nD τ).loc main_arg2)) (j 0) (j 1) (1024 * n + k.val)) ?_ ?_ (le_of_eq N_0) t j
  · intro t h0 j
    have h1 : ¬t.val % 8 = 7 := by omega
    rw [← term_eq, outsAt0_A m c t h0 h1, zero_add]
    dsimp only
    rw [sout_A]
  · intro t h0 j
    rw [← term_eq]
    by_cases h1 : t.val % 8 = 7
    · rw [outsAt0_C m c t h0 h1]
      dsimp only
      rw [sout_C]
    · rw [outsAt0_B m c t h0 h1]
      dsimp only
      rw [sout_B]

theorem result_eq (c : Dev nD) (j : S1024x1024.Idx) :
    G3 m c j = ∑ n ∈ Finset.range 8192, tok ![m ((c : Thread nD τ).loc main_arg0), m ((c : Thread nD τ).loc main_arg1)] (m ((c : Thread nD τ).loc main_arg2)) (j 0) (j 1) n := by
  have hN : 7 < cfg0.N := lt_of_lt_of_eq (by decide) N_0.symm
  have e : (G3 m c : Vec Ideal S1024x1024 .bf16) j = (outsAt0 m c 7 hN).2 j := by
    rw [G3_last, ← outsAt0_sweep m c 7 hN]
    obtain ⟨t, ht⟩ : ∃ t : Fin cfg0.N, t.val = 7 := ⟨⟨7, hN⟩, rfl⟩
    have h0 : ¬t.val % 8 = 0 := by omega
    have h1 : t.val % 8 = 7 := by omega
    have key : ((outsAt0 m c t.val t.isLt).1 : Vec Ideal S1024x1024 .bf16) j = (outsAt0 m c t.val t.isLt).2 j := by
      rw [outsAt0_C m c t h0 h1]
      dsimp only
      rw [out_C, sout_C]
    simp only [ht] at key
    exact key
  rw [e, acc_eq m c ⟨7, hN⟩ j, zero_add, Common.sum_blocks]
  rfl

theorem cat_eq (d0 d1 : Vec Ideal S4x2048x512 .f32) (a : Fin 4) (b : Fin 2048) (p : Fin 1024) :
    (Cert.GradOutRefIdeal.Read.val_main_v0 (F := Ideal) d0 d1 : Vec Ideal Cert.GradOutRefIdeal.S4x2048x1024 .f32) (ix3 a b p) = (![d0, d1] : Fin 2 → Vec Ideal S4x2048x512 .f32) (part p) (ix3 a b (colOf p)) :=
  concatenate_ofFn_apply (t := Cert.GradOutRefIdeal.S4x2048x1024) (s₁ := S4x2048x512) 2 (![d0, d1] : Fin 2 → Vec Ideal S4x2048x512 .f32)
    _ rfl 512 rfl (ix3 a b p) (part p) rfl (ix3 a b (colOf p)) rfl (by
      intro w hw
      match w with
      | ⟨0, _⟩ => rfl
      | ⟨1, _⟩ => rfl
      | ⟨2, _⟩ => exact absurd rfl hw)

theorem ref_eq (d0 d1 : Vec Ideal S4x2048x512 .f32) (h : Vec Ideal S4x2048x1024 .f32) (j : S1024x1024.Idx) :
    (Cert.GradOutRefIdeal.Read.val_main_v5 (F := Ideal) d0 d1 h : Vec Ideal S1024x1024 .bf16) j = ∑ n ∈ Finset.range 8192, tok ![d0, d1] h (j 0) (j 1) n := by
  have e : ∑ a : Fin 4, ∑ b : Fin 2048, (![d0, d1] : Fin 2 → Vec Ideal S4x2048x512 .f32) (part (j 0)) (ix3 a b (colOf (j 0))) * h (ix3 a b (j 1)) = ∑ n ∈ Finset.range 8192, tok ![d0, d1] h (j 0) (j 1) n := by
    rw [← Common.sum_blocks_fin 4 2048]
    refine Finset.sum_congr rfl fun a _ => Finset.sum_congr rfl fun b _ => ?_
    unfold tok
    have e1 : (2048 * a.val + b.val) / 2048 % 4 = a.val := by omega
    have e2 : (2048 * a.val + b.val) % 2048 = b.val := by omega
    simp only [e1, e2]
  rw [← e]
  idx_vars j
  unfold Cert.GradOutRefIdeal.Read.val_main_v5 Cert.GradOutRefIdeal.Read.val_main_v4 Cert.GradOutRefIdeal.Read.val_main_v3
  generalize hD : Cert.GradOutRefIdeal.Read.val_main_v0 (F := Ideal) d0 d1 = D
  pointwise
  subst hD
  refine Finset.sum_congr rfl fun a _ => Finset.sum_congr rfl fun b _ => ?_
  rw [cat_eq]
  exact mul_comm _ _
end Cert.GradOutIdeal.Value

namespace Cert.GradOutProof
open Idealize.ShloMosaic Idealize.ShloMosaic.TcCoe Idealize.SL.Sem

theorem frame_ri : Cert.quiescent_GradOutRefIdeal := fun m ρ _ =>
  (θ_run Cert.GradOutRefIdeal.defs _ _).mono (fun r h => ⟨fun c => (h c).2, sem_eq_zero_of_no_sems (by decide) r.2⟩)
    (Cert.GradOutRefIdeal.Value.run (F := Ideal) m ρ)

theorem algebraic : Cert.algebraic_GradOutIdeal_GradOutRefIdeal := by
  pair_intro
  · run_from Cert.GradOutIdeal.Value.run m g
  · run_from Cert.GradOutRefIdeal.Value.run m' g'
    funext j
    exact (Cert.GradOutIdeal.Value.ref_eq _ _ _ j).trans (Cert.GradOutIdeal.Value.result_eq m c j).symm

end Cert.GradOutProof
end
-- ==== Proof.FfnBwdFrame.lean ====
module
public import proofs.«01_k».proof.Proof.Gen.FfnBwdIdeal.Frame.RunA
public import proofs.«01_k».proof.Proof.Gen.FfnBwdIdeal.Frame.RunB
public import proofs.«01_k».proof.Proof.Gen.FfnBwdIdeal.Frame.RunC
public import Idealize.ShloMosaic.Lib.Claim

/-! The frame of the call: what each point leaves in its outputs and in the weights it keeps, point by point, the body at
every point, and the run. The three cases are the first point, the first point of a later sequence, and every other. -/

@[expose] public section

set_option maxRecDepth 16384

noncomputable section

namespace Cert.FfnBwdIdeal.Own

open Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Contents
variable (c : Dev nD) (i : grid0.Coords) (arg1 : Memref sig .tc .vmem S256x1024 .bf16) (harg1 : arg1.IsWhole) (arg2 : Memref sig .tc .vmem S11x256x256 .bf16) (harg2 : arg2.IsWhole) (arg3 : Memref sig .tc .vmem S11x256x256 .bf16) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .bf16) (harg8 : arg8.IsWhole) (arg12 : Memref sig .tc .vmem S11x256x256 .bf16) (harg12 : arg12.IsWhole) (arg13 : Memref sig .tc .vmem S11x256x256 .bf16) (harg13 : arg13.IsWhole) (arg14 : Memref sig .tc .vmem S11x256x256 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S8x1024 .f32) (harg17 : arg17.IsWhole) (arg18 : Memref sig .tc .vmem S1x8x1024 .f32) (harg18 : arg18.IsWhole) (arg19 : Memref sig .tc .vmem S2816x1024 .bf16) (harg19 : arg19.IsWhole) (arg20 : Memref sig .tc .vmem S2816x1024 .bf16) (harg20 : arg20.IsWhole) (arg21 : Memref sig .tc .vmem S2816x1024 .bf16) (harg21 : arg21.IsWhole)
    (x0 : Vec F S256x1024 .bf16) (x1 : Vec F S11x256x256 .bf16) (x2 : Vec F S11x256x256 .bf16) (x3 : Vec F S1x8x1024 .f32) (x4 : Vec F S1x1024 .f32) (x5 : Vec F S256x1024 .f32) (x6 : Vec F S256x1024 .f32) (x7 : Vec F S256x1024 .bf16) (xo13 : Vec F S8x1024 .f32) (xo14 : Vec F S1x8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2)

/-- The stores of case A cover output 8. -/
theorem cover0_A_8 (hc0 : cond0_0 i) (hc1 : cond0_1 i) (hc2 : cond0_2 i) (y : S11x256x256.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).1 S1x256x256.size (by sl_kernel_rfl) y

/-- What case A leaves in output 8. -/
def out0_A_8 (hc0 : cond0_0 i) (hc1 : cond0_1 i) (hc2 : cond0_2 i) : Vec F S11x256x256 .bf16 :=
  VO0_8.read (Elt F) (VO0_8.writes (Elt F) VO0_8.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).1)

/-- The stores of case A cover output 9. -/
theorem cover0_A_9 (hc0 : cond0_0 i) (hc1 : cond0_1 i) (hc2 : cond0_2 i) (y : S11x256x256.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.1 S1x256x256.size (by sl_kernel_rfl) y

/-- What case A leaves in output 9. -/
def out0_A_9 (hc0 : cond0_0 i) (hc1 : cond0_1 i) (hc2 : cond0_2 i) : Vec F S11x256x256 .bf16 :=
  VO0_9.read (Elt F) (VO0_9.writes (Elt F) VO0_9.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.1)

/-- The stores of case A cover output 10. -/
theorem cover0_A_10 (hc0 : cond0_0 i) (hc1 : cond0_1 i) (hc2 : cond0_2 i) (y : S11x256x256.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.1 S1x256x256.size (by sl_kernel_rfl) y

/-- What case A leaves in output 10. -/
def out0_A_10 (hc0 : cond0_0 i) (hc1 : cond0_1 i) (hc2 : cond0_2 i) : Vec F S11x256x256 .bf16 :=
  VO0_10.read (Elt F) (VO0_10.writes (Elt F) VO0_10.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.1)

/-- The stores of case A cover output 11. -/
theorem cover0_A_11 (hc0 : cond0_0 i) (hc1 : cond0_1 i) (hc2 : cond0_2 i) (y : S256x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.1 S256x1024.size (by sl_kernel_rfl) y

/-- What case A leaves in output 11. -/
def out0_A_11 (hc0 : cond0_0 i) (hc1 : cond0_1 i) (hc2 : cond0_2 i) : Vec F S256x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.1)

/-- The stores of case A cover output 12. -/
theorem cover0_A_12 (hc0 : cond0_0 i) (hc1 : cond0_1 i) (hc2 : cond0_2 i) (y : S256x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.1 S256x1024.size (by sl_kernel_rfl) y

/-- What case A leaves in output 12. -/
def out0_A_12 (hc0 : cond0_0 i) (hc1 : cond0_1 i) (hc2 : cond0_2 i) : Vec F S256x1024 .bf16 :=
  VO0_12.read (Elt F) (VO0_12.writes (Elt F) VO0_12.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.1)

/-- The stores of case A cover output 13. -/
theorem cover0_A_13 (hc0 : cond0_0 i) (hc1 : cond0_1 i) (hc2 : cond0_2 i) (y : S8x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.1, y ∈ pc.1.set :=
  View.cover_of_tiledBy (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.1 ![1, 1024] (by sl_kernel_rfl) y

/-- What case A leaves in output 13. -/
def out0_A_13 (hc0 : cond0_0 i) (hc1 : cond0_1 i) (hc2 : cond0_2 i) : Vec F S8x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.1)

/-- The stores of case A cover output 14. -/
theorem cover0_A_14 (hc0 : cond0_0 i) (hc1 : cond0_1 i) (hc2 : cond0_2 i) (y : S1x8x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.1, y ∈ pc.1.set :=
  View.cover_of_tiledBy (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.1 ![1, 1, 1024] (by sl_kernel_rfl) y

/-- What case A leaves in output 14. -/
def out0_A_14 (hc0 : cond0_0 i) (hc1 : cond0_1 i) (hc2 : cond0_2 i) : Vec F S1x8x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.1)

/-- The stores of case A cover the scratch 0. -/
theorem scover0_A_0 (hc0 : cond0_0 i) (hc1 : cond0_1 i) (hc2 : cond0_2 i) (y : S2816x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.1 S2816x1024.size (by sl_kernel_rfl) y

/-- What case A leaves in scratch 0. -/
def sout0_A_0 (hc0 : cond0_0 i) (hc1 : cond0_1 i) (hc2 : cond0_2 i) : Vec F S2816x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.1)

/-- The stores of case A cover the scratch 1. -/
theorem scover0_A_1 (hc0 : cond0_0 i) (hc1 : cond0_1 i) (hc2 : cond0_2 i) (y : S2816x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.2.1 S2816x1024.size (by sl_kernel_rfl) y

/-- What case A leaves in scratch 1. -/
def sout0_A_1 (hc0 : cond0_0 i) (hc1 : cond0_1 i) (hc2 : cond0_2 i) : Vec F S2816x1024 .bf16 :=
  VS0_1.read (Elt F) (VS0_1.writes (Elt F) VS0_1.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.2.1)

/-- The stores of case A cover the scratch 2. -/
theorem scover0_A_2 (hc0 : cond0_0 i) (hc1 : cond0_1 i) (hc2 : cond0_2 i) (y : S2816x1024.Idx) :
    ∃ pc ∈ (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.2.2.1, y ∈ pc.1.set :=
  View.cover_of_tiledL (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.2.2.1 S2816x1024.size (by sl_kernel_rfl) y

/-- What case A leaves in scratch 2. -/
def sout0_A_2 (hc0 : cond0_0 i) (hc1 : cond0_1 i) (hc2 : cond0_2 i) : Vec F S2816x1024 .bf16 :=
  VS0_2.read (Elt F) (VS0_2.writes (Elt F) VS0_2.junk (kernelRun0_A c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 fh0 fh1 fh2).2.2.2.2.2.2.2.2.2.1)

/-- The stores of case B cover output 8. -/
theorem cover0_B_8 (hc0 : ¬cond0_0 i) (hc1 : ¬cond0_1 i) (hc2 : ¬cond0_2 i) (y : S11x256x256.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).1 S1x256x256.size (by sl_kernel_rfl) y

/-- What case B leaves in output 8. -/
def out0_B_8 (hc0 : ¬cond0_0 i) (hc1 : ¬cond0_1 i) (hc2 : ¬cond0_2 i) : Vec F S11x256x256 .bf16 :=
  VO0_8.read (Elt F) (VO0_8.writes (Elt F) VO0_8.junk (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).1)

/-- The stores of case B cover output 9. -/
theorem cover0_B_9 (hc0 : ¬cond0_0 i) (hc1 : ¬cond0_1 i) (hc2 : ¬cond0_2 i) (y : S11x256x256.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.1 S1x256x256.size (by sl_kernel_rfl) y

/-- What case B leaves in output 9. -/
def out0_B_9 (hc0 : ¬cond0_0 i) (hc1 : ¬cond0_1 i) (hc2 : ¬cond0_2 i) : Vec F S11x256x256 .bf16 :=
  VO0_9.read (Elt F) (VO0_9.writes (Elt F) VO0_9.junk (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.1)

/-- The stores of case B cover output 10. -/
theorem cover0_B_10 (hc0 : ¬cond0_0 i) (hc1 : ¬cond0_1 i) (hc2 : ¬cond0_2 i) (y : S11x256x256.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.1 S1x256x256.size (by sl_kernel_rfl) y

/-- What case B leaves in output 10. -/
def out0_B_10 (hc0 : ¬cond0_0 i) (hc1 : ¬cond0_1 i) (hc2 : ¬cond0_2 i) : Vec F S11x256x256 .bf16 :=
  VO0_10.read (Elt F) (VO0_10.writes (Elt F) VO0_10.junk (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.1)

/-- The stores of case B cover output 11. -/
theorem cover0_B_11 (hc0 : ¬cond0_0 i) (hc1 : ¬cond0_1 i) (hc2 : ¬cond0_2 i) (y : S256x1024.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.1 S256x1024.size (by sl_kernel_rfl) y

/-- What case B leaves in output 11. -/
def out0_B_11 (hc0 : ¬cond0_0 i) (hc1 : ¬cond0_1 i) (hc2 : ¬cond0_2 i) : Vec F S256x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.1)

/-- The stores of case B cover output 12. -/
theorem cover0_B_12 (hc0 : ¬cond0_0 i) (hc1 : ¬cond0_1 i) (hc2 : ¬cond0_2 i) (y : S256x1024.Idx) :
    ∃ pc ∈ (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.2.1, y ∈ pc.1.set :=
  View.cover_of_tiledL (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.2.1 S256x1024.size (by sl_kernel_rfl) y

/-- What case B leaves in output 12. -/
def out0_B_12 (hc0 : ¬cond0_0 i) (hc1 : ¬cond0_1 i) (hc2 : ¬cond0_2 i) : Vec F S256x1024 .bf16 :=
  VO0_12.read (Elt F) (VO0_12.writes (Elt F) VO0_12.junk (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.2.1)

/-- What case B leaves in output 13. -/
def out0_B_13 (hc0 : ¬cond0_0 i) (hc1 : ¬cond0_1 i) (hc2 : ¬cond0_2 i) : Vec F S8x1024 .f32 :=
  arg17.view.read (Elt F) (arg17.view.writes (Elt F) (harg17.unread xo13) (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.2.2.1)

/-- What case B leaves in output 14. -/
def out0_B_14 (hc0 : ¬cond0_0 i) (hc1 : ¬cond0_1 i) (hc2 : ¬cond0_2 i) : Vec F S1x8x1024 .f32 :=
  arg18.view.read (Elt F) (arg18.view.writes (Elt F) (harg18.unread xo14) (kernelRun0_B c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xo14 xs0 xs1 xs2 fh0 fh1 fh2).2.2.2.2.2.2.1)

/-- The stores of case C cover output 8. -/
theorem cover0_C_8 (hc0 : ¬cond0_0 i) (hc1 : ¬cond0_1 i) (hc2 : cond0_2 i) (y : S11x256x256.Idx) :
    ∃ pc ∈ (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).1, y ∈ pc.1.set :=
  View.cover_of_tiledL (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).1 S1x256x256.size (by sl_kernel_rfl) y

/-- What case C leaves in output 8. -/
def out0_C_8 (hc0 : ¬cond0_0 i) (hc1 : ¬cond0_1 i) (hc2 : cond0_2 i) : Vec F S11x256x256 .bf16 :=
  VO0_8.read (Elt F) (VO0_8.writes (Elt F) VO0_8.junk (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).1)

/-- The stores of case C cover output 9. -/
theorem cover0_C_9 (hc0 : ¬cond0_0 i) (hc1 : ¬cond0_1 i) (hc2 : cond0_2 i) (y : S11x256x256.Idx) :
    ∃ pc ∈ (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.1, y ∈ pc.1.set :=
  View.cover_of_tiledL (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.1 S1x256x256.size (by sl_kernel_rfl) y

/-- What case C leaves in output 9. -/
def out0_C_9 (hc0 : ¬cond0_0 i) (hc1 : ¬cond0_1 i) (hc2 : cond0_2 i) : Vec F S11x256x256 .bf16 :=
  VO0_9.read (Elt F) (VO0_9.writes (Elt F) VO0_9.junk (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.1)

/-- The stores of case C cover output 10. -/
theorem cover0_C_10 (hc0 : ¬cond0_0 i) (hc1 : ¬cond0_1 i) (hc2 : cond0_2 i) (y : S11x256x256.Idx) :
    ∃ pc ∈ (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.1, y ∈ pc.1.set :=
  View.cover_of_tiledL (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.1 S1x256x256.size (by sl_kernel_rfl) y

/-- What case C leaves in output 10. -/
def out0_C_10 (hc0 : ¬cond0_0 i) (hc1 : ¬cond0_1 i) (hc2 : cond0_2 i) : Vec F S11x256x256 .bf16 :=
  VO0_10.read (Elt F) (VO0_10.writes (Elt F) VO0_10.junk (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.1)

/-- The stores of case C cover output 11. -/
theorem cover0_C_11 (hc0 : ¬cond0_0 i) (hc1 : ¬cond0_1 i) (hc2 : cond0_2 i) (y : S256x1024.Idx) :
    ∃ pc ∈ (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.1, y ∈ pc.1.set :=
  View.cover_of_tiledL (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.1 S256x1024.size (by sl_kernel_rfl) y

/-- What case C leaves in output 11. -/
def out0_C_11 (hc0 : ¬cond0_0 i) (hc1 : ¬cond0_1 i) (hc2 : cond0_2 i) : Vec F S256x1024 .f32 :=
  VO0_11.read (Elt F) (VO0_11.writes (Elt F) VO0_11.junk (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.1)

/-- The stores of case C cover output 12. -/
theorem cover0_C_12 (hc0 : ¬cond0_0 i) (hc1 : ¬cond0_1 i) (hc2 : cond0_2 i) (y : S256x1024.Idx) :
    ∃ pc ∈ (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.1, y ∈ pc.1.set :=
  View.cover_of_tiledL (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.1 S256x1024.size (by sl_kernel_rfl) y

/-- What case C leaves in output 12. -/
def out0_C_12 (hc0 : ¬cond0_0 i) (hc1 : ¬cond0_1 i) (hc2 : cond0_2 i) : Vec F S256x1024 .bf16 :=
  VO0_12.read (Elt F) (VO0_12.writes (Elt F) VO0_12.junk (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.1)

/-- What case C leaves in output 13. -/
def out0_C_13 (hc0 : ¬cond0_0 i) (hc1 : ¬cond0_1 i) (hc2 : cond0_2 i) : Vec F S8x1024 .f32 :=
  arg17.view.read (Elt F) (arg17.view.writes (Elt F) (harg17.unread xo13) (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.2.1)

/-- The stores of case C cover output 14. -/
theorem cover0_C_14 (hc0 : ¬cond0_0 i) (hc1 : ¬cond0_1 i) (hc2 : cond0_2 i) (y : S1x8x1024.Idx) :
    ∃ pc ∈ (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.2.2.1, y ∈ pc.1.set :=
  View.cover_of_tiledBy (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.2.2.1 ![1, 1, 1024] (by sl_kernel_rfl) y

/-- What case C leaves in output 14. -/
def out0_C_14 (hc0 : ¬cond0_0 i) (hc1 : ¬cond0_1 i) (hc2 : cond0_2 i) : Vec F S1x8x1024 .f32 :=
  VO0_14.read (Elt F) (VO0_14.writes (Elt F) VO0_14.junk (kernelRun0_C c i arg1 harg1 arg2 harg2 arg3 harg3 arg4 harg4 arg5 harg5 arg6 harg6 arg7 harg7 arg8 harg8 arg12 harg12 arg13 harg13 arg14 harg14 arg15 harg15 arg16 harg16 arg17 harg17 arg18 harg18 arg19 harg19 arg20 harg20 arg21 harg21 hc0 hc1 hc2 x0 x1 x2 x3 x4 x5 x6 x7 xo13 xs0 xs1 xs2 fh0 fh1 fh2).2.2.2.2.2.2.1)

end Contents

variable (m : (ℓ : Loc nD τ sig) → Buf (Elt F) ℓ) (ρ : Dev nD → PrngReg)

set_option maxHeartbeats 4000000
/-- What a point of case A leaves. -/
def pointA (c : Dev nD) (t : Fin cfg0.N) (h0 : t.val % 32 = 0) (h1 : t.val % 32 = 0) (h2 : t.val % 8 = 0) : Vec F S11x256x256 .bf16 × Vec F S11x256x256 .bf16 × Vec F S11x256x256 .bf16 × Vec F S256x1024 .f32 × Vec F S256x1024 .bf16 × Vec F S8x1024 .f32 × Vec F S1x8x1024 .f32 × Vec F S2816x1024 .bf16 × Vec F S2816x1024 .bf16 × Vec F S2816x1024 .bf16 :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (V m c main_v43) (V m c main_v45) (V m c main_v46) ((hcond0_0 t).mpr h0) ((hcond0_1 t).mpr h1) ((hcond0_2 t).mpr h2))

/-- What a point of case B leaves. -/
def pointB (c : Dev nD) (t : Fin cfg0.N) (h0 : ¬t.val % 32 = 0) (h1 : ¬t.val % 32 = 0) (h2 : ¬t.val % 8 = 0) (p : Vec F S11x256x256 .bf16 × Vec F S11x256x256 .bf16 × Vec F S11x256x256 .bf16 × Vec F S256x1024 .f32 × Vec F S256x1024 .bf16 × Vec F S8x1024 .f32 × Vec F S1x8x1024 .f32 × Vec F S2816x1024 .bf16 × Vec F S2816x1024 .bf16 × Vec F S2816x1024 .bf16) : Vec F S11x256x256 .bf16 × Vec F S11x256x256 .bf16 × Vec F S11x256x256 .bf16 × Vec F S256x1024 .f32 × Vec F S256x1024 .bf16 × Vec F S8x1024 .f32 × Vec F S1x8x1024 .f32 × Vec F S2816x1024 .bf16 × Vec F S2816x1024 .bf16 × Vec F S2816x1024 .bf16 :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) (fun h => h2 ((hcond0_2 t).mp h)),
   p.2.2.2.2.2.2.2.1,
   p.2.2.2.2.2.2.2.2.1,
   p.2.2.2.2.2.2.2.2.2)

/-- What a point of case C leaves. -/
def pointC (c : Dev nD) (t : Fin cfg0.N) (h0 : ¬t.val % 32 = 0) (h1 : ¬t.val % 32 = 0) (h2 : t.val % 8 = 0) (p : Vec F S11x256x256 .bf16 × Vec F S11x256x256 .bf16 × Vec F S11x256x256 .bf16 × Vec F S256x1024 .f32 × Vec F S256x1024 .bf16 × Vec F S8x1024 .f32 × Vec F S1x8x1024 .f32 × Vec F S2816x1024 .bf16 × Vec F S2816x1024 .bf16 × Vec F S2816x1024 .bf16) : Vec F S11x256x256 .bf16 × Vec F S11x256x256 .bf16 × Vec F S11x256x256 .bf16 × Vec F S256x1024 .f32 × Vec F S256x1024 .bf16 × Vec F S8x1024 .f32 × Vec F S1x8x1024 .f32 × Vec F S2816x1024 .bf16 × Vec F S2816x1024 .bf16 × Vec F S2816x1024 .bf16 :=
  (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) p.2.2.2.2.2.1 p.2.2.2.2.2.2.2.1 p.2.2.2.2.2.2.2.2.1 p.2.2.2.2.2.2.2.2.2 (V m c main_v43) (V m c main_v45) (V m c main_v46) (fun h => h0 ((hcond0_0 t).mp h)) (fun h => h1 ((hcond0_1 t).mp h)) ((hcond0_2 t).mpr h2),
   p.2.2.2.2.2.2.2.1,
   p.2.2.2.2.2.2.2.2.1,
   p.2.2.2.2.2.2.2.2.2)

set_option maxHeartbeats 400000

/-- What the outputs and the kept weights hold after each point. -/
def outsAt0 (c : Dev nD) : (n : ℕ) → n < cfg0.N → Vec F S11x256x256 .bf16 × Vec F S11x256x256 .bf16 × Vec F S11x256x256 .bf16 × Vec F S256x1024 .f32 × Vec F S256x1024 .bf16 × Vec F S8x1024 .f32 × Vec F S1x8x1024 .f32 × Vec F S2816x1024 .bf16 × Vec F S2816x1024 .bf16 × Vec F S2816x1024 .bf16
  | 0, hn => pointA m c ⟨0, hn⟩ (Nat.zero_mod _) (Nat.zero_mod _) (Nat.zero_mod _)
  | n + 1, hn =>
    if h0 : (n + 1) % 32 = 0 then pointA m c ⟨n + 1, hn⟩ h0 h0 (by change (n + 1) % 32 = 0 at h0; change (n + 1) % 8 = 0; omega)
    else if h2 : (n + 1) % 8 = 0 then pointC m c ⟨n + 1, hn⟩ h0 h0 h2 (outsAt0 c n (Nat.lt_of_succ_lt hn))
    else pointB m c ⟨n + 1, hn⟩ h0 h0 h2 (outsAt0 c n (Nat.lt_of_succ_lt hn))

theorem outsAt0_A (c : Dev nD) (t : Fin cfg0.N) (h0 : t.val % 32 = 0) (h1 : t.val % 32 = 0) (h2 : t.val % 8 = 0) :
    outsAt0 m c t.val t.isLt = pointA m c t h0 h1 h2 := by
  obtain ⟨n, hn⟩ := t
  cases n with
  | zero => rfl
  | succ n => exact dif_pos h0

theorem outsAt0_B (c : Dev nD) (t : Fin cfg0.N) (h0 : ¬t.val % 32 = 0) (h1 : ¬t.val % 32 = 0) (h2 : ¬t.val % 8 = 0) :
    outsAt0 m c t.val t.isLt = pointB m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem outsAt0_C (c : Dev nD) (t : Fin cfg0.N) (h0 : ¬t.val % 32 = 0) (h1 : ¬t.val % 32 = 0) (h2 : t.val % 8 = 0) :
    outsAt0 m c t.val t.isLt = pointC m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2)) ∗ (∃ r, prngReg c r) ∗ iprop(semVal ((c : Thread nD τ), SemLoc.dma 28) 0 ∗ semVal ((c : Thread nD τ), SemLoc.dma 29) 0 ∗ semVal ((c : Thread nD τ), SemLoc.dma 30) 0) ∗ iprop(hbPt0 c hbM0_0 (V m c main_v43) ∗ hbPt0 c hbM0_1 (V m c main_v45) ∗ hbPt0 c hbM0_2 (V m c main_v46)))

theorem PhiS_zero (c : Dev nD) (n : ℕ) (h : n ≤ cfg0.N) (hz : n = 0) : PhiS m c n h = Pipeline.ΦD osem0 spec0 H0 (V m) c := by
  subst hz; rfl

/-- After point n (before point n + 1): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2)) ∗ (∃ r, prngReg c r) ∗ iprop(semVal ((c : Thread nD τ), SemLoc.dma 28) 0 ∗ semVal ((c : Thread nD τ), SemLoc.dma 29) 0 ∗ semVal ((c : Thread nD τ), SemLoc.dma 30) 0) ∗ iprop(hbPt0 c hbM0_0 (V m c main_v43) ∗ hbPt0 c hbM0_1 (V m c main_v45) ∗ hbPt0 c hbM0_2 (V m c main_v46))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2)) ∗ (∃ r, prngReg c r) ∗ iprop(semVal ((c : Thread nD τ), SemLoc.dma 28) 0 ∗ semVal ((c : Thread nD τ), SemLoc.dma 29) 0 ∗ semVal ((c : Thread nD τ), SemLoc.dma 30) 0) ∗ iprop(hbPt0 c hbM0_0 (V m c main_v43) ∗ hbPt0 c hbM0_1 (V m c main_v45) ∗ hbPt0 c hbM0_2 (V m c main_v46))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
    | ⟨14, _⟩ => (outsAt0 m c t.val t.isLt).2.2.2.2.2.2.1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start (the proof data at t.castSucc), restated at t.val. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]
theorem after0_13 (c : Dev nD) (t : Fin cfg0.N) : (dats m 0 c).after 13 t = (outsAt0 m c t.val t.isLt).2.2.2.2.2.1 := by dsimp only [dats]
theorem after0_14 (c : Dev nD) (t : Fin cfg0.N) : (dats m 0 c).after 14 t = (outsAt0 m c t.val t.isLt).2.2.2.2.2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_13_B (c : Dev nD) (t : Fin cfg0.N) (h0 : ¬t.val % 32 = 0) (h1 : ¬t.val % 32 = 0) (h2 : ¬t.val % 8 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]
theorem before0_14_B (c : Dev nD) (t : Fin cfg0.N) (h0 : ¬t.val % 32 = 0) (h1 : ¬t.val % 32 = 0) (h2 : ¬t.val % 8 = 0) (d) :
    (dats m 0 c).before 14 t d = (outsAt0 m c (t.val - 1) (Nat.lt_of_le_of_lt (Nat.sub_le _ _) t.isLt)).2.2.2.2.2.2.1 := by
  have hN : t.val < 32 := lt_of_lt_of_eq t.isLt (show cfg0.N = 32 from N_0)
  rw [Dat.before_out_kept _ 14 rfl t (by omega) (Bool.eq_false_iff.mpr fun h => by have := (flush0_14 _).mp h; dsimp only at this; omega)
    (fun _ => rfl) (fun _ _ => rfl)]
  dsimp only [dats]
theorem before0_13_C (c : Dev nD) (t : Fin cfg0.N) (h0 : ¬t.val % 32 = 0) (h1 : ¬t.val % 32 = 0) (h2 : t.val % 8 = 0) (d) :
    (dats m 0 c).before 13 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation, at a generic point -/

/-- What the body is called with at point t, the windows one by one. -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 0
    · by_cases h2 : t.val % 8 = 0
      · by_cases hz : t.val = 0
        · rw [PhiS_castSucc m c t, PhiS_zero m c _ _ hz, PhiD0_eq]
          rw [outsAt0_A m c t h0 h1 h2]
          unfold pointA out0_A_8 out0_A_9 out0_A_10 out0_A_11 out0_A_12 out0_A_13 out0_A_14 sout0_A_0 sout0_A_1 sout0_A_2; (try dsimp only)
          iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (iblk m c 4 t) (iblk m c 5 t) (iblk m c 6 t) (iblk m c 7 t) (V m c main_v43) (V m c main_v45) (V m c main_v46)).2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%es0, HS0⟩, ⟨%es1, HS1⟩, ⟨%es2, HS2⟩, Hq0, Hq1, Hq2, Hh0, Hh1, Hh2, ⟨%W', HW'⟩⟩
          isplitl [HS0 HS1 HS2 Hg Hq0 Hq1 Hq2 Hh0 Hh1 Hh2]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _)
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _)
        · exfalso; have hN : t.val < 32 := lt_of_lt_of_eq t.isLt (show cfg0.N = 32 from N_0); omega
      · exfalso; omega
    · exfalso; omega
  · by_cases h1 : t.val % 32 = 0
    · exfalso; omega
    · by_cases h2 : t.val % 8 = 0
      · by_cases hz : t.val = 0
        · exfalso; have hN : t.val < 32 := lt_of_lt_of_eq t.isLt (show cfg0.N = 32 from N_0); omega
        · rw [PhiS_castSucc m c t, PhiS_pos m c _ _ hz]
          rw [outsAt0_C m c t h0 h1 h2]
          simp only [before0_13_C m c t h0 h1 h2]
          unfold pointC out0_C_8 out0_C_9 out0_C_10 out0_C_11 out0_C_12 out0_C_13 out0_C_14; (try dsimp only)
          iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _ _ _ _ (V m c main_v43) (V m c main_v45) (V m c main_v46)).2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexact H13
          isplitl [H14]; · iexists _; iexact H14
          isplitl [HS0]; · iexact HS0
          isplitl [HS1]; · iexact HS1
          isplitl [HS2]; · iexact HS2
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, H4, H5, H6, H7, ⟨%e8, H8⟩, ⟨%e9, H9⟩, ⟨%e10, H10⟩, ⟨%e11, H11⟩, ⟨%e12, H12⟩, H13, ⟨%e14, H14⟩, HS0, HS1, HS2, Hq0, Hq1, Hq2, Hh0, Hh1, Hh2, ⟨%W', HW'⟩⟩
          isplitl [HS0 HS1 HS2 Hg Hq0 Hq1 Hq2 Hh0 Hh1 Hh2]
          · isplitl [HS0 HS1 HS2]
            · isplitl [HS0]; · iexact HS0
              isplitl [HS1]; · iexact HS1
              iexact HS2
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; rfl
          unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _)
      · by_cases hz : t.val = 0
        · exfalso; have hN : t.val < 32 := lt_of_lt_of_eq t.isLt (show cfg0.N = 32 from N_0); omega
        · rw [PhiS_castSucc m c t, PhiS_pos m c _ _ hz]
          rw [outsAt0_B m c t h0 h1 h2]
          simp only [before0_13_B m c t h0 h1 h2, before0_14_B m c t h0 h1 h2]
          unfold pointB out0_B_8 out0_B_9 out0_B_10 out0_B_11 out0_B_12 out0_B_13 out0_B_14; (try dsimp only)
          iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) _ _ _ _ _ (V m c main_v43) (V m c main_v45) (V m c main_v46)).2.2.2.2.2.2.2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexact H13
          isplitl [H14]; · iexact H14
          isplitl [HS0]; · iexact HS0
          isplitl [HS1]; · iexact HS1
          isplitl [HS2]; · iexact HS2
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, H4, H5, H6, H7, ⟨%e8, H8⟩, ⟨%e9, H9⟩, ⟨%e10, H10⟩, ⟨%e11, H11⟩, ⟨%e12, H12⟩, H13, H14, HS0, HS1, HS2, Hq0, Hq1, Hq2, Hh0, Hh1, Hh2, ⟨%W', HW'⟩⟩
          isplitl [HS0 HS1 HS2 Hg Hq0 Hq1 Hq2 Hh0 Hh1 Hh2]
          · isplitl [HS0 HS1 HS2]
            · isplitl [HS0]; · iexact HS0
              isplitl [HS1]; · iexact HS1
              iexact HS2
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; rfl
          unfold owns; iexists _; isplitr
          swap; · iexact H14
          ipureintro; rfl

/-- The body table's row at point t's slots is the body as bodyAt0 spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (ΦD) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives ΦD back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2⟩, ⟨Hh0, Hh1, Hh2⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- frame without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnBwdIdeal.Own

end
-- ==== Proof.Layer.lean ====
module
public import Idealize.ShloMosaic.Lib.Pipeline.ValueKit
public import Idealize.ShloMosaic.Lib.Pipeline.ReadBack
public import Idealize.ShloMosaic.Lib.Pointwise

/-! What the feed-forward layer's two calls share: reading back a buffer some of whose rows were stored, the hidden columns
tile by tile, the logistic function, the tokens in their flat order, and sums over them. -/

@[expose] public section
set_option maxRecDepth 16384
noncomputable section
namespace Cert.Common
open Idealize.ShloMosaic Idealize.ShloMosaic.TcCoe Idealize.SL.Sem

/-- A load of a buffer that one whole store filled. -/
theorem readCov_whole {sig : RefSig} {κ : Kind} {sp : Space} {s : Shape} {e : EltTy} (v : View sig κ sp s e) (w : s.Idx → Elt Ideal e) (r : Rect s) :
    v.readCov [⟨Rect.whole s, w⟩] r.toLoadRect = View.ld w r :=
  View.readCov_fill v (off := fun _ => 0) (fun a => (Nat.zero_add _).le) w [] r (fun _ => rfl)

/-- Stores that are blocks of `G`, over contents that are `G` off them, leave `G`. -/
theorem read_writes_blocks {sig : RefSig} {κ : Kind} {sp : Space} {s : Shape} {e : EltTy} (v : View sig κ sp s e) (f : v.ty.Contents (Elt Ideal))
    (L : List (View.Piece (Elt Ideal) s e)) (G : s.Idx → Elt Ideal e) (h : View.PiecesOf G L)
    (hf : ∀ y, (∀ p ∈ L, y ∉ p.1.set) → v.read (Elt Ideal) f y = G y) : v.read (Elt Ideal) (v.writes (Elt Ideal) f L) = G := by
  funext y
  by_cases hy : ∃ p ∈ L, y ∈ p.1.set
  · rw [View.read_writes_apply_eq_canon v f y L hy]
    exact View.canon_apply_of_pieces G L h.mem y hy
  · have hy' : ∀ p ∈ L, y ∉ p.1.set := fun p hp hm => hy ⟨p, hp, hm⟩
    rw [View.read_writes_apply_of_forall_not_mem v f y L hy']
    exact hf y hy'

/-- The same over one store of the whole. -/
theorem read_writes_over_fill {sig : RefSig} {κ : Kind} {sp : Space} {s : Shape} {e : EltTy} (v : View sig κ sp s e) (f : v.ty.Contents (Elt Ideal))
    {off : Fin s.rank → ℕ} (inb : ∀ a, off a + s.size a ≤ s.size a) (ho : off = fun _ => 0) (w : s.Idx → Elt Ideal e)
    (L : List (View.Piece (Elt Ideal) s e)) (G : s.Idx → Elt Ideal e) (h : View.PiecesOf G L)
    (hf : ∀ y, (∀ p ∈ L, y ∉ p.1.set) → w y = G y) :
    v.read (Elt Ideal) (v.writes (Elt Ideal) f (L ++ [⟨Rect.unit off s.size inb, w⟩])) = G := by
  subst ho
  rw [View.writes_append]
  refine read_writes_blocks v _ L G h fun y hy => ?_
  exact (congrFun (View.read_writes_whole v f w) y).trans (hf y hy)

theorem mem_row2 (n : Fin 8) (inb) (y : (⟨2, ![8, 1024]⟩ : Shape).Idx) (h : y 0 = n) : y ∈ (Rect.unit (s := ⟨2, ![8, 1024]⟩) ![n.val, 0] ![1, 1024] inb).set := by
  rw [Rect.mem_set_unit]
  intro a
  subst h
  match a with
  | ⟨0, _⟩ => exact ⟨le_refl _, Nat.lt_succ_self _⟩
  | ⟨1, _⟩ => exact ⟨Nat.zero_le _, by simpa using (y 1).isLt⟩

theorem mem_row3 (n : Fin 8) (inb) (y : (⟨3, ![1, 8, 1024]⟩ : Shape).Idx) (h : y 1 = n) : y ∈ (Rect.unit (s := ⟨3, ![1, 8, 1024]⟩) ![0, n.val, 0] ![1, 1, 1024] inb).set := by
  rw [Rect.mem_set_unit]
  intro a
  subst h
  match a with
  | ⟨0, _⟩ => exact ⟨Nat.zero_le _, by simpa using (y 0).isLt⟩
  | ⟨1, _⟩ => exact ⟨le_refl _, Nat.lt_succ_self _⟩
  | ⟨2, _⟩ => exact ⟨Nat.zero_le _, by simpa using (y 2).isLt⟩

/-- Column `k` of tile `s`. -/
def row (s : Fin 11) (k : Fin 256) : Fin 2816 := ⟨s.val * 256 + k.val, by omega⟩

/-- The logistic function. -/
def sg (z : EReal) : EReal := Ideal.div 1 (1 + Ideal.exp (0 - z))

theorem sum_eleven (f : Fin 11 → EReal) : ∑ s, f s = f 0 + f 1 + f 2 + f 3 + f 4 + f 5 + f 6 + f 7 + f 8 + f 9 + f 10 := by
  simp only [Fin.sum_univ_castSucc, Finset.univ_eq_empty, Finset.sum_empty, zero_add]
  rfl

/-- A sum over the hidden columns, tile by tile. -/
theorem sum_tiles (f : Fin 2816 → EReal) : ∑ p, f p = ∑ s : Fin 11, ∑ k : Fin 256, f (row s k) := by
  have := Fintype.sum_equiv (finProdFinEquiv (m := 11) (n := 256)).symm f (fun p => f (row p.1 p.2)) (fun p => ?_)
  · rw [this, Fintype.sum_prod_type]
  · congr 1
    apply Fin.ext
    show p.val = (p.val / 256) * 256 + p.val % 256
    omega

/-- The number of features. -/
def wide : EReal := Ideal.ofBits .f32 0x44800000#32

theorem wide_eq : wide = ((1024 : ℝ) : EReal) := by
  simp [wide, Ideal.ofBits, Ideal.ieee, -EReal.coe_mul]; norm_num

theorem div_coe {x y : ℝ} (hy : y ≠ 0) : Ideal.div (x : EReal) (y : EReal) = ((x / y : ℝ) : EReal) := by
  rw [Ideal.div, if_neg (by rw [← EReal.coe_zero]; exact_mod_cast hy), div_eq_mul_inv, EReal.coe_mul, EReal.coe_inv]

/-- A host sum over the first two of three axes. -/
theorem host_sum01 {n0 n1 n2 : ℕ} (h : (⟨3, ![n0, n1, n2]⟩ : Shape).ReducesTo [0, 1] ⟨1, ![n2]⟩) (v : (⟨3, ![n0, n1, n2]⟩ : Shape).Idx → EReal) (c : EReal) (q : Fin n2) :
    Ideal.hostReduceAdd h v c (ix1 q) = c + ∑ a : Fin n0, ∑ b : Fin n1, v (ix3 a b q) := by
  refine congrArg (c + ·) ((Finset.sum_filter_eq_sum_of_fiber _ (fun k : Fin n0 × Fin n1 => (ix3 k.1 k.2 q : (⟨3, ![n0, n1, n2]⟩ : Shape).Idx))
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e (0 : Fin 1))).symm
    · rintro ⟨k, rfl⟩
      funext b
      apply Fin.ext
      match b with
      | ⟨0, _⟩ => rfl
  · simp only [Fintype.sum_prod_type]

/-- Token `n` of the flat order: its sequence and its place in it. -/
def seqOf (n : Fin 8192) : Fin 4 := ⟨n.val / 2048, by omega⟩
def posOf (n : Fin 8192) : Fin 2048 := ⟨n.val % 2048, by omega⟩

/-- `g` at token `n` of the flat order. -/
def flat (g : Fin 4 → Fin 2048 → EReal) (n : ℕ) : EReal := g ⟨n / 2048 % 4, by omega⟩ ⟨n % 2048, by omega⟩

theorem flat_seq (g : Fin 4 → Fin 2048 → EReal) (b : Fin 4) (p : Fin 2048) : flat g (2048 * b.val + p.val) = g b p := by
  unfold flat
  have e1 : (2048 * b.val + p.val) / 2048 % 4 = b.val := by omega
  have e2 : (2048 * b.val + p.val) % 2048 = p.val := by omega
  simp only [e1, e2]

theorem flat_of (g : Fin 4 → Fin 2048 → EReal) (n : Fin 8192) : g (seqOf n) (posOf n) = flat g n.val := by
  have e : seqOf n = ⟨n.val / 2048 % 4, by omega⟩ := Fin.ext (by simp only [seqOf]; omega)
  rw [e]
  rfl

end Cert.Common
end
-- ==== Proof.FfnBwdForms.lean ====
module
public import proofs.«01_k».proof.Defs
public import proofs.«01_k».proof.Proof.Common
public import proofs.«01_k».proof.Proof.Layer
public import proofs.«01_k».proof.Proof.FfnBwdFrame

/-! What one point of the call writes, as formulas in the blocks it reads: `d` the cotangent of the layer's output, `ga` and
`u` the two products before the gate, `w0`, `w1`, `w2` the three weights, `x` the layer's input. -/

@[expose] public section
set_option maxRecDepth 16384
noncomputable section
namespace Cert.FfnBwdIdeal.Own
open Cert.FfnBwdIdeal Cert.FfnBwdIdeal.Gen Idealize.ShloMosaic Idealize.ShloMosaic.TcCoe Idealize.SL.Sem Cert.Common

/-- The cotangent of the gated product. -/
def dact (d : Vec Ideal S256x1024 .bf16) (w2 : Vec Ideal S2816x1024 .bf16) (s : Fin 11) (r k : Fin 256) : EReal :=
  ∑ x : Fin 1024, d (ix2 r x) * w2 (ix2 (row s k) x)

/-- The cotangent of the gate. -/
def dgate (d : Vec Ideal S256x1024 .bf16) (ga u : Vec Ideal S11x256x256 .bf16) (w2 : Vec Ideal S2816x1024 .bf16) (s : Fin 11) (r k : Fin 256) : EReal :=
  dact d w2 s r k * u (ix3 s r k) * (sg (ga (ix3 s r k)) * (1 + ga (ix3 s r k) * (1 - sg (ga (ix3 s r k)))))

/-- The cotangent of the gated factor. -/
def dup (d : Vec Ideal S256x1024 .bf16) (ga : Vec Ideal S11x256x256 .bf16) (w2 : Vec Ideal S2816x1024 .bf16) (s : Fin 11) (r k : Fin 256) : EReal :=
  dact d w2 s r k * (ga (ix3 s r k) * sg (ga (ix3 s r k)))

/-- The gated product. -/
def act (ga u : Vec Ideal S11x256x256 .bf16) (s : Fin 11) (r k : Fin 256) : EReal :=
  ga (ix3 s r k) * sg (ga (ix3 s r k)) * u (ix3 s r k)

/-- The cotangent of the layer's normed and modulated input. -/
def dh (d : Vec Ideal S256x1024 .bf16) (ga u : Vec Ideal S11x256x256 .bf16) (w0 w1 w2 : Vec Ideal S2816x1024 .bf16) (r : Fin 256) (j : Fin 1024) : EReal :=
  ∑ s : Fin 11, (∑ k : Fin 256, dgate d ga u w2 s r k * w0 (ix2 (row s k) j) + ∑ k : Fin 256, dup d ga w2 s r k * w1 (ix2 (row s k) j))

/-- The fold over the eleven tiles as the point runs it. -/
def dhVec (x0 : Vec Ideal S256x1024 .bf16) (x1 x2 : Vec Ideal S11x256x256 .bf16) (w0 w1 w2 : Vec Ideal S2816x1024 .bf16) : FVec Ideal S256x1024 .f32 :=
  k0_pay136 (k0_pay116 (k0_pay4 (View.ld x0 (Rect.unit ![0, 0] ![256, 1024] inb_S256x1024_S256x1024_0_0))) (View.ld w2 (Rect.unit ![2560, 0] ![256,
    1024] inb_S2816x1024_S256x1024_2560_0))) (k0_pay126 (k0_pay115 (k0_pay104 (k0_pay81 (k0_pay4 (View.ld x0 (Rect.unit ![0, 0] ![256, 1024]
    inb_S256x1024_S256x1024_0_0))) (View.ld w2 (Rect.unit ![1792, 0] ![256, 1024] inb_S2816x1024_S256x1024_1792_0))) (k0_pay92 (k0_pay70 (k0_pay4
    (View.ld x0 (Rect.unit ![0, 0] ![256, 1024] inb_S256x1024_S256x1024_0_0))) (View.ld w2 (Rect.unit ![1536, 0] ![256, 1024]
    inb_S2816x1024_S256x1024_1536_0))) (k0_pay80 (k0_pay69 (k0_pay56 (k0_pay31 (k0_pay4 (View.ld x0 (Rect.unit ![0, 0] ![256, 1024]
    inb_S256x1024_S256x1024_0_0))) (View.ld w2 (Rect.unit ![768, 0] ![256, 1024] inb_S2816x1024_S256x1024_768_0))) (k0_pay43 (k0_pay30 (k0_pay19
    k0_pay5 (k0_pay17 (k0_pay6 (View.ld x0 (Rect.unit ![0, 0] ![256, 1024] inb_S256x1024_S256x1024_0_0)) (View.ld w2 (Rect.unit ![0, 0] ![256, 1024]
    inb_S2816x1024_S256x1024_0_0))) (k0_pay8 (View.ld x1 (Rect.unit ![0, 0, 0] ![1, 256, 256] inb_S11x256x256_S1x256x256_0_0_0))) (View.ld x2
    (Rect.unit ![0, 0, 0] ![1, 256, 256] inb_S11x256x256_S1x256x256_0_0_0)) (View.ld w0 (Rect.unit ![0, 0] ![256, 1024]
    inb_S2816x1024_S256x1024_0_0))) (k0_pay18 (k0_pay6 (View.ld x0 (Rect.unit ![0, 0] ![256, 1024] inb_S256x1024_S256x1024_0_0)) (View.ld w2
    (Rect.unit ![0, 0] ![256, 1024] inb_S2816x1024_S256x1024_0_0))) (k0_pay8 (View.ld x1 (Rect.unit ![0, 0, 0] ![1, 256, 256]
    inb_S11x256x256_S1x256x256_0_0_0))) (View.ld w1 (Rect.unit ![0, 0] ![256, 1024] inb_S2816x1024_S256x1024_0_0)))) (k0_pay26 (k0_pay7 (View.ld x0
    (Rect.unit ![0, 0] ![256, 1024] inb_S256x1024_S256x1024_0_0)) (View.ld w2 (Rect.unit ![256, 0] ![256, 1024] inb_S2816x1024_S256x1024_256_0)))
    (View.ld x1 (Rect.unit ![1, 0, 0] ![1, 256, 256] inb_S11x256x256_S1x256x256_1_0_0))) (k0_pay27 (k0_pay7 (View.ld x0 (Rect.unit ![0, 0] ![256,
    1024] inb_S256x1024_S256x1024_0_0)) (View.ld w2 (Rect.unit ![256, 0] ![256, 1024] inb_S2816x1024_S256x1024_256_0))) (View.ld x1 (Rect.unit ![1, 0,
    0] ![1, 256, 256] inb_S11x256x256_S1x256x256_1_0_0)) (View.ld x2 (Rect.unit ![1, 0, 0] ![1, 256, 256] inb_S11x256x256_S1x256x256_1_0_0))) (View.ld
    w0 (Rect.unit ![256, 0] ![256, 1024] inb_S2816x1024_S256x1024_256_0)) (View.ld w1 (Rect.unit ![256, 0] ![256, 1024]
    inb_S2816x1024_S256x1024_256_0))) (k0_pay32 (View.ld x1 (Rect.unit ![2, 0, 0] ![1, 256, 256] inb_S11x256x256_S1x256x256_2_0_0))) (k0_pay34
    (View.ld x1 (Rect.unit ![2, 0, 0] ![1, 256, 256] inb_S11x256x256_S1x256x256_2_0_0))) (k0_pay37 (k0_pay20 (k0_pay4 (View.ld x0 (Rect.unit ![0, 0]
    ![256, 1024] inb_S256x1024_S256x1024_0_0))) (View.ld w2 (Rect.unit ![512, 0] ![256, 1024] inb_S2816x1024_S256x1024_512_0))) (View.ld x1 (Rect.unit
    ![2, 0, 0] ![1, 256, 256] inb_S11x256x256_S1x256x256_2_0_0))) (k0_pay38 (k0_pay20 (k0_pay4 (View.ld x0 (Rect.unit ![0, 0] ![256, 1024]
    inb_S256x1024_S256x1024_0_0))) (View.ld w2 (Rect.unit ![512, 0] ![256, 1024] inb_S2816x1024_S256x1024_512_0))) (View.ld x2 (Rect.unit ![2, 0, 0]
    ![1, 256, 256] inb_S11x256x256_S1x256x256_2_0_0))) k0_pay39 (View.ld w0 (Rect.unit ![512, 0] ![256, 1024] inb_S2816x1024_S256x1024_512_0))
    (View.ld w1 (Rect.unit ![512, 0] ![256, 1024] inb_S2816x1024_S256x1024_512_0))) (k0_pay45 (View.ld x1 (Rect.unit ![3, 0, 0] ![1, 256, 256]
    inb_S11x256x256_S1x256x256_3_0_0))) (k0_pay46 (View.ld x2 (Rect.unit ![3, 0, 0] ![1, 256, 256] inb_S11x256x256_S1x256x256_3_0_0))) (k0_pay47
    (View.ld x1 (Rect.unit ![3, 0, 0] ![1, 256, 256] inb_S11x256x256_S1x256x256_3_0_0))) k0_pay48 (View.ld w0 (Rect.unit ![768, 0] ![256, 1024]
    inb_S2816x1024_S256x1024_768_0)) (View.ld w1 (Rect.unit ![768, 0] ![256, 1024] inb_S2816x1024_S256x1024_768_0))) (k0_pay64 (k0_pay44 (k0_pay4
    (View.ld x0 (Rect.unit ![0, 0] ![256, 1024] inb_S256x1024_S256x1024_0_0))) (View.ld w2 (Rect.unit ![1024, 0] ![256, 1024]
    inb_S2816x1024_S256x1024_1024_0))) (k0_pay58 (View.ld x1 (Rect.unit ![4, 0, 0] ![1, 256, 256] inb_S11x256x256_S1x256x256_4_0_0)))) (k0_pay68
    (k0_pay44 (k0_pay4 (View.ld x0 (Rect.unit ![0, 0] ![256, 1024] inb_S256x1024_S256x1024_0_0))) (View.ld w2 (Rect.unit ![1024, 0] ![256, 1024]
    inb_S2816x1024_S256x1024_1024_0))) (k0_pay58 (View.ld x1 (Rect.unit ![4, 0, 0] ![1, 256, 256] inb_S11x256x256_S1x256x256_4_0_0))) (View.ld x2
    (Rect.unit ![4, 0, 0] ![1, 256, 256] inb_S11x256x256_S1x256x256_4_0_0)) (View.ld w0 (Rect.unit ![1024, 0] ![256, 1024]
    inb_S2816x1024_S256x1024_1024_0))) (View.ld w1 (Rect.unit ![1024, 0] ![256, 1024] inb_S2816x1024_S256x1024_1024_0))) (k0_pay76 (k0_pay57 (k0_pay4
    (View.ld x0 (Rect.unit ![0, 0] ![256, 1024] inb_S256x1024_S256x1024_0_0))) (View.ld w2 (Rect.unit ![1280, 0] ![256, 1024]
    inb_S2816x1024_S256x1024_1280_0))) (View.ld x1 (Rect.unit ![5, 0, 0] ![1, 256, 256] inb_S11x256x256_S1x256x256_5_0_0))) (k0_pay77 (k0_pay57
    (k0_pay4 (View.ld x0 (Rect.unit ![0, 0] ![256, 1024] inb_S256x1024_S256x1024_0_0))) (View.ld w2 (Rect.unit ![1280, 0] ![256, 1024]
    inb_S2816x1024_S256x1024_1280_0))) (View.ld x1 (Rect.unit ![5, 0, 0] ![1, 256, 256] inb_S11x256x256_S1x256x256_5_0_0)) (View.ld x2 (Rect.unit ![5,
    0, 0] ![1, 256, 256] inb_S11x256x256_S1x256x256_5_0_0))) (View.ld w0 (Rect.unit ![1280, 0] ![256, 1024] inb_S2816x1024_S256x1024_1280_0)) (View.ld
    w1 (Rect.unit ![1280, 0] ![256, 1024] inb_S2816x1024_S256x1024_1280_0))) (k0_pay82 (View.ld x1 (Rect.unit ![6, 0, 0] ![1, 256, 256]
    inb_S11x256x256_S1x256x256_6_0_0))) (k0_pay83 (View.ld x2 (Rect.unit ![6, 0, 0] ![1, 256, 256] inb_S11x256x256_S1x256x256_6_0_0))) (k0_pay84
    (View.ld x1 (Rect.unit ![6, 0, 0] ![1, 256, 256] inb_S11x256x256_S1x256x256_6_0_0))) (k0_pay87 (k0_pay70 (k0_pay4 (View.ld x0 (Rect.unit ![0, 0]
    ![256, 1024] inb_S256x1024_S256x1024_0_0))) (View.ld w2 (Rect.unit ![1536, 0] ![256, 1024] inb_S2816x1024_S256x1024_1536_0))) (View.ld x1
    (Rect.unit ![6, 0, 0] ![1, 256, 256] inb_S11x256x256_S1x256x256_6_0_0))) (View.ld w0 (Rect.unit ![1536, 0] ![256, 1024]
    inb_S2816x1024_S256x1024_1536_0)) (View.ld w1 (Rect.unit ![1536, 0] ![256, 1024] inb_S2816x1024_S256x1024_1536_0))) (k0_pay94 (View.ld x1
    (Rect.unit ![7, 0, 0] ![1, 256, 256] inb_S11x256x256_S1x256x256_7_0_0))) (k0_pay95 (View.ld x2 (Rect.unit ![7, 0, 0] ![1, 256, 256]
    inb_S11x256x256_S1x256x256_7_0_0))) (k0_pay96 (View.ld x1 (Rect.unit ![7, 0, 0] ![1, 256, 256] inb_S11x256x256_S1x256x256_7_0_0)))
    (FloatOps.ofBits .f32 1065353216#32) (View.ld w0 (Rect.unit ![1792, 0] ![256, 1024] inb_S2816x1024_S256x1024_1792_0)) (View.ld w1 (Rect.unit
    ![1792, 0] ![256, 1024] inb_S2816x1024_S256x1024_1792_0))) (k0_pay111 (k0_pay93 (k0_pay4 (View.ld x0 (Rect.unit ![0, 0] ![256, 1024]
    inb_S256x1024_S256x1024_0_0))) (View.ld w2 (Rect.unit ![2048, 0] ![256, 1024] inb_S2816x1024_S256x1024_2048_0))) (View.ld x1 (Rect.unit ![8, 0, 0]
    ![1, 256, 256] inb_S11x256x256_S1x256x256_8_0_0))) (k0_pay112 (k0_pay93 (k0_pay4 (View.ld x0 (Rect.unit ![0, 0] ![256, 1024]
    inb_S256x1024_S256x1024_0_0))) (View.ld w2 (Rect.unit ![2048, 0] ![256, 1024] inb_S2816x1024_S256x1024_2048_0))) (View.ld x1 (Rect.unit ![8, 0, 0]
    ![1, 256, 256] inb_S11x256x256_S1x256x256_8_0_0)) (View.ld x2 (Rect.unit ![8, 0, 0] ![1, 256, 256] inb_S11x256x256_S1x256x256_8_0_0))) (View.ld w0
    (Rect.unit ![2048, 0] ![256, 1024] inb_S2816x1024_S256x1024_2048_0)) (View.ld w1 (Rect.unit ![2048, 0] ![256, 1024]
    inb_S2816x1024_S256x1024_2048_0))) (k0_pay122 (k0_pay105 (k0_pay4 (View.ld x0 (Rect.unit ![0, 0] ![256, 1024] inb_S256x1024_S256x1024_0_0)))
    (View.ld w2 (Rect.unit ![2304, 0] ![256, 1024] inb_S2816x1024_S256x1024_2304_0))) (View.ld x1 (Rect.unit ![9, 0, 0] ![1, 256, 256]
    inb_S11x256x256_S1x256x256_9_0_0))) (k0_pay123 (k0_pay105 (k0_pay4 (View.ld x0 (Rect.unit ![0, 0] ![256, 1024] inb_S256x1024_S256x1024_0_0)))
    (View.ld w2 (Rect.unit ![2304, 0] ![256, 1024] inb_S2816x1024_S256x1024_2304_0))) (View.ld x1 (Rect.unit ![9, 0, 0] ![1, 256, 256]
    inb_S11x256x256_S1x256x256_9_0_0)) (View.ld x2 (Rect.unit ![9, 0, 0] ![1, 256, 256] inb_S11x256x256_S1x256x256_9_0_0))) (View.ld w0 (Rect.unit
    ![2304, 0] ![256, 1024] inb_S2816x1024_S256x1024_2304_0)) (View.ld w1 (Rect.unit ![2304, 0] ![256, 1024] inb_S2816x1024_S256x1024_2304_0)))
    (k0_pay127 (View.ld x1 (Rect.unit ![10, 0, 0] ![1, 256, 256] inb_S11x256x256_S1x256x256_10_0_0))) (k0_pay128 (View.ld x2 (Rect.unit ![10, 0, 0]
    ![1, 256, 256] inb_S11x256x256_S1x256x256_10_0_0))) (k0_pay129 (View.ld x1 (Rect.unit ![10, 0, 0] ![1, 256, 256]
    inb_S11x256x256_S1x256x256_10_0_0))) (k0_pay132 (k0_pay116 (k0_pay4 (View.ld x0 (Rect.unit ![0, 0] ![256, 1024] inb_S256x1024_S256x1024_0_0)))
    (View.ld w2 (Rect.unit ![2560, 0] ![256, 1024] inb_S2816x1024_S256x1024_2560_0))) (View.ld x1 (Rect.unit ![10, 0, 0] ![1, 256, 256]
    inb_S11x256x256_S1x256x256_10_0_0))) (View.ld w0 (Rect.unit ![2560, 0] ![256, 1024] inb_S2816x1024_S256x1024_2560_0)) (View.ld w1 (Rect.unit
    ![2560, 0] ![256, 1024] inb_S2816x1024_S256x1024_2560_0))

set_option maxHeartbeats 4000000 in
theorem dhVec_eq (x0 : Vec Ideal S256x1024 .bf16) (x1 x2 : Vec Ideal S11x256x256 .bf16) (w0 w1 w2 : Vec Ideal S2816x1024 .bf16) :
    dhVec x0 x1 x2 w0 w1 w2 = fun j => dh x0 x1 x2 w0 w1 w2 (j 0) (j 1) := by
  funext j
  idx_vars j
  unfold dhVec
  unfold_payloads
  pointwise
  rw [dh, sum_eleven]
  rfl

def tiny : EReal := Ideal.ofBits .f32 0x358637BD#32

/-- One over the root of the mean of a row's squares. -/
def rs (x : Vec Ideal S256x1024 .f32) (r : Fin 256) : EReal := Ideal.rsqrt (Ideal.div (∑ q : Fin 1024, x (ix2 r q) * x (ix2 r q)) wide + tiny)

/-- The cotangent `D` past the modulation and the norm's weight. -/
def dxh (D : Fin 256 → Fin 1024 → EReal) (g : Vec Ideal S1x1024 .f32) (mo : Vec Ideal S1x8x1024 .f32) (r : Fin 256) (j : Fin 1024) : EReal :=
  D r j * (1 + mo (ix3 0 4 j)) * g (ix2 0 j)

/-- The cotangent of the layer's input. -/
def dx1 (D : Fin 256 → Fin 1024 → EReal) (x y : Vec Ideal S256x1024 .f32) (g : Vec Ideal S1x1024 .f32) (mo : Vec Ideal S1x8x1024 .f32) (r : Fin 256) (j : Fin 1024) : EReal :=
  y (ix2 r j) + rs x r * (dxh D g mo r j - x (ix2 r j) * rs x r * Ideal.div (∑ q, dxh D g mo r q * (x (ix2 r q) * rs x r)) wide)

/-- What the point adds to row `a` of the norm's gradient: only row 0 is used. -/
def dgAdd (D : Fin 256 → Fin 1024 → EReal) (x : Vec Ideal S256x1024 .f32) (mo : Vec Ideal S1x8x1024 .f32) (a : Fin 8) (j : Fin 1024) : EReal :=
  if a = 0 then ∑ r, D r j * (1 + mo (ix3 0 4 j)) * (x (ix2 r j) * rs x r) else 0

/-- What the point adds to row `a` of the modulation's gradient: rows 0, 1 and 2 are used. -/
def dmAdd (D : Fin 256 → Fin 1024 → EReal) (x y : Vec Ideal S256x1024 .f32) (g : Vec Ideal S1x1024 .f32) (mo : Vec Ideal S1x8x1024 .f32)
    (mix : Vec Ideal S256x1024 .bf16) (a : Fin 8) (j : Fin 1024) : EReal :=
  if a = 0 then ∑ r, D r j else if a = 1 then ∑ r, D r j * (x (ix2 r j) * rs x r * g (ix2 0 j))
  else if a = 2 then ∑ r, dx1 D x y g mo r j * mix (ix2 r j) else 0

end Cert.FfnBwdIdeal.Own
end
-- ==== Proof.FfnBwdMath.lean ====
module
public import proofs.«01_k».proof.Defs
public import proofs.«01_k».proof.Proof.Common
public import proofs.«01_k».proof.Proof.Layer
public import proofs.«01_k».proof.Proof.FfnBwdForms

/-! The derivative as formulas in the call's arguments, one token at a time: `X` the layer's input, `Y` the cotangent of its
output, `Mi` the branch the modulated sum is taken of, `Mo` the modulation, `G` the norm's weight, `Wg`, `Wu`, `Wd` the three weights. Beside
the kernel's forms stand the ones the derivative is written in, and the two agree where the arguments are real numbers. -/

@[expose] public section
set_option maxRecDepth 16384
noncomputable section
namespace Cert.FfnBwdIdeal.Own
open Cert.FfnBwdIdeal Cert.FfnBwdIdeal.Gen Idealize.ShloMosaic Idealize.ShloMosaic.TcCoe Idealize.SL.Sem Cert.Common

/-- A real number, not an infinity. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.one : IsReal 1 := ⟨1, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The logistic function at a real number. -/
theorem sg_coe (r : ℝ) : sg (r : EReal) = ((1 + Real.exp (-r))⁻¹ : ℝ) := by
  have h : (0 : EReal) - (r : EReal) = ((-r : ℝ) : EReal) := by rw [zero_sub, EReal.coe_neg]
  have e : Ideal.exp ((-r : ℝ) : EReal) = (Real.exp (-r) : EReal) := rfl
  have p : 0 < 1 + Real.exp (-r) := by positivity
  have q : (1 : EReal) + (Real.exp (-r) : EReal) = ((1 + Real.exp (-r) : ℝ) : EReal) := by rw [EReal.coe_add]; rfl
  rw [sg, h, e, q, Ideal.div, if_neg (by rw [← EReal.coe_zero]; exact_mod_cast p.ne'), one_mul, EReal.coe_inv]

theorem IsReal.sg {x : EReal} (hx : IsReal x) : IsReal (sg x) := by
  obtain ⟨a, rfl⟩ := hx; exact ⟨_, sg_coe a⟩

/-- The two forms of the gated activation's derivative. -/
theorem gate_forms {a u z : EReal} (ha : IsReal a) (hu : IsReal u) (hz : IsReal z) :
    a * u * (sg z * (1 + z * (1 - sg z))) = a * u * sg z + z * (a * u) * (sg z * (1 - sg z)) := by
  have hs := hz.sg
  obtain ⟨a, rfl⟩ := ha; obtain ⟨u, rfl⟩ := hu
  obtain ⟨s, hs⟩ := hs
  rw [hs]
  obtain ⟨z, rfl⟩ := hz
  have e1 : (1 : EReal) = ((1 : ℝ) : EReal) := rfl
  rw [e1]
  simp only [← EReal.coe_mul, ← EReal.coe_add, ← EReal.coe_sub]
  congr 1
  ring

theorem tiny_pos : ∃ e : ℝ, 0 < e ∧ tiny = (e : EReal) := by
  refine ⟨_, ?_, by simp [tiny, Ideal.ofBits, Ideal.ieee, -EReal.coe_mul]; rfl⟩
  norm_num

/-- Minus a half. -/
def mhalf : EReal := Ideal.ofBits .f32 0xBF000000#32

theorem mhalf_eq : mhalf = ((-(1/2) : ℝ) : EReal) := by
  simp [mhalf, Ideal.ofBits, Ideal.ieee, -EReal.coe_mul, -EReal.coe_neg]; norm_num

/-- The root of a row's mean square with a positive number added: a positive real, whose square is one over it. -/
theorem root {n : ℕ} (x : Fin n → ℝ) : ∃ v r : ℝ, 0 < v ∧ r * r * v = 1 ∧
    Ideal.div (∑ q, (x q : EReal) * (x q : EReal)) wide + tiny = (v : EReal) ∧
    Ideal.rsqrt (Ideal.div (∑ q, (x q : EReal) * (x q : EReal)) wide + tiny) = (r : EReal) := by
  obtain ⟨e, he, ht⟩ := tiny_pos
  have h : Ideal.div (∑ q, (x q : EReal) * (x q : EReal)) wide + tiny = (((∑ q, x q * x q) / 1024 + e : ℝ) : EReal) := by
    simp only [← EReal.coe_mul]
    rw [← coe_sum, wide_eq, div_coe (by norm_num), ht, EReal.coe_add]
  have hp : 0 < (∑ q, x q * x q) / 1024 + e := by
    have : 0 ≤ ∑ q, x q * x q := Finset.sum_nonneg fun q _ => mul_self_nonneg _
    positivity
  refine ⟨_, (Real.sqrt ((∑ q, x q * x q) / 1024 + e))⁻¹, hp, ?_, h, ?_⟩
  · have hs := Real.mul_self_sqrt hp.le
    have hn : Real.sqrt ((∑ q, x q * x q) / 1024 + e) ≠ 0 := (Real.sqrt_pos.mpr hp).ne'
    generalize (∑ q, x q * x q) / 1024 + e = v at *
    rw [← mul_inv, hs]
    exact inv_mul_cancel₀ hp.ne'
  · rw [h]
    show (if _ then _ else if _ then _ else _) = _
    rw [if_neg (not_lt.mpr hp.le), if_neg hp.ne']

/-- The two forms of the derivative of a normed row. -/
theorem row_forms {n : ℕ} {x e : Fin n → EReal} {y : EReal} (hx : ∀ q, IsReal (x q)) (he : ∀ q, IsReal (e q)) (hy : IsReal y) (j : Fin n) :
    y + Ideal.rsqrt (Ideal.div (∑ q, x q * x q) wide + tiny) * (e j - x j * Ideal.rsqrt (Ideal.div (∑ q, x q * x q) wide + tiny)
        * Ideal.div (∑ q, e q * (x q * Ideal.rsqrt (Ideal.div (∑ q, x q * x q) wide + tiny))) wide)
      = y + (e j * Ideal.rsqrt (Ideal.div (∑ q, x q * x q) wide + tiny)
        + x j * Ideal.div ((∑ q, x q * e q) * (mhalf * Ideal.div (Ideal.rsqrt (Ideal.div (∑ q, x q * x q) wide + tiny)) (Ideal.div (∑ q, x q * x q) wide + tiny))) wide
        + Ideal.div ((∑ q, x q * e q) * (mhalf * Ideal.div (Ideal.rsqrt (Ideal.div (∑ q, x q * x q) wide + tiny)) (Ideal.div (∑ q, x q * x q) wide + tiny))) wide * x j) := by
  choose x' hx' using hx
  choose e' he' using he
  obtain ⟨y, rfl⟩ := hy
  obtain rfl := funext hx'
  obtain rfl := funext he'
  obtain ⟨v, r, hv, hr, h1, h2⟩ := root x'
  rw [h2, h1, wide_eq, mhalf_eq, div_coe hv.ne']
  simp only [← EReal.coe_mul, ← coe_sum]
  rw [div_coe (by norm_num), div_coe (by norm_num)]
  simp only [← EReal.coe_mul, ← EReal.coe_add, ← EReal.coe_sub]
  congr 1
  have hs : ∑ q, e' q * (x' q * r) = (∑ q, x' q * e' q) * r := by
    rw [Finset.sum_mul]; exact Finset.sum_congr rfl fun q _ => by ring
  have hd : r / v = r * r * r := by
    rw [div_eq_iff hv.ne']
    calc r = r * (r * r * v) := by rw [hr, mul_one]
      _ = _ := by ring
  rw [hs, hd]
  ring

section Token
variable (X Y Mi : Vec Ideal S4x2048x1024 .f32) (Mo : Vec Ideal S4x6x1024 .f32) (G : Vec Ideal S1x1024 .f32) (Wg Wu : Vec Ideal S1024x2816 .f32) (Wd : Vec Ideal S2816x1024 .f32)
variable (b : Fin 4) (t : Fin 2048)

def rsT : EReal := Ideal.rsqrt (Ideal.div (∑ q, X (ix3 b t q) * X (ix3 b t q)) wide + tiny)
def hT (q : Fin 1024) : EReal := X (ix3 b t q) * rsT X b t * G (ix2 0 q) * (1 + Mo (ix3 b 4 q)) + Mo (ix3 b 3 q)
def gaT (p : Fin 2816) : EReal := ∑ q, hT X Mo G b t q * Wg (ix2 q p)
def uT (p : Fin 2816) : EReal := ∑ q, hT X Mo G b t q * Wu (ix2 q p)
def dfT (q : Fin 1024) : EReal := Mo (ix3 b 5 q) * Y (ix3 b t q)
def dactT (p : Fin 2816) : EReal := ∑ q, dfT Y Mo b t q * Wd (ix2 p q)
def dgT (p : Fin 2816) : EReal :=
  dactT Y Mo Wd b t p * uT X Mo G Wu b t p * (sg (gaT X Mo G Wg b t p) * (1 + gaT X Mo G Wg b t p * (1 - sg (gaT X Mo G Wg b t p))))
def duT (p : Fin 2816) : EReal := dactT Y Mo Wd b t p * (gaT X Mo G Wg b t p * sg (gaT X Mo G Wg b t p))
def actT (p : Fin 2816) : EReal := gaT X Mo G Wg b t p * sg (gaT X Mo G Wg b t p) * uT X Mo G Wu b t p
def dhT (q : Fin 1024) : EReal := ∑ s : Fin 11, (∑ k : Fin 256, dgT X Y Mo G Wg Wu Wd b t (row s k) * Wg (ix2 q (row s k))
  + ∑ k : Fin 256, duT X Y Mo G Wg Wd b t (row s k) * Wu (ix2 q (row s k)))
def dxhT (q : Fin 1024) : EReal := dhT X Y Mo G Wg Wu Wd b t q * (1 + Mo (ix3 b 4 q)) * G (ix2 0 q)
def dx1T (q : Fin 1024) : EReal := Y (ix3 b t q) + rsT X b t * (dxhT X Y Mo G Wg Wu Wd b t q - X (ix3 b t q) * rsT X b t
  * Ideal.div (∑ j, dxhT X Y Mo G Wg Wu Wd b t j * (X (ix3 b t j) * rsT X b t)) wide)
def dgnT (q : Fin 1024) : EReal := dhT X Y Mo G Wg Wu Wd b t q * (1 + Mo (ix3 b 4 q)) * (X (ix3 b t q) * rsT X b t)
def dscT (q : Fin 1024) : EReal := dhT X Y Mo G Wg Wu Wd b t q * (X (ix3 b t q) * rsT X b t * G (ix2 0 q))
def dgmT (q : Fin 1024) : EReal := dx1T X Y Mo G Wg Wu Wd b t q * Mi (ix3 b t q)

/-- The derivative's own forms. -/
def dgR (p : Fin 2816) : EReal := dactT Y Mo Wd b t p * uT X Mo G Wu b t p * sg (gaT X Mo G Wg b t p)
  + gaT X Mo G Wg b t p * (dactT Y Mo Wd b t p * uT X Mo G Wu b t p) * (sg (gaT X Mo G Wg b t p) * (1 - sg (gaT X Mo G Wg b t p)))
def qR : EReal := Ideal.div ((∑ j, X (ix3 b t j) * dxhT X Y Mo G Wg Wu Wd b t j) * (mhalf * Ideal.div (rsT X b t)
  (Ideal.div (∑ q, X (ix3 b t q) * X (ix3 b t q)) wide + tiny))) wide
def dx1R (q : Fin 1024) : EReal := Y (ix3 b t q) + (dxhT X Y Mo G Wg Wu Wd b t q * rsT X b t + X (ix3 b t q) * qR X Y Mo G Wg Wu Wd b t
  + qR X Y Mo G Wg Wu Wd b t * X (ix3 b t q))

theorem dhT_eq (q : Fin 1024) : dhT X Y Mo G Wg Wu Wd b t q
    = (∑ p, duT X Y Mo G Wg Wd b t p * Wu (ix2 q p)) + ∑ p, dgT X Y Mo G Wg Wu Wd b t p * Wg (ix2 q p) := by
  rw [sum_tiles, sum_tiles, ← Finset.sum_add_distrib, dhT]
  exact Finset.sum_congr rfl fun s _ => add_comm _ _

section Real
variable (hX : ∀ j, IsReal (X j)) (hY : ∀ j, IsReal (Y j)) (hMo : ∀ j, IsReal (Mo j)) (hG : ∀ j, IsReal (G j)) (hWg : ∀ j, IsReal (Wg j)) (hWu : ∀ j, IsReal (Wu j)) (hWd : ∀ j, IsReal (Wd j))
include hX in
theorem rsT_real : IsReal (rsT X b t) := by
  choose x hx using hX
  obtain ⟨v, r, -, -, -, h⟩ := root fun q : Fin 1024 => x (ix3 b t q)
  exact ⟨r, by rw [rsT, ← h]; simp only [hx]⟩

include hX hMo hG in
theorem hT_real (q : Fin 1024) : IsReal (hT X Mo G b t q) :=
  ((((hX _).mul (rsT_real X b t hX)).mul (hG _)).mul (IsReal.one.add (hMo _))).add (hMo _)

include hX hMo hG hWg in
theorem gaT_real (p : Fin 2816) : IsReal (gaT X Mo G Wg b t p) := IsReal.sum _ fun q => (hT_real X Mo G b t hX hMo hG q).mul (hWg _)

include hX hMo hG hWu in
theorem uT_real (p : Fin 2816) : IsReal (uT X Mo G Wu b t p) := IsReal.sum _ fun q => (hT_real X Mo G b t hX hMo hG q).mul (hWu _)

include hY hMo hWd in
theorem dactT_real (p : Fin 2816) : IsReal (dactT Y Mo Wd b t p) := IsReal.sum _ fun q => ((hMo _).mul (hY _)).mul (hWd _)

include hX hY hMo hG hWg hWu hWd in
theorem dgT_real (p : Fin 2816) : IsReal (dgT X Y Mo G Wg Wu Wd b t p) := by
  have hz := gaT_real X Mo G Wg b t hX hMo hG hWg p
  exact ((dactT_real Y Mo Wd b t hY hMo hWd p).mul (uT_real X Mo G Wu b t hX hMo hG hWu p)).mul
    (hz.sg.mul (IsReal.one.add (hz.mul (IsReal.one.sub hz.sg))))

include hX hY hMo hG hWg hWd in
theorem duT_real (p : Fin 2816) : IsReal (duT X Y Mo G Wg Wd b t p) := by
  have hz := gaT_real X Mo G Wg b t hX hMo hG hWg p
  exact (dactT_real Y Mo Wd b t hY hMo hWd p).mul (hz.mul hz.sg)

include hX hY hMo hG hWg hWu hWd

theorem dgT_eq (p : Fin 2816) : dgT X Y Mo G Wg Wu Wd b t p = dgR X Y Mo G Wg Wu Wd b t p :=
  gate_forms (dactT_real Y Mo Wd b t hY hMo hWd p) (uT_real X Mo G Wu b t hX hMo hG hWu p) (gaT_real X Mo G Wg b t hX hMo hG hWg p)

theorem dxhT_real (q : Fin 1024) : IsReal (dxhT X Y Mo G Wg Wu Wd b t q) :=
  ((IsReal.sum _ fun s => (IsReal.sum _ fun k => (dgT_real X Y Mo G Wg Wu Wd b t hX hY hMo hG hWg hWu hWd _).mul (hWg _)).add
    (IsReal.sum _ fun k => (duT_real X Y Mo G Wg Wd b t hX hY hMo hG hWg hWd _).mul (hWu _))).mul (IsReal.one.add (hMo _))).mul (hG _)

theorem dx1T_eq (q : Fin 1024) : dx1T X Y Mo G Wg Wu Wd b t q = dx1R X Y Mo G Wg Wu Wd b t q :=
  row_forms (x := fun q => X (ix3 b t q)) (e := dxhT X Y Mo G Wg Wu Wd b t) (fun q => hX _)
    (dxhT_real X Y Mo G Wg Wu Wd b t hX hY hMo hG hWg hWu hWd) (hY _) q
end Real
end Token

end Cert.FfnBwdIdeal.Own
end
-- ==== Proof.FfnBwdPoint.lean ====
module
public import proofs.«01_k».proof.Defs
public import proofs.«01_k».proof.Proof.Common
public import proofs.«01_k».proof.Proof.FfnBwdForms

/-! What one point of the call writes in each of its three cases: A at the first point, which also takes the weights into
memory, C at the first point of a later sequence, B at every other. -/

@[expose] public section
set_option maxRecDepth 16384
set_option maxHeartbeats 4000000
noncomputable section
namespace Cert.FfnBwdIdeal.Own
open Cert.FfnBwdIdeal Cert.FfnBwdIdeal.Gen Idealize.ShloMosaic Idealize.ShloMosaic.TcCoe Idealize.SL.Sem Cert.Common

/-- The three weights as the first point takes them. -/
def wt0 (c : Dev nD) (f : HbBuf0 (F := Ideal) c hbM0_0) : Vec Ideal S2816x1024 .bf16 := ReadAs.same.apply (View.read (Elt Ideal) (View.whole main_v43) f)
def wt1 (c : Dev nD) (f : HbBuf0 (F := Ideal) c hbM0_1) : Vec Ideal S2816x1024 .bf16 := ReadAs.same.apply (View.read (Elt Ideal) (View.whole main_v45) f)
def wt2 (c : Dev nD) (f : HbBuf0 (F := Ideal) c hbM0_2) : Vec Ideal S2816x1024 .bf16 := ReadAs.same.apply (View.read (Elt Ideal) (View.whole main_v46) f)

section Cases
variable (c : Dev nD) (i : grid0.Coords) (a1 : Memref sig .tc .vmem S256x1024 .bf16) (h1 : a1.IsWhole) (a2 : Memref sig .tc .vmem S11x256x256 .bf16) (h2 : a2.IsWhole) (a3 : Memref sig .tc .vmem S11x256x256 .bf16) (h3 : a3.IsWhole) (a4 : Memref sig .tc .vmem S1x8x1024 .f32) (h4 : a4.IsWhole) (a5 : Memref sig .tc .vmem S1x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1024 .bf16) (h8 : a8.IsWhole) (a12 : Memref sig .tc .vmem S11x256x256 .bf16) (h12 : a12.IsWhole) (a13 : Memref sig .tc .vmem S11x256x256 .bf16) (h13 : a13.IsWhole) (a14 : Memref sig .tc .vmem S11x256x256 .bf16) (h14 : a14.IsWhole) (a15 : Memref sig .tc .vmem S256x1024 .f32) (h15 : a15.IsWhole) (a16 : Memref sig .tc .vmem S256x1024 .bf16) (h16 : a16.IsWhole) (a17 : Memref sig .tc .vmem S8x1024 .f32) (h17 : a17.IsWhole) (a18 : Memref sig .tc .vmem S1x8x1024 .f32) (h18 : a18.IsWhole) (a19 : Memref sig .tc .vmem S2816x1024 .bf16) (h19 : a19.IsWhole) (a20 : Memref sig .tc .vmem S2816x1024 .bf16) (h20 : a20.IsWhole) (a21 : Memref sig .tc .vmem S2816x1024 .bf16) (h21 : a21.IsWhole)
    (x0 : Vec Ideal S256x1024 .bf16) (x1 : Vec Ideal S11x256x256 .bf16) (x2 : Vec Ideal S11x256x256 .bf16) (x3 : Vec Ideal S1x8x1024 .f32) (x4 : Vec Ideal S1x1024 .f32) (x5 : Vec Ideal S256x1024 .f32) (x6 : Vec Ideal S256x1024 .f32) (x7 : Vec Ideal S256x1024 .bf16) (xo13 : Vec Ideal S8x1024 .f32) (xo14 : Vec Ideal S1x8x1024 .f32) (xs0 : Vec Ideal S2816x1024 .bf16) (xs1 : Vec Ideal S2816x1024 .bf16) (xs2 : Vec Ideal S2816x1024 .bf16) (fh0 : HbBuf0 (F := Ideal) c hbM0_0) (fh1 : HbBuf0 (F := Ideal) c hbM0_1) (fh2 : HbBuf0 (F := Ideal) c hbM0_2)

theorem out8_A (hc0 : cond0_0 i) (hc1 : cond0_1 i) (hc2 : cond0_2 i) :
    out0_A_8 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => dgate x0 x1 x2 (wt2 c fh2) (j 0) (j 1) (j 2) := by
  unfold out0_A_8
  refine read_writes_blocks _ _ _ _ ?_ fun y hy => absurd (cover0_A_8 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 y) fun ⟨p, hp, hm⟩ => hy p hp hm
  unfold kernelRun0_A
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp only [readCov_whole]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out9_A (hc0 : cond0_0 i) (hc1 : cond0_1 i) (hc2 : cond0_2 i) :
    out0_A_9 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => dup x0 x1 (wt2 c fh2) (j 0) (j 1) (j 2) := by
  unfold out0_A_9
  refine read_writes_blocks _ _ _ _ ?_ fun y hy => absurd (cover0_A_9 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 y) fun ⟨p, hp, hm⟩ => hy p hp hm
  unfold kernelRun0_A
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp only [readCov_whole]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out10_A (hc0 : cond0_0 i) (hc1 : cond0_1 i) (hc2 : cond0_2 i) :
    out0_A_10 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => act x1 x2 (j 0) (j 1) (j 2) := by
  unfold out0_A_10
  refine read_writes_blocks _ _ _ _ ?_ fun y hy => absurd (cover0_A_10 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 y) fun ⟨p, hp, hm⟩ => hy p hp hm
  unfold kernelRun0_A
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out11_A (hc0 : cond0_0 i) (hc1 : cond0_1 i) (hc2 : cond0_2 i) :
    out0_A_11 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => dx1 (dh x0 x1 x2 (wt0 c fh0) (wt1 c fh1) (wt2 c fh2)) x5 x6 x4 x3 (j 0) (j 1) := by
  unfold out0_A_11
  refine read_writes_blocks _ _ _ _ ?_ fun y hy => absurd (cover0_A_11 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 y) fun ⟨p, hp, hm⟩ => hy p hp hm
  unfold kernelRun0_A
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp only [readCov_whole]
  generalize hD : k0_pay136 (F := Ideal) _ _ _ _ _ _ _ _ = D
  replace hD : D = fun j => dh x0 x1 x2 (wt0 c fh0) (wt1 c fh1) (wt2 c fh2) (j 0) (j 1) := hD.symm.trans (dhVec_eq x0 x1 x2 (wt0 c fh0) (wt1 c fh1) (wt2 c fh2))
  subst hD
  unfold_payloads
  refine ⟨?_, trivial⟩
  intro x
  idx_vars x
  pointwise [Common.emb_norm]
  rfl

theorem out12_A (hc0 : cond0_0 i) (hc1 : cond0_1 i) (hc2 : cond0_2 i) :
    out0_A_12 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => x3 (ix3 0 2 (j 1)) * dx1 (dh x0 x1 x2 (wt0 c fh0) (wt1 c fh1) (wt2 c fh2)) x5 x6 x4 x3 (j 0) (j 1) := by
  unfold out0_A_12
  refine read_writes_blocks _ _ _ _ ?_ fun y hy => absurd (cover0_A_12 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 y) fun ⟨p, hp, hm⟩ => hy p hp hm
  unfold kernelRun0_A
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp only [readCov_whole]
  generalize hD : k0_pay136 (F := Ideal) _ _ _ _ _ _ _ _ = D
  replace hD : D = fun j => dh x0 x1 x2 (wt0 c fh0) (wt1 c fh1) (wt2 c fh2) (j 0) (j 1) := hD.symm.trans (dhVec_eq x0 x1 x2 (wt0 c fh0) (wt1 c fh1) (wt2 c fh2))
  subst hD
  unfold_payloads
  refine ⟨?_, trivial⟩
  intro x
  idx_vars x
  pointwise [Common.emb_norm]
  rfl

theorem out13_A (hc0 : cond0_0 i) (hc1 : cond0_1 i) (hc2 : cond0_2 i) :
    out0_A_13 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => dgAdd (dh x0 x1 x2 (wt0 c fh0) (wt1 c fh1) (wt2 c fh2)) x5 x3 (j 0) (j 1) := by
  unfold out0_A_13
  unfold kernelRun0_A
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp only [readCov_whole]
  simp (disch := decide) only [↓View.readCov_skip, ↓View.readCov_fill]
  generalize hD : k0_pay136 (F := Ideal) _ _ _ _ _ _ _ _ = D
  replace hD : D = fun j => dh x0 x1 x2 (wt0 c fh0) (wt1 c fh1) (wt2 c fh2) (j 0) (j 1) := hD.symm.trans (dhVec_eq x0 x1 x2 (wt0 c fh0) (wt1 c fh1) (wt2 c fh2))
  subst hD
  refine read_writes_over_fill _ _ _ (by funext a; fin_cases a <;> rfl) _ [_] _ ?_ fun y hy => ?_
  · unfold_payloads
    refine ⟨?_, trivial⟩
    all_goals
      intro x
      idx_vars x
      pointwise [Common.emb_norm]
      first | rfl | (simp only [zero_add]; rfl)
  · have n0 : ¬@Eq (Fin 8) (y 0) 0 := fun h => hy _ List.mem_cons_self (mem_row2 0 inb_S8x1024_S1x1024_0_0 y h)
    simp only [dgAdd, n0, if_false]
    unfold_payloads
    idx_vars y
    pointwise

theorem out14_A (hc0 : cond0_0 i) (hc1 : cond0_1 i) (hc2 : cond0_2 i) :
    out0_A_14 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = fun j => dmAdd (dh x0 x1 x2 (wt0 c fh0) (wt1 c fh1) (wt2 c fh2)) x5 x6 x4 x3 x7 (j 1) (j 2) := by
  unfold out0_A_14
  unfold kernelRun0_A
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp only [readCov_whole]
  simp (disch := decide) only [↓View.readCov_skip, ↓View.readCov_fill]
  generalize hD : k0_pay136 (F := Ideal) _ _ _ _ _ _ _ _ = D
  replace hD : D = fun j => dh x0 x1 x2 (wt0 c fh0) (wt1 c fh1) (wt2 c fh2) (j 0) (j 1) := hD.symm.trans (dhVec_eq x0 x1 x2 (wt0 c fh0) (wt1 c fh1) (wt2 c fh2))
  subst hD
  refine read_writes_over_fill _ _ _ (by funext a; fin_cases a <;> rfl) _ [_, _, _] _ ?_ fun y hy => ?_
  · unfold_payloads
    refine ⟨?_, ?_, ?_, trivial⟩
    all_goals
      intro x
      idx_vars x
      pointwise [Common.emb_norm]
      first | rfl | (simp only [zero_add]; rfl)
  · have n0 : ¬@Eq (Fin 8) (y 1) 0 := fun h => hy _ (List.mem_cons_of_mem _ (List.mem_cons_of_mem _ List.mem_cons_self)) (mem_row3 0 inb_S1x8x1024_S1x1x1024_0_0_0 y h)
    have n1 : ¬@Eq (Fin 8) (y 1) 1 := fun h => hy _ (List.mem_cons_of_mem _ List.mem_cons_self) (mem_row3 1 inb_S1x8x1024_S1x1x1024_0_1_0 y h)
    have n2 : ¬@Eq (Fin 8) (y 1) 2 := fun h => hy _ List.mem_cons_self (mem_row3 2 inb_S1x8x1024_S1x1x1024_0_2_0 y h)
    simp only [dmAdd, n0, n1, n2, if_false]
    unfold_payloads
    idx_vars y
    pointwise

theorem sout0_A (hc0 : cond0_0 i) (hc1 : cond0_1 i) (hc2 : cond0_2 i) : sout0_A_0 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = wt0 c fh0 := by
  unfold sout0_A_0 kernelRun0_A
  dsimp only
  sl_unfold_words
  exact View.read_writes_whole _ _ _

theorem sout1_A (hc0 : cond0_0 i) (hc1 : cond0_1 i) (hc2 : cond0_2 i) : sout0_A_1 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = wt1 c fh1 := by
  unfold sout0_A_1 kernelRun0_A
  dsimp only
  sl_unfold_words
  exact View.read_writes_whole _ _ _

theorem sout2_A (hc0 : cond0_0 i) (hc1 : cond0_1 i) (hc2 : cond0_2 i) : sout0_A_2 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 fh0 fh1 fh2 hc0 hc1 hc2 = wt2 c fh2 := by
  unfold sout0_A_2 kernelRun0_A
  dsimp only
  sl_unfold_words
  exact View.read_writes_whole _ _ _

theorem out8_B (hc0 : ¬cond0_0 i) (hc1 : ¬cond0_1 i) (hc2 : ¬cond0_2 i) :
    out0_B_8 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => dgate x0 x1 x2 xs2 (j 0) (j 1) (j 2) := by
  unfold out0_B_8
  refine read_writes_blocks _ _ _ _ ?_ fun y hy => absurd (cover0_B_8 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 y) fun ⟨p, hp, hm⟩ => hy p hp hm
  unfold kernelRun0_B
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out9_B (hc0 : ¬cond0_0 i) (hc1 : ¬cond0_1 i) (hc2 : ¬cond0_2 i) :
    out0_B_9 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => dup x0 x1 xs2 (j 0) (j 1) (j 2) := by
  unfold out0_B_9
  refine read_writes_blocks _ _ _ _ ?_ fun y hy => absurd (cover0_B_9 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 y) fun ⟨p, hp, hm⟩ => hy p hp hm
  unfold kernelRun0_B
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out10_B (hc0 : ¬cond0_0 i) (hc1 : ¬cond0_1 i) (hc2 : ¬cond0_2 i) :
    out0_B_10 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => act x1 x2 (j 0) (j 1) (j 2) := by
  unfold out0_B_10
  refine read_writes_blocks _ _ _ _ ?_ fun y hy => absurd (cover0_B_10 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 y) fun ⟨p, hp, hm⟩ => hy p hp hm
  unfold kernelRun0_B
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out11_B (hc0 : ¬cond0_0 i) (hc1 : ¬cond0_1 i) (hc2 : ¬cond0_2 i) :
    out0_B_11 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => dx1 (dh x0 x1 x2 xs0 xs1 xs2) x5 x6 x4 x3 (j 0) (j 1) := by
  unfold out0_B_11
  refine read_writes_blocks _ _ _ _ ?_ fun y hy => absurd (cover0_B_11 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 y) fun ⟨p, hp, hm⟩ => hy p hp hm
  unfold kernelRun0_B
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  unfold_payloads
  refine ⟨?_, trivial⟩
  intro x
  idx_vars x
  pointwise [Common.emb_norm]
  rfl

theorem out12_B (hc0 : ¬cond0_0 i) (hc1 : ¬cond0_1 i) (hc2 : ¬cond0_2 i) :
    out0_B_12 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => x3 (ix3 0 2 (j 1)) * dx1 (dh x0 x1 x2 xs0 xs1 xs2) x5 x6 x4 x3 (j 0) (j 1) := by
  unfold out0_B_12
  refine read_writes_blocks _ _ _ _ ?_ fun y hy => absurd (cover0_B_12 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 y) fun ⟨p, hp, hm⟩ => hy p hp hm
  unfold kernelRun0_B
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  unfold_payloads
  refine ⟨?_, trivial⟩
  intro x
  idx_vars x
  pointwise [Common.emb_norm]
  rfl

theorem out13_B (hc0 : ¬cond0_0 i) (hc1 : ¬cond0_1 i) (hc2 : ¬cond0_2 i) :
    out0_B_13 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => xo13 j + dgAdd (dh x0 x1 x2 xs0 xs1 xs2) x5 x3 (j 0) (j 1) := by
  unfold out0_B_13
  unfold kernelRun0_B
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  refine read_writes_blocks _ _ [_] _ ?_ fun y hy => ?_
  · unfold_payloads
    refine ⟨?_, trivial⟩
    all_goals
      intro x
      idx_vars x
      pointwise [Common.emb_norm]
      first | rfl | (simp only [zero_add]; rfl)
  · have n0 : ¬@Eq (Fin 8) (y 0) 0 := fun h => hy _ List.mem_cons_self (mem_row2 0 inb_S8x1024_S1x1024_0_0 y h)
    rw [h17.read_unread]
    simp only [dgAdd, n0, if_false, add_zero]

theorem out14_B (hc0 : ¬cond0_0 i) (hc1 : ¬cond0_1 i) (hc2 : ¬cond0_2 i) :
    out0_B_14 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xo14 xs0 xs1 xs2 fh0 fh1 fh2 hc0 hc1 hc2 = fun j => xo14 j + dmAdd (dh x0 x1 x2 xs0 xs1 xs2) x5 x6 x4 x3 x7 (j 1) (j 2) := by
  unfold out0_B_14
  unfold kernelRun0_B
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  refine read_writes_blocks _ _ [_, _, _] _ ?_ fun y hy => ?_
  · unfold_payloads
    refine ⟨?_, ?_, ?_, trivial⟩
    all_goals
      intro x
      idx_vars x
      pointwise [Common.emb_norm]
      first | rfl | (simp only [zero_add]; rfl)
  · have n0 : ¬@Eq (Fin 8) (y 1) 0 := fun h => hy _ (List.mem_cons_of_mem _ (List.mem_cons_of_mem _ List.mem_cons_self)) (mem_row3 0 inb_S1x8x1024_S1x1x1024_0_0_0 y h)
    have n1 : ¬@Eq (Fin 8) (y 1) 1 := fun h => hy _ (List.mem_cons_of_mem _ List.mem_cons_self) (mem_row3 1 inb_S1x8x1024_S1x1x1024_0_1_0 y h)
    have n2 : ¬@Eq (Fin 8) (y 1) 2 := fun h => hy _ List.mem_cons_self (mem_row3 2 inb_S1x8x1024_S1x1x1024_0_2_0 y h)
    rw [h18.read_unread]
    simp only [dmAdd, n0, n1, n2, if_false, add_zero]

theorem out8_C (hc0 : ¬cond0_0 i) (hc1 : ¬cond0_1 i) (hc2 : cond0_2 i) :
    out0_C_8 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => dgate x0 x1 x2 xs2 (j 0) (j 1) (j 2) := by
  unfold out0_C_8
  refine read_writes_blocks _ _ _ _ ?_ fun y hy => absurd (cover0_C_8 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 y) fun ⟨p, hp, hm⟩ => hy p hp hm
  unfold kernelRun0_C
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out9_C (hc0 : ¬cond0_0 i) (hc1 : ¬cond0_1 i) (hc2 : cond0_2 i) :
    out0_C_9 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => dup x0 x1 xs2 (j 0) (j 1) (j 2) := by
  unfold out0_C_9
  refine read_writes_blocks _ _ _ _ ?_ fun y hy => absurd (cover0_C_9 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 y) fun ⟨p, hp, hm⟩ => hy p hp hm
  unfold kernelRun0_C
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out10_C (hc0 : ¬cond0_0 i) (hc1 : ¬cond0_1 i) (hc2 : cond0_2 i) :
    out0_C_10 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => act x1 x2 (j 0) (j 1) (j 2) := by
  unfold out0_C_10
  refine read_writes_blocks _ _ _ _ ?_ fun y hy => absurd (cover0_C_10 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 y) fun ⟨p, hp, hm⟩ => hy p hp hm
  unfold kernelRun0_C
  dsimp only
  sl_unfold_words
  unfold_payloads
  simp only [View.readAt_eq_ld, h1.read_unread, h2.read_unread, h3.read_unread, h4.read_unread, h5.read_unread, h6.read_unread, h7.read_unread, h8.read_unread, h17.read_unread, h18.read_unread, h19.read_unread, h20.read_unread, h21.read_unread]
  refine ⟨?_, ?_, ?_, ?_, ?_, ?_, ?_, ?_, ?_, ?_, ?_, trivial⟩
  all_goals
    intro x
    idx_vars x
    pointwise [Common.emb_norm]
    first | rfl | (simp only [dgate, dup, act, dact, row, sg, Fin.val_zero, zero_mul, zero_add] <;> rfl)

theorem out11_C (hc0 : ¬cond0_0 i) (hc1 : ¬cond0_1 i) (hc2 : cond0_2 i) :
    out0_C_11 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => dx1 (dh x0 x1 x2 xs0 xs1 xs2) x5 x6 x4 x3 (j 0) (j 1) := by
  unfold out0_C_11
  refine read_writes_blocks _ _ _ _ ?_ fun y hy => absurd (cover0_C_11 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 y) fun ⟨p, hp, hm⟩ => hy p hp hm
  unfold kernelRun0_C
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  unfold_payloads
  refine ⟨?_, trivial⟩
  intro x
  idx_vars x
  pointwise [Common.emb_norm]
  rfl

theorem out12_C (hc0 : ¬cond0_0 i) (hc1 : ¬cond0_1 i) (hc2 : cond0_2 i) :
    out0_C_12 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => x3 (ix3 0 2 (j 1)) * dx1 (dh x0 x1 x2 xs0 xs1 xs2) x5 x6 x4 x3 (j 0) (j 1) := by
  unfold out0_C_12
  refine read_writes_blocks _ _ _ _ ?_ fun y hy => absurd (cover0_C_12 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 y) fun ⟨p, hp, hm⟩ => hy p hp hm
  unfold kernelRun0_C
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  unfold_payloads
  refine ⟨?_, trivial⟩
  intro x
  idx_vars x
  pointwise [Common.emb_norm]
  rfl

theorem out13_C (hc0 : ¬cond0_0 i) (hc1 : ¬cond0_1 i) (hc2 : cond0_2 i) :
    out0_C_13 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => xo13 j + dgAdd (dh x0 x1 x2 xs0 xs1 xs2) x5 x3 (j 0) (j 1) := by
  unfold out0_C_13
  unfold kernelRun0_C
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  refine read_writes_blocks _ _ [_] _ ?_ fun y hy => ?_
  · unfold_payloads
    refine ⟨?_, trivial⟩
    all_goals
      intro x
      idx_vars x
      pointwise [Common.emb_norm]
      first | rfl | (simp only [zero_add]; rfl)
  · have n0 : ¬@Eq (Fin 8) (y 0) 0 := fun h => hy _ List.mem_cons_self (mem_row2 0 inb_S8x1024_S1x1024_0_0 y h)
    rw [h17.read_unread]
    simp only [dgAdd, n0, if_false, add_zero]

theorem out14_C (hc0 : ¬cond0_0 i) (hc1 : ¬cond0_1 i) (hc2 : cond0_2 i) :
    out0_C_14 c i a1 h1 a2 h2 a3 h3 a4 h4 a5 h5 a6 h6 a7 h7 a8 h8 a12 h12 a13 h13 a14 h14 a15 h15 a16 h16 a17 h17 a18 h18 a19 h19 a20 h20 a21 h21 x0 x1 x2 x3 x4 x5 x6 x7 xo13 xs0 xs1 xs2 fh0 fh1 fh2 hc0 hc1 hc2 = fun j => dmAdd (dh x0 x1 x2 xs0 xs1 xs2) x5 x6 x4 x3 x7 (j 1) (j 2) := by
  unfold out0_C_14
  unfold kernelRun0_C
  dsimp only
  sl_unfold_words
  simp only [View.readAt_eq_ld, h1.read_unread, h2.read_unread, h3.read_unread, h4.read_unread, h5.read_unread, h6.read_unread, h7.read_unread, h8.read_unread, h17.read_unread, h18.read_unread, h19.read_unread, h20.read_unread, h21.read_unread]
  simp (disch := decide) only [↓View.readCov_skip, ↓View.readCov_fill]
  generalize hD : k0_pay136 (F := Ideal) _ _ _ _ _ _ _ _ = D
  replace hD : D = fun j => dh x0 x1 x2 xs0 xs1 xs2 (j 0) (j 1) := hD.symm.trans (dhVec_eq x0 x1 x2 xs0 xs1 xs2)
  subst hD
  refine read_writes_over_fill _ _ _ (by funext a; fin_cases a <;> rfl) _ [_, _, _] _ ?_ fun y hy => ?_
  · unfold_payloads
    refine ⟨?_, ?_, ?_, trivial⟩
    all_goals
      intro x
      idx_vars x
      pointwise [Common.emb_norm]
      first | rfl | (simp only [zero_add]; rfl)
  · have n0 : ¬@Eq (Fin 8) (y 1) 0 := fun h => hy _ (List.mem_cons_of_mem _ (List.mem_cons_of_mem _ List.mem_cons_self)) (mem_row3 0 inb_S1x8x1024_S1x1x1024_0_0_0 y h)
    have n1 : ¬@Eq (Fin 8) (y 1) 1 := fun h => hy _ (List.mem_cons_of_mem _ List.mem_cons_self) (mem_row3 1 inb_S1x8x1024_S1x1x1024_0_1_0 y h)
    have n2 : ¬@Eq (Fin 8) (y 1) 2 := fun h => hy _ List.mem_cons_self (mem_row3 2 inb_S1x8x1024_S1x1x1024_0_2_0 y h)
    simp only [dmAdd, n0, n1, n2, if_false]
    unfold_payloads
    idx_vars y
    pointwise

end Cases
end Cert.FfnBwdIdeal.Own
end
-- ==== Proof.FfnBwdBlocks.lean ====
module
public import proofs.«01_k».proof.Defs
public import proofs.«01_k».proof.Proof.Common
public import proofs.«01_k».proof.Proof.Layer
public import proofs.«01_k».proof.Proof.FfnBwdMath
public import Idealize.ShloMosaic.Lib.KernelVsHost

/-! The blocks a point reads, as the arguments' tokens. -/

@[expose] public section
set_option maxRecDepth 16384
set_option maxHeartbeats 2000000
noncomputable section
namespace Cert.FfnBwdIdeal.Own
open Cert.FfnBwdIdeal Cert.FfnBwdIdeal.Gen Idealize.ShloMosaic Idealize.ShloMosaic.TcCoe Idealize.SL.Sem Cert.Common
variable (m : (ℓ : Loc nD τ sig) → Buf (Elt Ideal) ℓ)

/-- The call's arguments. -/
abbrev aX (c : Dev nD) : Vec Ideal S4x2048x1024 .f32 := m ((c : Thread nD τ).loc main_arg0)
abbrev aY (c : Dev nD) : Vec Ideal S4x2048x1024 .f32 := m ((c : Thread nD τ).loc main_arg1)
abbrev aMi (c : Dev nD) : Vec Ideal S4x2048x1024 .f32 := m ((c : Thread nD τ).loc main_arg2)
abbrev aMo (c : Dev nD) : Vec Ideal S4x6x1024 .f32 := m ((c : Thread nD τ).loc main_arg3)
abbrev aG (c : Dev nD) : Vec Ideal S1x1024 .f32 := m ((c : Thread nD τ).loc main_arg4)
abbrev aWg (c : Dev nD) : Vec Ideal S1024x2816 .f32 := m ((c : Thread nD τ).loc main_arg5)
abbrev aWu (c : Dev nD) : Vec Ideal S1024x2816 .f32 := m ((c : Thread nD τ).loc main_arg6)
abbrev aWd (c : Dev nD) : Vec Ideal S2816x1024 .f32 := m ((c : Thread nD τ).loc main_arg7)

/-- Row `r` of point `t`'s block of tokens. -/
def tok (t : Fin cfg0.N) (r : Fin 256) : Fin 8192 := ⟨256 * t.val + r.val, by have : t.val < 32 := lt_of_lt_of_eq t.isLt N_0; omega⟩

theorem ent35 (c : Dev nD) (n : Fin 8192) (q : Fin 1024) : (V m c main_v35 : Vec Ideal S8192x1024 .bf16) (ix2 n q) = dfT (aY m c) (aMo m c) (seqOf n) (posOf n) q := by
  unfold V hostOps0 hostOps0_1 hostOps0_2
  simp only [List.flatten_cons, List.flatten_nil, List.cons_append, List.nil_append, List.append_nil]
  entry_read
  pointwise
  rfl

theorem ent38 (c : Dev nD) (s : Fin 11) (n : Fin 8192) (k : Fin 256) : (V m c main_v38 : Vec Ideal S11x8192x256 .bf16) (ix3 s n k) = gaT (aX m c) (aMo m c) (aG m c) (aWg m c) (seqOf n) (posOf n) (row s k) := by
  unfold V hostOps0 hostOps0_1 hostOps0_2
  simp only [List.flatten_cons, List.flatten_nil, List.cons_append, List.nil_append, List.append_nil]
  entry_read
  pointwise
  rfl

theorem ent41 (c : Dev nD) (s : Fin 11) (n : Fin 8192) (k : Fin 256) : (V m c main_v41 : Vec Ideal S11x8192x256 .bf16) (ix3 s n k) = uT (aX m c) (aMo m c) (aG m c) (aWu m c) (seqOf n) (posOf n) (row s k) := by
  unfold V hostOps0 hostOps0_1 hostOps0_2
  simp only [List.flatten_cons, List.flatten_nil, List.cons_append, List.nil_append, List.append_nil]
  entry_read
  pointwise
  rfl

theorem ent33_4 (c : Dev nD) (b : Fin 4) (q : Fin 1024) : (V m c main_v33 : Vec Ideal S4x8x1024 .f32) (ix3 b 4 q) = aMo m c (ix3 b 4 q) := by
  unfold V hostOps0 hostOps0_1 hostOps0_2
  simp only [List.flatten_cons, List.flatten_nil, List.cons_append, List.nil_append, List.append_nil]
  entry_read
  refine pad_apply_of_inside (t := S4x8x1024) ![0, 0, 0] ![0, 2, 0] ![0, 0, 0] (aMo m c) (sitofp (F := Ideal) FTy.f32 (constantI S_ 32 0#32)) pads_S4x6x1024_S4x8x1024_000_020_000 h_S_ (ix3 b 4 q) (ix3 b 4 q) ?_
  intro i
  fin_cases i <;> simp [ix3]

theorem ent33_2 (c : Dev nD) (b : Fin 4) (q : Fin 1024) : (V m c main_v33 : Vec Ideal S4x8x1024 .f32) (ix3 b 2 q) = aMo m c (ix3 b 2 q) := by
  unfold V hostOps0 hostOps0_1 hostOps0_2
  simp only [List.flatten_cons, List.flatten_nil, List.cons_append, List.nil_append, List.append_nil]
  entry_read
  refine pad_apply_of_inside (t := S4x8x1024) ![0, 0, 0] ![0, 2, 0] ![0, 0, 0] (aMo m c) (sitofp (F := Ideal) FTy.f32 (constantI S_ 32 0#32)) pads_S4x6x1024_S4x8x1024_000_020_000 h_S_ (ix3 b 2 q) (ix3 b 2 q) ?_
  intro i
  fin_cases i <;> simp [ix3]

theorem ent47 (c : Dev nD) (n : Fin 8192) (q : Fin 1024) : (V m c main_v47 : Vec Ideal S8192x1024 .f32) (ix2 n q) = aX m c (ix3 (seqOf n) (posOf n) q) := by
  unfold V hostOps0 hostOps0_1 hostOps0_2
  simp only [List.flatten_cons, List.flatten_nil, List.cons_append, List.nil_append, List.append_nil]
  entry_read
  pointwise
  rfl

theorem ent48 (c : Dev nD) (n : Fin 8192) (q : Fin 1024) : (V m c main_v48 : Vec Ideal S8192x1024 .f32) (ix2 n q) = aY m c (ix3 (seqOf n) (posOf n) q) := by
  unfold V hostOps0 hostOps0_1 hostOps0_2
  simp only [List.flatten_cons, List.flatten_nil, List.cons_append, List.nil_append, List.append_nil]
  entry_read
  pointwise
  rfl

theorem ent50 (c : Dev nD) (n : Fin 8192) (q : Fin 1024) : (V m c main_v50 : Vec Ideal S8192x1024 .bf16) (ix2 n q) = aMi m c (ix3 (seqOf n) (posOf n) q) := by
  unfold V hostOps0 hostOps0_1 hostOps0_2
  simp only [List.flatten_cons, List.flatten_nil, List.cons_append, List.nil_append, List.append_nil]
  entry_read
  pointwise
  rfl

theorem entG (c : Dev nD) (q : Fin 1024) : (V m c main_arg4 : Vec Ideal S1x1024 .f32) (ix2 0 q) = aG m c (ix2 0 q) := by
  unfold V hostOps0 hostOps0_1 hostOps0_2
  simp only [List.flatten_cons, List.flatten_nil, List.cons_append, List.nil_append, List.append_nil]
  entry_read
  pointwise

theorem entWg (c : Dev nD) (p : Fin 2816) (q : Fin 1024) : (V m c main_v43 : Vec Ideal S2816x1024 .bf16) (ix2 p q) = aWg m c (ix2 q p) := by
  unfold V hostOps0 hostOps0_1 hostOps0_2
  simp only [List.flatten_cons, List.flatten_nil, List.cons_append, List.nil_append, List.append_nil]
  entry_read
  pointwise

theorem entWu (c : Dev nD) (p : Fin 2816) (q : Fin 1024) : (V m c main_v45 : Vec Ideal S2816x1024 .bf16) (ix2 p q) = aWu m c (ix2 q p) := by
  unfold V hostOps0 hostOps0_1 hostOps0_2
  simp only [List.flatten_cons, List.flatten_nil, List.cons_append, List.nil_append, List.append_nil]
  entry_read
  pointwise

theorem entWd (c : Dev nD) (p : Fin 2816) (q : Fin 1024) : (V m c main_v46 : Vec Ideal S2816x1024 .bf16) (ix2 p q) = aWd m c (ix2 p q) := by
  unfold V hostOps0 hostOps0_1 hostOps0_2
  simp only [List.flatten_cons, List.flatten_nil, List.cons_append, List.nil_append, List.append_nil]
  entry_read
  pointwise

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![t.val / 8, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

theorem blk0 (c : Dev nD) (t : Fin cfg0.N) (r : Fin 256) (q : Fin 1024) : (iblk m c 0 t : Vec Ideal S256x1024 .bf16) (ix2 r q) = dfT (aY m c) (aMo m c) (seqOf (tok t r)) (posOf (tok t r)) q := by
  have ht : t.val < 32 := lt_of_lt_of_eq t.isLt N_0
  refine Eq.trans (b := (V m c main_v35 : Vec Ideal S8192x1024 .bf16) (ix2 (tok t r) q)) ?_ (ent35 m c _ _)
  blk_simp [iblk, idx0 t]
  unfold tok
  blk_ext [idx0 t]

theorem blk1 (c : Dev nD) (t : Fin cfg0.N) (s : Fin 11) (r k : Fin 256) : (iblk m c 1 t : Vec Ideal S11x256x256 .bf16) (ix3 s r k) = gaT (aX m c) (aMo m c) (aG m c) (aWg m c) (seqOf (tok t r)) (posOf (tok t r)) (row s k) := by
  have ht : t.val < 32 := lt_of_lt_of_eq t.isLt N_0
  refine Eq.trans (b := (V m c main_v38 : Vec Ideal S11x8192x256 .bf16) (ix3 s (tok t r) k)) ?_ (ent38 m c _ _ _)
  blk_simp [iblk, idx1 t]
  unfold tok
  blk_ext [idx1 t]

theorem blk2 (c : Dev nD) (t : Fin cfg0.N) (s : Fin 11) (r k : Fin 256) : (iblk m c 2 t : Vec Ideal S11x256x256 .bf16) (ix3 s r k) = uT (aX m c) (aMo m c) (aG m c) (aWu m c) (seqOf (tok t r)) (posOf (tok t r)) (row s k) := by
  have ht : t.val < 32 := lt_of_lt_of_eq t.isLt N_0
  refine Eq.trans (b := (V m c main_v41 : Vec Ideal S11x8192x256 .bf16) (ix3 s (tok t r) k)) ?_ (ent41 m c _ _ _)
  blk_simp [iblk, idx2 t]
  unfold tok
  blk_ext [idx2 t]

theorem blk3_2 (c : Dev nD) (t : Fin cfg0.N) (r : Fin 256) (q : Fin 1024) : (iblk m c 3 t : Vec Ideal S1x8x1024 .f32) (ix3 0 2 q) = aMo m c (ix3 (seqOf (tok t r)) 2 q) := by
  have ht : t.val < 32 := lt_of_lt_of_eq t.isLt N_0
  refine Eq.trans (b := (V m c main_v33 : Vec Ideal S4x8x1024 .f32) (ix3 (seqOf (tok t r)) 2 q)) ?_ (ent33_2 m c _ _)
  blk_simp [iblk, idx3 t]
  unfold tok seqOf
  blk_ext [idx3 t]

theorem blk3_4 (c : Dev nD) (t : Fin cfg0.N) (r : Fin 256) (q : Fin 1024) : (iblk m c 3 t : Vec Ideal S1x8x1024 .f32) (ix3 0 4 q) = aMo m c (ix3 (seqOf (tok t r)) 4 q) := by
  have ht : t.val < 32 := lt_of_lt_of_eq t.isLt N_0
  refine Eq.trans (b := (V m c main_v33 : Vec Ideal S4x8x1024 .f32) (ix3 (seqOf (tok t r)) 4 q)) ?_ (ent33_4 m c _ _)
  blk_simp [iblk, idx3 t]
  unfold tok seqOf
  blk_ext [idx3 t]

theorem blk4 (c : Dev nD) (t : Fin cfg0.N) (q : Fin 1024) : (iblk m c 4 t : Vec Ideal S1x1024 .f32) (ix2 0 q) = aG m c (ix2 0 q) := by
  have ht : t.val < 32 := lt_of_lt_of_eq t.isLt N_0
  refine Eq.trans (b := (V m c main_arg4 : Vec Ideal S1x1024 .f32) (ix2 0 q)) ?_ (entG m c _)
  blk_simp [iblk, idx4 t]

  blk_ext [idx4 t]

theorem blk5 (c : Dev nD) (t : Fin cfg0.N) (r : Fin 256) (q : Fin 1024) : (iblk m c 5 t : Vec Ideal S256x1024 .f32) (ix2 r q) = aX m c (ix3 (seqOf (tok t r)) (posOf (tok t r)) q) := by
  have ht : t.val < 32 := lt_of_lt_of_eq t.isLt N_0
  refine Eq.trans (b := (V m c main_v47 : Vec Ideal S8192x1024 .f32) (ix2 (tok t r) q)) ?_ (ent47 m c _ _)
  blk_simp [iblk, idx5 t]
  unfold tok
  blk_ext [idx5 t]

theorem blk6 (c : Dev nD) (t : Fin cfg0.N) (r : Fin 256) (q : Fin 1024) : (iblk m c 6 t : Vec Ideal S256x1024 .f32) (ix2 r q) = aY m c (ix3 (seqOf (tok t r)) (posOf (tok t r)) q) := by
  have ht : t.val < 32 := lt_of_lt_of_eq t.isLt N_0
  refine Eq.trans (b := (V m c main_v48 : Vec Ideal S8192x1024 .f32) (ix2 (tok t r) q)) ?_ (ent48 m c _ _)
  blk_simp [iblk, idx6 t]
  unfold tok
  blk_ext [idx6 t]

theorem blk7 (c : Dev nD) (t : Fin cfg0.N) (r : Fin 256) (q : Fin 1024) : (iblk m c 7 t : Vec Ideal S256x1024 .bf16) (ix2 r q) = aMi m c (ix3 (seqOf (tok t r)) (posOf (tok t r)) q) := by
  have ht : t.val < 32 := lt_of_lt_of_eq t.isLt N_0
  refine Eq.trans (b := (V m c main_v50 : Vec Ideal S8192x1024 .bf16) (ix2 (tok t r) q)) ?_ (ent50 m c _ _)
  blk_simp [iblk, idx7 t]
  unfold tok
  blk_ext [idx7 t]

end Cert.FfnBwdIdeal.Own
end
-- ==== Proof.FfnBwdValue.lean ====
module
public import proofs.«01_k».proof.Defs
public import proofs.«01_k».proof.Proof.Common
public import proofs.«01_k».proof.Proof.Layer
public import proofs.«01_k».proof.Proof.FfnBwdMath
public import proofs.«01_k».proof.Proof.FfnBwdPoint
public import proofs.«01_k».proof.Proof.FfnBwdBlocks

/-! What the points leave, as functions of the arguments. -/

@[expose] public section
set_option maxRecDepth 16384
set_option maxHeartbeats 2000000
noncomputable section
namespace Cert.FfnBwdIdeal.Own
open Cert.FfnBwdIdeal Cert.FfnBwdIdeal.Gen Idealize.ShloMosaic Idealize.ShloMosaic.TcCoe Idealize.SL.Sem Cert.Common
variable (m : (ℓ : Loc nD τ sig) → Buf (Elt Ideal) ℓ)

def W0 (c : Dev nD) : Vec Ideal S2816x1024 .bf16 := wt0 c (V m c main_v43)
def W1 (c : Dev nD) : Vec Ideal S2816x1024 .bf16 := wt1 c (V m c main_v45)
def W2 (c : Dev nD) : Vec Ideal S2816x1024 .bf16 := wt2 c (V m c main_v46)
theorem W0_apply (c : Dev nD) (p : Fin 2816) (q : Fin 1024) : W0 m c (ix2 p q) = aWg m c (ix2 q p) := entWg m c p q
theorem W1_apply (c : Dev nD) (p : Fin 2816) (q : Fin 1024) : W1 m c (ix2 p q) = aWu m c (ix2 q p) := entWu m c p q
theorem W2_apply (c : Dev nD) (p : Fin 2816) (q : Fin 1024) : W2 m c (ix2 p q) = aWd m c (ix2 p q) := entWd m c p q

/-- The blocks point `t` reads. -/
def b0 (c : Dev nD) (t : Fin cfg0.N) : Vec Ideal S256x1024 .bf16 := iblk m c 0 t
def b1 (c : Dev nD) (t : Fin cfg0.N) : Vec Ideal S11x256x256 .bf16 := iblk m c 1 t
def b2 (c : Dev nD) (t : Fin cfg0.N) : Vec Ideal S11x256x256 .bf16 := iblk m c 2 t
def b3 (c : Dev nD) (t : Fin cfg0.N) : Vec Ideal S1x8x1024 .f32 := iblk m c 3 t
def b4 (c : Dev nD) (t : Fin cfg0.N) : Vec Ideal S1x1024 .f32 := iblk m c 4 t
def b5 (c : Dev nD) (t : Fin cfg0.N) : Vec Ideal S256x1024 .f32 := iblk m c 5 t
def b6 (c : Dev nD) (t : Fin cfg0.N) : Vec Ideal S256x1024 .f32 := iblk m c 6 t
def b7 (c : Dev nD) (t : Fin cfg0.N) : Vec Ideal S256x1024 .bf16 := iblk m c 7 t

/-- The cotangent of the normed input over point `t`'s block of tokens. -/
def D (c : Dev nD) (t : Fin cfg0.N) : Fin 256 → Fin 1024 → EReal := dh (b0 m c t) (b1 m c t) (b2 m c t) (W0 m c) (W1 m c) (W2 m c)
/-- What point `t` adds to the two sums. -/
def add13 (c : Dev nD) (t : Fin cfg0.N) (j : S8x1024.Idx) : EReal := dgAdd (D m c t) (b5 m c t) (b3 m c t) (j 0) (j 1)
def add14 (c : Dev nD) (t : Fin cfg0.N) (j : S1x8x1024.Idx) : EReal :=
  dmAdd (D m c t) (b5 m c t) (b6 m c t) (b4 m c t) (b3 m c t) (b7 m c t) (j 1) (j 2)

/-- What point `t` leaves, its two sums being `s13` and `s14`. -/
abbrev leaves (c : Dev nD) (t : Fin cfg0.N) (s13 : Vec Ideal S8x1024 .f32) (s14 : Vec Ideal S1x8x1024 .f32) :
    Vec Ideal S11x256x256 .bf16 × Vec Ideal S11x256x256 .bf16 × Vec Ideal S11x256x256 .bf16 × Vec Ideal S256x1024 .f32 × Vec Ideal S256x1024 .bf16
      × Vec Ideal S8x1024 .f32 × Vec Ideal S1x8x1024 .f32 × Vec Ideal S2816x1024 .bf16 × Vec Ideal S2816x1024 .bf16 × Vec Ideal S2816x1024 .bf16 :=
  (fun j => dgate (b0 m c t) (b1 m c t) (b2 m c t) (W2 m c) (j 0) (j 1) (j 2),
   fun j => dup (b0 m c t) (b1 m c t) (W2 m c) (j 0) (j 1) (j 2),
   fun j => act (b1 m c t) (b2 m c t) (j 0) (j 1) (j 2),
   fun j => dx1 (D m c t) (b5 m c t) (b6 m c t) (b4 m c t) (b3 m c t) (j 0) (j 1),
   fun j => b3 m c t (ix3 0 2 (j 1)) * dx1 (D m c t) (b5 m c t) (b6 m c t) (b4 m c t) (b3 m c t) (j 0) (j 1),
   s13, s14, W0 m c, W1 m c, W2 m c)

theorem pointA_eq (c : Dev nD) (t : Fin cfg0.N) (h0 : t.val % 32 = 0) (h2 : t.val % 8 = 0) :
    pointA m c t h0 h0 h2 = leaves m c t (add13 m c t) (add14 m c t) :=
  congrArg₂ Prod.mk (out8_A ..) <| congrArg₂ Prod.mk (out9_A ..) <| congrArg₂ Prod.mk (out10_A ..) <| congrArg₂ Prod.mk (out11_A ..) <|
    congrArg₂ Prod.mk (out12_A ..) <| congrArg₂ Prod.mk (out13_A ..) <| congrArg₂ Prod.mk (out14_A ..) <| congrArg₂ Prod.mk (sout0_A ..) <|
    congrArg₂ Prod.mk (sout1_A ..) (sout2_A ..)

theorem pointB_eq (c : Dev nD) (t t' : Fin cfg0.N) (h0 : ¬t.val % 32 = 0) (h2 : ¬t.val % 8 = 0) (s13 : Vec Ideal S8x1024 .f32) (s14 : Vec Ideal S1x8x1024 .f32) :
    pointB m c t h0 h0 h2 (leaves m c t' s13 s14) = leaves m c t (fun j => s13 j + add13 m c t j) (fun j => s14 j + add14 m c t j) :=
  congrArg₂ Prod.mk (out8_B ..) <| congrArg₂ Prod.mk (out9_B ..) <| congrArg₂ Prod.mk (out10_B ..) <| congrArg₂ Prod.mk (out11_B ..) <|
    congrArg₂ Prod.mk (out12_B ..) <| congrArg₂ Prod.mk (out13_B ..) <| congrArg₂ Prod.mk (out14_B ..) rfl

theorem pointC_eq (c : Dev nD) (t t' : Fin cfg0.N) (h0 : ¬t.val % 32 = 0) (h2 : t.val % 8 = 0) (s13 : Vec Ideal S8x1024 .f32) (s14 : Vec Ideal S1x8x1024 .f32) :
    pointC m c t h0 h0 h2 (leaves m c t' s13 s14) = leaves m c t (fun j => s13 j + add13 m c t j) (add14 m c t) :=
  congrArg₂ Prod.mk (out8_C ..) <| congrArg₂ Prod.mk (out9_C ..) <| congrArg₂ Prod.mk (out10_C ..) <| congrArg₂ Prod.mk (out11_C ..) <|
    congrArg₂ Prod.mk (out12_C ..) <| congrArg₂ Prod.mk (out13_C ..) <| congrArg₂ Prod.mk (out14_C ..) rfl

/-- Every point leaves its block's forms and keeps the weights. -/
theorem leaves_of (c : Dev nD) : ∀ (n : ℕ) (h : n < cfg0.N), outsAt0 m c n h
    = leaves m c ⟨n, h⟩ (outsAt0 m c n h).2.2.2.2.2.1 (outsAt0 m c n h).2.2.2.2.2.2.1 := by
  intro n
  induction n with
  | zero =>
    intro h
    exact (outsAt0_A m c ⟨0, h⟩ (Nat.zero_mod _) (Nat.zero_mod _) (Nat.zero_mod _)).trans (pointA_eq m c ⟨0, h⟩ _ _) |>.trans (by rw [outsAt0_A m c ⟨0, h⟩ (Nat.zero_mod _) (Nat.zero_mod _) (Nat.zero_mod _), pointA_eq])
  | succ n ih =>
    intro h
    have hn : n < cfg0.N := Nat.lt_of_succ_lt h
    by_cases h0 : (n + 1) % 32 = 0
    · rw [outsAt0_A m c ⟨n + 1, h⟩ h0 h0 (by change (n + 1) % 8 = 0; omega), pointA_eq]
    · by_cases h2 : (n + 1) % 8 = 0
      · rw [outsAt0_C m c ⟨n + 1, h⟩ h0 h0 h2]
        change pointC m c ⟨n + 1, h⟩ h0 h0 h2 (outsAt0 m c n hn) = leaves m c ⟨n + 1, h⟩ (pointC m c ⟨n + 1, h⟩ h0 h0 h2 (outsAt0 m c n hn)).2.2.2.2.2.1
          (pointC m c ⟨n + 1, h⟩ h0 h0 h2 (outsAt0 m c n hn)).2.2.2.2.2.2.1
        rw [ih hn, pointC_eq]
      · rw [outsAt0_B m c ⟨n + 1, h⟩ h0 h0 h2]
        change pointB m c ⟨n + 1, h⟩ h0 h0 h2 (outsAt0 m c n hn) = leaves m c ⟨n + 1, h⟩ (pointB m c ⟨n + 1, h⟩ h0 h0 h2 (outsAt0 m c n hn)).2.2.2.2.2.1
          (pointB m c ⟨n + 1, h⟩ h0 h0 h2 (outsAt0 m c n hn)).2.2.2.2.2.2.1
        rw [ih hn, pointB_eq]

theorem sum13_A (c : Dev nD) (t : Fin cfg0.N) (h0 : t.val % 32 = 0) : (outsAt0 m c t.val t.isLt).2.2.2.2.2.1 = add13 m c t := by
  rw [outsAt0_A m c t h0 h0 (by omega), pointA_eq]
theorem sum13_BC (c : Dev nD) (t : Fin cfg0.N) (h0 : ¬t.val % 32 = 0) : (outsAt0 m c t.val t.isLt).2.2.2.2.2.1
    = fun j => (outsAt0 m c (t.val - 1) (Nat.lt_of_le_of_lt (Nat.sub_le _ _) t.isLt)).2.2.2.2.2.1 j + add13 m c t j := by
  by_cases h2 : t.val % 8 = 0
  · rw [outsAt0_C m c t h0 h0 h2, leaves_of m c (t.val - 1), pointC_eq]
  · rw [outsAt0_B m c t h0 h0 h2, leaves_of m c (t.val - 1), pointB_eq]
theorem sum14_AC (c : Dev nD) (t : Fin cfg0.N) (h2 : t.val % 8 = 0) : (outsAt0 m c t.val t.isLt).2.2.2.2.2.2.1 = add14 m c t := by
  by_cases h0 : t.val % 32 = 0
  · rw [outsAt0_A m c t h0 h0 h2, pointA_eq]
  · rw [outsAt0_C m c t h0 h0 h2, leaves_of m c (t.val - 1), pointC_eq]
theorem sum14_B (c : Dev nD) (t : Fin cfg0.N) (h2 : ¬t.val % 8 = 0) : (outsAt0 m c t.val t.isLt).2.2.2.2.2.2.1
    = fun j => (outsAt0 m c (t.val - 1) (Nat.lt_of_le_of_lt (Nat.sub_le _ _) t.isLt)).2.2.2.2.2.2.1 j + add14 m c t j := by
  have h0 : ¬t.val % 32 = 0 := by omega
  rw [outsAt0_B m c t h0 h0 h2, leaves_of m c (t.val - 1), pointB_eq]

/-! A point's forms as the arguments' tokens. -/

section Tokens
variable (c : Dev nD) (t : Fin cfg0.N)
abbrev sq (t : Fin cfg0.N) (r : Fin 256) : Fin 4 := seqOf (tok t r)
abbrev ps (t : Fin cfg0.N) (r : Fin 256) : Fin 2048 := posOf (tok t r)

theorem b0_tok (r : Fin 256) (q : Fin 1024) : b0 m c t (ix2 r q) = dfT (aY m c) (aMo m c) (sq t r) (ps t r) q := blk0 m c t r q
theorem b1_tok (s : Fin 11) (r k : Fin 256) : b1 m c t (ix3 s r k) = gaT (aX m c) (aMo m c) (aG m c) (aWg m c) (sq t r) (ps t r) (row s k) := blk1 m c t s r k
theorem b2_tok (s : Fin 11) (r k : Fin 256) : b2 m c t (ix3 s r k) = uT (aX m c) (aMo m c) (aG m c) (aWu m c) (sq t r) (ps t r) (row s k) := blk2 m c t s r k
theorem b32_tok (r : Fin 256) (q : Fin 1024) : b3 m c t (ix3 0 2 q) = aMo m c (ix3 (sq t r) 2 q) := blk3_2 m c t r q
theorem b34_tok (r : Fin 256) (q : Fin 1024) : b3 m c t (ix3 0 4 q) = aMo m c (ix3 (sq t r) 4 q) := blk3_4 m c t r q
theorem b4_tok (q : Fin 1024) : b4 m c t (ix2 0 q) = aG m c (ix2 0 q) := blk4 m c t q
theorem b5_tok (r : Fin 256) (q : Fin 1024) : b5 m c t (ix2 r q) = aX m c (ix3 (sq t r) (ps t r) q) := blk5 m c t r q
theorem b6_tok (r : Fin 256) (q : Fin 1024) : b6 m c t (ix2 r q) = aY m c (ix3 (sq t r) (ps t r) q) := blk6 m c t r q
theorem b7_tok (r : Fin 256) (q : Fin 1024) : b7 m c t (ix2 r q) = aMi m c (ix3 (sq t r) (ps t r) q) := blk7 m c t r q

theorem dact_tok (s : Fin 11) (r k : Fin 256) : dact (b0 m c t) (W2 m c) s r k = dactT (aY m c) (aMo m c) (aWd m c) (sq t r) (ps t r) (row s k) := by
  simp only [dact, b0_tok, W2_apply, dactT]
theorem dgate_tok (s : Fin 11) (r k : Fin 256) : dgate (b0 m c t) (b1 m c t) (b2 m c t) (W2 m c) s r k = dgT (aX m c) (aY m c) (aMo m c) (aG m c) (aWg m c) (aWu m c) (aWd m c) (sq t r) (ps t r) (row s k) := by
  simp only [dgate, dact_tok, b1_tok, b2_tok, dgT]
theorem dup_tok (s : Fin 11) (r k : Fin 256) : dup (b0 m c t) (b1 m c t) (W2 m c) s r k
    = duT (aX m c) (aY m c) (aMo m c) (aG m c) (aWg m c) (aWd m c) (sq t r) (ps t r) (row s k) := by
  simp only [dup, dact_tok, b1_tok, duT]
theorem act_tok (s : Fin 11) (r k : Fin 256) : act (b1 m c t) (b2 m c t) s r k
    = actT (aX m c) (aMo m c) (aG m c) (aWg m c) (aWu m c) (sq t r) (ps t r) (row s k) := by
  simp only [act, b1_tok, b2_tok, actT]
theorem dh_tok (r : Fin 256) (q : Fin 1024) : D m c t r q = dhT (aX m c) (aY m c) (aMo m c) (aG m c) (aWg m c) (aWu m c) (aWd m c) (sq t r) (ps t r) q := by
  simp only [D, dh, dgate_tok, dup_tok, W0_apply, W1_apply, dhT]
theorem rs_tok (r : Fin 256) : rs (b5 m c t) r = rsT (aX m c) (sq t r) (ps t r) := by
  simp only [rs, b5_tok, rsT]
theorem dxh_tok (r : Fin 256) (q : Fin 1024) : dxh (D m c t) (b4 m c t) (b3 m c t) r q = dxhT (aX m c) (aY m c) (aMo m c) (aG m c) (aWg m c) (aWu m c) (aWd m c) (sq t r) (ps t r) q := by
  simp only [dxh, dh_tok, b34_tok m c t r, b4_tok, dxhT]
theorem dx1_tok (r : Fin 256) (q : Fin 1024) : dx1 (D m c t) (b5 m c t) (b6 m c t) (b4 m c t) (b3 m c t) r q = dx1T (aX m c) (aY m c) (aMo m c) (aG m c) (aWg m c) (aWu m c) (aWd m c) (sq t r) (ps t r) q := by
  simp only [dx1, dxh_tok, rs_tok, b5_tok, b6_tok, dx1T]

theorem flat_tok (g : Fin 4 → Fin 2048 → EReal) (r : Fin 256) : g (sq t r) (ps t r) = flat g (256 * t.val + r.val) := by
  have ht : t.val < 32 := lt_of_lt_of_eq t.isLt N_0
  have e : sq t r = ⟨(256 * t.val + r.val) / 2048 % 4, by omega⟩ := Fin.ext (by simp only [sq, seqOf, tok]; omega)
  rw [e]
  rfl

/-- Per-token terms of the sums' rows. -/
def g13 (a : Fin 8) (q : Fin 1024) (b : Fin 4) (p : Fin 2048) : EReal :=
  if a = 0 then dgnT (aX m c) (aY m c) (aMo m c) (aG m c) (aWg m c) (aWu m c) (aWd m c) b p q else 0
def g14 (a : Fin 8) (q : Fin 1024) (b : Fin 4) (p : Fin 2048) : EReal :=
  if a = 0 then dhT (aX m c) (aY m c) (aMo m c) (aG m c) (aWg m c) (aWu m c) (aWd m c) b p q
  else if a = 1 then dscT (aX m c) (aY m c) (aMo m c) (aG m c) (aWg m c) (aWu m c) (aWd m c) b p q
  else if a = 2 then dgmT (aX m c) (aY m c) (aMi m c) (aMo m c) (aG m c) (aWg m c) (aWu m c) (aWd m c) b p q else 0

theorem dgAdd_tok (a : Fin 8) (q : Fin 1024) : dgAdd (D m c t) (b5 m c t) (b3 m c t) a q = ∑ r : Fin 256, g13 m c a q (sq t r) (ps t r) := by
  by_cases h : a = 0
  · simp only [dgAdd, g13, if_pos h, dgnT]
    refine Finset.sum_congr rfl fun r _ => ?_
    rw [dh_tok, rs_tok, b34_tok m c t r, b5_tok]
  · simp only [dgAdd, g13, if_neg h, Finset.sum_const_zero]
theorem dmAdd_tok (a : Fin 8) (q : Fin 1024) : dmAdd (D m c t) (b5 m c t) (b6 m c t) (b4 m c t) (b3 m c t) (b7 m c t) a q = ∑ r : Fin 256, g14 m c a q (sq t r) (ps t r) := by
  by_cases h : a = 0
  · simp only [dmAdd, g14, if_pos h, dh_tok]
  by_cases h1 : a = 1
  · simp only [dmAdd, g14, if_neg h, if_pos h1, dh_tok, rs_tok, b4_tok, b5_tok, dscT]
  by_cases h2 : a = 2
  · simp only [dmAdd, g14, if_neg h, if_neg h1, if_pos h2, dx1_tok, b7_tok, dgmT]
  · simp only [dmAdd, g14, if_neg h, if_neg h1, if_neg h2, Finset.sum_const_zero]
theorem add13_tok (j : S8x1024.Idx) : add13 m c t j = ∑ r : Fin 256, flat (g13 m c (j 0) (j 1)) (256 * t.val + r.val) := by
  simp only [← flat_tok]
  exact dgAdd_tok m c t (j 0) (j 1)
theorem add14_tok (j : S1x8x1024.Idx) : add14 m c t j = ∑ r : Fin 256, flat (g14 m c (j 1) (j 2)) (256 * t.val + r.val) := by
  simp only [← flat_tok]
  exact dmAdd_tok m c t (j 1) (j 2)

theorem sum13_eq (j : S8x1024.Idx) : (outsAt0 m c t.val t.isLt).2.2.2.2.2.1 j
    = 0 + ∑ n ∈ Finset.range (t.val + 1), ∑ r : Fin 256, flat (g13 m c (j 0) (j 1)) (256 * n + r.val) := by
  refine Pipeline.eq_sum_of_reset_step_apply_single (fun n h => (outsAt0 m c n h).2.2.2.2.2.1) 32 (fun _ => 0)
    (fun n j => ∑ r : Fin 256, flat (g13 m c (j 0) (j 1)) (256 * n + r.val)) ?_ ?_ (le_of_eq N_0) t j
  · intro t h0 j
    rw [← add13_tok, zero_add]
    exact congrFun (sum13_A m c t h0) j
  · intro t h0 j
    rw [← add13_tok]
    exact congrFun (sum13_BC m c t h0) j
theorem sum14_eq (j : S1x8x1024.Idx) : (outsAt0 m c t.val t.isLt).2.2.2.2.2.2.1 j
    = 0 + ∑ n ∈ Finset.range (t.val % 8 + 1), ∑ r : Fin 256, flat (g14 m c (j 1) (j 2)) (256 * (8 * (t.val / 8) + n) + r.val) := by
  refine Pipeline.eq_sum_of_reset_step_apply (fun n h => (outsAt0 m c n h).2.2.2.2.2.2.1) 8 (fun _ => 0)
    (fun n j => ∑ r : Fin 256, flat (g14 m c (j 1) (j 2)) (256 * n + r.val)) ?_ ?_ t j
  · intro t h0 j
    rw [← add14_tok, zero_add]
    exact congrFun (sum14_AC m c t h0) j
  · intro t h0 j
    rw [← add14_tok]
    exact congrFun (sum14_B m c t h0) j

theorem sum13_last (ht : t.val % 32 = 31) (a : Fin 8) (q : Fin 1024) : (outsAt0 m c t.val t.isLt).2.2.2.2.2.1 (ix2 a q) = ∑ b, ∑ p, g13 m c a q b p := by
  have h : t.val < 32 := lt_of_lt_of_eq t.isLt N_0
  have e : t.val + 1 = 32 := by omega
  rw [sum13_eq, e, zero_add, Common.sum_blocks]
  change ∑ n ∈ Finset.range (2048 * 4), flat (g13 m c a q) n = _
  rw [← Common.sum_blocks_fin]
  simp only [flat_seq]
theorem sum14_last (ht : t.val % 8 = 7) (b : Fin 4) (hb : b.val = t.val / 8) (a : Fin 8) (q : Fin 1024) :
    (outsAt0 m c t.val t.isLt).2.2.2.2.2.2.1 (ix3 0 a q) = ∑ p, g14 m c a q b p := by
  have e (n : ℕ) (r : Fin 256) : 256 * (8 * b.val + n) + r.val = 2048 * b.val + (256 * n + r.val) := by omega
  rw [sum14_eq, ht, zero_add, ← hb]
  simp only [e]
  change ∑ n ∈ Finset.range 8, ∑ r : Fin 256, (fun x => flat (g14 m c a q) (2048 * b.val + x)) (256 * n + r.val) = _
  rw [Common.sum_blocks 256 (fun x => flat (g14 m c a q) (2048 * b.val + x))]
  change ∑ n ∈ Finset.range 2048, _ = _
  rw [Finset.sum_range]
  simp only [flat_seq]
end Tokens

end Cert.FfnBwdIdeal.Own
end
-- ==== Proof.FfnBwdArr.lean ====
module
public import proofs.«01_k».proof.Defs
public import proofs.«01_k».proof.Proof.Common
public import proofs.«01_k».proof.Proof.FfnBwdMath
public import proofs.«01_k».proof.Proof.FfnBwdPoint
public import proofs.«01_k».proof.Proof.FfnBwdBlocks
public import proofs.«01_k».proof.Proof.FfnBwdValue

/-! The seven result arrays of the call, as functions of its arguments. -/

@[expose] public section
set_option maxRecDepth 16384
set_option maxHeartbeats 2000000
noncomputable section
namespace Cert.FfnBwdIdeal.Own
open Cert.FfnBwdIdeal Cert.FfnBwdIdeal.Gen Idealize.ShloMosaic Idealize.ShloMosaic.TcCoe Idealize.SL.Sem Cert.Common
variable (m : (ℓ : Loc nD τ sig) → Buf (Elt Ideal) ℓ)

/-! The arrays. -/

theorem idx8 : ∀ t : Fin cfg0.N, win0_8.index t = ![0, t.val, 0] := (by decide +kernel : ∀ t : Fin grid0.N, _)
theorem idx9 : ∀ t : Fin cfg0.N, win0_9.index t = ![0, t.val, 0] := (by decide +kernel : ∀ t : Fin grid0.N, _)
theorem idx10 : ∀ t : Fin cfg0.N, win0_10.index t = ![0, t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val / 8, 0, 0] := (by decide +kernel : ∀ t : Fin grid0.N, _)

def R8 (c : Dev nD) : Vec Ideal S11x8192x256 .bf16 := fun j => dgT (aX m c) (aY m c) (aMo m c) (aG m c) (aWg m c) (aWu m c) (aWd m c) (seqOf (j 1)) (posOf (j 1)) (row (j 0) (j 2))
theorem arr8 (c : Dev nD) : (dats m 0 c).arrAt 8 cfg0.N = R8 m c := by
  refine (dats m 0 c).arrAt_eq_of_covers 8 _ (by decide +kernel) fun t hf y => ?_
  have ht : t.val < 32 := lt_of_lt_of_eq t.isLt N_0
  blk_simp
  rw [after0_8, leaves_of m c t.val t.isLt]
  idx_vars y
  refine (dgate_tok m c t y0 y1 y2).trans ?_
  change R8 m c (ix3 y0 (tok t y1) y2) = _
  refine Eq.symm ?_
  unfold tok
  blk_ext [idx8 t]

def R9 (c : Dev nD) : Vec Ideal S11x8192x256 .bf16 := fun j => duT (aX m c) (aY m c) (aMo m c) (aG m c) (aWg m c) (aWd m c) (seqOf (j 1)) (posOf (j 1)) (row (j 0) (j 2))
theorem arr9 (c : Dev nD) : (dats m 0 c).arrAt 9 cfg0.N = R9 m c := by
  refine (dats m 0 c).arrAt_eq_of_covers 9 _ (by decide +kernel) fun t hf y => ?_
  have ht : t.val < 32 := lt_of_lt_of_eq t.isLt N_0
  blk_simp
  rw [after0_9, leaves_of m c t.val t.isLt]
  idx_vars y
  refine (dup_tok m c t y0 y1 y2).trans ?_
  change R9 m c (ix3 y0 (tok t y1) y2) = _
  refine Eq.symm ?_
  unfold tok
  blk_ext [idx9 t]

def R10 (c : Dev nD) : Vec Ideal S11x8192x256 .bf16 := fun j => actT (aX m c) (aMo m c) (aG m c) (aWg m c) (aWu m c) (seqOf (j 1)) (posOf (j 1)) (row (j 0) (j 2))
theorem arr10 (c : Dev nD) : (dats m 0 c).arrAt 10 cfg0.N = R10 m c := by
  refine (dats m 0 c).arrAt_eq_of_covers 10 _ (by decide +kernel) fun t hf y => ?_
  have ht : t.val < 32 := lt_of_lt_of_eq t.isLt N_0
  blk_simp
  rw [after0_10, leaves_of m c t.val t.isLt]
  idx_vars y
  refine (act_tok m c t y0 y1 y2).trans ?_
  change R10 m c (ix3 y0 (tok t y1) y2) = _
  refine Eq.symm ?_
  unfold tok
  blk_ext [idx10 t]

def R11 (c : Dev nD) : Vec Ideal S8192x1024 .f32 := fun j => dx1T (aX m c) (aY m c) (aMo m c) (aG m c) (aWg m c) (aWu m c) (aWd m c) (seqOf (j 0)) (posOf (j 0)) (j 1)
theorem arr11 (c : Dev nD) : (dats m 0 c).arrAt 11 cfg0.N = R11 m c := by
  refine (dats m 0 c).arrAt_eq_of_covers 11 _ (by decide +kernel) fun t hf y => ?_
  have ht : t.val < 32 := lt_of_lt_of_eq t.isLt N_0
  blk_simp
  rw [after0_11, leaves_of m c t.val t.isLt]
  idx_vars y
  refine (dx1_tok m c t y0 y1).trans ?_
  change R11 m c (ix2 (tok t y0) y1) = _
  refine Eq.symm ?_
  unfold tok
  blk_ext [idx11 t]

def R12 (c : Dev nD) : Vec Ideal S8192x1024 .bf16 := fun j => aMo m c (ix3 (seqOf (j 0)) 2 (j 1)) * dx1T (aX m c) (aY m c) (aMo m c) (aG m c) (aWg m c) (aWu m c) (aWd m c) (seqOf (j 0)) (posOf (j 0)) (j 1)
theorem arr12 (c : Dev nD) : (dats m 0 c).arrAt 12 cfg0.N = R12 m c := by
  refine (dats m 0 c).arrAt_eq_of_covers 12 _ (by decide +kernel) fun t hf y => ?_
  have ht : t.val < 32 := lt_of_lt_of_eq t.isLt N_0
  blk_simp
  rw [after0_12, leaves_of m c t.val t.isLt]
  idx_vars y
  refine (congrArg₂ (· * ·) (b32_tok m c t y0 y1) (dx1_tok m c t y0 y1)).trans ?_
  change R12 m c (ix2 (tok t y0) y1) = _
  refine Eq.symm ?_
  unfold tok
  blk_ext [idx12 t]

def R13 (c : Dev nD) : Vec Ideal S8x1024 .f32 := fun j => ∑ b, ∑ p, g13 m c (j 0) (j 1) b p
theorem arr13 (c : Dev nD) : (dats m 0 c).arrAt 13 cfg0.N = R13 m c := by
  refine (dats m 0 c).arrAt_eq_of_covers 13 _ (by decide +kernel) fun t hf y => ?_
  have h := (flush0_13 t).mp hf
  blk_simp
  rw [after0_13]
  idx_vars y
  refine (sum13_last m c t h y0 y1).trans ?_
  change R13 m c (ix2 y0 y1) = _
  refine Eq.symm ?_
  blk_ext [idx13 t]

def R14 (c : Dev nD) : Vec Ideal S4x8x1024 .f32 := fun j => ∑ p, g14 m c (j 1) (j 2) (j 0) p
theorem arr14 (c : Dev nD) : (dats m 0 c).arrAt 14 cfg0.N = R14 m c := by
  refine (dats m 0 c).arrAt_eq_of_covers 14 _ (by decide +kernel) fun t hf y => ?_
  have h := (flush0_14 t).mp hf
  have ht : t.val < 32 := lt_of_lt_of_eq t.isLt N_0
  blk_simp
  rw [after0_14]
  idx_vars y
  obtain rfl : y0 = 0 := Subsingleton.elim _ _
  refine (sum14_last m c t h ⟨t.val / 8, by omega⟩ rfl y1 y2).trans ?_
  change R14 m c (ix3 ⟨t.val / 8, by omega⟩ y1 y2) = _
  refine Eq.symm ?_
  blk_ext [idx14 t]

end Cert.FfnBwdIdeal.Own
end
-- ==== Proof.FfnBwdRef.lean ====
module
public import proofs.«01_k».proof.Defs
public import proofs.«01_k».proof.Proof.Gen.FfnBwdRefIdeal.Read
public import proofs.«01_k».proof.Proof.Common
public import proofs.«01_k».proof.Proof.Layer
public import proofs.«01_k».proof.Proof.FfnBwdMath

/-! The reference's values, one token at a time. -/

@[expose] public section
set_option maxRecDepth 16384
set_option maxHeartbeats 1000000
noncomputable section
namespace Cert.FfnBwdIdeal.Own
open Idealize.ShloMosaic Idealize.ShloMosaic.TcCoe Idealize.SL.Sem Cert.FfnBwdRefIdeal Cert.FfnBwdRefIdeal.Read Cert.Common

variable (X Y Mi : Vec Ideal S4x2048x1024 .f32) (Mo : Vec Ideal S4x6x1024 .f32) (G : Vec Ideal S1x1024 .f32) (Wg Wu : Vec Ideal S1024x2816 .f32) (Wd : Vec Ideal S2816x1024 .f32)

theorem ref_v15 (b : Fin 4) (t : Fin 2048) : (val_main_v15 (F := Ideal) X : Vec Ideal S4x2048x1 .f32) (ix3 b t 0)
    = Ideal.div (∑ q, X (ix3 b t q) * X (ix3 b t q)) wide + tiny := by
  unfold val_main_v15 val_main_v14 val_main_v13 val_main_v12 val_main_v11 val_main_v10 val_main_v9 val_main_cst_0 val_main_cst_1 val_main_cst
  pointwise
  rfl

theorem ref_v16 (b : Fin 4) (t : Fin 2048) : (val_main_v16 (F := Ideal) X : Vec Ideal S4x2048x1 .f32) (ix3 b t 0) = rsT X b t := by
  unfold val_main_v16
  pointwise [ref_v15]
  rfl

theorem ref_v19 (b : Fin 4) (t : Fin 2048) : (val_main_v19 (F := Ideal) X : Vec Ideal S4x2048x1 .f32) (ix3 b t 0)
    = mhalf * Ideal.div (rsT X b t) (Ideal.div (∑ q, X (ix3 b t q) * X (ix3 b t q)) wide + tiny) := by
  unfold val_main_v19 val_main_v18 val_main_v17 val_main_cst_2
  pointwise [ref_v15, ref_v16]
  rfl

theorem ref_v24 (b : Fin 4) (t : Fin 2048) (q : Fin 1024) : (val_main_v24 (F := Ideal) X G : Vec Ideal S4x2048x1024 .f32) (ix3 b t q)
    = X (ix3 b t q) * rsT X b t * G (ix2 0 q) := by
  unfold val_main_v24 val_main_v23 val_main_v22 val_main_v21 val_main_v20 val_main_v8
  pointwise [ref_v16]

theorem ref_v27 (b : Fin 4) (q : Fin 1024) : (val_main_v27 (F := Ideal) Mo : Vec Ideal S4x1x1024 .f32) (ix3 b 0 q) = 1 + Mo (ix3 b 4 q) := by
  unfold val_main_v27 val_main_v26 val_main_v25 val_main_v5 val_main_v4 val_main_cst_3
  pointwise

theorem ref_v32 (b : Fin 4) (t : Fin 2048) (q : Fin 1024) : (val_main_v32 (F := Ideal) X Mo G : Vec Ideal S4x2048x1024 .f32) (ix3 b t q) = hT X Mo G b t q := by
  unfold val_main_v32 val_main_v31 val_main_v30 val_main_v29 val_main_v28 val_main_v3 val_main_v2
  pointwise [ref_v24, ref_v27]
  rfl

theorem ref_v33 (b : Fin 4) (t : Fin 2048) (p : Fin 2816) : (val_main_v33 (F := Ideal) X Mo G Wg : Vec Ideal S4x2048x2816 .f32) (ix3 b t p) = gaT X Mo G Wg b t p := by
  unfold val_main_v33
  pointwise [ref_v32]
  rfl

theorem ref_v34 (b : Fin 4) (t : Fin 2048) (p : Fin 2816) : (val_main_v34 (F := Ideal) X Mo G Wu : Vec Ideal S4x2048x2816 .f32) (ix3 b t p) = uT X Mo G Wu b t p := by
  unfold val_main_v34
  pointwise [ref_v32]
  rfl

theorem ref_v36 (b : Fin 4) (t : Fin 2048) (p : Fin 2816) : (val_main_v36 (F := Ideal) X Mo G Wg Wu : Vec Ideal S4x2048x2816 .f32) (ix3 b t p) = actT X Mo G Wg Wu b t p := by
  unfold val_main_v36 val_main_v35 val_main_call0_v5 val_main_call0_v4 val_main_call0_v3 val_main_call0_v2 val_main_call0_v1 val_main_call0_v0 val_main_call0_cst val_main_call0_cst_0
  pointwise [ref_v33, ref_v34]
  simp only [actT, sg, zero_sub] <;> rfl

theorem ref_v38_2 (b : Fin 4) (t : Fin 2048) (p : Fin 2816) : (val_main_v38_2 (F := Ideal) X Mo G Wg : Vec Ideal S4x2048x2816 .f32) (ix3 b t p) = sg (gaT X Mo G Wg b t p) := by
  unfold val_main_v38_2 val_main_call1_v4 val_main_call1_v3 val_main_call1_v2 val_main_call1_v1 val_main_call1_v0 val_main_call1_cst val_main_call1_cst_0
  pointwise [ref_v33]
  simp only [sg, zero_sub] <;> rfl

theorem ref_v45 (b : Fin 4) (t : Fin 2048) (p : Fin 2816) : (val_main_v45 (F := Ideal) Y Mo Wd : Vec Ideal S4x2048x2816 .f32) (ix3 b t p) = dactT Y Mo Wd b t p := by
  unfold val_main_v45 val_main_v44 val_main_v43 val_main_v37 val_main_v7 val_main_v6
  pointwise
  rfl

theorem ref_v46 (b : Fin 4) (t : Fin 2048) (p : Fin 2816) : (val_main_v46 (F := Ideal) X Y Mo G Wg Wd : Vec Ideal S4x2048x2816 .f32) (ix3 b t p) = duT X Y Mo G Wg Wd b t p := by
  unfold val_main_v46 val_main_v38_0
  pointwise [ref_v33, ref_v38_2, ref_v45]
  exact mul_comm _ _

theorem ref_v48 (b : Fin 4) (t : Fin 2048) (p : Fin 2816) : (val_main_v48 (F := Ideal) X Y Mo G Wg Wu Wd : Vec Ideal S4x2048x2816 .f32) (ix3 b t p) = dgR X Y Mo G Wg Wu Wd b t p := by
  unfold val_main_v48 val_main_call2_v2 val_main_call2_v1 val_main_call2_v0 val_main_v47 val_main_v38_1 val_main_call1_v7 val_main_call1_v6 val_main_call1_cst_1
  pointwise [ref_v33, ref_v34, ref_v38_2, ref_v45]
  rfl

section Real
variable (hX : ∀ j, IsReal (X j)) (hY : ∀ j, IsReal (Y j)) (hMo : ∀ j, IsReal (Mo j)) (hG : ∀ j, IsReal (G j)) (hWg : ∀ j, IsReal (Wg j)) (hWu : ∀ j, IsReal (Wu j)) (hWd : ∀ j, IsReal (Wd j))
include hX hY hMo hG hWg hWu hWd

theorem ref_v51 (b : Fin 4) (t : Fin 2048) (q : Fin 1024) : (val_main_v51 (F := Ideal) X Y Mo G Wg Wu Wd : Vec Ideal S4x2048x1024 .f32) (ix3 b t q) = dhT X Y Mo G Wg Wu Wd b t q := by
  rw [dhT_eq]
  simp only [dgT_eq X Y Mo G Wg Wu Wd b t hX hY hMo hG hWg hWu hWd]
  unfold val_main_v51 val_main_v50 val_main_v49
  pointwise [ref_v46, ref_v48]

theorem ref_v65 (b : Fin 4) (t : Fin 2048) (q : Fin 1024) : (val_main_v65 (F := Ideal) X Y Mo G Wg Wu Wd : Vec Ideal S4x2048x1024 .f32) (ix3 b t q) = dxhT X Y Mo G Wg Wu Wd b t q := by
  unfold val_main_v65 val_main_v64 val_main_v22 val_main_v8 val_main_v59 val_main_v58
  pointwise [ref_v51 X Y Mo G Wg Wu Wd hX hY hMo hG hWg hWu hWd, ref_v27]
  rfl

theorem ref_v75 (b : Fin 4) (t : Fin 2048) : (val_main_v75 (F := Ideal) X Y Mo G Wg Wu Wd : Vec Ideal S4x2048 .f32) (ix2 b t) = qR X Y Mo G Wg Wu Wd b t := by
  unfold val_main_v75 val_main_v74 val_main_v73 val_main_v72 val_main_v69 val_main_v68 val_main_v67 val_main_cst_10 val_main_cst_11 val_main_cst_12
  pointwise [ref_v65 X Y Mo G Wg Wu Wd hX hY hMo hG hWg hWu hWd, ref_v19]
  simp only [Fin.sum_univ_one]
  simp only [ref_v19]
  rfl

theorem ref_v81 (b : Fin 4) (t : Fin 2048) (q : Fin 1024) : (val_main_v81 (F := Ideal) X Y Mo G Wg Wu Wd : Vec Ideal S4x2048x1024 .f32) (ix3 b t q) = dx1T X Y Mo G Wg Wu Wd b t q := by
  rw [dx1T_eq X Y Mo G Wg Wu Wd b t hX hY hMo hG hWg hWu hWd]
  unfold val_main_v81 val_main_v80 val_main_v79 val_main_v78 val_main_v77 val_main_v76 val_main_v71 val_main_v70
  pointwise [ref_v65 X Y Mo G Wg Wu Wd hX hY hMo hG hWg hWu hWd, ref_v75 X Y Mo G Wg Wu Wd hX hY hMo hG hWg hWu hWd, ref_v16]
  rfl

theorem ref_v54 (b : Fin 4) (q : Fin 1024) : (val_main_v54 (F := Ideal) X Y Mo G Wg Wu Wd : Vec Ideal S4x1024 .f32) (ix2 b q) = ∑ t, dhT X Y Mo G Wg Wu Wd b t q := by
  unfold val_main_v54 val_main_v53 val_main_v52 val_main_cst_4 val_main_cst_5
  pointwise [ref_v51 X Y Mo G Wg Wu Wd hX hY hMo hG hWg hWu hWd]
  simp only [Fin.sum_univ_one]

theorem ref_v60 (b : Fin 4) (q : Fin 1024) : (val_main_v60 (F := Ideal) X Y Mo G Wg Wu Wd : Vec Ideal S4x1024 .f32) (ix2 b q) = ∑ t, dscT X Y Mo G Wg Wu Wd b t q := by
  unfold val_main_v60 val_main_v57 val_main_v56 val_main_v55 val_main_cst_6 val_main_cst_7
  pointwise [ref_v51 X Y Mo G Wg Wu Wd hX hY hMo hG hWg hWu hWd, ref_v24]
  simp only [Fin.sum_univ_one, dscT]
  exact Finset.sum_congr rfl fun t _ => mul_comm (_ : EReal) _

theorem ref_v90 (b : Fin 4) (q : Fin 1024) : (val_main_v90 (F := Ideal) X Y Mi Mo G Wg Wu Wd : Vec Ideal S4x1024 .f32) (ix2 b q) = ∑ t, dgmT X Y Mi Mo G Wg Wu Wd b t q := by
  unfold val_main_v90 val_main_v89 val_main_v88 val_main_v87 val_main_cst_13 val_main_cst_14
  pointwise [ref_v81 X Y Mo G Wg Wu Wd hX hY hMo hG hWg hWu hWd]
  simp only [Fin.sum_univ_one]
  rfl

theorem ref_v66 (q : Fin 1024) : (val_main_v66 (F := Ideal) X Y Mo G Wg Wu Wd : Vec Ideal S1024 .f32) (ix1 q) = ∑ b, ∑ t, dgnT X Y Mo G Wg Wu Wd b t q := by
  unfold val_main_v66 val_main_v63 val_main_v62 val_main_v61 val_main_v59 val_main_v58 val_main_v21 val_main_v20 val_main_cst_8 val_main_cst_9
  pointwise [host_sum01, ref_v51 X Y Mo G Wg Wu Wd hX hY hMo hG hWg hWu hWd, ref_v27, ref_v16]
  simp only [Fin.sum_univ_one, dgnT]
  exact Finset.sum_congr rfl fun b _ => Finset.sum_congr rfl fun t _ => mul_comm (_ : EReal) _
end Real

end Cert.FfnBwdIdeal.Own
end
-- ==== Proof.FfnBwdRes.lean ====
module
public import proofs.«01_k».proof.Defs
public import proofs.«01_k».proof.Proof.Gen.FfnBwdRefIdeal.Read
public import proofs.«01_k».proof.Proof.Common
public import proofs.«01_k».proof.Proof.FfnBwdMath
public import proofs.«01_k».proof.Proof.FfnBwdBlocks
public import proofs.«01_k».proof.Proof.FfnBwdValue
public import proofs.«01_k».proof.Proof.FfnBwdRef
public import Idealize.ShloMosaic.Lib.KernelVsHost

/-! The reference's seven results. -/

@[expose] public section
set_option maxRecDepth 16384
set_option maxHeartbeats 1000000
noncomputable section
namespace Cert.FfnBwdIdeal.Own
open Idealize.ShloMosaic Idealize.ShloMosaic.TcCoe Idealize.SL.Sem Cert.FfnBwdRefIdeal Cert.FfnBwdRefIdeal.Read Cert.FfnBwdRefIdeal.Gen Cert.Common
variable (X Y Mi : Vec Ideal S4x2048x1024 .f32) (Mo : Vec Ideal S4x6x1024 .f32) (G : Vec Ideal S1x1024 .f32) (Wg Wu : Vec Ideal S1024x2816 .f32) (Wd : Vec Ideal S2816x1024 .f32)
variable (s : Fin 11) (n : Fin 8192) (k : Fin 256) (q : Fin 1024)
variable (hX : ∀ j, IsReal (X j)) (hY : ∀ j, IsReal (Y j)) (hMo : ∀ j, IsReal (Mo j)) (hG : ∀ j, IsReal (G j)) (hWg : ∀ j, IsReal (Wg j)) (hWu : ∀ j, IsReal (Wu j)) (hWd : ∀ j, IsReal (Wd j))

theorem pad_value : (sitofp (F := Ideal) .f32 (constantI S_ 32 0#32) : Vec Ideal S_ .f32) (Shape.Idx.first h_S_) = 0 := by
  change ((((0#32 : BitVec 32).toInt : ℝ)) : EReal) = 0
  simp

theorem res_v100 : (val_main_v100 (F := Ideal) X Y Mo G Wg Wd : Vec Ideal S11x8192x256 .bf16) (ix3 s n k) = duT X Y Mo G Wg Wd (seqOf n) (posOf n) (row s k) := by
  unfold val_main_v100 val_main_v99 val_main_v98
  pointwise
  exact ref_v46 X Y Mo G Wg Wd _ _ _

theorem res_v103 : (val_main_v103 (F := Ideal) X Mo G Wg Wu : Vec Ideal S11x8192x256 .bf16) (ix3 s n k) = actT X Mo G Wg Wu (seqOf n) (posOf n) (row s k) := by
  unfold val_main_v103 val_main_v102 val_main_v101
  pointwise
  exact ref_v36 X Mo G Wg Wu _ _ _

include hX hY hMo hG hWg hWu hWd

theorem res_v97 : (val_main_v97 (F := Ideal) X Y Mo G Wg Wu Wd : Vec Ideal S11x8192x256 .bf16) (ix3 s n k) = dgT X Y Mo G Wg Wu Wd (seqOf n) (posOf n) (row s k) := by
  rw [dgT_eq X Y Mo G Wg Wu Wd _ _ hX hY hMo hG hWg hWu hWd]
  unfold val_main_v97 val_main_v96 val_main_v95
  pointwise
  exact ref_v48 X Y Mo G Wg Wu Wd _ _ _

theorem res_v104 : (val_main_v104 (F := Ideal) X Y Mo G Wg Wu Wd : Vec Ideal S8192x1024 .f32) (ix2 n q) = dx1T X Y Mo G Wg Wu Wd (seqOf n) (posOf n) q := by
  unfold val_main_v104
  pointwise
  exact ref_v81 X Y Mo G Wg Wu Wd hX hY hMo hG hWg hWu hWd _ _ _

theorem res_v106 : (val_main_v106 (F := Ideal) X Y Mo G Wg Wu Wd : Vec Ideal S8192x1024 .bf16) (ix2 n q) = Mo (ix3 (seqOf n) 2 q) * dx1T X Y Mo G Wg Wu Wd (seqOf n) (posOf n) q := by
  unfold val_main_v106 val_main_v105 val_main_v86 val_main_v85 val_main_v82 val_main_v1 val_main_v0
  pointwise [ref_v81 X Y Mo G Wg Wu Wd hX hY hMo hG hWg hWu hWd]
  rfl

theorem res_v108 (a : Fin 8) : (val_main_v108 (F := Ideal) X Y Mo G Wg Wu Wd : Vec Ideal S8x1024 .f32) (ix2 a q)
    = ∑ b, ∑ p, if a = 0 then dgnT X Y Mo G Wg Wu Wd b p q else 0 := by
  unfold val_main_v108
  by_cases h : a = 0
  · subst h
    simp only [if_pos]
    refine (pad_apply_of_inside (t := S8x1024) ![0, 0] ![7, 0] ![0, 0] (val_main_v107 (F := Ideal) X Y Mo G Wg Wu Wd) (val_main_call3_v0 (F := Ideal)) pads_S1x1024_S8x1024_070_000 h_S_ (ix2 0 q) (ix2 0 q) ?_).trans ?_
    · intro i
      fin_cases i <;> simp [ix2]
    · unfold val_main_v107
      pointwise
      exact ref_v66 X Y Mo G Wg Wu Wd hX hY hMo hG hWg hWu hWd q
  · simp only [if_neg h, Finset.sum_const_zero]
    refine (pad_apply_of_not_inside (t := S8x1024) ![0, 0] ![7, 0] ![0, 0] (val_main_v107 (F := Ideal) X Y Mo G Wg Wu Wd) (val_main_call3_v0 (F := Ideal)) pads_S1x1024_S8x1024_070_000 h_S_ (ix2 a q) 0 ?_).trans pad_value
    rintro ⟨-, -, h3⟩
    have h3 : (a.val - 0) / (0 + 1) < 1 := h3
    exact h (Fin.ext (by change a.val = 0; omega))

theorem res_v94 (b : Fin 4) : (val_main_v94 (F := Ideal) X Y Mi Mo G Wg Wu Wd : Vec Ideal S4x3x1024 .f32) (ix3 b 0 q) = ∑ t, dhT X Y Mo G Wg Wu Wd b t q
    ∧ (val_main_v94 (F := Ideal) X Y Mi Mo G Wg Wu Wd : Vec Ideal S4x3x1024 .f32) (ix3 b 1 q) = ∑ t, dscT X Y Mo G Wg Wu Wd b t q
    ∧ (val_main_v94 (F := Ideal) X Y Mi Mo G Wg Wu Wd : Vec Ideal S4x3x1024 .f32) (ix3 b 2 q) = ∑ t, dgmT X Y Mi Mo G Wg Wu Wd b t q := by
  unfold val_main_v94 val_main_v91 val_main_v92 val_main_v93
  refine ⟨?_, ?_, ?_⟩
  · pointwise
    exact ref_v54 X Y Mo G Wg Wu Wd hX hY hMo hG hWg hWu hWd b q
  · pointwise
    exact ref_v60 X Y Mo G Wg Wu Wd hX hY hMo hG hWg hWu hWd b q
  · pointwise
    exact ref_v90 X Y Mi Mo G Wg Wu Wd hX hY hMo hG hWg hWu hWd b q

theorem res_v109 (b : Fin 4) (a : Fin 8) : (val_main_v109 (F := Ideal) X Y Mi Mo G Wg Wu Wd : Vec Ideal S4x8x1024 .f32) (ix3 b a q)
    = ∑ p, if a = 0 then dhT X Y Mo G Wg Wu Wd b p q else if a = 1 then dscT X Y Mo G Wg Wu Wd b p q
        else if a = 2 then dgmT X Y Mi Mo G Wg Wu Wd b p q else 0 := by
  have inside (a' : Fin 3) (e : a.val = a'.val) : (val_main_v109 (F := Ideal) X Y Mi Mo G Wg Wu Wd : Vec Ideal S4x8x1024 .f32) (ix3 b a q)
      = (val_main_v94 (F := Ideal) X Y Mi Mo G Wg Wu Wd : Vec Ideal S4x3x1024 .f32) (ix3 b a' q) := by
    refine pad_apply_of_inside (t := S4x8x1024) ![0, 0, 0] ![0, 5, 0] ![0, 0, 0] (val_main_v94 (F := Ideal) X Y Mi Mo G Wg Wu Wd) (val_main_call4_v0 (F := Ideal)) pads_S4x3x1024_S4x8x1024_000_050_000 h_S_ (ix3 b a q) (ix3 b a' q) ?_
    intro i
    fin_cases i <;> simp [ix3, e]
  obtain ⟨r0, r1, r2⟩ := res_v94 X Y Mi Mo G Wg Wu Wd q hX hY hMo hG hWg hWu hWd b
  by_cases h0 : a = 0
  · subst h0
    simp only [if_pos]
    exact (inside 0 rfl).trans r0
  by_cases h1 : a = 1
  · subst h1
    simp only [if_neg h0, if_pos]
    exact (inside 1 rfl).trans r1
  by_cases h2 : a = 2
  · subst h2
    simp only [if_neg h0, if_neg h1, if_pos]
    exact (inside 2 rfl).trans r2
  · simp only [if_neg h0, if_neg h1, if_neg h2, Finset.sum_const_zero]
    refine (pad_apply_of_not_inside (t := S4x8x1024) ![0, 0, 0] ![0, 5, 0] ![0, 0, 0] (val_main_v94 (F := Ideal) X Y Mi Mo G Wg Wu Wd) (val_main_call4_v0 (F := Ideal)) pads_S4x3x1024_S4x8x1024_000_050_000 h_S_ (ix3 b a q) 1 ?_).trans pad_value
    rintro ⟨-, -, h3⟩
    have h3 : (a.val - 0) / (0 + 1) < 3 := h3
    have e0 : a.val ≠ 0 := fun e => h0 (Fin.ext e)
    have e1 : a.val ≠ 1 := fun e => h1 (Fin.ext e)
    have e2 : a.val ≠ 2 := fun e => h2 (Fin.ext e)
    omega

end Cert.FfnBwdIdeal.Own
end
-- ==== Proof.FfnBwdPre.lean ====
module
public import proofs.«01_k».proof.Defs
public import proofs.«01_k».proof.Proof.Common
public import proofs.«01_k».proof.Proof.FfnBwdMath
public import Idealize.ShloMosaic.Lib.ReduceAll

/-! What the precondition gives: every element of the seven arrays is a real number. And its side conditions. -/

@[expose] public section
set_option maxRecDepth 16384
noncomputable section
namespace Cert.FfnBwdIdeal.Own
open Idealize.ShloMosaic Idealize.ShloMosaic.TcCoe Idealize.SL.Sem Cert.Common

theorem facts_finite : Cert.Pre_ffn_finite.Facts where
  bcast_S_S4x2048x1024 := by decide
  reducesTo_S4x2048x1024_S_d0_1_2 := by decide
  h_S_ := by decide
  bcast_S_S4x6x1024 := by decide
  reducesTo_S4x6x1024_S_d0_1_2 := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide
  bcast_S_S1 := by decide
  concatenates_S1_S1_S1_S1_S1_S1_S1_S7_d0 := by decide
  reducesTo_S7_S_d0 := by decide

theorem top_bits : Ideal.ofBits .f32 0x7F800000#32 = ⊤ := by
  simp [Ideal.ofBits, Ideal.ieee]

/-- A number whose absolute value is below infinity is real. -/
theorem real_of_abs {x : EReal} (h : max x (-x) < ⊤) : IsReal x := by
  induction x with
  | bot => simp at h
  | top => simp at h
  | coe r => exact ⟨r, rfl⟩

/-- An array whose comparison with infinity is true everywhere is real everywhere. -/
theorem real_of_all {s t u : Shape} {axes : List (Fin s.rank)} [Subsingleton t.Idx] (a : FVec Ideal s .f32) (hb : (⟨0, ![]⟩ : Shape).BroadcastsInDim s (![] : Fin 0 → Fin s.rank))
    (init : u.Idx → BitVec 1) (hr : s.ReducesTo axes t) (hu : 0 < u.numel) (i : t.Idx)
    (h : Host.reduce IntOp.andi (cmpf .olt (Host.absf a) (broadcastInDim s ![] hb (constant (⟨0, ![]⟩ : Shape) .f32 0x7F800000#32))) init hr hu i = 1#1) (j : s.Idx) :
    IsReal (a j) := by
  have e := Host.reduce_andi_all _ init hr hu i h j
  refine real_of_abs ?_
  rw [← top_bits]
  by_contra hn
  have : (cmpf .olt (Host.absf a) (broadcastInDim s ![] hb (constant (⟨0, ![]⟩ : Shape) .f32 0x7F800000#32))) j = 0#1 := by
    change BitVec.ofBool (decide (max (a j) (-(a j)) < Ideal.ofBits .f32 0x7F800000#32)) = 0#1
    simp [hn]
  rw [this] at e
  exact absurd e (by decide)

open Cert.Pre_ffn_finite Cert.Pre_ffn_finite.Facts in
/-- Seven truths joined are true each. -/
theorem and_seven [Cert.Pre_ffn_finite.Facts] [Subsingleton S_.Idx] (w0 w1 w2 w3 w4 w5 w6 : IVec S_ 1) (init : IVec S_ 1) (i : S_.Idx)
    (h : Host.reduce IntOp.andi (concatenate S7 0 [⟨S1, (broadcastInDim S1 ![] bcast_S_S1 w0 : IVec S1 1)⟩, ⟨S1, (broadcastInDim S1 ![] bcast_S_S1 w1 : IVec S1 1)⟩, ⟨S1, (broadcastInDim S1 ![] bcast_S_S1 w2 : IVec S1 1)⟩,
      ⟨S1, (broadcastInDim S1 ![] bcast_S_S1 w3 : IVec S1 1)⟩, ⟨S1, (broadcastInDim S1 ![] bcast_S_S1 w4 : IVec S1 1)⟩, ⟨S1, (broadcastInDim S1 ![] bcast_S_S1 w5 : IVec S1 1)⟩, ⟨S1, (broadcastInDim S1 ![] bcast_S_S1 w6 : IVec S1 1)⟩]
      concatenates_S1_S1_S1_S1_S1_S1_S1_S7_d0) init reducesTo_S7_S_d0 h_S_ i = 1#1) :
    w0 i = 1#1 ∧ w1 i = 1#1 ∧ w2 i = 1#1 ∧ w3 i = 1#1 ∧ w4 i = 1#1 ∧ w5 i = 1#1 ∧ w6 i = 1#1 := by
  have k := Host.reduce_andi_all _ _ _ _ _ h
  refine ⟨?_, ?_, ?_, ?_, ?_, ?_, ?_⟩
  · have := k (ix1 0); revert this; pointwise; intro this; exact (congrArg w0 (Subsingleton.elim _ _)).trans this
  · have := k (ix1 1); revert this; pointwise; intro this; exact (congrArg w1 (Subsingleton.elim _ _)).trans this
  · have := k (ix1 2); revert this; pointwise; intro this; exact (congrArg w2 (Subsingleton.elim _ _)).trans this
  · have := k (ix1 3); revert this; pointwise; intro this; exact (congrArg w3 (Subsingleton.elim _ _)).trans this
  · have := k (ix1 4); revert this; pointwise; intro this; exact (congrArg w4 (Subsingleton.elim _ _)).trans this
  · have := k (ix1 5); revert this; pointwise; intro this; exact (congrArg w5 (Subsingleton.elim _ _)).trans this
  · have := k (ix1 6); revert this; pointwise; intro this; exact (congrArg w6 (Subsingleton.elim _ _)).trans this

theorem finite_of [Cert.Pre_ffn_finite.Facts] (x0 x1 x2 : FVec Ideal Cert.Pre_ffn_finite.S4x2048x1024 .f32) (x3 : FVec Ideal Cert.Pre_ffn_finite.S4x6x1024 .f32) (x4 : FVec Ideal Cert.Pre_ffn_finite.S1x1024 .f32)
    (x5 x6 : FVec Ideal Cert.Pre_ffn_finite.S1024x2816 .f32) (x7 : FVec Ideal Cert.Pre_ffn_finite.S2816x1024 .f32)
    (h : Cert.Pre_ffn_finite.fn (F := Ideal) x0 x1 x2 x3 x4 x5 x6 x7 = fun _ => 1#1) :
    (∀ j, IsReal (x0 j)) ∧ (∀ j, IsReal (x1 j)) ∧ (∀ j, IsReal (x3 j)) ∧ (∀ j, IsReal (x4 j)) ∧ (∀ j, IsReal (x5 j)) ∧ (∀ j, IsReal (x6 j)) ∧ (∀ j, IsReal (x7 j)) := by
  have i0 : Cert.Pre_ffn_finite.S_.Idx := fun a => a.elim0
  haveI : Subsingleton Cert.Pre_ffn_finite.S_.Idx := ⟨fun a b => funext fun k => k.elim0⟩
  have e := congrFun h i0
  unfold Cert.Pre_ffn_finite.fn Cert.Pre_ffn_finite.fn_part1 Cert.Pre_ffn_finite.fn_part2 at e
  dsimp only at e
  obtain ⟨k0, k1, k2, k3, k4, k5, k6⟩ := and_seven _ _ _ _ _ _ _ _ _ e
  clear e h
  exact ⟨real_of_all x0 _ _ _ _ _ k0, real_of_all x1 _ _ _ _ _ k1, real_of_all x3 _ _ _ _ _ k2, real_of_all x4 _ _ _ _ _ k3,
    real_of_all x5 _ _ _ _ _ k4, real_of_all x6 _ _ _ _ _ k5, real_of_all x7 _ _ _ _ _ k6⟩

end Cert.FfnBwdIdeal.Own
end
-- ==== Proof.FfnBwdProof.lean ====
module
public import proofs.«01_k».proof.Defs
public import proofs.«01_k».proof.Proof.Gen.FfnBwd
public import proofs.«01_k».proof.Proof.Gen.FfnBwdIdeal
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.FfnBwdFrame
public import proofs.«01_k».proof.Proof.FfnBwdArr
public import proofs.«01_k».proof.Proof.FfnBwdRes
public import proofs.«01_k».proof.Proof.FfnBwdPre

/-! The feed-forward layer's backward call: its frames, and that it computes the derivative. -/

@[expose] public section
set_option maxRecDepth 16384
set_option maxHeartbeats 4000000
noncomputable section

namespace Cert.FfnBwdIdeal.Own
open Cert.FfnBwdIdeal Cert.FfnBwdIdeal.Gen Idealize.ShloMosaic Idealize.ShloMosaic.TcCoe Idealize.SL.Sem Cert.Common
variable (m : (ℓ : Loc nD τ sig) → Buf (Elt Ideal) ℓ)

theorem results (ρ : Dev nD → PrngReg) : θ_run defs (onTc (τ := τ) (main (F := Ideal))) ⟨m, fun _ => 0, ρ⟩ (fun r => ∀ c : Dev nD,
      r.2.mem ((c.tc : Thread nD τ).loc main_v51_0) = R8 m c
      ∧ r.2.mem ((c.tc : Thread nD τ).loc main_v51_1) = R9 m c
      ∧ r.2.mem ((c.tc : Thread nD τ).loc main_v51_2) = R10 m c
      ∧ r.2.mem ((c.tc : Thread nD τ).loc main_v51_3) = R11 m c
      ∧ r.2.mem ((c.tc : Thread nD τ).loc main_v51_4) = R12 m c
      ∧ r.2.mem ((c.tc : Thread nD τ).loc main_v51_5) = R13 m c
      ∧ r.2.mem ((c.tc : Thread nD τ).loc main_v51_6) = R14 m c) :=
  (θ_run defs _ _).mono (fun r h c => ⟨((h c).1 8).trans (arr8 m c), ((h c).1 9).trans (arr9 m c), ((h c).1 10).trans (arr10 m c), ((h c).1 11).trans (arr11 m c),
    ((h c).1 12).trans (arr12 m c), ((h c).1 13).trans (arr13 m c), ((h c).1 14).trans (arr14 m c)⟩) (run_main m ρ)
end Cert.FfnBwdIdeal.Own

namespace Cert.FfnBwdProof
open Idealize.ShloMosaic Idealize.ShloMosaic.TcCoe Idealize.SL.Sem Cert.Common

/-- The two programs have the same text: their bodies and their host programs are the same terms. -/
theorem defs_eq : Cert.FfnBwd.defs (F := Bits) = Cert.FfnBwdIdeal.defs (F := Bits) := by sl_kernel_rfl

theorem main_eq : Cert.FfnBwd.main (F := Bits) = Cert.FfnBwdIdeal.main (F := Bits) := by sl_kernel_rfl

theorem frame_p : Cert.quiescent_FfnBwd := fun m ρ _ => by
  have h := Cert.FfnBwdIdeal.Own.frame (F := Bits) m ρ
  rw [← defs_eq, ← main_eq] at h
  exact h

theorem frame_pi : Cert.quiescent_FfnBwdIdeal := fun m ρ _ => Cert.FfnBwdIdeal.Own.frame m ρ

theorem frame_ri : Cert.quiescent_FfnBwdRefIdeal := fun m ρ _ =>
  (θ_run Cert.FfnBwdRefIdeal.defs _ _).mono (fun r h => ⟨fun c => (h c).2.2.2.2.2.2.2, sem_eq_zero_of_no_sems (by decide) r.2⟩)
    (Cert.FfnBwdRefIdeal.Value.run (F := Ideal) m ρ)

theorem frame_pi_pre [Cert.Pre_ffn_finite.Facts] : Cert.quiescent_FfnBwdIdeal_pre_ffn_finite := fun m ρ _ => frame_pi m ρ trivial

theorem frame_ri_pre [Cert.Pre_ffn_finite.Facts] : Cert.quiescent_FfnBwdRefIdeal_pre_ffn_finite := fun m ρ _ => frame_ri m ρ trivial

open Cert.FfnBwdIdeal.Own Cert.FfnBwdRefIdeal.Read in
theorem algebraic [Cert.Pre_ffn_finite.Facts] : Cert.algebraic_FfnBwdIdeal_FfnBwdRefIdeal_pre_ffn_finite := by
  intro m g m' g' hpre hagree
  refine ⟨R8 m, R9 m, R10 m, R11 m, R12 m, R13 m, R14 m, ?_, ?_⟩
  · exact θ_run_and (results m g) (unchanged m g) |> fun h => (θ_run _ _ _).mono (fun r h c => by
      obtain ⟨h, k⟩ := h
      obtain ⟨r0, r1, r2, r3, r4, r5, r6⟩ := h c
      exact ⟨r0, r1, r2, r3, r4, r5, r6, k c⟩) h
  · refine (θ_run Cert.FfnBwdRefIdeal.defs _ _).mono (fun r h c => ?_) (Cert.FfnBwdRefIdeal.Value.run (F := Ideal) m' g')
    obtain ⟨e0, e1, e2, e3, e4, e5, e6, e7⟩ := hagree c
    obtain ⟨hX, hY, hMo, hG, hWg, hWu, hWd⟩ := finite_of _ _ _ _ _ _ _ _ (hpre c)
    obtain ⟨r0, r1, r2, r3, r4, r5, r6, k⟩ := h c
    refine ⟨r0.trans ?_, r1.trans ?_, r2.trans ?_, r3.trans ?_, r4.trans ?_, r5.trans ?_, r6.trans ?_, k⟩
    · rw [val_main_v97_eq, e0, e1, e3, e4, e5, e6, e7]
      funext j
      idx_vars j
      exact res_v97 (aX m c) (aY m c) (aMo m c) (aG m c) (aWg m c) (aWu m c) (aWd m c) j0 j1 j2 hX hY hMo hG hWg hWu hWd
    · rw [val_main_v100_eq, e0, e1, e3, e4, e5, e7]
      funext j
      idx_vars j
      exact res_v100 (aX m c) (aY m c) (aMo m c) (aG m c) (aWg m c) (aWd m c) j0 j1 j2
    · rw [val_main_v103_eq, e0, e3, e4, e5, e6]
      funext j
      idx_vars j
      exact res_v103 (aX m c) (aMo m c) (aG m c) (aWg m c) (aWu m c) j0 j1 j2
    · rw [val_main_v104_eq, e0, e1, e3, e4, e5, e6, e7]
      funext j
      idx_vars j
      exact res_v104 (aX m c) (aY m c) (aMo m c) (aG m c) (aWg m c) (aWu m c) (aWd m c) j0 j1 hX hY hMo hG hWg hWu hWd
    · rw [val_main_v106_eq, e0, e1, e3, e4, e5, e6, e7]
      funext j
      idx_vars j
      exact res_v106 (aX m c) (aY m c) (aMo m c) (aG m c) (aWg m c) (aWu m c) (aWd m c) j0 j1 hX hY hMo hG hWg hWu hWd
    · rw [val_main_v108_eq, e0, e1, e3, e4, e5, e6, e7]
      funext j
      idx_vars j
      exact res_v108 (aX m c) (aY m c) (aMo m c) (aG m c) (aWg m c) (aWu m c) (aWd m c) j1 hX hY hMo hG hWg hWu hWd j0
    · rw [val_main_v109_eq, e0, e1, e2, e3, e4, e5, e6, e7]
      funext j
      idx_vars j
      exact res_v109 (aX m c) (aY m c) (aMi m c) (aMo m c) (aG m c) (aWg m c) (aWu m c) (aWd m c) j2 hX hY hMo hG hWg hWu hWd j0 j1

end Cert.FfnBwdProof
end
-- ==== Proof.FfnFwdFrame.lean ====
module
public import proofs.«01_k».proof.Proof.Gen.FfnFwdIdeal.Frame.RunA
public import proofs.«01_k».proof.Proof.Gen.FfnFwdIdeal.Frame.RunB
public import proofs.«01_k».proof.Proof.Gen.FfnFwdIdeal.Frame.RunC
public import Idealize.ShloMosaic.Lib.Claim

/-! The frame of the call: what each point leaves in its outputs and in the weights it keeps, point by point, the body at
every point, and the run. The three cases are the first point, the first point of a later sequence, and every other. -/

@[expose] public section

set_option maxRecDepth 16384

noncomputable section

namespace Cert.FfnFwdIdeal.Own

open Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Contents
variable (c : Dev nD) (i : grid0.Coords) (arg1 : Memref sig .tc .vmem S512x1024 .bf16) (harg1 : arg1.IsWhole) (arg2 : Memref sig .tc .vmem S1x8x1024 .f32) (harg2 : arg2.IsWhole) (arg3 : Memref sig .tc .vmem S512x1024 .f32) (harg3 : arg3.IsWhole) (arg4 : Memref sig .tc .vmem S512x1024 .f32) (harg4 : arg4.IsWhole) (arg8 : Memref sig .tc .vmem S11x512x256 .bf16) (harg8 : arg8.IsWhole) (arg9 : Memref sig .tc .vmem S11x512x256 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S8x1024 .f32) (harg12 : arg12.IsWhole) (arg13 : Memref sig .tc .vmem S1x8x1024 .f32) (harg13 : arg13.IsWhole) (arg14 : Memref sig .tc .vmem S2816x1024 .bf16) (harg14 : arg14.IsWhole) (arg15 : Memref sig .tc .vmem S2816x1024 .bf16) (harg15 : arg15.IsWhole) (arg16 : Memref sig .tc .vmem S2816x1024 .bf16) (harg16 : arg16.IsWhole)
    (x0 : Vec F S512x1024 .bf16) (x1 : Vec F S1x8x1024 .f32) (x2 : Vec F S512x1024 .f32) (x3 : Vec F S512x1024 .f32) (xo8 : Vec F S8x1024 .f32) (xo9 : Vec F S1x8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2)

/-- The stores of case A cover output 4. -/
theorem cover0_A_4 (hc0 : cond0_0 i) (hc1 : cond0_1 i) (hc2 : cond0_2 i) (y : S11x512x256.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).1 S1x512x256.size (by sl_kernel_rfl) y

/-- What case A leaves in output 4. -/
def out0_A_4 (hc0 : cond0_0 i) (hc1 : cond0_1 i) (hc2 : cond0_2 i) : Vec F S11x512x256 .bf16 :=
  VO0_4.read (Elt F) (VO0_4.writes (Elt F) VO0_4.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).1)

/-- The stores of case A cover output 5. -/
theorem cover0_A_5 (hc0 : cond0_0 i) (hc1 : cond0_1 i) (hc2 : cond0_2 i) (y : S11x512x256.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.1 S1x512x256.size (by sl_kernel_rfl) y

/-- What case A leaves in output 5. -/
def out0_A_5 (hc0 : cond0_0 i) (hc1 : cond0_1 i) (hc2 : cond0_2 i) : Vec F S11x512x256 .bf16 :=
  VO0_5.read (Elt F) (VO0_5.writes (Elt F) VO0_5.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.1)

/-- The stores of case A cover output 6. -/
theorem cover0_A_6 (hc0 : cond0_0 i) (hc1 : cond0_1 i) (hc2 : cond0_2 i) (y : S512x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.1 S512x1024.size (by sl_kernel_rfl) y

/-- What case A leaves in output 6. -/
def out0_A_6 (hc0 : cond0_0 i) (hc1 : cond0_1 i) (hc2 : cond0_2 i) : Vec F S512x1024 .f32 :=
  VO0_6.read (Elt F) (VO0_6.writes (Elt F) VO0_6.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.1)

/-- The stores of case A cover output 7. -/
theorem cover0_A_7 (hc0 : cond0_0 i) (hc1 : cond0_1 i) (hc2 : cond0_2 i) (y : S512x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.1 S512x1024.size (by sl_kernel_rfl) y

/-- What case A leaves in output 7. -/
def out0_A_7 (hc0 : cond0_0 i) (hc1 : cond0_1 i) (hc2 : cond0_2 i) : Vec F S512x1024 .bf16 :=
  VO0_7.read (Elt F) (VO0_7.writes (Elt F) VO0_7.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.1)

/-- The stores of case A cover output 8. -/
theorem cover0_A_8 (hc0 : cond0_0 i) (hc1 : cond0_1 i) (hc2 : cond0_2 i) (y : S8x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.1, y ∈ pc.1.set :=
  View.cover_of_tiledBy (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.1 ![1, 1024] (by sl_kernel_rfl) y

/-- What case A leaves in output 8. -/
def out0_A_8 (hc0 : cond0_0 i) (hc1 : cond0_1 i) (hc2 : cond0_2 i) : Vec F S8x1024 .f32 :=
  VO0_8.read (Elt F) (VO0_8.writes (Elt F) VO0_8.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.1)

/-- The stores of case A cover output 9. -/
theorem cover0_A_9 (hc0 : cond0_0 i) (hc1 : cond0_1 i) (hc2 : cond0_2 i) (y : S1x8x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.1, y ∈ pc.1.set :=
  View.cover_of_tiledBy (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.1 ![1, 1, 1024] (by sl_kernel_rfl) y

/-- What case A leaves in output 9. -/
def out0_A_9 (hc0 : cond0_0 i) (hc1 : cond0_1 i) (hc2 : cond0_2 i) : Vec F S1x8x1024 .f32 :=
  VO0_9.read (Elt F) (VO0_9.writes (Elt F) VO0_9.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.1)

/-- The stores of case A cover the scratch 0. -/
theorem scover0_A_0 (hc0 : cond0_0 i) (hc1 : cond0_1 i) (hc2 : cond0_2 i) (y : S2816x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.1 S2816x1024.size (by sl_kernel_rfl) y

/-- What case A leaves in scratch 0. -/
def sout0_A_0 (hc0 : cond0_0 i) (hc1 : cond0_1 i) (hc2 : cond0_2 i) : Vec F S2816x1024 .bf16 :=
  VS0_0.read (Elt F) (VS0_0.writes (Elt F) VS0_0.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.1)

/-- The stores of case A cover the scratch 1. -/
theorem scover0_A_1 (hc0 : cond0_0 i) (hc1 : cond0_1 i) (hc2 : cond0_2 i) (y : S2816x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.2.1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.2.1 S2816x1024.size (by sl_kernel_rfl) y

/-- What case A leaves in scratch 1. -/
def sout0_A_1 (hc0 : cond0_0 i) (hc1 : cond0_1 i) (hc2 : cond0_2 i) : Vec F S2816x1024 .bf16 :=
  VS0_1.read (Elt F) (VS0_1.writes (Elt F) VS0_1.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.2.1)

/-- The stores of case A cover the scratch 2. -/
theorem scover0_A_2 (hc0 : cond0_0 i) (hc1 : cond0_1 i) (hc2 : cond0_2 i) (y : S2816x1024.Idx) :
    ∃ pc ∈ (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.2.2.1, y ∈ pc.1.set :=
  View.cover_of_tiledL (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.2.2.1 S2816x1024.size (by sl_kernel_rfl) y

/-- What case A leaves in scratch 2. -/
def sout0_A_2 (hc0 : cond0_0 i) (hc1 : cond0_1 i) (hc2 : cond0_2 i) : Vec F S2816x1024 .bf16 :=
  VS0_2.read (Elt F) (VS0_2.writes (Elt F) VS0_2.junk (kernelRun0_A c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 fh0 fh1 fh2).2.2.2.2.2.2.2.2.1)

/-- The stores of case B cover output 4. -/
theorem cover0_B_4 (hc0 : ¬cond0_0 i) (hc1 : ¬cond0_1 i) (hc2 : ¬cond0_2 i) (y : S11x512x256.Idx) :
    ∃ pc ∈ (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).1, y ∈ pc.1.set :=
  View.cover_of_tiledL (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).1 S1x512x256.size (by sl_kernel_rfl) y

/-- What case B leaves in output 4. -/
def out0_B_4 (hc0 : ¬cond0_0 i) (hc1 : ¬cond0_1 i) (hc2 : ¬cond0_2 i) : Vec F S11x512x256 .bf16 :=
  VO0_4.read (Elt F) (VO0_4.writes (Elt F) VO0_4.junk (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).1)

/-- The stores of case B cover output 5. -/
theorem cover0_B_5 (hc0 : ¬cond0_0 i) (hc1 : ¬cond0_1 i) (hc2 : ¬cond0_2 i) (y : S11x512x256.Idx) :
    ∃ pc ∈ (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.1, y ∈ pc.1.set :=
  View.cover_of_tiledL (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.1 S1x512x256.size (by sl_kernel_rfl) y

/-- What case B leaves in output 5. -/
def out0_B_5 (hc0 : ¬cond0_0 i) (hc1 : ¬cond0_1 i) (hc2 : ¬cond0_2 i) : Vec F S11x512x256 .bf16 :=
  VO0_5.read (Elt F) (VO0_5.writes (Elt F) VO0_5.junk (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.1)

/-- The stores of case B cover output 6. -/
theorem cover0_B_6 (hc0 : ¬cond0_0 i) (hc1 : ¬cond0_1 i) (hc2 : ¬cond0_2 i) (y : S512x1024.Idx) :
    ∃ pc ∈ (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.1, y ∈ pc.1.set :=
  View.cover_of_tiledL (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.1 S512x1024.size (by sl_kernel_rfl) y

/-- What case B leaves in output 6. -/
def out0_B_6 (hc0 : ¬cond0_0 i) (hc1 : ¬cond0_1 i) (hc2 : ¬cond0_2 i) : Vec F S512x1024 .f32 :=
  VO0_6.read (Elt F) (VO0_6.writes (Elt F) VO0_6.junk (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.1)

/-- The stores of case B cover output 7. -/
theorem cover0_B_7 (hc0 : ¬cond0_0 i) (hc1 : ¬cond0_1 i) (hc2 : ¬cond0_2 i) (y : S512x1024.Idx) :
    ∃ pc ∈ (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.2.1, y ∈ pc.1.set :=
  View.cover_of_tiledL (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.2.1 S512x1024.size (by sl_kernel_rfl) y

/-- What case B leaves in output 7. -/
def out0_B_7 (hc0 : ¬cond0_0 i) (hc1 : ¬cond0_1 i) (hc2 : ¬cond0_2 i) : Vec F S512x1024 .bf16 :=
  VO0_7.read (Elt F) (VO0_7.writes (Elt F) VO0_7.junk (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.2.1)

/-- What case B leaves in output 8. -/
def out0_B_8 (hc0 : ¬cond0_0 i) (hc1 : ¬cond0_1 i) (hc2 : ¬cond0_2 i) : Vec F S8x1024 .f32 :=
  arg12.view.read (Elt F) (arg12.view.writes (Elt F) (harg12.unread xo8) (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.2.2.1)

/-- What case B leaves in output 9. -/
def out0_B_9 (hc0 : ¬cond0_0 i) (hc1 : ¬cond0_1 i) (hc2 : ¬cond0_2 i) : Vec F S1x8x1024 .f32 :=
  arg13.view.read (Elt F) (arg13.view.writes (Elt F) (harg13.unread xo9) (kernelRun0_B c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xo9 xs0 xs1 xs2 fh0 fh1 fh2).2.2.2.2.2.1)

/-- The stores of case C cover output 4. -/
theorem cover0_C_4 (hc0 : ¬cond0_0 i) (hc1 : ¬cond0_1 i) (hc2 : cond0_2 i) (y : S11x512x256.Idx) :
    ∃ pc ∈ (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).1, y ∈ pc.1.set :=
  View.cover_of_tiledL (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).1 S1x512x256.size (by sl_kernel_rfl) y

/-- What case C leaves in output 4. -/
def out0_C_4 (hc0 : ¬cond0_0 i) (hc1 : ¬cond0_1 i) (hc2 : cond0_2 i) : Vec F S11x512x256 .bf16 :=
  VO0_4.read (Elt F) (VO0_4.writes (Elt F) VO0_4.junk (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).1)

/-- The stores of case C cover output 5. -/
theorem cover0_C_5 (hc0 : ¬cond0_0 i) (hc1 : ¬cond0_1 i) (hc2 : cond0_2 i) (y : S11x512x256.Idx) :
    ∃ pc ∈ (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.1, y ∈ pc.1.set :=
  View.cover_of_tiledL (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.1 S1x512x256.size (by sl_kernel_rfl) y

/-- What case C leaves in output 5. -/
def out0_C_5 (hc0 : ¬cond0_0 i) (hc1 : ¬cond0_1 i) (hc2 : cond0_2 i) : Vec F S11x512x256 .bf16 :=
  VO0_5.read (Elt F) (VO0_5.writes (Elt F) VO0_5.junk (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.1)

/-- The stores of case C cover output 6. -/
theorem cover0_C_6 (hc0 : ¬cond0_0 i) (hc1 : ¬cond0_1 i) (hc2 : cond0_2 i) (y : S512x1024.Idx) :
    ∃ pc ∈ (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.1, y ∈ pc.1.set :=
  View.cover_of_tiledL (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.1 S512x1024.size (by sl_kernel_rfl) y

/-- What case C leaves in output 6. -/
def out0_C_6 (hc0 : ¬cond0_0 i) (hc1 : ¬cond0_1 i) (hc2 : cond0_2 i) : Vec F S512x1024 .f32 :=
  VO0_6.read (Elt F) (VO0_6.writes (Elt F) VO0_6.junk (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.1)

/-- The stores of case C cover output 7. -/
theorem cover0_C_7 (hc0 : ¬cond0_0 i) (hc1 : ¬cond0_1 i) (hc2 : cond0_2 i) (y : S512x1024.Idx) :
    ∃ pc ∈ (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.1, y ∈ pc.1.set :=
  View.cover_of_tiledL (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.1 S512x1024.size (by sl_kernel_rfl) y

/-- What case C leaves in output 7. -/
def out0_C_7 (hc0 : ¬cond0_0 i) (hc1 : ¬cond0_1 i) (hc2 : cond0_2 i) : Vec F S512x1024 .bf16 :=
  VO0_7.read (Elt F) (VO0_7.writes (Elt F) VO0_7.junk (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.1)

/-- What case C leaves in output 8. -/
def out0_C_8 (hc0 : ¬cond0_0 i) (hc1 : ¬cond0_1 i) (hc2 : cond0_2 i) : Vec F S8x1024 .f32 :=
  arg12.view.read (Elt F) (arg12.view.writes (Elt F) (harg12.unread xo8) (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.2.1)

/-- The stores of case C cover output 9. -/
theorem cover0_C_9 (hc0 : ¬cond0_0 i) (hc1 : ¬cond0_1 i) (hc2 : cond0_2 i) (y : S1x8x1024.Idx) :
    ∃ pc ∈ (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.2.2.1, y ∈ pc.1.set :=
  View.cover_of_tiledBy (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.2.2.1 ![1, 1, 1024] (by sl_kernel_rfl) y

/-- What case C leaves in output 9. -/
def out0_C_9 (hc0 : ¬cond0_0 i) (hc1 : ¬cond0_1 i) (hc2 : cond0_2 i) : Vec F S1x8x1024 .f32 :=
  VO0_9.read (Elt F) (VO0_9.writes (Elt F) VO0_9.junk (kernelRun0_C c i arg1 harg1 arg2 harg2 arg3 harg3 arg4 harg4 arg8 harg8 arg9 harg9 arg10 harg10 arg11 harg11 arg12 harg12 arg13 harg13 arg14 harg14 arg15 harg15 arg16 harg16 hc0 hc1 hc2 x0 x1 x2 x3 xo8 xs0 xs1 xs2 fh0 fh1 fh2).2.2.2.2.2.1)

end Contents

variable (m : (ℓ : Loc nD τ sig) → Buf (Elt F) ℓ) (ρ : Dev nD → PrngReg)

set_option maxHeartbeats 4000000
/-- What a point of case A leaves. -/
def pointA (c : Dev nD) (t : Fin cfg0.N) (h0 : t.val % 16 = 0) (h1 : t.val % 16 = 0) (h2 : t.val % 4 = 0) : Vec F S11x512x256 .bf16 × Vec F S11x512x256 .bf16 × Vec F S512x1024 .f32 × Vec F S512x1024 .bf16 × Vec F S8x1024 .f32 × Vec F S1x8x1024 .f32 × Vec F S2816x1024 .bf16 × Vec F S2816x1024 .bf16 × Vec F S2816x1024 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (V m c main_v4) (V m c main_v6) (V m c main_v7) ((hcond0_0 t).mpr h0) ((hcond0_1 t).mpr h1) ((hcond0_2 t).mpr h2))

/-- What a point of case B leaves. -/
def pointB (c : Dev nD) (t : Fin cfg0.N) (h0 : ¬t.val % 16 = 0) (h1 : ¬t.val % 16 = 0) (h2 : ¬t.val % 4 = 0) (p : Vec F S11x512x256 .bf16 × Vec F S11x512x256 .bf16 × Vec F S512x1024 .f32 × Vec F S512x1024 .bf16 × Vec F S8x1024 .f32 × Vec F S1x8x1024 .f32 × Vec F S2816x1024 .bf16 × Vec F S2816x1024 .bf16 × Vec F S2816x1024 .bf16) : Vec F S11x512x256 .bf16 × Vec F S11x512x256 .bf16 × Vec F S512x1024 .f32 × Vec F S512x1024 .bf16 × Vec F S8x1024 .f32 × Vec F S1x8x1024 .f32 × Vec F S2816x1024 .bf16 × Vec F S2816x1024 .bf16 × Vec F S2816x1024 .bf16 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) (fun h => h2 ((hcond0_2 t).mp h)),
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) (fun h => h2 ((hcond0_2 t).mp h)),
   out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) (fun h => h2 ((hcond0_2 t).mp h)),
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) (fun h => h2 ((hcond0_2 t).mp h)),
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) (fun h => h2 ((hcond0_2 t).mp h)),
   out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) (fun h => h2 ((hcond0_2 t).mp h)),
   p.2.2.2.2.2.2.1,
   p.2.2.2.2.2.2.2.1,
   p.2.2.2.2.2.2.2.2)

/-- What a point of case C leaves. -/
def pointC (c : Dev nD) (t : Fin cfg0.N) (h0 : ¬t.val % 16 = 0) (h1 : ¬t.val % 16 = 0) (h2 : t.val % 4 = 0) (p : Vec F S11x512x256 .bf16 × Vec F S11x512x256 .bf16 × Vec F S512x1024 .f32 × Vec F S512x1024 .bf16 × Vec F S8x1024 .f32 × Vec F S1x8x1024 .f32 × Vec F S2816x1024 .bf16 × Vec F S2816x1024 .bf16 × Vec F S2816x1024 .bf16) : Vec F S11x512x256 .bf16 × Vec F S11x512x256 .bf16 × Vec F S512x1024 .f32 × Vec F S512x1024 .bf16 × Vec F S8x1024 .f32 × Vec F S1x8x1024 .f32 × Vec F S2816x1024 .bf16 × Vec F S2816x1024 .bf16 × Vec F S2816x1024 .bf16 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) ((hcond0_2 t).mpr h2),
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) ((hcond0_2 t).mpr h2),
   out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) ((hcond0_2 t).mpr h2),
   out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) ((hcond0_2 t).mpr h2),
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) ((hcond0_2 t).mpr h2),
   out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) p.2.2.2.2.1 p.2.2.2.2.2.2.1 p.2.2.2.2.2.2.2.1 p.2.2.2.2.2.2.2.2 (V m c main_v4) (V m c main_v6) (V m c main_v7) (fun h => h0 ((hcond0_0 t).mp h)) (fun h => h1 ((hcond0_1 t).mp h)) ((hcond0_2 t).mpr h2),
   p.2.2.2.2.2.2.1,
   p.2.2.2.2.2.2.2.1,
   p.2.2.2.2.2.2.2.2)

set_option maxHeartbeats 400000

/-- What the outputs and the kept weights hold after each point. -/
def outsAt0 (c : Dev nD) : (n : ℕ) → n < cfg0.N → Vec F S11x512x256 .bf16 × Vec F S11x512x256 .bf16 × Vec F S512x1024 .f32 × Vec F S512x1024 .bf16 × Vec F S8x1024 .f32 × Vec F S1x8x1024 .f32 × Vec F S2816x1024 .bf16 × Vec F S2816x1024 .bf16 × Vec F S2816x1024 .bf16
  | 0, hn => pointA m c ⟨0, hn⟩ (Nat.zero_mod _) (Nat.zero_mod _) (Nat.zero_mod _)
  | n + 1, hn =>
    if h0 : (n + 1) % 16 = 0 then pointA m c ⟨n + 1, hn⟩ h0 h0 (by change (n + 1) % 16 = 0 at h0; change (n + 1) % 4 = 0; omega)
    else if h2 : (n + 1) % 4 = 0 then pointC m c ⟨n + 1, hn⟩ h0 h0 h2 (outsAt0 c n (Nat.lt_of_succ_lt hn))
    else pointB m c ⟨n + 1, hn⟩ h0 h0 h2 (outsAt0 c n (Nat.lt_of_succ_lt hn))

theorem outsAt0_A (c : Dev nD) (t : Fin cfg0.N) (h0 : t.val % 16 = 0) (h1 : t.val % 16 = 0) (h2 : t.val % 4 = 0) :
    outsAt0 m c t.val t.isLt = pointA m c t h0 h1 h2 := by
  obtain ⟨n, hn⟩ := t
  cases n with
  | zero => rfl
  | succ n => exact dif_pos h0

theorem outsAt0_B (c : Dev nD) (t : Fin cfg0.N) (h0 : ¬t.val % 16 = 0) (h1 : ¬t.val % 16 = 0) (h2 : ¬t.val % 4 = 0) :
    outsAt0 m c t.val t.isLt = pointB m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h2)

theorem outsAt0_C (c : Dev nD) (t : Fin cfg0.N) (h0 : ¬t.val % 16 = 0) (h1 : ¬t.val % 16 = 0) (h2 : t.val % 4 = 0) :
    outsAt0 m c t.val t.isLt = pointC m c t h0 h1 h2 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h2)

def PhiS (c : Dev nD) : (n : ℕ) → n ≤ cfg0.N → sProp (MT nD τ sig Unit (Elt F) ℕ (Pipeline.UD sig nD τ) ℕ)
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v4) ∗ hbPt0 c hbM0_1 (V m c main_v6) ∗ hbPt0 c hbM0_2 (V m c main_v7)))

theorem PhiS_zero (c : Dev nD) (n : ℕ) (h : n ≤ cfg0.N) (hz : n = 0) : PhiS m c n h = Pipeline.ΦD osem0 spec0 H0 (V m) c := by
  subst hz; rfl

/-- After point n (before point n + 1): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v4) ∗ hbPt0 c hbM0_1 (V m c main_v6) ∗ hbPt0 c hbM0_2 (V m c main_v7))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r) ∗ iprop(semVal ((c : Thread nD τ), SemLoc.dma 19) 0 ∗ semVal ((c : Thread nD τ), SemLoc.dma 20) 0 ∗ semVal ((c : Thread nD τ), SemLoc.dma 21) 0) ∗ iprop(hbPt0 c hbM0_0 (V m c main_v4) ∗ hbPt0 c hbM0_1 (V m c main_v6) ∗ hbPt0 c hbM0_2 (V m c main_v7))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start (the proof data at t.castSucc), restated at t.val. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_8_B (c : Dev nD) (t : Fin cfg0.N) (h0 : ¬t.val % 16 = 0) (h1 : ¬t.val % 16 = 0) (h2 : ¬t.val % 4 = 0) (d) :
    (dats m 0 c).before 8 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_9_B (c : Dev nD) (t : Fin cfg0.N) (h0 : ¬t.val % 16 = 0) (h1 : ¬t.val % 16 = 0) (h2 : ¬t.val % 4 = 0) (d) :
    (dats m 0 c).before 9 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
theorem before0_8_C (c : Dev nD) (t : Fin cfg0.N) (h0 : ¬t.val % 16 = 0) (h1 : ¬t.val % 16 = 0) (h2 : t.val % 4 = 0) (d) :
    (dats m 0 c).before 8 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]

/-! ## The body obligation, at a generic point -/

/-- What the body is called with at point t, the windows one by one. -/
def bodyPre (c : Dev nD) (t : Fin cfg0.N) : sProp (MT nD τ sig Unit (Elt F) ℕ (Pipeline.UD sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp (MT nD τ sig Unit (Elt F) ℕ (Pipeline.UD sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 14400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 0
    · by_cases h2 : t.val % 4 = 0
      · by_cases hz : t.val = 0
        · rw [PhiS_castSucc m c t, PhiS_zero m c _ _ hz, PhiD0_eq]
          rw [outsAt0_A m c t h0 h1 h2]
          unfold pointA out0_A_4 out0_A_5 out0_A_6 out0_A_7 out0_A_8 out0_A_9 sout0_A_0 sout0_A_1 sout0_A_2; (try dsimp only)
          iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ _ _ _ _ ((hcond0_0 t).mpr h0) ((hcond0_1 t).mpr h1) ((hcond0_2 t).mpr h2) (iblk m c 0 t) (iblk m c 1 t) (iblk m c 2 t) (iblk m c 3 t) (V m c main_v4) (V m c main_v6) (V m c main_v7)).2.2.2.2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [HS0]; · iexact HS0
          isplitl [HS1]; · iexact HS1
          isplitl [HS2]; · iexact HS2
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, Hq0, Hq1, Hq2, Hh0, Hh1, Hh2, ⟨%W', HW'⟩⟩
          isplitl [HS0 HS1 HS2 Hg Hq0 Hq1 Hq2 Hh0 Hh1 Hh2]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _)
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_A_4 c _ _ _ _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _)
        · exfalso; have hN : t.val < 16 := lt_of_lt_of_eq t.isLt (show cfg0.N = 16 from N_0); omega
      · exfalso; omega
    · exfalso; omega
  · by_cases h1 : t.val % 16 = 0
    · exfalso; omega
    · by_cases h2 : t.val % 4 = 0
      · by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]
          simp only [before0_8_C m c t h0 h1 h2]
          unfold pointC out0_C_4 out0_C_5 out0_C_6 out0_C_7 out0_C_8 out0_C_9; (try dsimp only)
          iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _ _ _ (V m c main_v4) (V m c main_v6) (V m c main_v7)).2.2.2.2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [H8]; · iexact H8
          isplitl [H9]; · iexists _; iexact H9
          isplitl [HS0]; · iexact HS0
          isplitl [HS1]; · iexact HS1
          isplitl [HS2]; · iexact HS2
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, ⟨%e4, H4⟩, ⟨%e5, H5⟩, ⟨%e6, H6⟩, ⟨%e7, H7⟩, H8, ⟨%e9, H9⟩, HS0, HS1, HS2, Hq0, Hq1, Hq2, Hh0, Hh1, Hh2, ⟨%W', HW'⟩⟩
          isplitl [HS0 HS1 HS2 Hg Hq0 Hq1 Hq2 Hh0 Hh1 Hh2]
          · isplitl [HS0 HS1 HS2]
            · isplitl [HS0]; · iexact HS0
              isplitl [HS1]; · iexact HS1
              iexact HS2
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_C_4 c _ _ _ _ _ _ _ _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _ _ _ _ _ _ _ _ _ _)
          isplitl [H8]
          · unfold owns; iexists _; isplitr
            swap; · iexact H8
            ipureintro; rfl
          unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _)
      · by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]
          simp only [before0_8_B m c t h0 h1 h2, before0_9_B m c t h0 h1 h2]
          unfold pointB out0_B_4 out0_B_5 out0_B_6 out0_B_7 out0_B_8 out0_B_9; (try dsimp only)
          iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) _ _ _ _ _ (V m c main_v4) (V m c main_v6) (V m c main_v7)).2.2.2.2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [H8]; · iexact H8
          isplitl [H9]; · iexact H9
          isplitl [HS0]; · iexact HS0
          isplitl [HS1]; · iexact HS1
          isplitl [HS2]; · iexact HS2
          isplitl [Hq0]; · iexact Hq0
          isplitl [Hq1]; · iexact Hq1
          isplitl [Hq2]; · iexact Hq2
          isplitl [Hh0]; · iexact Hh0
          isplitl [Hh1]; · iexact Hh1
          isplitl [Hh2]; · iexact Hh2
          isplitl [HW]; · iexact HW
          iintro ⟨H0, H1, H2, H3, ⟨%e4, H4⟩, ⟨%e5, H5⟩, ⟨%e6, H6⟩, ⟨%e7, H7⟩, H8, H9, HS0, HS1, HS2, Hq0, Hq1, Hq2, Hh0, Hh1, Hh2, ⟨%W', HW'⟩⟩
          isplitl [HS0 HS1 HS2 Hg Hq0 Hq1 Hq2 Hh0 Hh1 Hh2]
          · isplitl [HS0 HS1 HS2]
            · isplitl [HS0]; · iexact HS0
              isplitl [HS1]; · iexact HS1
              iexact HS2
            isplitl [Hg]
            · iexact Hg
            isplitl [Hq0 Hq1 Hq2]
            · isplitl [Hq0]; · iexact Hq0
              isplitl [Hq1]; · iexact Hq1
              iexact Hq2
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_B_4 c _ _ _ _ _ _ _ _ _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _ _ _ _ _ _)
          isplitl [H8]
          · unfold owns; iexists _; isplitr
            swap; · iexact H8
            ipureintro; rfl
          unfold owns; iexists _; isplitr
          swap; · iexact H9
          ipureintro; rfl

/-- The body table's row at point t's slots is the body as bodyAt0 spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (ΦD) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives ΦD back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2⟩, ⟨Hh0, Hh1, Hh2⟩⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- frame without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnFwdIdeal.Own

end
-- ==== Proof.FfnFwdForms.lean ====
module
public import proofs.«01_k».proof.Defs
public import proofs.«01_k».proof.Proof.Common
public import proofs.«01_k».proof.Proof.Layer
public import proofs.«01_k».proof.Proof.FfnFwdFrame

/-! What one point of the call writes, as formulas in the blocks it reads: `x` the layer's normed and modulated input, `mo` the
modulation, `x1` the layer's input, `y` the target, `w0`, `w1`, `w2` the three weights. -/

@[expose] public section
set_option maxRecDepth 16384
noncomputable section
namespace Cert.FfnFwdIdeal.Own
open Cert.FfnFwdIdeal Cert.FfnFwdIdeal.Gen Idealize.ShloMosaic Idealize.ShloMosaic.TcCoe Idealize.SL.Sem Cert.Common

/-- A product with a weight, at column `k` of tile `s`: the gate's with `w0`, the gated factor's with `w1`. -/
def lin (x : Vec Ideal S512x1024 .bf16) (w : Vec Ideal S2816x1024 .bf16) (s : Fin 11) (r : Fin 512) (k : Fin 256) : EReal :=
  ∑ q : Fin 1024, x (ix2 r q) * w (ix2 (row s k) q)

/-- The gated product. -/
def act (x : Vec Ideal S512x1024 .bf16) (w0 w1 : Vec Ideal S2816x1024 .bf16) (s : Fin 11) (r : Fin 512) (k : Fin 256) : EReal :=
  lin x w0 s r k * sg (lin x w0 s r k) * lin x w1 s r k

/-- The layer's branch. -/
def fb (x : Vec Ideal S512x1024 .bf16) (w0 w1 w2 : Vec Ideal S2816x1024 .bf16) (r : Fin 512) (j : Fin 1024) : EReal :=
  ∑ s : Fin 11, ∑ k : Fin 256, act x w0 w1 s r k * w2 (ix2 (row s k) j)

/-- The fold over the eleven tiles as the point runs it. -/
def fbVec (x0 : Vec Ideal S512x1024 .bf16) (w0 w1 w2 : Vec Ideal S2816x1024 .bf16) : FVec Ideal S512x1024 .f32 :=
  k0_pay62 (k0_pay50 (k0_pay4 (View.ld x0 (Rect.unit ![0, 0] ![512, 1024] inb_S512x1024_S512x1024_0_0))) (View.ld w0 (Rect.unit ![2304, 0] ![256,
    1024] inb_S2816x1024_S256x1024_2304_0))) (k0_pay51 (k0_pay4 (View.ld x0 (Rect.unit ![0, 0] ![512, 1024] inb_S512x1024_S512x1024_0_0)))
    (View.ld w1 (Rect.unit ![2304, 0] ![256, 1024] inb_S2816x1024_S256x1024_2304_0)) (constant S512x256 .f32 0#32)) (k0_pay54 (k0_pay45 (k0_pay4
    (View.ld x0 (Rect.unit ![0, 0] ![512, 1024] inb_S512x1024_S512x1024_0_0))) (View.ld w0 (Rect.unit ![2048, 0] ![256, 1024]
    inb_S2816x1024_S256x1024_2048_0))) (k0_pay46 (k0_pay4 (View.ld x0 (Rect.unit ![0, 0] ![512, 1024] inb_S512x1024_S512x1024_0_0))) (View.ld w1
    (Rect.unit ![2048, 0] ![256, 1024] inb_S2816x1024_S256x1024_2048_0))) (k0_pay49 (k0_pay39 (k0_pay29 (k0_pay4 (View.ld x0 (Rect.unit ![0, 0]
    ![512, 1024] inb_S512x1024_S512x1024_0_0))) (View.ld w0 (Rect.unit ![1280, 0] ![256, 1024] inb_S2816x1024_S256x1024_1280_0))) (k0_pay30
    (k0_pay4 (View.ld x0 (Rect.unit ![0, 0] ![512, 1024] inb_S512x1024_S512x1024_0_0))) (View.ld w1 (Rect.unit ![1280, 0] ![256, 1024]
    inb_S2816x1024_S256x1024_1280_0)) (constant S512x256 .f32 0#32)) (k0_pay33 (k0_pay24 (k0_pay4 (View.ld x0 (Rect.unit ![0, 0] ![512, 1024]
    inb_S512x1024_S512x1024_0_0))) (View.ld w0 (Rect.unit ![1024, 0] ![256, 1024] inb_S2816x1024_S256x1024_1024_0))) (k0_pay25 (k0_pay4 (View.ld
    x0 (Rect.unit ![0, 0] ![512, 1024] inb_S512x1024_S512x1024_0_0))) (View.ld w1 (Rect.unit ![1024, 0] ![256, 1024]
    inb_S2816x1024_S256x1024_1024_0))) (k0_pay28 (k0_pay18 (k0_pay8 (View.ld x0 (Rect.unit ![0, 0] ![512, 1024] inb_S512x1024_S512x1024_0_0))
    (View.ld w0 (Rect.unit ![256, 0] ![256, 1024] inb_S2816x1024_S256x1024_256_0))) (k0_pay9 (k0_pay4 (View.ld x0 (Rect.unit ![0, 0] ![512, 1024]
    inb_S512x1024_S512x1024_0_0))) (View.ld w1 (Rect.unit ![256, 0] ![256, 1024] inb_S2816x1024_S256x1024_256_0)) (constant S512x256 .f32 0#32))
    (k0_pay12 k0_pay5 (k0_pay6 (View.ld x0 (Rect.unit ![0, 0] ![512, 1024] inb_S512x1024_S512x1024_0_0)) (View.ld w0 (Rect.unit ![0, 0] ![256,
    1024] inb_S2816x1024_S256x1024_0_0))) (k0_pay7 (View.ld x0 (Rect.unit ![0, 0] ![512, 1024] inb_S512x1024_S512x1024_0_0)) (View.ld w1
    (Rect.unit ![0, 0] ![256, 1024] inb_S2816x1024_S256x1024_0_0))) (View.ld w2 (Rect.unit ![0, 0] ![256, 1024] inb_S2816x1024_S256x1024_0_0)))
    (View.ld w2 (Rect.unit ![256, 0] ![256, 1024] inb_S2816x1024_S256x1024_256_0))) (k0_pay19 (k0_pay4 (View.ld x0 (Rect.unit ![0, 0] ![512, 1024]
    inb_S512x1024_S512x1024_0_0))) (View.ld w0 (Rect.unit ![768, 0] ![256, 1024] inb_S2816x1024_S256x1024_768_0))) (k0_pay20 (k0_pay4 (View.ld x0
    (Rect.unit ![0, 0] ![512, 1024] inb_S512x1024_S512x1024_0_0))) (View.ld w1 (Rect.unit ![768, 0] ![256, 1024] inb_S2816x1024_S256x1024_768_0)))
    (k0_pay23 (k0_pay13 (k0_pay4 (View.ld x0 (Rect.unit ![0, 0] ![512, 1024] inb_S512x1024_S512x1024_0_0))) (View.ld w0 (Rect.unit ![512, 0]
    ![256, 1024] inb_S2816x1024_S256x1024_512_0))) (k0_pay14 (k0_pay4 (View.ld x0 (Rect.unit ![0, 0] ![512, 1024] inb_S512x1024_S512x1024_0_0)))
    (View.ld w1 (Rect.unit ![512, 0] ![256, 1024] inb_S2816x1024_S256x1024_512_0)))) (View.ld w2 (Rect.unit ![512, 0] ![256, 1024]
    inb_S2816x1024_S256x1024_512_0)) (View.ld w2 (Rect.unit ![768, 0] ![256, 1024] inb_S2816x1024_S256x1024_768_0))) (View.ld w2 (Rect.unit
    ![1024, 0] ![256, 1024] inb_S2816x1024_S256x1024_1024_0))) (View.ld w2 (Rect.unit ![1280, 0] ![256, 1024] inb_S2816x1024_S256x1024_1280_0)))
    (k0_pay40 (k0_pay4 (View.ld x0 (Rect.unit ![0, 0] ![512, 1024] inb_S512x1024_S512x1024_0_0))) (View.ld w0 (Rect.unit ![1792, 0] ![256, 1024]
    inb_S2816x1024_S256x1024_1792_0))) (k0_pay41 (k0_pay4 (View.ld x0 (Rect.unit ![0, 0] ![512, 1024] inb_S512x1024_S512x1024_0_0))) (View.ld w1
    (Rect.unit ![1792, 0] ![256, 1024] inb_S2816x1024_S256x1024_1792_0))) (k0_pay44 (k0_pay34 (k0_pay4 (View.ld x0 (Rect.unit ![0, 0] ![512, 1024]
    inb_S512x1024_S512x1024_0_0))) (View.ld w0 (Rect.unit ![1536, 0] ![256, 1024] inb_S2816x1024_S256x1024_1536_0))) (k0_pay35 (k0_pay4 (View.ld
    x0 (Rect.unit ![0, 0] ![512, 1024] inb_S512x1024_S512x1024_0_0))) (View.ld w1 (Rect.unit ![1536, 0] ![256, 1024]
    inb_S2816x1024_S256x1024_1536_0)))) (View.ld w2 (Rect.unit ![1536, 0] ![256, 1024] inb_S2816x1024_S256x1024_1536_0)) (View.ld w2 (Rect.unit
    ![1792, 0] ![256, 1024] inb_S2816x1024_S256x1024_1792_0))) (View.ld w2 (Rect.unit ![2048, 0] ![256, 1024] inb_S2816x1024_S256x1024_2048_0)))
    (k0_pay55 (k0_pay4 (View.ld x0 (Rect.unit ![0, 0] ![512, 1024] inb_S512x1024_S512x1024_0_0))) (View.ld w0 (Rect.unit ![2560, 0] ![256, 1024]
    inb_S2816x1024_S256x1024_2560_0))) (k0_pay56 (k0_pay4 (View.ld x0 (Rect.unit ![0, 0] ![512, 1024] inb_S512x1024_S512x1024_0_0))) (View.ld w1
    (Rect.unit ![2560, 0] ![256, 1024] inb_S2816x1024_S256x1024_2560_0))) (View.ld w2 (Rect.unit ![2304, 0] ![256, 1024]
    inb_S2816x1024_S256x1024_2304_0)) (View.ld w2 (Rect.unit ![2560, 0] ![256, 1024] inb_S2816x1024_S256x1024_2560_0))

set_option maxHeartbeats 4000000 in
theorem fbVec_eq (x0 : Vec Ideal S512x1024 .bf16) (w0 w1 w2 : Vec Ideal S2816x1024 .bf16) :
    fbVec x0 w0 w1 w2 = fun j => fb x0 w0 w1 w2 (j 0) (j 1) := by
  funext j
  idx_vars j
  unfold fbVec
  unfold_payloads
  pointwise
  rw [fb, sum_eleven]
  rfl

/-- One over the number of features, as the point has it. -/
def mean : EReal := Ideal.ofBits .f32 0x3A800000#32

/-- The layer's output less the target, `D` being the branch. -/
def diff (D : Fin 512 → Fin 1024 → EReal) (mo : Vec Ideal S1x8x1024 .f32) (x1 y : Vec Ideal S512x1024 .f32) (r : Fin 512) (j : Fin 1024) : EReal :=
  x1 (ix2 r j) + mo (ix3 0 5 j) * D r j - y (ix2 r j)

/-- The loss's derivative in the layer's output. -/
def dy (D : Fin 512 → Fin 1024 → EReal) (mo : Vec Ideal S1x8x1024 .f32) (x1 y : Vec Ideal S512x1024 .f32) (r : Fin 512) (j : Fin 1024) : EReal :=
  diff D mo x1 y r j * mean

/-- What the point adds to row `a` of the squares: only row 0 is used. -/
def sqAdd (D : Fin 512 → Fin 1024 → EReal) (mo : Vec Ideal S1x8x1024 .f32) (x1 y : Vec Ideal S512x1024 .f32) (a : Fin 8) (j : Fin 1024) : EReal :=
  if a = 0 then ∑ r, diff D mo x1 y r j * diff D mo x1 y r j else 0

/-- What the point adds to row `a` of the modulation's gradient: only row 0 is used. -/
def dmAdd (D : Fin 512 → Fin 1024 → EReal) (mo : Vec Ideal S1x8x1024 .f32) (x1 y : Vec Ideal S512x1024 .f32) (a : Fin 8) (j : Fin 1024) : EReal :=
  if a = 0 then ∑ r, dy D mo x1 y r j * D r j else 0

end Cert.FfnFwdIdeal.Own
end
-- ==== Proof.FfnFwdMath.lean ====
module
public import proofs.«01_k».proof.Defs
public import proofs.«01_k».proof.Proof.Common
public import proofs.«01_k».proof.Proof.Layer
public import proofs.«01_k».proof.Proof.FfnFwdForms

/-! The call's results as formulas in its arguments, one token at a time: `H` the normed and modulated input, `X` the layer's
input, `Y` the target, `Mo` the modulation, `Wg`, `Wu`, `Wd` the three weights. -/

@[expose] public section
set_option maxRecDepth 16384
set_option maxHeartbeats 2000000
noncomputable section
namespace Cert.FfnFwdIdeal.Own
open Cert.FfnFwdIdeal Cert.FfnFwdIdeal.Gen Idealize.ShloMosaic Idealize.ShloMosaic.TcCoe Idealize.SL.Sem Cert.Common
variable (H X Y : Vec Ideal S4x2048x1024 .f32) (Mo : Vec Ideal S4x6x1024 .f32) (Wg Wu : Vec Ideal S1024x2816 .f32) (Wd : Vec Ideal S2816x1024 .f32)
variable (b : Fin 4) (t : Fin 2048)

def linT (W : Vec Ideal S1024x2816 .f32) (p : Fin 2816) : EReal := ∑ q, H (ix3 b t q) * W (ix2 q p)
def actT (p : Fin 2816) : EReal := linT H b t Wg p * sg (linT H b t Wg p) * linT H b t Wu p
def fT (q : Fin 1024) : EReal := ∑ p, actT H Wg Wu b t p * Wd (ix2 p q)
def diffT (q : Fin 1024) : EReal := X (ix3 b t q) + Mo (ix3 b 5 q) * fT H Wg Wu Wd b t q - Y (ix3 b t q)
def dyT (q : Fin 1024) : EReal := diffT H X Y Mo Wg Wu Wd b t q * mean

/-- A term of the squares, and one of the modulation's gradient. -/
def sqT (q : Fin 1024) : EReal := diffT H X Y Mo Wg Wu Wd b t q * diffT H X Y Mo Wg Wu Wd b t q
def dmT (q : Fin 1024) : EReal := dyT H X Y Mo Wg Wu Wd b t q * fT H Wg Wu Wd b t q

theorem mean_eq : mean = ((1 / 1024 : ℝ) : EReal) := by
  simp [mean, Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- Half of one over the number of features, twice, is one over it. -/
theorem mean_form (d : EReal) : Ideal.div (Ideal.ofBits .f32 0x3F000000#32) wide * (Ideal.ofBits .f32 0x40000000#32 * d) = d * mean := by
  rw [half_eq, two_eq, wide_eq, mean_eq, div_coe (by norm_num), ← mul_assoc, ← EReal.coe_mul, mul_comm]
  norm_num

end Cert.FfnFwdIdeal.Own
end
-- ==== Proof.FfnFwdPoint.lean ====
module
public import proofs.«01_k».proof.Defs
public import proofs.«01_k».proof.Proof.Common
public import proofs.«01_k».proof.Proof.Layer
public import proofs.«01_k».proof.Proof.FfnFwdForms

/-! What one point of the call writes in each of its three cases: A at the first point, which also takes the weights into
memory, C at the first point of a later sequence, B at every other. -/

@[expose] public section
set_option maxRecDepth 16384
set_option maxHeartbeats 4000000
noncomputable section
namespace Cert.FfnFwdIdeal.Own
open Cert.FfnFwdIdeal Cert.FfnFwdIdeal.Gen Idealize.ShloMosaic Idealize.ShloMosaic.TcCoe Idealize.SL.Sem Cert.Common

/-- The three weights as the first point takes them. -/
def wt0 (c : Dev nD) (f : HbBuf0 (F := Ideal) c hbM0_0) : Vec Ideal S2816x1024 .bf16 := ReadAs.same.apply (View.read (Elt Ideal) (View.whole main_v4) f)
def wt1 (c : Dev nD) (f : HbBuf0 (F := Ideal) c hbM0_1) : Vec Ideal S2816x1024 .bf16 := ReadAs.same.apply (View.read (Elt Ideal) (View.whole main_v6) f)
def wt2 (c : Dev nD) (f : HbBuf0 (F := Ideal) c hbM0_2) : Vec Ideal S2816x1024 .bf16 := ReadAs.same.apply (View.read (Elt Ideal) (View.whole main_v7) f)

section Cases
variable (c : Dev nD) (i : grid0.Coords) (a1 : Memref sig .tc .vmem S512x1024 .bf16) (h1 : a1.IsWhole) (a2 : Memref sig .tc .vmem S1x8x1024 .f32) (h2 : a2.IsWhole) (a3 : Memref sig .tc .vmem S512x1024 .f32) (h3 : a3.IsWhole) (a4 : Memref sig .tc .vmem S512x1024 .f32) (h4 : a4.IsWhole) (a8 : Memref sig .tc .vmem S11x512x256 .bf16) (h8 : a8.IsWhole) (a9 : Memref sig .tc .vmem S11x512x256 .bf16) (h9 : a9.IsWhole) (a10 : Memref sig .tc .vmem S512x1024 .f32) (h10 : a10.IsWhole) (a11 : Memref sig .tc .vmem S512x1024 .bf16) (h11 : a11.IsWhole) (a12 : Memref sig .tc .vmem S8x1024 .f32) (h12 : a12.IsWhole) (a13 : Memref sig .tc .vmem S1x8x1024 .f32) (h13 : a13.IsWhole) (a14 : Memref sig .tc .vmem S2816x1024 .bf16) (h14 : a14.IsWhole) (a15 : Memref sig .tc .vmem S2816x1024 .bf16) (h15 : a15.IsWhole) (a16 : Memref sig .tc .vmem S2816x1024 .bf16) (h16 : a16.IsWhole)
    (x0 : Vec Ideal S512x1024 .bf16) (x1 : Vec Ideal S1x8x1024 .f32) (x2 : Vec Ideal S512x1024 .f32) (x3 : Vec Ideal S512x1024 .f32) (xo8 : Vec Ideal S8x1024 .f32) (xo9 : Vec Ideal S1x8x1024 .f32) (xs0 : Vec Ideal S2816x1024 .bf16) (xs1 : Vec Ideal S2816x1024 .bf16) (xs2 : Vec Ideal S2816x1024 .bf16) (fh0 : HbBuf0 (F := Ideal) c hbM0_0) (fh1 : HbBuf0 (F := Ideal) c hbM0_1) (fh2 : HbBuf0 (F := Ideal) c hbM0_2)

theorem out4_A (hc0 : cond0_0 i) (hc1 : cond0_1 i) (hc2 : cond0_2 i) :
    out0_A_4 c i a1 h1 a2 h2 a3 h3 a4 h4 a8 h8 a9 h9 a10 h10 a11 h11 a12 h12 a13 h13 a14 h14 a15 h15 a16 h16 x0 x1 x2 x3 fh0 fh1 fh2 hc0 hc1 hc2 = fun j => lin x0 (wt0 c fh0) (j 0) (j 1) (j 2) := by
  unfold out0_A_4
  refine read_writes_blocks _ _ _ _ ?_ fun y hy => absurd (cover0_A_4 c i a1 h1 a2 h2 a3 h3 a4 h4 a8 h8 a9 h9 a10 h10 a11 h11 a12 h12 a13 h13 a14 h14 a15 h15 a16 h16 x0 x1 x2 x3 fh0 fh1 fh2 hc0 hc1 hc2 y) fun ⟨p, hp, hm⟩ => hy p hp hm
  unfold kernelRun0_A
  dsimp only
  sl_unfold_words
  unfold_payloads
  simp only [View.readAt_eq_ld, h1.read_unread, h2.read_unread, h3.read_unread, h4.read_unread, h12.read_unread, h13.read_unread, h14.read_unread, h15.read_unread, h16.read_unread]
  simp only [readCov_whole]
  refine ⟨?_, ?_, ?_, ?_, ?_, ?_, ?_, ?_, ?_, ?_, ?_, trivial⟩
  all_goals
    intro x
    idx_vars x
    pointwise [Common.emb_norm]
    first | rfl | (simp only [lin, row, Fin.val_zero, zero_mul, zero_add] <;> rfl)

theorem out5_A (hc0 : cond0_0 i) (hc1 : cond0_1 i) (hc2 : cond0_2 i) :
    out0_A_5 c i a1 h1 a2 h2 a3 h3 a4 h4 a8 h8 a9 h9 a10 h10 a11 h11 a12 h12 a13 h13 a14 h14 a15 h15 a16 h16 x0 x1 x2 x3 fh0 fh1 fh2 hc0 hc1 hc2 = fun j => lin x0 (wt1 c fh1) (j 0) (j 1) (j 2) := by
  unfold out0_A_5
  refine read_writes_blocks _ _ _ _ ?_ fun y hy => absurd (cover0_A_5 c i a1 h1 a2 h2 a3 h3 a4 h4 a8 h8 a9 h9 a10 h10 a11 h11 a12 h12 a13 h13 a14 h14 a15 h15 a16 h16 x0 x1 x2 x3 fh0 fh1 fh2 hc0 hc1 hc2 y) fun ⟨p, hp, hm⟩ => hy p hp hm
  unfold kernelRun0_A
  dsimp only
  sl_unfold_words
  unfold_payloads
  simp only [View.readAt_eq_ld, h1.read_unread, h2.read_unread, h3.read_unread, h4.read_unread, h12.read_unread, h13.read_unread, h14.read_unread, h15.read_unread, h16.read_unread]
  simp only [readCov_whole]
  refine ⟨?_, ?_, ?_, ?_, ?_, ?_, ?_, ?_, ?_, ?_, ?_, trivial⟩
  all_goals
    intro x
    idx_vars x
    pointwise [Common.emb_norm]
    first | rfl | (simp only [lin, row, Fin.val_zero, zero_mul, zero_add] <;> rfl)

theorem out6_A (hc0 : cond0_0 i) (hc1 : cond0_1 i) (hc2 : cond0_2 i) :
    out0_A_6 c i a1 h1 a2 h2 a3 h3 a4 h4 a8 h8 a9 h9 a10 h10 a11 h11 a12 h12 a13 h13 a14 h14 a15 h15 a16 h16 x0 x1 x2 x3 fh0 fh1 fh2 hc0 hc1 hc2 = fun j => dy (fb x0 (wt0 c fh0) (wt1 c fh1) (wt2 c fh2)) x1 x2 x3 (j 0) (j 1) := by
  unfold out0_A_6
  refine read_writes_blocks _ _ _ _ ?_ fun y hy => absurd (cover0_A_6 c i a1 h1 a2 h2 a3 h3 a4 h4 a8 h8 a9 h9 a10 h10 a11 h11 a12 h12 a13 h13 a14 h14 a15 h15 a16 h16 x0 x1 x2 x3 fh0 fh1 fh2 hc0 hc1 hc2 y) fun ⟨p, hp, hm⟩ => hy p hp hm
  unfold kernelRun0_A
  dsimp only
  sl_unfold_words
  simp only [View.readAt_eq_ld, h1.read_unread, h2.read_unread, h3.read_unread, h4.read_unread, h12.read_unread, h13.read_unread, h14.read_unread, h15.read_unread, h16.read_unread]
  simp only [readCov_whole]
  generalize hD : k0_pay62 (F := Ideal) _ _ _ _ _ _ _ = D
  replace hD : D = fun j => fb x0 (wt0 c fh0) (wt1 c fh1) (wt2 c fh2) (j 0) (j 1) := hD.symm.trans (fbVec_eq x0 (wt0 c fh0) (wt1 c fh1) (wt2 c fh2))
  subst hD
  unfold_payloads
  refine ⟨?_, trivial⟩
  intro x
  idx_vars x
  pointwise [Common.emb_norm]
  rfl

theorem out7_A (hc0 : cond0_0 i) (hc1 : cond0_1 i) (hc2 : cond0_2 i) :
    out0_A_7 c i a1 h1 a2 h2 a3 h3 a4 h4 a8 h8 a9 h9 a10 h10 a11 h11 a12 h12 a13 h13 a14 h14 a15 h15 a16 h16 x0 x1 x2 x3 fh0 fh1 fh2 hc0 hc1 hc2 = fun j => x1 (ix3 0 5 (j 1)) * dy (fb x0 (wt0 c fh0) (wt1 c fh1) (wt2 c fh2)) x1 x2 x3 (j 0) (j 1) := by
  unfold out0_A_7
  refine read_writes_blocks _ _ _ _ ?_ fun y hy => absurd (cover0_A_7 c i a1 h1 a2 h2 a3 h3 a4 h4 a8 h8 a9 h9 a10 h10 a11 h11 a12 h12 a13 h13 a14 h14 a15 h15 a16 h16 x0 x1 x2 x3 fh0 fh1 fh2 hc0 hc1 hc2 y) fun ⟨p, hp, hm⟩ => hy p hp hm
  unfold kernelRun0_A
  dsimp only
  sl_unfold_words
  simp only [View.readAt_eq_ld, h1.read_unread, h2.read_unread, h3.read_unread, h4.read_unread, h12.read_unread, h13.read_unread, h14.read_unread, h15.read_unread, h16.read_unread]
  simp only [readCov_whole]
  generalize hD : k0_pay62 (F := Ideal) _ _ _ _ _ _ _ = D
  replace hD : D = fun j => fb x0 (wt0 c fh0) (wt1 c fh1) (wt2 c fh2) (j 0) (j 1) := hD.symm.trans (fbVec_eq x0 (wt0 c fh0) (wt1 c fh1) (wt2 c fh2))
  subst hD
  unfold_payloads
  refine ⟨?_, trivial⟩
  intro x
  idx_vars x
  pointwise [Common.emb_norm]
  rfl

theorem out8_A (hc0 : cond0_0 i) (hc1 : cond0_1 i) (hc2 : cond0_2 i) :
    out0_A_8 c i a1 h1 a2 h2 a3 h3 a4 h4 a8 h8 a9 h9 a10 h10 a11 h11 a12 h12 a13 h13 a14 h14 a15 h15 a16 h16 x0 x1 x2 x3 fh0 fh1 fh2 hc0 hc1 hc2 = fun j => sqAdd (fb x0 (wt0 c fh0) (wt1 c fh1) (wt2 c fh2)) x1 x2 x3 (j 0) (j 1) := by
  unfold out0_A_8
  unfold kernelRun0_A
  dsimp only
  sl_unfold_words
  simp only [View.readAt_eq_ld, h1.read_unread, h2.read_unread, h3.read_unread, h4.read_unread, h12.read_unread, h13.read_unread, h14.read_unread, h15.read_unread, h16.read_unread]
  simp only [readCov_whole]
  simp (disch := decide) only [↓View.readCov_skip, ↓View.readCov_fill]
  generalize hD : k0_pay62 (F := Ideal) _ _ _ _ _ _ _ = D
  replace hD : D = fun j => fb x0 (wt0 c fh0) (wt1 c fh1) (wt2 c fh2) (j 0) (j 1) := hD.symm.trans (fbVec_eq x0 (wt0 c fh0) (wt1 c fh1) (wt2 c fh2))
  subst hD
  refine read_writes_over_fill _ _ _ (by funext a; fin_cases a <;> rfl) _ [_] _ ?_ fun y hy => ?_
  · unfold_payloads
    refine ⟨?_, trivial⟩
    intro x
    idx_vars x
    pointwise [Common.emb_norm]
    first | rfl | (simp only [zero_add]; rfl)
  · have n0 : ¬@Eq (Fin 8) (y 0) 0 := fun h => hy _ List.mem_cons_self (mem_row2 0 inb_S8x1024_S1x1024_0_0 y h)
    simp only [sqAdd, n0, if_false]
    unfold_payloads
    idx_vars y
    pointwise

theorem out9_A (hc0 : cond0_0 i) (hc1 : cond0_1 i) (hc2 : cond0_2 i) :
    out0_A_9 c i a1 h1 a2 h2 a3 h3 a4 h4 a8 h8 a9 h9 a10 h10 a11 h11 a12 h12 a13 h13 a14 h14 a15 h15 a16 h16 x0 x1 x2 x3 fh0 fh1 fh2 hc0 hc1 hc2 = fun j => dmAdd (fb x0 (wt0 c fh0) (wt1 c fh1) (wt2 c fh2)) x1 x2 x3 (j 1) (j 2) := by
  unfold out0_A_9
  unfold kernelRun0_A
  dsimp only
  sl_unfold_words
  simp only [View.readAt_eq_ld, h1.read_unread, h2.read_unread, h3.read_unread, h4.read_unread, h12.read_unread, h13.read_unread, h14.read_unread, h15.read_unread, h16.read_unread]
  simp only [readCov_whole]
  simp (disch := decide) only [↓View.readCov_skip, ↓View.readCov_fill]
  generalize hD : k0_pay62 (F := Ideal) _ _ _ _ _ _ _ = D
  replace hD : D = fun j => fb x0 (wt0 c fh0) (wt1 c fh1) (wt2 c fh2) (j 0) (j 1) := hD.symm.trans (fbVec_eq x0 (wt0 c fh0) (wt1 c fh1) (wt2 c fh2))
  subst hD
  refine read_writes_over_fill _ _ _ (by funext a; fin_cases a <;> rfl) _ [_] _ ?_ fun y hy => ?_
  · unfold_payloads
    refine ⟨?_, trivial⟩
    intro x
    idx_vars x
    pointwise [Common.emb_norm]
    first | rfl | (simp only [zero_add]; rfl)
  · have n0 : ¬@Eq (Fin 8) (y 1) 0 := fun h => hy _ List.mem_cons_self (mem_row3 0 inb_S1x8x1024_S1x1x1024_0_0_0 y h)
    simp only [dmAdd, n0, if_false]
    unfold_payloads
    idx_vars y
    pointwise

theorem sout0_A (hc0 : cond0_0 i) (hc1 : cond0_1 i) (hc2 : cond0_2 i) : sout0_A_0 c i a1 h1 a2 h2 a3 h3 a4 h4 a8 h8 a9 h9 a10 h10 a11 h11 a12 h12 a13 h13 a14 h14 a15 h15 a16 h16 x0 x1 x2 x3 fh0 fh1 fh2 hc0 hc1 hc2 = wt0 c fh0 := by
  unfold sout0_A_0 kernelRun0_A
  dsimp only
  sl_unfold_words
  exact View.read_writes_whole _ _ _

theorem sout1_A (hc0 : cond0_0 i) (hc1 : cond0_1 i) (hc2 : cond0_2 i) : sout0_A_1 c i a1 h1 a2 h2 a3 h3 a4 h4 a8 h8 a9 h9 a10 h10 a11 h11 a12 h12 a13 h13 a14 h14 a15 h15 a16 h16 x0 x1 x2 x3 fh0 fh1 fh2 hc0 hc1 hc2 = wt1 c fh1 := by
  unfold sout0_A_1 kernelRun0_A
  dsimp only
  sl_unfold_words
  exact View.read_writes_whole _ _ _

theorem sout2_A (hc0 : cond0_0 i) (hc1 : cond0_1 i) (hc2 : cond0_2 i) : sout0_A_2 c i a1 h1 a2 h2 a3 h3 a4 h4 a8 h8 a9 h9 a10 h10 a11 h11 a12 h12 a13 h13 a14 h14 a15 h15 a16 h16 x0 x1 x2 x3 fh0 fh1 fh2 hc0 hc1 hc2 = wt2 c fh2 := by
  unfold sout0_A_2 kernelRun0_A
  dsimp only
  sl_unfold_words
  exact View.read_writes_whole _ _ _

theorem out4_B (hc0 : ¬cond0_0 i) (hc1 : ¬cond0_1 i) (hc2 : ¬cond0_2 i) :
    out0_B_4 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 = fun j => lin x0 xs0 (j 0) (j 1) (j 2) := by
  unfold out0_B_4
  refine read_writes_blocks _ _ _ _ ?_ fun y hy => absurd (cover0_B_4 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 y) fun ⟨p, hp, hm⟩ => hy p hp hm
  unfold kernelRun0_B
  dsimp only
  sl_unfold_words
  unfold_payloads
  simp only [View.readAt_eq_ld, h1.read_unread, h2.read_unread, h3.read_unread, h4.read_unread, h12.read_unread, h13.read_unread, h14.read_unread, h15.read_unread, h16.read_unread]
  refine ⟨?_, ?_, ?_, ?_, ?_, ?_, ?_, ?_, ?_, ?_, ?_, trivial⟩
  all_goals
    intro x
    idx_vars x
    pointwise [Common.emb_norm]
    first | rfl | (simp only [lin, row, Fin.val_zero, zero_mul, zero_add] <;> rfl)

theorem out5_B (hc0 : ¬cond0_0 i) (hc1 : ¬cond0_1 i) (hc2 : ¬cond0_2 i) :
    out0_B_5 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 = fun j => lin x0 xs1 (j 0) (j 1) (j 2) := by
  unfold out0_B_5
  refine read_writes_blocks _ _ _ _ ?_ fun y hy => absurd (cover0_B_5 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 y) fun ⟨p, hp, hm⟩ => hy p hp hm
  unfold kernelRun0_B
  dsimp only
  sl_unfold_words
  unfold_payloads
  simp only [View.readAt_eq_ld, h1.read_unread, h2.read_unread, h3.read_unread, h4.read_unread, h12.read_unread, h13.read_unread, h14.read_unread, h15.read_unread, h16.read_unread]
  refine ⟨?_, ?_, ?_, ?_, ?_, ?_, ?_, ?_, ?_, ?_, ?_, trivial⟩
  all_goals
    intro x
    idx_vars x
    pointwise [Common.emb_norm]
    first | rfl | (simp only [lin, row, Fin.val_zero, zero_mul, zero_add] <;> rfl)

theorem out6_B (hc0 : ¬cond0_0 i) (hc1 : ¬cond0_1 i) (hc2 : ¬cond0_2 i) :
    out0_B_6 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 = fun j => dy (fb x0 xs0 xs1 xs2) x1 x2 x3 (j 0) (j 1) := by
  unfold out0_B_6
  refine read_writes_blocks _ _ _ _ ?_ fun y hy => absurd (cover0_B_6 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 y) fun ⟨p, hp, hm⟩ => hy p hp hm
  unfold kernelRun0_B
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  unfold_payloads
  refine ⟨?_, trivial⟩
  intro x
  idx_vars x
  pointwise [Common.emb_norm]
  rfl

theorem out7_B (hc0 : ¬cond0_0 i) (hc1 : ¬cond0_1 i) (hc2 : ¬cond0_2 i) :
    out0_B_7 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 = fun j => x1 (ix3 0 5 (j 1)) * dy (fb x0 xs0 xs1 xs2) x1 x2 x3 (j 0) (j 1) := by
  unfold out0_B_7
  refine read_writes_blocks _ _ _ _ ?_ fun y hy => absurd (cover0_B_7 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 y) fun ⟨p, hp, hm⟩ => hy p hp hm
  unfold kernelRun0_B
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  unfold_payloads
  refine ⟨?_, trivial⟩
  intro x
  idx_vars x
  pointwise [Common.emb_norm]
  rfl

theorem out8_B (hc0 : ¬cond0_0 i) (hc1 : ¬cond0_1 i) (hc2 : ¬cond0_2 i) :
    out0_B_8 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 = fun j => xo8 j + sqAdd (fb x0 xs0 xs1 xs2) x1 x2 x3 (j 0) (j 1) := by
  unfold out0_B_8
  unfold kernelRun0_B
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  refine read_writes_blocks _ _ [_] _ ?_ fun y hy => ?_
  · unfold_payloads
    refine ⟨?_, trivial⟩
    intro x
    idx_vars x
    pointwise [Common.emb_norm]
    first | rfl | (simp only [zero_add]; rfl)
  · have n0 : ¬@Eq (Fin 8) (y 0) 0 := fun h => hy _ List.mem_cons_self (mem_row2 0 inb_S8x1024_S1x1024_0_0 y h)
    rw [h12.read_unread]
    simp only [sqAdd, n0, if_false, add_zero]

theorem out9_B (hc0 : ¬cond0_0 i) (hc1 : ¬cond0_1 i) (hc2 : ¬cond0_2 i) :
    out0_B_9 c i a1 h1 a2 h2 a3 h3 a4 h4 a8 h8 a9 h9 a10 h10 a11 h11 a12 h12 a13 h13 a14 h14 a15 h15 a16 h16 x0 x1 x2 x3 xo8 xo9 xs0 xs1 xs2 fh0 fh1 fh2 hc0 hc1 hc2 = fun j => xo9 j + dmAdd (fb x0 xs0 xs1 xs2) x1 x2 x3 (j 1) (j 2) := by
  unfold out0_B_9
  unfold kernelRun0_B
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  refine read_writes_blocks _ _ [_] _ ?_ fun y hy => ?_
  · unfold_payloads
    refine ⟨?_, trivial⟩
    intro x
    idx_vars x
    pointwise [Common.emb_norm]
    first | rfl | (simp only [zero_add]; rfl)
  · have n0 : ¬@Eq (Fin 8) (y 1) 0 := fun h => hy _ List.mem_cons_self (mem_row3 0 inb_S1x8x1024_S1x1x1024_0_0_0 y h)
    rw [h13.read_unread]
    simp only [dmAdd, n0, if_false, add_zero]

theorem out4_C (hc0 : ¬cond0_0 i) (hc1 : ¬cond0_1 i) (hc2 : cond0_2 i) :
    out0_C_4 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 = fun j => lin x0 xs0 (j 0) (j 1) (j 2) := by
  unfold out0_C_4
  refine read_writes_blocks _ _ _ _ ?_ fun y hy => absurd (cover0_C_4 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 y) fun ⟨p, hp, hm⟩ => hy p hp hm
  unfold kernelRun0_C
  dsimp only
  sl_unfold_words
  unfold_payloads
  simp only [View.readAt_eq_ld, h1.read_unread, h2.read_unread, h3.read_unread, h4.read_unread, h12.read_unread, h13.read_unread, h14.read_unread, h15.read_unread, h16.read_unread]
  refine ⟨?_, ?_, ?_, ?_, ?_, ?_, ?_, ?_, ?_, ?_, ?_, trivial⟩
  all_goals
    intro x
    idx_vars x
    pointwise [Common.emb_norm]
    first | rfl | (simp only [lin, row, Fin.val_zero, zero_mul, zero_add] <;> rfl)

theorem out5_C (hc0 : ¬cond0_0 i) (hc1 : ¬cond0_1 i) (hc2 : cond0_2 i) :
    out0_C_5 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 = fun j => lin x0 xs1 (j 0) (j 1) (j 2) := by
  unfold out0_C_5
  refine read_writes_blocks _ _ _ _ ?_ fun y hy => absurd (cover0_C_5 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 y) fun ⟨p, hp, hm⟩ => hy p hp hm
  unfold kernelRun0_C
  dsimp only
  sl_unfold_words
  unfold_payloads
  simp only [View.readAt_eq_ld, h1.read_unread, h2.read_unread, h3.read_unread, h4.read_unread, h12.read_unread, h13.read_unread, h14.read_unread, h15.read_unread, h16.read_unread]
  refine ⟨?_, ?_, ?_, ?_, ?_, ?_, ?_, ?_, ?_, ?_, ?_, trivial⟩
  all_goals
    intro x
    idx_vars x
    pointwise [Common.emb_norm]
    first | rfl | (simp only [lin, row, Fin.val_zero, zero_mul, zero_add] <;> rfl)

theorem out6_C (hc0 : ¬cond0_0 i) (hc1 : ¬cond0_1 i) (hc2 : cond0_2 i) :
    out0_C_6 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 = fun j => dy (fb x0 xs0 xs1 xs2) x1 x2 x3 (j 0) (j 1) := by
  unfold out0_C_6
  refine read_writes_blocks _ _ _ _ ?_ fun y hy => absurd (cover0_C_6 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 y) fun ⟨p, hp, hm⟩ => hy p hp hm
  unfold kernelRun0_C
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  unfold_payloads
  refine ⟨?_, trivial⟩
  intro x
  idx_vars x
  pointwise [Common.emb_norm]
  rfl

theorem out7_C (hc0 : ¬cond0_0 i) (hc1 : ¬cond0_1 i) (hc2 : cond0_2 i) :
    out0_C_7 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 = fun j => x1 (ix3 0 5 (j 1)) * dy (fb x0 xs0 xs1 xs2) x1 x2 x3 (j 0) (j 1) := by
  unfold out0_C_7
  refine read_writes_blocks _ _ _ _ ?_ fun y hy => absurd (cover0_C_7 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 y) fun ⟨p, hp, hm⟩ => hy p hp hm
  unfold kernelRun0_C
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  unfold_payloads
  refine ⟨?_, trivial⟩
  intro x
  idx_vars x
  pointwise [Common.emb_norm]
  rfl

theorem out8_C (hc0 : ¬cond0_0 i) (hc1 : ¬cond0_1 i) (hc2 : cond0_2 i) :
    out0_C_8 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 = fun j => xo8 j + sqAdd (fb x0 xs0 xs1 xs2) x1 x2 x3 (j 0) (j 1) := by
  unfold out0_C_8
  unfold kernelRun0_C
  dsimp only
  sl_unfold_words
  simp only [View.readAt_eq_ld, h1.read_unread, h2.read_unread, h3.read_unread, h4.read_unread, h12.read_unread, h13.read_unread, h14.read_unread, h15.read_unread, h16.read_unread]
  generalize hD : k0_pay62 (F := Ideal) _ _ _ _ _ _ _ = D
  replace hD : D = fun j => fb x0 xs0 xs1 xs2 (j 0) (j 1) := hD.symm.trans (fbVec_eq x0 xs0 xs1 xs2)
  subst hD
  refine read_writes_blocks _ _ [_] _ ?_ fun y hy => ?_
  · unfold_payloads
    refine ⟨?_, trivial⟩
    intro x
    idx_vars x
    pointwise [Common.emb_norm]
    first | rfl | (simp only [zero_add]; rfl)
  · have n0 : ¬@Eq (Fin 8) (y 0) 0 := fun h => hy _ List.mem_cons_self (mem_row2 0 inb_S8x1024_S1x1024_0_0 y h)
    rw [h12.read_unread]
    simp only [sqAdd, n0, if_false, add_zero]

theorem out9_C (hc0 : ¬cond0_0 i) (hc1 : ¬cond0_1 i) (hc2 : cond0_2 i) :
    out0_C_9 c i a1 h1 a2 h2 a3 h3 a4 h4 a8 h8 a9 h9 a10 h10 a11 h11 a12 h12 a13 h13 a14 h14 a15 h15 a16 h16 x0 x1 x2 x3 xo8 xs0 xs1 xs2 fh0 fh1 fh2 hc0 hc1 hc2 = fun j => dmAdd (fb x0 xs0 xs1 xs2) x1 x2 x3 (j 1) (j 2) := by
  unfold out0_C_9
  unfold kernelRun0_C
  dsimp only
  sl_unfold_words
  simp only [View.readAt_eq_ld, h1.read_unread, h2.read_unread, h3.read_unread, h4.read_unread, h12.read_unread, h13.read_unread, h14.read_unread, h15.read_unread, h16.read_unread]
  simp (disch := decide) only [↓View.readCov_skip, ↓View.readCov_fill]
  generalize hD : k0_pay62 (F := Ideal) _ _ _ _ _ _ _ = D
  replace hD : D = fun j => fb x0 xs0 xs1 xs2 (j 0) (j 1) := hD.symm.trans (fbVec_eq x0 xs0 xs1 xs2)
  subst hD
  refine read_writes_over_fill _ _ _ (by funext a; fin_cases a <;> rfl) _ [_] _ ?_ fun y hy => ?_
  · unfold_payloads
    refine ⟨?_, trivial⟩
    intro x
    idx_vars x
    pointwise [Common.emb_norm]
    first | rfl | (simp only [zero_add]; rfl)
  · have n0 : ¬@Eq (Fin 8) (y 1) 0 := fun h => hy _ List.mem_cons_self (mem_row3 0 inb_S1x8x1024_S1x1x1024_0_0_0 y h)
    simp only [dmAdd, n0, if_false]
    unfold_payloads
    idx_vars y
    pointwise

end Cases
end Cert.FfnFwdIdeal.Own
end
-- ==== Proof.FfnFwdBlocks.lean ====
module
public import proofs.«01_k».proof.Defs
public import proofs.«01_k».proof.Proof.Common
public import proofs.«01_k».proof.Proof.Layer
public import proofs.«01_k».proof.Proof.FfnFwdMath
public import Idealize.ShloMosaic.Lib.KernelVsHost

/-! The blocks a point reads, as the arguments' tokens. -/

@[expose] public section
set_option maxRecDepth 16384
set_option maxHeartbeats 2000000
noncomputable section
namespace Cert.FfnFwdIdeal.Own
open Cert.FfnFwdIdeal Cert.FfnFwdIdeal.Gen Idealize.ShloMosaic Idealize.ShloMosaic.TcCoe Idealize.SL.Sem Cert.Common
variable (m : (ℓ : Loc nD τ sig) → Buf (Elt Ideal) ℓ)

/-- The call's arguments. -/
abbrev aH (c : Dev nD) : Vec Ideal S4x2048x1024 .f32 := m ((c : Thread nD τ).loc main_arg0)
abbrev aX (c : Dev nD) : Vec Ideal S4x2048x1024 .f32 := m ((c : Thread nD τ).loc main_arg1)
abbrev aY (c : Dev nD) : Vec Ideal S4x2048x1024 .f32 := m ((c : Thread nD τ).loc main_arg2)
abbrev aMo (c : Dev nD) : Vec Ideal S4x6x1024 .f32 := m ((c : Thread nD τ).loc main_arg3)
abbrev aWg (c : Dev nD) : Vec Ideal S1024x2816 .f32 := m ((c : Thread nD τ).loc main_arg4)
abbrev aWu (c : Dev nD) : Vec Ideal S1024x2816 .f32 := m ((c : Thread nD τ).loc main_arg5)
abbrev aWd (c : Dev nD) : Vec Ideal S2816x1024 .f32 := m ((c : Thread nD τ).loc main_arg6)

/-- Row `r` of point `t`'s block of tokens. -/
def tok (t : Fin cfg0.N) (r : Fin 512) : Fin 8192 := ⟨512 * t.val + r.val, by have : t.val < 16 := lt_of_lt_of_eq t.isLt N_0; omega⟩

theorem ent2 (c : Dev nD) (n : Fin 8192) (q : Fin 1024) : (V m c main_v2 : Vec Ideal S8192x1024 .bf16) (ix2 n q) = aH m c (ix3 (seqOf n) (posOf n) q) := by
  unfold V hostOps0 hostOps0_1 hostOps0_2
  simp only [List.flatten_cons, List.flatten_nil, List.cons_append, List.nil_append, List.append_nil]
  entry_read
  pointwise
  rfl

theorem ent8 (c : Dev nD) (n : Fin 8192) (q : Fin 1024) : (V m c main_v8 : Vec Ideal S8192x1024 .f32) (ix2 n q) = aX m c (ix3 (seqOf n) (posOf n) q) := by
  unfold V hostOps0 hostOps0_1 hostOps0_2
  simp only [List.flatten_cons, List.flatten_nil, List.cons_append, List.nil_append, List.append_nil]
  entry_read
  pointwise
  rfl

theorem ent9 (c : Dev nD) (n : Fin 8192) (q : Fin 1024) : (V m c main_v9 : Vec Ideal S8192x1024 .f32) (ix2 n q) = aY m c (ix3 (seqOf n) (posOf n) q) := by
  unfold V hostOps0 hostOps0_1 hostOps0_2
  simp only [List.flatten_cons, List.flatten_nil, List.cons_append, List.nil_append, List.append_nil]
  entry_read
  pointwise
  rfl

theorem ent0 (c : Dev nD) (b : Fin 4) (q : Fin 1024) : (V m c main_v0 : Vec Ideal S4x8x1024 .f32) (ix3 b 5 q) = aMo m c (ix3 b 5 q) := by
  unfold V hostOps0 hostOps0_1 hostOps0_2
  simp only [List.flatten_cons, List.flatten_nil, List.cons_append, List.nil_append, List.append_nil]
  entry_read
  refine pad_apply_of_inside (t := S4x8x1024) ![0, 0, 0] ![0, 2, 0] ![0, 0, 0] (aMo m c) (sitofp (F := Ideal) FTy.f32 (constantI S_ 32 0#32)) pads_S4x6x1024_S4x8x1024_000_020_000 h_S_ (ix3 b 5 q) (ix3 b 5 q) ?_
  intro i
  fin_cases i <;> simp [ix3]

theorem entWg (c : Dev nD) (p : Fin 2816) (q : Fin 1024) : (V m c main_v4 : Vec Ideal S2816x1024 .bf16) (ix2 p q) = aWg m c (ix2 q p) := by
  unfold V hostOps0 hostOps0_1 hostOps0_2
  simp only [List.flatten_cons, List.flatten_nil, List.cons_append, List.nil_append, List.append_nil]
  entry_read
  pointwise

theorem entWu (c : Dev nD) (p : Fin 2816) (q : Fin 1024) : (V m c main_v6 : Vec Ideal S2816x1024 .bf16) (ix2 p q) = aWu m c (ix2 q p) := by
  unfold V hostOps0 hostOps0_1 hostOps0_2
  simp only [List.flatten_cons, List.flatten_nil, List.cons_append, List.nil_append, List.append_nil]
  entry_read
  pointwise

theorem entWd (c : Dev nD) (p : Fin 2816) (q : Fin 1024) : (V m c main_v7 : Vec Ideal S2816x1024 .bf16) (ix2 p q) = aWd m c (ix2 p q) := by
  unfold V hostOps0 hostOps0_1 hostOps0_2
  simp only [List.flatten_cons, List.flatten_nil, List.cons_append, List.nil_append, List.append_nil]
  entry_read
  pointwise

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx1 : ∀ t : Fin cfg0.N, win0_1.index t = ![t.val / 4, 0, 0] := (by decide +kernel : ∀ t : Fin grid0.N, _)

theorem blk0 (c : Dev nD) (t : Fin cfg0.N) (r : Fin 512) (q : Fin 1024) : (iblk m c 0 t : Vec Ideal S512x1024 .bf16) (ix2 r q) = aH m c (ix3 (seqOf (tok t r)) (posOf (tok t r)) q) := by
  have ht : t.val < 16 := lt_of_lt_of_eq t.isLt N_0
  refine Eq.trans (b := (V m c main_v2 : Vec Ideal S8192x1024 .bf16) (ix2 (tok t r) q)) ?_ (ent2 m c _ _)
  blk_simp [iblk, idx0 t]
  unfold tok
  blk_ext [idx0 t]

theorem blk2 (c : Dev nD) (t : Fin cfg0.N) (r : Fin 512) (q : Fin 1024) : (iblk m c 2 t : Vec Ideal S512x1024 .f32) (ix2 r q) = aX m c (ix3 (seqOf (tok t r)) (posOf (tok t r)) q) := by
  have ht : t.val < 16 := lt_of_lt_of_eq t.isLt N_0
  refine Eq.trans (b := (V m c main_v8 : Vec Ideal S8192x1024 .f32) (ix2 (tok t r) q)) ?_ (ent8 m c _ _)
  blk_simp [iblk, idx2 t]
  unfold tok
  blk_ext [idx2 t]

theorem blk3 (c : Dev nD) (t : Fin cfg0.N) (r : Fin 512) (q : Fin 1024) : (iblk m c 3 t : Vec Ideal S512x1024 .f32) (ix2 r q) = aY m c (ix3 (seqOf (tok t r)) (posOf (tok t r)) q) := by
  have ht : t.val < 16 := lt_of_lt_of_eq t.isLt N_0
  refine Eq.trans (b := (V m c main_v9 : Vec Ideal S8192x1024 .f32) (ix2 (tok t r) q)) ?_ (ent9 m c _ _)
  blk_simp [iblk, idx3 t]
  unfold tok
  blk_ext [idx3 t]

theorem blk1 (c : Dev nD) (t : Fin cfg0.N) (r : Fin 512) (q : Fin 1024) : (iblk m c 1 t : Vec Ideal S1x8x1024 .f32) (ix3 0 5 q) = aMo m c (ix3 (seqOf (tok t r)) 5 q) := by
  have ht : t.val < 16 := lt_of_lt_of_eq t.isLt N_0
  refine Eq.trans (b := (V m c main_v0 : Vec Ideal S4x8x1024 .f32) (ix3 (seqOf (tok t r)) 5 q)) ?_ (ent0 m c _ _)
  blk_simp [iblk, idx1 t]
  unfold tok seqOf
  blk_ext [idx1 t]

end Cert.FfnFwdIdeal.Own
end
-- ==== Proof.FfnFwdValue.lean ====
module
public import proofs.«01_k».proof.Defs
public import proofs.«01_k».proof.Proof.Common
public import proofs.«01_k».proof.Proof.Layer
public import proofs.«01_k».proof.Proof.FfnFwdMath
public import proofs.«01_k».proof.Proof.FfnFwdPoint
public import proofs.«01_k».proof.Proof.FfnFwdBlocks

/-! What the points leave, as functions of the arguments. -/

@[expose] public section
set_option maxRecDepth 16384
set_option maxHeartbeats 2000000
noncomputable section
namespace Cert.FfnFwdIdeal.Own
open Cert.FfnFwdIdeal Cert.FfnFwdIdeal.Gen Idealize.ShloMosaic Idealize.ShloMosaic.TcCoe Idealize.SL.Sem Cert.Common
variable (m : (ℓ : Loc nD τ sig) → Buf (Elt Ideal) ℓ)

def W0 (c : Dev nD) : Vec Ideal S2816x1024 .bf16 := wt0 c (V m c main_v4)
def W1 (c : Dev nD) : Vec Ideal S2816x1024 .bf16 := wt1 c (V m c main_v6)
def W2 (c : Dev nD) : Vec Ideal S2816x1024 .bf16 := wt2 c (V m c main_v7)
theorem W0_apply (c : Dev nD) (p : Fin 2816) (q : Fin 1024) : W0 m c (ix2 p q) = aWg m c (ix2 q p) := entWg m c p q
theorem W1_apply (c : Dev nD) (p : Fin 2816) (q : Fin 1024) : W1 m c (ix2 p q) = aWu m c (ix2 q p) := entWu m c p q
theorem W2_apply (c : Dev nD) (p : Fin 2816) (q : Fin 1024) : W2 m c (ix2 p q) = aWd m c (ix2 p q) := entWd m c p q

/-- The blocks point `t` reads. -/
def b0 (c : Dev nD) (t : Fin cfg0.N) : Vec Ideal S512x1024 .bf16 := iblk m c 0 t
def b1 (c : Dev nD) (t : Fin cfg0.N) : Vec Ideal S1x8x1024 .f32 := iblk m c 1 t
def b2 (c : Dev nD) (t : Fin cfg0.N) : Vec Ideal S512x1024 .f32 := iblk m c 2 t
def b3 (c : Dev nD) (t : Fin cfg0.N) : Vec Ideal S512x1024 .f32 := iblk m c 3 t

/-- The layer's branch over point `t`'s block of tokens. -/
def D (c : Dev nD) (t : Fin cfg0.N) : Fin 512 → Fin 1024 → EReal := fb (b0 m c t) (W0 m c) (W1 m c) (W2 m c)
/-- What point `t` adds to the two sums. -/
def add8 (c : Dev nD) (t : Fin cfg0.N) (j : S8x1024.Idx) : EReal := sqAdd (D m c t) (b1 m c t) (b2 m c t) (b3 m c t) (j 0) (j 1)
def add9 (c : Dev nD) (t : Fin cfg0.N) (j : S1x8x1024.Idx) : EReal := dmAdd (D m c t) (b1 m c t) (b2 m c t) (b3 m c t) (j 1) (j 2)

/-- What point `t` leaves, its two sums being `s8` and `s9`. -/
abbrev leaves (c : Dev nD) (t : Fin cfg0.N) (s8 : Vec Ideal S8x1024 .f32) (s9 : Vec Ideal S1x8x1024 .f32) :
    Vec Ideal S11x512x256 .bf16 × Vec Ideal S11x512x256 .bf16 × Vec Ideal S512x1024 .f32 × Vec Ideal S512x1024 .bf16
      × Vec Ideal S8x1024 .f32 × Vec Ideal S1x8x1024 .f32 × Vec Ideal S2816x1024 .bf16 × Vec Ideal S2816x1024 .bf16 × Vec Ideal S2816x1024 .bf16 :=
  (fun j => lin (b0 m c t) (W0 m c) (j 0) (j 1) (j 2),
   fun j => lin (b0 m c t) (W1 m c) (j 0) (j 1) (j 2),
   fun j => dy (D m c t) (b1 m c t) (b2 m c t) (b3 m c t) (j 0) (j 1),
   fun j => b1 m c t (ix3 0 5 (j 1)) * dy (D m c t) (b1 m c t) (b2 m c t) (b3 m c t) (j 0) (j 1),
   s8, s9, W0 m c, W1 m c, W2 m c)

theorem pointA_eq (c : Dev nD) (t : Fin cfg0.N) (h0 : t.val % 16 = 0) (h2 : t.val % 4 = 0) :
    pointA m c t h0 h0 h2 = leaves m c t (add8 m c t) (add9 m c t) :=
  congrArg₂ Prod.mk (out4_A ..) <| congrArg₂ Prod.mk (out5_A ..) <| congrArg₂ Prod.mk (out6_A ..) <| congrArg₂ Prod.mk (out7_A ..) <|
    congrArg₂ Prod.mk (out8_A ..) <| congrArg₂ Prod.mk (out9_A ..) <| congrArg₂ Prod.mk (sout0_A ..) <| congrArg₂ Prod.mk (sout1_A ..) (sout2_A ..)

theorem pointB_eq (c : Dev nD) (t t' : Fin cfg0.N) (h0 : ¬t.val % 16 = 0) (h2 : ¬t.val % 4 = 0) (s8 : Vec Ideal S8x1024 .f32) (s9 : Vec Ideal S1x8x1024 .f32) :
    pointB m c t h0 h0 h2 (leaves m c t' s8 s9) = leaves m c t (fun j => s8 j + add8 m c t j) (fun j => s9 j + add9 m c t j) :=
  congrArg₂ Prod.mk (out4_B ..) <| congrArg₂ Prod.mk (out5_B ..) <| congrArg₂ Prod.mk (out6_B ..) <| congrArg₂ Prod.mk (out7_B ..) <|
    congrArg₂ Prod.mk (out8_B ..) <| congrArg₂ Prod.mk (out9_B ..) rfl

theorem pointC_eq (c : Dev nD) (t t' : Fin cfg0.N) (h0 : ¬t.val % 16 = 0) (h2 : t.val % 4 = 0) (s8 : Vec Ideal S8x1024 .f32) (s9 : Vec Ideal S1x8x1024 .f32) :
    pointC m c t h0 h0 h2 (leaves m c t' s8 s9) = leaves m c t (fun j => s8 j + add8 m c t j) (add9 m c t) :=
  congrArg₂ Prod.mk (out4_C ..) <| congrArg₂ Prod.mk (out5_C ..) <| congrArg₂ Prod.mk (out6_C ..) <| congrArg₂ Prod.mk (out7_C ..) <|
    congrArg₂ Prod.mk (out8_C ..) <| congrArg₂ Prod.mk (out9_C ..) rfl

/-- Every point leaves its block's forms and keeps the weights. -/
theorem leaves_of (c : Dev nD) : ∀ (n : ℕ) (h : n < cfg0.N), outsAt0 m c n h
    = leaves m c ⟨n, h⟩ (outsAt0 m c n h).2.2.2.2.1 (outsAt0 m c n h).2.2.2.2.2.1 := by
  intro n
  induction n with
  | zero =>
    intro h
    exact (outsAt0_A m c ⟨0, h⟩ (Nat.zero_mod _) (Nat.zero_mod _) (Nat.zero_mod _)).trans (pointA_eq m c ⟨0, h⟩ _ _) |>.trans (by rw [outsAt0_A m c ⟨0, h⟩ (Nat.zero_mod _) (Nat.zero_mod _) (Nat.zero_mod _), pointA_eq])
  | succ n ih =>
    intro h
    have hn : n < cfg0.N := Nat.lt_of_succ_lt h
    by_cases h0 : (n + 1) % 16 = 0
    · rw [outsAt0_A m c ⟨n + 1, h⟩ h0 h0 (by change (n + 1) % 4 = 0; omega), pointA_eq]
    · by_cases h2 : (n + 1) % 4 = 0
      · rw [outsAt0_C m c ⟨n + 1, h⟩ h0 h0 h2]
        change pointC m c ⟨n + 1, h⟩ h0 h0 h2 (outsAt0 m c n hn) = leaves m c ⟨n + 1, h⟩ (pointC m c ⟨n + 1, h⟩ h0 h0 h2 (outsAt0 m c n hn)).2.2.2.2.1
          (pointC m c ⟨n + 1, h⟩ h0 h0 h2 (outsAt0 m c n hn)).2.2.2.2.2.1
        rw [ih hn, pointC_eq]
      · rw [outsAt0_B m c ⟨n + 1, h⟩ h0 h0 h2]
        change pointB m c ⟨n + 1, h⟩ h0 h0 h2 (outsAt0 m c n hn) = leaves m c ⟨n + 1, h⟩ (pointB m c ⟨n + 1, h⟩ h0 h0 h2 (outsAt0 m c n hn)).2.2.2.2.1
          (pointB m c ⟨n + 1, h⟩ h0 h0 h2 (outsAt0 m c n hn)).2.2.2.2.2.1
        rw [ih hn, pointB_eq]

theorem sum8_A (c : Dev nD) (t : Fin cfg0.N) (h0 : t.val % 16 = 0) : (outsAt0 m c t.val t.isLt).2.2.2.2.1 = add8 m c t := by
  rw [outsAt0_A m c t h0 h0 (by omega), pointA_eq]
theorem sum8_BC (c : Dev nD) (t : Fin cfg0.N) (h0 : ¬t.val % 16 = 0) : (outsAt0 m c t.val t.isLt).2.2.2.2.1
    = fun j => (outsAt0 m c (t.val - 1) (Nat.lt_of_le_of_lt (Nat.sub_le _ _) t.isLt)).2.2.2.2.1 j + add8 m c t j := by
  by_cases h2 : t.val % 4 = 0
  · rw [outsAt0_C m c t h0 h0 h2, leaves_of m c (t.val - 1), pointC_eq]
  · rw [outsAt0_B m c t h0 h0 h2, leaves_of m c (t.val - 1), pointB_eq]
theorem sum9_AC (c : Dev nD) (t : Fin cfg0.N) (h2 : t.val % 4 = 0) : (outsAt0 m c t.val t.isLt).2.2.2.2.2.1 = add9 m c t := by
  by_cases h0 : t.val % 16 = 0
  · rw [outsAt0_A m c t h0 h0 h2, pointA_eq]
  · rw [outsAt0_C m c t h0 h0 h2, leaves_of m c (t.val - 1), pointC_eq]
theorem sum9_B (c : Dev nD) (t : Fin cfg0.N) (h2 : ¬t.val % 4 = 0) : (outsAt0 m c t.val t.isLt).2.2.2.2.2.1
    = fun j => (outsAt0 m c (t.val - 1) (Nat.lt_of_le_of_lt (Nat.sub_le _ _) t.isLt)).2.2.2.2.2.1 j + add9 m c t j := by
  have h0 : ¬t.val % 16 = 0 := by omega
  rw [outsAt0_B m c t h0 h0 h2, leaves_of m c (t.val - 1), pointB_eq]

/-! A point's forms as the arguments' tokens. -/

section Tokens
variable (c : Dev nD) (t : Fin cfg0.N)
abbrev sq (t : Fin cfg0.N) (r : Fin 512) : Fin 4 := seqOf (tok t r)
abbrev ps (t : Fin cfg0.N) (r : Fin 512) : Fin 2048 := posOf (tok t r)

theorem b0_tok (r : Fin 512) (q : Fin 1024) : b0 m c t (ix2 r q) = aH m c (ix3 (sq t r) (ps t r) q) := blk0 m c t r q
theorem b1_tok (r : Fin 512) (q : Fin 1024) : b1 m c t (ix3 0 5 q) = aMo m c (ix3 (sq t r) 5 q) := blk1 m c t r q
theorem b2_tok (r : Fin 512) (q : Fin 1024) : b2 m c t (ix2 r q) = aX m c (ix3 (sq t r) (ps t r) q) := blk2 m c t r q
theorem b3_tok (r : Fin 512) (q : Fin 1024) : b3 m c t (ix2 r q) = aY m c (ix3 (sq t r) (ps t r) q) := blk3 m c t r q

theorem lin0_tok (s : Fin 11) (r : Fin 512) (k : Fin 256) : lin (b0 m c t) (W0 m c) s r k = linT (aH m c) (sq t r) (ps t r) (aWg m c) (row s k) := by
  simp only [lin, b0_tok, W0_apply, linT]
theorem lin1_tok (s : Fin 11) (r : Fin 512) (k : Fin 256) : lin (b0 m c t) (W1 m c) s r k = linT (aH m c) (sq t r) (ps t r) (aWu m c) (row s k) := by
  simp only [lin, b0_tok, W1_apply, linT]
theorem D_tok (r : Fin 512) (q : Fin 1024) : D m c t r q = fT (aH m c) (aWg m c) (aWu m c) (aWd m c) (sq t r) (ps t r) q := by
  simp only [D, fb, act, lin0_tok, lin1_tok, W2_apply, fT]
  exact (sum_tiles (fun p => actT (aH m c) (aWg m c) (aWu m c) (sq t r) (ps t r) p * aWd m c (ix2 p q))).symm
theorem diff_tok (r : Fin 512) (q : Fin 1024) : diff (D m c t) (b1 m c t) (b2 m c t) (b3 m c t) r q = diffT (aH m c) (aX m c) (aY m c) (aMo m c) (aWg m c) (aWu m c) (aWd m c) (sq t r) (ps t r) q := by
  simp only [diff, D_tok, b1_tok m c t r, b2_tok, b3_tok, diffT]
theorem dy_tok (r : Fin 512) (q : Fin 1024) : dy (D m c t) (b1 m c t) (b2 m c t) (b3 m c t) r q = dyT (aH m c) (aX m c) (aY m c) (aMo m c) (aWg m c) (aWu m c) (aWd m c) (sq t r) (ps t r) q := by
  simp only [dy, diff_tok, dyT]

theorem flat_tok (g : Fin 4 → Fin 2048 → EReal) (r : Fin 512) : g (sq t r) (ps t r) = flat g (512 * t.val + r.val) := flat_of g (tok t r)

/-- Per-token terms of the sums' rows. -/
def g8 (a : Fin 8) (q : Fin 1024) (b : Fin 4) (p : Fin 2048) : EReal := if a = 0 then sqT (aH m c) (aX m c) (aY m c) (aMo m c) (aWg m c) (aWu m c) (aWd m c) b p q else 0
def g9 (a : Fin 8) (q : Fin 1024) (b : Fin 4) (p : Fin 2048) : EReal := if a = 0 then dmT (aH m c) (aX m c) (aY m c) (aMo m c) (aWg m c) (aWu m c) (aWd m c) b p q else 0

theorem sqAdd_tok (a : Fin 8) (q : Fin 1024) : sqAdd (D m c t) (b1 m c t) (b2 m c t) (b3 m c t) a q = ∑ r : Fin 512, g8 m c a q (sq t r) (ps t r) := by
  by_cases h : a = 0
  · simp only [sqAdd, g8, if_pos h, diff_tok, sqT]
  · simp only [sqAdd, g8, if_neg h, Finset.sum_const_zero]
theorem dmAdd_tok (a : Fin 8) (q : Fin 1024) : dmAdd (D m c t) (b1 m c t) (b2 m c t) (b3 m c t) a q = ∑ r : Fin 512, g9 m c a q (sq t r) (ps t r) := by
  by_cases h : a = 0
  · simp only [dmAdd, g9, if_pos h, dy_tok, D_tok, dmT]
  · simp only [dmAdd, g9, if_neg h, Finset.sum_const_zero]
theorem add8_tok (j : S8x1024.Idx) : add8 m c t j = ∑ r : Fin 512, flat (g8 m c (j 0) (j 1)) (512 * t.val + r.val) := by
  simp only [← flat_tok]
  exact sqAdd_tok m c t (j 0) (j 1)
theorem add9_tok (j : S1x8x1024.Idx) : add9 m c t j = ∑ r : Fin 512, flat (g9 m c (j 1) (j 2)) (512 * t.val + r.val) := by
  simp only [← flat_tok]
  exact dmAdd_tok m c t (j 1) (j 2)

theorem sum8_eq (j : S8x1024.Idx) : (outsAt0 m c t.val t.isLt).2.2.2.2.1 j
    = 0 + ∑ n ∈ Finset.range (t.val + 1), ∑ r : Fin 512, flat (g8 m c (j 0) (j 1)) (512 * n + r.val) := by
  refine Pipeline.eq_sum_of_reset_step_apply_single (fun n h => (outsAt0 m c n h).2.2.2.2.1) 16 (fun _ => 0)
    (fun n j => ∑ r : Fin 512, flat (g8 m c (j 0) (j 1)) (512 * n + r.val)) ?_ ?_ (le_of_eq N_0) t j
  · intro t h0 j
    rw [← add8_tok, zero_add]
    exact congrFun (sum8_A m c t h0) j
  · intro t h0 j
    rw [← add8_tok]
    exact congrFun (sum8_BC m c t h0) j
theorem sum9_eq (j : S1x8x1024.Idx) : (outsAt0 m c t.val t.isLt).2.2.2.2.2.1 j
    = 0 + ∑ n ∈ Finset.range (t.val % 4 + 1), ∑ r : Fin 512, flat (g9 m c (j 1) (j 2)) (512 * (4 * (t.val / 4) + n) + r.val) := by
  refine Pipeline.eq_sum_of_reset_step_apply (fun n h => (outsAt0 m c n h).2.2.2.2.2.1) 4 (fun _ => 0)
    (fun n j => ∑ r : Fin 512, flat (g9 m c (j 1) (j 2)) (512 * n + r.val)) ?_ ?_ t j
  · intro t h0 j
    rw [← add9_tok, zero_add]
    exact congrFun (sum9_AC m c t h0) j
  · intro t h0 j
    rw [← add9_tok]
    exact congrFun (sum9_B m c t h0) j

theorem sum8_last (ht : t.val % 16 = 15) (a : Fin 8) (q : Fin 1024) : (outsAt0 m c t.val t.isLt).2.2.2.2.1 (ix2 a q) = ∑ b, ∑ p, g8 m c a q b p := by
  have h : t.val < 16 := lt_of_lt_of_eq t.isLt N_0
  have e : t.val + 1 = 16 := by omega
  rw [sum8_eq, e, zero_add, Common.sum_blocks]
  change ∑ n ∈ Finset.range (2048 * 4), flat (g8 m c a q) n = _
  rw [← Common.sum_blocks_fin]
  simp only [flat_seq]
theorem sum9_last (ht : t.val % 4 = 3) (b : Fin 4) (hb : b.val = t.val / 4) (a : Fin 8) (q : Fin 1024) :
    (outsAt0 m c t.val t.isLt).2.2.2.2.2.1 (ix3 0 a q) = ∑ p, g9 m c a q b p := by
  have e (n : ℕ) (r : Fin 512) : 512 * (4 * b.val + n) + r.val = 2048 * b.val + (512 * n + r.val) := by omega
  rw [sum9_eq, ht, zero_add, ← hb]
  simp only [e]
  change ∑ n ∈ Finset.range 4, ∑ r : Fin 512, (fun x => flat (g9 m c a q) (2048 * b.val + x)) (512 * n + r.val) = _
  rw [Common.sum_blocks 512 (fun x => flat (g9 m c a q) (2048 * b.val + x))]
  change ∑ n ∈ Finset.range 2048, _ = _
  rw [Finset.sum_range]
  simp only [flat_seq]
end Tokens

end Cert.FfnFwdIdeal.Own
end
-- ==== Proof.FfnFwdArr.lean ====
module
public import proofs.«01_k».proof.Defs
public import proofs.«01_k».proof.Proof.Common
public import proofs.«01_k».proof.Proof.Layer
public import proofs.«01_k».proof.Proof.FfnFwdMath
public import proofs.«01_k».proof.Proof.FfnFwdPoint
public import proofs.«01_k».proof.Proof.FfnFwdBlocks
public import proofs.«01_k».proof.Proof.FfnFwdValue

/-! The six result arrays of the call, as functions of its arguments. -/

@[expose] public section
set_option maxRecDepth 16384
set_option maxHeartbeats 2000000
noncomputable section
namespace Cert.FfnFwdIdeal.Own
open Cert.FfnFwdIdeal Cert.FfnFwdIdeal.Gen Idealize.ShloMosaic Idealize.ShloMosaic.TcCoe Idealize.SL.Sem Cert.Common
variable (m : (ℓ : Loc nD τ sig) → Buf (Elt Ideal) ℓ)

theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 4, 0, 0] := (by decide +kernel : ∀ t : Fin grid0.N, _)

def R4 (c : Dev nD) : Vec Ideal S11x8192x256 .bf16 := fun j => linT (aH m c) (seqOf (j 1)) (posOf (j 1)) (aWg m c) (row (j 0) (j 2))
theorem arr4 (c : Dev nD) : (dats m 0 c).arrAt 4 cfg0.N = R4 m c := by
  refine (dats m 0 c).arrAt_eq_of_covers 4 _ (by decide +kernel) fun t hf y => ?_
  have ht : t.val < 16 := lt_of_lt_of_eq t.isLt N_0
  blk_simp
  rw [after0_4, leaves_of m c t.val t.isLt]
  idx_vars y
  refine (lin0_tok m c t y0 y1 y2).trans ?_
  change R4 m c (ix3 y0 (tok t y1) y2) = _
  refine Eq.symm ?_
  unfold tok
  blk_ext [idx4 t]

def R5 (c : Dev nD) : Vec Ideal S11x8192x256 .bf16 := fun j => linT (aH m c) (seqOf (j 1)) (posOf (j 1)) (aWu m c) (row (j 0) (j 2))
theorem arr5 (c : Dev nD) : (dats m 0 c).arrAt 5 cfg0.N = R5 m c := by
  refine (dats m 0 c).arrAt_eq_of_covers 5 _ (by decide +kernel) fun t hf y => ?_
  have ht : t.val < 16 := lt_of_lt_of_eq t.isLt N_0
  blk_simp
  rw [after0_5, leaves_of m c t.val t.isLt]
  idx_vars y
  refine (lin1_tok m c t y0 y1 y2).trans ?_
  change R5 m c (ix3 y0 (tok t y1) y2) = _
  refine Eq.symm ?_
  unfold tok
  blk_ext [idx5 t]

def R6 (c : Dev nD) : Vec Ideal S8192x1024 .f32 := fun j => dyT (aH m c) (aX m c) (aY m c) (aMo m c) (aWg m c) (aWu m c) (aWd m c) (seqOf (j 0)) (posOf (j 0)) (j 1)
theorem arr6 (c : Dev nD) : (dats m 0 c).arrAt 6 cfg0.N = R6 m c := by
  refine (dats m 0 c).arrAt_eq_of_covers 6 _ (by decide +kernel) fun t hf y => ?_
  have ht : t.val < 16 := lt_of_lt_of_eq t.isLt N_0
  blk_simp
  rw [after0_6, leaves_of m c t.val t.isLt]
  idx_vars y
  refine (dy_tok m c t y0 y1).trans ?_
  change R6 m c (ix2 (tok t y0) y1) = _
  refine Eq.symm ?_
  unfold tok
  blk_ext [idx6 t]

def R7 (c : Dev nD) : Vec Ideal S8192x1024 .bf16 := fun j => aMo m c (ix3 (seqOf (j 0)) 5 (j 1)) * dyT (aH m c) (aX m c) (aY m c) (aMo m c) (aWg m c) (aWu m c) (aWd m c) (seqOf (j 0)) (posOf (j 0)) (j 1)
theorem arr7 (c : Dev nD) : (dats m 0 c).arrAt 7 cfg0.N = R7 m c := by
  refine (dats m 0 c).arrAt_eq_of_covers 7 _ (by decide +kernel) fun t hf y => ?_
  have ht : t.val < 16 := lt_of_lt_of_eq t.isLt N_0
  blk_simp
  rw [after0_7, leaves_of m c t.val t.isLt]
  idx_vars y
  refine (congrArg₂ (· * ·) (b1_tok m c t y0 y1) (dy_tok m c t y0 y1)).trans ?_
  change R7 m c (ix2 (tok t y0) y1) = _
  refine Eq.symm ?_
  unfold tok
  blk_ext [idx7 t]

def R8 (c : Dev nD) : Vec Ideal S8x1024 .f32 := fun j => ∑ b, ∑ p, g8 m c (j 0) (j 1) b p
theorem arr8 (c : Dev nD) : (dats m 0 c).arrAt 8 cfg0.N = R8 m c := by
  refine (dats m 0 c).arrAt_eq_of_covers 8 _ (by decide +kernel) fun t hf y => ?_
  have h := (flush0_8 t).mp hf
  blk_simp
  rw [after0_8]
  idx_vars y
  refine (sum8_last m c t h y0 y1).trans ?_
  change R8 m c (ix2 y0 y1) = _
  refine Eq.symm ?_
  blk_ext [idx8 t]

def R9 (c : Dev nD) : Vec Ideal S4x8x1024 .f32 := fun j => ∑ p, g9 m c (j 1) (j 2) (j 0) p
theorem arr9 (c : Dev nD) : (dats m 0 c).arrAt 9 cfg0.N = R9 m c := by
  refine (dats m 0 c).arrAt_eq_of_covers 9 _ (by decide +kernel) fun t hf y => ?_
  have h := (flush0_9 t).mp hf
  have ht : t.val < 16 := lt_of_lt_of_eq t.isLt N_0
  blk_simp
  rw [after0_9]
  idx_vars y
  obtain rfl : y0 = 0 := Subsingleton.elim _ _
  refine (sum9_last m c t h ⟨t.val / 4, by omega⟩ rfl y1 y2).trans ?_
  change R9 m c (ix3 ⟨t.val / 4, by omega⟩ y1 y2) = _
  refine Eq.symm ?_
  blk_ext [idx9 t]

end Cert.FfnFwdIdeal.Own
end
-- ==== Proof.FfnFwdRef.lean ====
module
public import proofs.«01_k».proof.Defs
public import proofs.«01_k».proof.Proof.Gen.FfnFwdRefIdeal.Read
public import proofs.«01_k».proof.Proof.Common
public import proofs.«01_k».proof.Proof.Layer
public import proofs.«01_k».proof.Proof.FfnFwdMath
public import Idealize.ShloMosaic.Lib.KernelVsHost

/-! The reference's values, one token at a time, and its six results. -/

@[expose] public section
set_option maxRecDepth 16384
set_option maxHeartbeats 1000000
noncomputable section
namespace Cert.FfnFwdIdeal.Own
open Idealize.ShloMosaic Idealize.ShloMosaic.TcCoe Idealize.SL.Sem Cert.Common Cert.FfnFwdRefIdeal Cert.FfnFwdRefIdeal.Read Cert.FfnFwdRefIdeal.Gen
variable (H X Y : Vec Ideal S4x2048x1024 .f32) (Mo : Vec Ideal S4x6x1024 .f32) (Wg Wu : Vec Ideal S1024x2816 .f32) (Wd : Vec Ideal S2816x1024 .f32)

theorem ref_v0 (b : Fin 4) (t : Fin 2048) (p : Fin 2816) : (val_main_v0 (F := Ideal) H Wg : Vec Ideal S4x2048x2816 .f32) (ix3 b t p) = linT H b t Wg p := by
  unfold val_main_v0
  pointwise
  rfl

theorem ref_v1 (b : Fin 4) (t : Fin 2048) (p : Fin 2816) : (val_main_v1 (F := Ideal) H Wu : Vec Ideal S4x2048x2816 .f32) (ix3 b t p) = linT H b t Wu p := by
  unfold val_main_v1
  pointwise
  rfl

theorem ref_v5 (b : Fin 4) (t : Fin 2048) (p : Fin 2816) : (val_main_v5 (F := Ideal) H Wg Wu : Vec Ideal S4x2048x2816 .f32) (ix3 b t p) = actT H Wg Wu b t p := by
  unfold val_main_v5 val_main_v4 val_main_call0_v5 val_main_call0_v4 val_main_call0_v3 val_main_call0_v2 val_main_call0_v1 val_main_call0_v0 val_main_call0_cst val_main_call0_cst_0
  pointwise [ref_v0, ref_v1]
  simp only [actT, sg, zero_sub] <;> rfl

theorem ref_v6 (b : Fin 4) (t : Fin 2048) (q : Fin 1024) : (val_main_v6 (F := Ideal) H Wg Wu Wd : Vec Ideal S4x2048x1024 .f32) (ix3 b t q) = fT H Wg Wu Wd b t q := by
  unfold val_main_v6
  pointwise [ref_v5]
  rfl

theorem ref_v11 (b : Fin 4) (t : Fin 2048) (q : Fin 1024) : (val_main_v11 (F := Ideal) H X Y Mo Wg Wu Wd : Vec Ideal S4x2048x1024 .f32) (ix3 b t q) = diffT H X Y Mo Wg Wu Wd b t q := by
  unfold val_main_v11 val_main_v10 val_main_v9 val_main_v8 val_main_v7 val_main_v3 val_main_v2
  pointwise [ref_v6]
  rfl

theorem ref_v25 (b : Fin 4) (t : Fin 2048) (q : Fin 1024) : (val_main_v25 (F := Ideal) H X Y Mo Wg Wu Wd : Vec Ideal S4x2048x1024 .f32) (ix3 b t q) = dyT H X Y Mo Wg Wu Wd b t q := by
  unfold val_main_v25 val_main_v24 val_main_v23 val_main_v22 val_main_v21 val_main_v20 val_main_v14 val_main_v13 val_main_cst val_main_cst_4 val_main_cst_5 val_main_cst_6
  pointwise [ref_v11]
  exact mean_form _

theorem ref_v27 (b : Fin 4) (t : Fin 2048) (q : Fin 1024) : (val_main_v27 (F := Ideal) H X Y Mo Wg Wu Wd : Vec Ideal S4x2048x1024 .f32) (ix3 b t q) = Mo (ix3 b 5 q) * dyT H X Y Mo Wg Wu Wd b t q := by
  unfold val_main_v27 val_main_v26 val_main_v7 val_main_v3 val_main_v2
  pointwise [ref_v25]

theorem ref_v31 (b : Fin 4) (q : Fin 1024) : (val_main_v31 (F := Ideal) H X Y Mo Wg Wu Wd : Vec Ideal S4x1024 .f32) (ix2 b q) = ∑ t, dmT H X Y Mo Wg Wu Wd b t q := by
  unfold val_main_v31 val_main_v30 val_main_v29 val_main_v28 val_main_cst_7 val_main_cst_8
  pointwise [ref_v25, ref_v6]
  simp only [Fin.sum_univ_one]
  rfl

theorem ref_v34 (q : Fin 1024) : (val_main_v34 (F := Ideal) H X Y Mo Wg Wu Wd : Vec Ideal S1024 .f32) (ix1 q) = ∑ b, ∑ t, sqT H X Y Mo Wg Wu Wd b t q := by
  unfold val_main_v34 val_main_v33 val_main_v32 val_main_v10 val_main_v9 val_main_v8 val_main_v7 val_main_v3 val_main_v2 val_main_cst_9
  pointwise [host_sum01, ref_v6]
  rfl

/-! The results. -/

variable (s : Fin 11) (n : Fin 8192) (k : Fin 256) (q : Fin 1024)

theorem pad_value : (sitofp (F := Ideal) .f32 (constantI S_ 32 0#32) : Vec Ideal S_ .f32) (Shape.Idx.first h_S_) = 0 := by
  change ((((0#32 : BitVec 32).toInt : ℝ)) : EReal) = 0
  simp

theorem res_v37 : (val_main_v37 (F := Ideal) H Wg : Vec Ideal S11x8192x256 .bf16) (ix3 s n k) = linT H (seqOf n) (posOf n) Wg (row s k) := by
  unfold val_main_v37 val_main_v36 val_main_v35
  pointwise
  exact ref_v0 H Wg _ _ _

theorem res_v40 : (val_main_v40 (F := Ideal) H Wu : Vec Ideal S11x8192x256 .bf16) (ix3 s n k) = linT H (seqOf n) (posOf n) Wu (row s k) := by
  unfold val_main_v40 val_main_v39 val_main_v38
  pointwise
  exact ref_v1 H Wu _ _ _

theorem res_v41 : (val_main_v41 (F := Ideal) H X Y Mo Wg Wu Wd : Vec Ideal S8192x1024 .f32) (ix2 n q) = dyT H X Y Mo Wg Wu Wd (seqOf n) (posOf n) q := by
  unfold val_main_v41
  pointwise
  exact ref_v25 H X Y Mo Wg Wu Wd _ _ _

theorem res_v43 : (val_main_v43 (F := Ideal) H X Y Mo Wg Wu Wd : Vec Ideal S8192x1024 .bf16) (ix2 n q)
    = Mo (ix3 (seqOf n) 5 q) * dyT H X Y Mo Wg Wu Wd (seqOf n) (posOf n) q := by
  unfold val_main_v43 val_main_v42
  pointwise
  exact ref_v27 H X Y Mo Wg Wu Wd _ _ _

theorem res_v45 (a : Fin 8) : (val_main_v45 (F := Ideal) H X Y Mo Wg Wu Wd : Vec Ideal S8x1024 .f32) (ix2 a q)
    = ∑ b, ∑ p, if a = 0 then sqT H X Y Mo Wg Wu Wd b p q else 0 := by
  unfold val_main_v45
  by_cases h : a = 0
  · subst h
    simp only [if_pos]
    refine (pad_apply_of_inside (t := S8x1024) ![0, 0] ![7, 0] ![0, 0] (val_main_v44 (F := Ideal) H X Y Mo Wg Wu Wd) (val_main_call1_v0 (F := Ideal)) pads_S1x1024_S8x1024_070_000 h_S_ (ix2 0 q) (ix2 0 q) ?_).trans ?_
    · intro i
      fin_cases i <;> simp [ix2]
    · unfold val_main_v44
      pointwise
      exact ref_v34 H X Y Mo Wg Wu Wd q
  · simp only [if_neg h, Finset.sum_const_zero]
    refine (pad_apply_of_not_inside (t := S8x1024) ![0, 0] ![7, 0] ![0, 0] (val_main_v44 (F := Ideal) H X Y Mo Wg Wu Wd) (val_main_call1_v0 (F := Ideal)) pads_S1x1024_S8x1024_070_000 h_S_ (ix2 a q) 0 ?_).trans pad_value
    rintro ⟨-, -, h3⟩
    have h3 : (a.val - 0) / (0 + 1) < 1 := h3
    exact h (Fin.ext (by change a.val = 0; omega))

theorem res_v47 (b : Fin 4) (a : Fin 8) : (val_main_v47 (F := Ideal) H X Y Mo Wg Wu Wd : Vec Ideal S4x8x1024 .f32) (ix3 b a q)
    = ∑ p, if a = 0 then dmT H X Y Mo Wg Wu Wd b p q else 0 := by
  unfold val_main_v47
  by_cases h : a = 0
  · subst h
    simp only [if_pos]
    refine (pad_apply_of_inside (t := S4x8x1024) ![0, 0, 0] ![0, 7, 0] ![0, 0, 0] (val_main_v46 (F := Ideal) H X Y Mo Wg Wu Wd) (val_main_call2_v0 (F := Ideal)) pads_S4x1x1024_S4x8x1024_000_070_000 h_S_ (ix3 b 0 q) (ix3 b 0 q) ?_).trans ?_
    · intro i
      fin_cases i <;> simp [ix3]
    · unfold val_main_v46
      pointwise
      exact ref_v31 H X Y Mo Wg Wu Wd b q
  · simp only [if_neg h, Finset.sum_const_zero]
    refine (pad_apply_of_not_inside (t := S4x8x1024) ![0, 0, 0] ![0, 7, 0] ![0, 0, 0] (val_main_v46 (F := Ideal) H X Y Mo Wg Wu Wd) (val_main_call2_v0 (F := Ideal)) pads_S4x1x1024_S4x8x1024_000_070_000 h_S_ (ix3 b a q) 1 ?_).trans pad_value
    rintro ⟨-, -, h3⟩
    have h3 : (a.val - 0) / (0 + 1) < 1 := h3
    exact h (Fin.ext (by change a.val = 0; omega))

end Cert.FfnFwdIdeal.Own
end
-- ==== Proof.FfnFwdProof.lean ====
module
public import proofs.«01_k».proof.Defs
public import proofs.«01_k».proof.Proof.Gen.FfnFwd
public import proofs.«01_k».proof.Proof.Gen.FfnFwdIdeal
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.FfnFwdFrame
public import proofs.«01_k».proof.Proof.FfnFwdArr
public import proofs.«01_k».proof.Proof.FfnFwdRef

/-! The feed-forward layer's forward call: its frames, and that it computes the layer and the loss's first derivatives. -/

@[expose] public section
set_option maxRecDepth 16384
set_option maxHeartbeats 4000000
noncomputable section
namespace Cert.FfnFwdIdeal.Own
open Cert.FfnFwdIdeal Cert.FfnFwdIdeal.Gen Idealize.ShloMosaic Idealize.ShloMosaic.TcCoe Idealize.SL.Sem Cert.Common
variable (m : (ℓ : Loc nD τ sig) → Buf (Elt Ideal) ℓ)

theorem results (ρ : Dev nD → PrngReg) : θ_run defs (onTc (τ := τ) (main (F := Ideal))) ⟨m, fun _ => 0, ρ⟩ (fun r => ∀ c : Dev nD,
      r.2.mem ((c.tc : Thread nD τ).loc main_v10_0) = R4 m c
      ∧ r.2.mem ((c.tc : Thread nD τ).loc main_v10_1) = R5 m c
      ∧ r.2.mem ((c.tc : Thread nD τ).loc main_v10_2) = R6 m c
      ∧ r.2.mem ((c.tc : Thread nD τ).loc main_v10_3) = R7 m c
      ∧ r.2.mem ((c.tc : Thread nD τ).loc main_v10_4) = R8 m c
      ∧ r.2.mem ((c.tc : Thread nD τ).loc main_v10_5) = R9 m c) :=
  (θ_run defs _ _).mono (fun r h c => ⟨((h c).1 4).trans (arr4 m c), ((h c).1 5).trans (arr5 m c), ((h c).1 6).trans (arr6 m c), ((h c).1 7).trans (arr7 m c), ((h c).1 8).trans (arr8 m c), ((h c).1 9).trans (arr9 m c)⟩) (run_main m ρ)
end Cert.FfnFwdIdeal.Own

namespace Cert.FfnFwdProof
open Idealize.ShloMosaic Idealize.ShloMosaic.TcCoe Idealize.SL.Sem

/-- The two programs have the same text: their bodies and their host programs are the same terms. -/
theorem defs_eq : Cert.FfnFwd.defs (F := Bits) = Cert.FfnFwdIdeal.defs (F := Bits) := by sl_kernel_rfl

theorem main_eq : Cert.FfnFwd.main (F := Bits) = Cert.FfnFwdIdeal.main (F := Bits) := by sl_kernel_rfl

theorem frame_p : Cert.quiescent_FfnFwd := fun m ρ _ => by
  have h := Cert.FfnFwdIdeal.Own.frame (F := Bits) m ρ
  rw [← defs_eq, ← main_eq] at h
  exact h

theorem frame_pi : Cert.quiescent_FfnFwdIdeal := fun m ρ _ => Cert.FfnFwdIdeal.Own.frame m ρ

theorem frame_ri : Cert.quiescent_FfnFwdRefIdeal := fun m ρ _ =>
  (θ_run Cert.FfnFwdRefIdeal.defs _ _).mono (fun r h => ⟨fun c => (h c).2.2.2.2.2.2, sem_eq_zero_of_no_sems (by decide) r.2⟩)
    (Cert.FfnFwdRefIdeal.Value.run (F := Ideal) m ρ)

open Cert.FfnFwdIdeal.Own Cert.FfnFwdRefIdeal.Read in
theorem algebraic : Cert.algebraic_FfnFwdIdeal_FfnFwdRefIdeal := by
  intro m g m' g' _ hagree
  refine ⟨R4 m, R5 m, R6 m, R7 m, R8 m, R9 m, ?_, ?_⟩
  · exact θ_run_and (results m g) (unchanged m g) |> fun h => (θ_run _ _ _).mono (fun r h c => by
      obtain ⟨h, k⟩ := h
      obtain ⟨r0, r1, r2, r3, r4, r5⟩ := h c
      exact ⟨r0, r1, r2, r3, r4, r5, k c⟩) h
  · refine (θ_run Cert.FfnFwdRefIdeal.defs _ _).mono (fun r h c => ?_) (Cert.FfnFwdRefIdeal.Value.run (F := Ideal) m' g')
    obtain ⟨e0, e1, e2, e3, e4, e5, e6⟩ := hagree c
    obtain ⟨r0, r1, r2, r3, r4, r5, k⟩ := h c
    refine ⟨r0.trans ?_, r1.trans ?_, r2.trans ?_, r3.trans ?_, r4.trans ?_, r5.trans ?_, k⟩
    · rw [val_main_v37_eq, e0, e4]
      funext j
      idx_vars j
      exact res_v37 (aH m c) (aWg m c) j0 j1 j2
    · rw [val_main_v40_eq, e0, e5]
      funext j
      idx_vars j
      exact res_v40 (aH m c) (aWu m c) j0 j1 j2
    · rw [val_main_v41_eq, e0, e1, e2, e3, e4, e5, e6]
      funext j
      idx_vars j
      exact res_v41 (aH m c) (aX m c) (aY m c) (aMo m c) (aWg m c) (aWu m c) (aWd m c) j0 j1
    · rw [val_main_v43_eq, e0, e1, e2, e3, e4, e5, e6]
      funext j
      idx_vars j
      exact res_v43 (aH m c) (aX m c) (aY m c) (aMo m c) (aWg m c) (aWu m c) (aWd m c) j0 j1
    · rw [val_main_v45_eq, e0, e1, e2, e3, e4, e5, e6]
      funext j
      idx_vars j
      exact res_v45 (aH m c) (aX m c) (aY m c) (aMo m c) (aWg m c) (aWu m c) (aWd m c) j1 j0
    · rw [val_main_v47_eq, e0, e1, e2, e3, e4, e5, e6]
      funext j
      idx_vars j
      exact res_v47 (aH m c) (aX m c) (aY m c) (aMo m c) (aWg m c) (aWu m c) (aWd m c) j2 j0 j1

end Cert.FfnFwdProof
end
-- ==== Proof.Norm.lean ====
module
public import proofs.«01_k».proof.Defs
public import proofs.«01_k».proof.Proof.Common
public import proofs.«01_k».proof.Proof.Layer

/-! A row normed by its mean square, scaled and shifted: `x` the row, `g` the norm's gain, `sc` and `sh` the modulation. -/

@[expose] public section
set_option maxRecDepth 16384
set_option maxHeartbeats 2000000
noncomputable section
namespace Cert.Common
open Idealize.ShloMosaic Idealize.ShloMosaic.TcCoe

/-- What the norms add to the mean square. -/
def eps : EReal := Ideal.ofBits .f32 0x358637BD#32

def normed (x g sc sh : Fin 1024 → EReal) (q : Fin 1024) : EReal :=
  x q * Ideal.rsqrt (Ideal.div (∑ k, x k * x k) wide + eps) * g q * (1 + sc q) + sh q

end Cert.Common
end
-- ==== Proof.MixOutMath.lean ====
module
public import proofs.«01_k».proof.Defs
public import proofs.«01_k».proof.Proof.Common
public import proofs.«01_k».proof.Proof.Layer
public import proofs.«01_k».proof.Proof.Norm
public import proofs.«01_k».proof.Proof.Gen.MixOutIdeal.Frame

/-! One token of the call, as formulas in its rows: `u` the convolution's row, `a` the attention's, `x` the layer's input, `W` the
projection, the other letters the vectors of the two norms and of the modulation. And the body's values as these formulas. -/

@[expose] public section
set_option maxRecDepth 16384
set_option maxHeartbeats 2000000
noncomputable section
namespace Cert.MixOutIdeal.Own
open Cert.MixOutIdeal Cert.MixOutIdeal.Gen Idealize.ShloMosaic Idealize.ShloMosaic.TcCoe Idealize.SL.Sem Cert.Common

/-- The first half of the projection's rows, and the second. -/
def lo (k : Fin 512) : Fin 1024 := ⟨k.val, by omega⟩
def hi (k : Fin 512) : Fin 1024 := ⟨512 + k.val, by omega⟩

/-- The number of the convolution's features. -/
def half : EReal := Ideal.ofBits .f32 0x44000000#32

def lnMean (u : Fin 512 → EReal) : EReal := Ideal.div (∑ k, u k) half
def lnVar (u : Fin 512 → EReal) : EReal := Ideal.div (∑ k, (u k - lnMean u) * (u k - lnMean u)) half
def ln (u g b : Fin 512 → EReal) (q : Fin 512) : EReal := (u q - lnMean u) * Ideal.rsqrt (lnVar u + eps) * g q + b q
def conv (u g b : Fin 512 → EReal) (q : Fin 512) : EReal := ln u g b q * sg (ln u g b q)
def mixed (y a : Fin 512 → EReal) (W : Fin 1024 → Fin 1024 → EReal) (q : Fin 1024) : EReal := ∑ k, y k * W (lo k) q + ∑ k, a k * W (hi k) q
def resid (x gm y : Fin 1024 → EReal) (q : Fin 1024) : EReal := x q + gm q * y q

section Tokens
variable (U A : Vec Ideal S4x2048x512 .f32) (X : Vec Ideal S4x2048x1024 .f32) (Mo : Vec Ideal S4x6x1024 .f32) (G B : Vec Ideal S1x512 .f32) (Gf : Vec Ideal S1x1024 .f32) (W : Vec Ideal S1024x1024 .f32)

/-- The four results at a token. -/
def convT (b : Fin 4) (t : Fin 2048) (q : Fin 512) : EReal := conv (fun k => U (ix3 b t k)) (fun k => G (ix2 0 k)) (fun k => B (ix2 0 k)) q
def mixT (b : Fin 4) (t : Fin 2048) (q : Fin 1024) : EReal := mixed (fun k => convT U G B b t k) (fun k => A (ix3 b t k)) (fun p q => W (ix2 p q)) q
def residT (b : Fin 4) (t : Fin 2048) (q : Fin 1024) : EReal := resid (fun k => X (ix3 b t k)) (fun k => Mo (ix3 b 2 k)) (fun k => mixT U A G B W b t k) q
def normT (b : Fin 4) (t : Fin 2048) (q : Fin 1024) : EReal :=
  normed (fun k => residT U A X Mo G B W b t k) (fun k => Gf (ix2 0 k)) (fun k => Mo (ix3 b 4 k)) (fun k => Mo (ix3 b 3 k)) q

end Tokens

/-! What the body stores, row by row. -/

theorem conv_apply (u : Vec Ideal S512x512 .f32) (g b : Vec Ideal S1x512 .f32) (r q : Fin 512) :
    k0_pay2 u g b (ix2 r q) = conv (fun k => u (ix2 r k)) (fun k => g (ix2 0 k)) (fun k => b (ix2 0 k)) q := by
  unfold k0_pay2
  pointwise
  simp only [conv, ln, lnVar, lnMean, sg, half, eps] <;> rfl

theorem mixed_apply (p : FVec Ideal S512x1024 .f32) (a : Vec Ideal S512x512 .bf16) (w : Vec Ideal S512x1024 .bf16) (r : Fin 512) (q : Fin 1024) :
    k0_pay4 p a w (ix2 r q) = p (ix2 r q) + ∑ k, a (ix2 r k) * w (ix2 k q) := by
  unfold k0_pay4
  pointwise
  try rfl

theorem first_apply (u : Vec Ideal S512x512 .f32) (g b : Vec Ideal S1x512 .f32) (w : Vec Ideal S512x1024 .bf16) (r : Fin 512) (q : Fin 1024) :
    k0_pay3 u g b w (ix2 r q) = ∑ k, conv (fun k => u (ix2 r k)) (fun k => g (ix2 0 k)) (fun k => b (ix2 0 k)) k * w (ix2 k q) := by
  unfold k0_pay3
  pointwise [conv_apply]
  try rfl

theorem resid_apply (p : FVec Ideal S512x1024 .f32) (a : Vec Ideal S512x512 .bf16) (w : Vec Ideal S512x1024 .bf16) (x : Vec Ideal S512x1024 .f32)
    (gm : Vec Ideal S1x1x1024 .f32) (r : Fin 512) (q : Fin 1024) :
    k0_pay6 p a w x gm (ix2 r q) = resid (fun k => x (ix2 r k)) (fun k => gm (ix3 0 0 k)) (fun k => k0_pay4 p a w (ix2 r k)) q := by
  unfold k0_pay6
  pointwise
  try rfl

theorem normed_apply (p : FVec Ideal S512x1024 .f32) (a : Vec Ideal S512x512 .bf16) (w : Vec Ideal S512x1024 .bf16) (x : Vec Ideal S512x1024 .f32)
    (gm sc sh : Vec Ideal S1x1x1024 .f32) (g : Vec Ideal S1x1024 .f32) (r : Fin 512) (q : Fin 1024) :
    k0_pay1 (k0_pay7 p a w x gm g sc) sh (ix2 r q)
      = normed (fun k => k0_pay6 p a w x gm (ix2 r k)) (fun k => g (ix2 0 k)) (fun k => sc (ix3 0 0 k)) (fun k => sh (ix3 0 0 k)) q := by
  unfold k0_pay1 k0_pay7
  pointwise
  simp only [normed, wide, eps] <;> rfl

end Cert.MixOutIdeal.Own
end
-- ==== Proof.MixOutBlocks.lean ====
module
public import proofs.«01_k».proof.Defs
public import proofs.«01_k».proof.Proof.Common
public import proofs.«01_k».proof.Proof.Layer
public import proofs.«01_k».proof.Proof.MixOutMath
public import Idealize.ShloMosaic.Lib.KernelVsHost

/-! The blocks a point reads, as the arguments' tokens. -/

@[expose] public section
set_option maxRecDepth 16384
set_option maxHeartbeats 2000000
noncomputable section
namespace Cert.MixOutIdeal.Own
open Cert.MixOutIdeal Cert.MixOutIdeal.Gen Idealize.ShloMosaic Idealize.ShloMosaic.TcCoe Idealize.SL.Sem Cert.Common
variable (m : (ℓ : Loc nD τ sig) → Buf (Elt Ideal) ℓ)

/-- The call's arguments. -/
abbrev aU (c : Dev nD) : Vec Ideal S4x2048x512 .f32 := m ((c : Thread nD τ).loc main_arg0)
abbrev aA (c : Dev nD) : Vec Ideal S4x2048x512 .f32 := m ((c : Thread nD τ).loc main_arg1)
abbrev aX (c : Dev nD) : Vec Ideal S4x2048x1024 .f32 := m ((c : Thread nD τ).loc main_arg2)
abbrev aMo (c : Dev nD) : Vec Ideal S4x6x1024 .f32 := m ((c : Thread nD τ).loc main_arg3)
abbrev aG (c : Dev nD) : Vec Ideal S1x512 .f32 := m ((c : Thread nD τ).loc main_arg4)
abbrev aB (c : Dev nD) : Vec Ideal S1x512 .f32 := m ((c : Thread nD τ).loc main_arg5)
abbrev aGf (c : Dev nD) : Vec Ideal S1x1024 .f32 := m ((c : Thread nD τ).loc main_arg6)
abbrev aW (c : Dev nD) : Vec Ideal S1024x1024 .f32 := m ((c : Thread nD τ).loc main_arg7)

/-- Row `r` of point `t`'s block of tokens. -/
def tok (t : Fin cfg0.N) (r : Fin 512) : Fin 8192 := ⟨512 * t.val + r.val, by have : t.val < 16 := lt_of_lt_of_eq t.isLt N_0; omega⟩

theorem entU (c : Dev nD) (n : Fin 8192) (q : Fin 512) : (V m c main_v1 : Vec Ideal S8192x512 .f32) (ix2 n q) = aU m c (ix3 (seqOf n) (posOf n) q) := by
  unfold V hostOps0 hostOps0_1 hostOps0_2
  simp only [List.flatten_cons, List.flatten_nil, List.cons_append, List.nil_append, List.append_nil]
  entry_read
  pointwise
  try rfl

theorem entA (c : Dev nD) (n : Fin 8192) (q : Fin 512) : (V m c main_v3 : Vec Ideal S8192x512 .bf16) (ix2 n q) = aA m c (ix3 (seqOf n) (posOf n) q) := by
  unfold V hostOps0 hostOps0_1 hostOps0_2
  simp only [List.flatten_cons, List.flatten_nil, List.cons_append, List.nil_append, List.append_nil]
  entry_read
  pointwise
  try rfl

theorem entX (c : Dev nD) (n : Fin 8192) (q : Fin 1024) : (V m c main_v4 : Vec Ideal S8192x1024 .f32) (ix2 n q) = aX m c (ix3 (seqOf n) (posOf n) q) := by
  unfold V hostOps0 hostOps0_1 hostOps0_2
  simp only [List.flatten_cons, List.flatten_nil, List.cons_append, List.nil_append, List.append_nil]
  entry_read
  pointwise
  try rfl

theorem entW (c : Dev nD) (p q : Fin 1024) : (V m c main_v5 : Vec Ideal S1024x1024 .bf16) (ix2 p q) = aW m c (ix2 p q) := by
  unfold V hostOps0 hostOps0_1 hostOps0_2
  simp only [List.flatten_cons, List.flatten_nil, List.cons_append, List.nil_append, List.append_nil]
  entry_read
  pointwise
  try rfl

theorem entMo (c : Dev nD) (b : Fin 4) (i : Fin 6) (q : Fin 1024) :
    (V m c main_v0 : Vec Ideal S4x8x1024 .f32) (ix3 b ⟨i.val, by omega⟩ q) = aMo m c (ix3 b i q) := by
  unfold V hostOps0 hostOps0_1 hostOps0_2
  simp only [List.flatten_cons, List.flatten_nil, List.cons_append, List.nil_append, List.append_nil]
  entry_read
  refine pad_apply_of_inside (t := S4x8x1024) ![0, 0, 0] ![0, 2, 0] ![0, 0, 0] (aMo m c) (sitofp (F := Ideal) FTy.f32 (constantI S_ 32 0#32)) pads_S4x6x1024_S4x8x1024_000_020_000 h_S_ (ix3 b ⟨i.val, by omega⟩ q) (ix3 b i q) ?_
  intro a
  fin_cases a <;> simp [ix3]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val / 4, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem blkU (c : Dev nD) (t : Fin cfg0.N) (r q : Fin 512) : (iblk m c 0 t : Vec Ideal S512x512 .f32) (ix2 r q) = aU m c (ix3 (seqOf (tok t r)) (posOf (tok t r)) q) := by
  have ht : t.val < 16 := lt_of_lt_of_eq t.isLt N_0
  refine Eq.trans (b := (V m c main_v1 : Vec Ideal S8192x512 .f32) (ix2 (tok t r) q)) ?_ (entU m c _ _)
  blk_simp [iblk, idx0 t]
  unfold tok
  blk_ext [idx0 t]

theorem blkA (c : Dev nD) (t : Fin cfg0.N) (r q : Fin 512) : (iblk m c 1 t : Vec Ideal S512x512 .bf16) (ix2 r q) = aA m c (ix3 (seqOf (tok t r)) (posOf (tok t r)) q) := by
  have ht : t.val < 16 := lt_of_lt_of_eq t.isLt N_0
  refine Eq.trans (b := (V m c main_v3 : Vec Ideal S8192x512 .bf16) (ix2 (tok t r) q)) ?_ (entA m c _ _)
  blk_simp [iblk, idx1 t]
  unfold tok
  blk_ext [idx1 t]

theorem blkX (c : Dev nD) (t : Fin cfg0.N) (r : Fin 512) (q : Fin 1024) : (iblk m c 2 t : Vec Ideal S512x1024 .f32) (ix2 r q) = aX m c (ix3 (seqOf (tok t r)) (posOf (tok t r)) q) := by
  have ht : t.val < 16 := lt_of_lt_of_eq t.isLt N_0
  refine Eq.trans (b := (V m c main_v4 : Vec Ideal S8192x1024 .f32) (ix2 (tok t r) q)) ?_ (entX m c _ _)
  blk_simp [iblk, idx2 t]
  unfold tok
  blk_ext [idx2 t]

theorem blkMo (c : Dev nD) (t : Fin cfg0.N) (r : Fin 512) (i : Fin 6) (q : Fin 1024) : (iblk m c 3 t : Vec Ideal S1x8x1024 .f32) (ix3 0 ⟨i.val, by omega⟩ q) = aMo m c (ix3 (seqOf (tok t r)) i q) := by
  have ht : t.val < 16 := lt_of_lt_of_eq t.isLt N_0
  refine Eq.trans (b := (V m c main_v0 : Vec Ideal S4x8x1024 .f32) (ix3 (seqOf (tok t r)) ⟨i.val, by omega⟩ q)) ?_ (entMo m c _ _ _)
  blk_simp [iblk, idx3 t]
  unfold tok seqOf
  blk_ext [idx3 t]

theorem blkG (c : Dev nD) (t : Fin cfg0.N) (q : Fin 512) : (iblk m c 4 t : Vec Ideal S1x512 .f32) (ix2 0 q) = aG m c (ix2 0 q) := by
  have ht : t.val < 16 := lt_of_lt_of_eq t.isLt N_0
  refine Eq.trans (b := (V m c main_arg4 : Vec Ideal S1x512 .f32) (ix2 0 q)) ?_ (by rw [V_main_arg4])
  blk_simp [iblk, idx4 t]
  blk_ext [idx4 t]

theorem blkB (c : Dev nD) (t : Fin cfg0.N) (q : Fin 512) : (iblk m c 5 t : Vec Ideal S1x512 .f32) (ix2 0 q) = aB m c (ix2 0 q) := by
  have ht : t.val < 16 := lt_of_lt_of_eq t.isLt N_0
  refine Eq.trans (b := (V m c main_arg5 : Vec Ideal S1x512 .f32) (ix2 0 q)) ?_ (by rw [V_main_arg5])
  blk_simp [iblk, idx5 t]
  blk_ext [idx5 t]

theorem blkGf (c : Dev nD) (t : Fin cfg0.N) (q : Fin 1024) : (iblk m c 6 t : Vec Ideal S1x1024 .f32) (ix2 0 q) = aGf m c (ix2 0 q) := by
  have ht : t.val < 16 := lt_of_lt_of_eq t.isLt N_0
  refine Eq.trans (b := (V m c main_arg6 : Vec Ideal S1x1024 .f32) (ix2 0 q)) ?_ (by rw [V_main_arg6])
  blk_simp [iblk, idx6 t]
  blk_ext [idx6 t]

theorem blkW (c : Dev nD) (t : Fin cfg0.N) (p q : Fin 1024) : (iblk m c 7 t : Vec Ideal S1024x1024 .bf16) (ix2 p q) = aW m c (ix2 p q) := by
  have ht : t.val < 16 := lt_of_lt_of_eq t.isLt N_0
  refine Eq.trans (b := (V m c main_v5 : Vec Ideal S1024x1024 .bf16) (ix2 p q)) ?_ (entW m c _ _)
  blk_simp [iblk, idx7 t]
  blk_ext [idx7 t]

end Cert.MixOutIdeal.Own
end
-- ==== Proof.MixOutArr.lean ====
module
public import proofs.«01_k».proof.Defs
public import proofs.«01_k».proof.Proof.Common
public import proofs.«01_k».proof.Proof.Layer
public import proofs.«01_k».proof.Proof.MixOutMath
public import proofs.«01_k».proof.Proof.MixOutBlocks

/-! What a point stores, and the four result arrays of the call, as functions of its arguments. -/

@[expose] public section
set_option maxRecDepth 16384
set_option maxHeartbeats 2000000
noncomputable section
namespace Cert.MixOutIdeal.Own
open Cert.MixOutIdeal Cert.MixOutIdeal.Gen Idealize.ShloMosaic Idealize.ShloMosaic.TcCoe Idealize.SL.Sem Cert.Common
variable (m : (ℓ : Loc nD τ sig) → Buf (Elt Ideal) ℓ)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

section Point
variable (c : Dev nD) (t : Fin cfg0.N) (r : Fin 512)
abbrev sq : Fin 4 := seqOf (tok t r)
abbrev ps : Fin 2048 := posOf (tok t r)

/-- The blocks point `t` reads. -/
def b0 : Vec Ideal S512x512 .f32 := iblk m c 0 t
def b1 : Vec Ideal S512x512 .bf16 := iblk m c 1 t
def b2 : Vec Ideal S512x1024 .f32 := iblk m c 2 t
def b3 : Vec Ideal S1x8x1024 .f32 := iblk m c 3 t
def b4 : Vec Ideal S1x512 .f32 := iblk m c 4 t
def b5 : Vec Ideal S1x512 .f32 := iblk m c 5 t
def b6 : Vec Ideal S1x1024 .f32 := iblk m c 6 t
def b7 : Vec Ideal S1024x1024 .bf16 := iblk m c 7 t

/-! The loads of the blocks. -/

theorem ld0 (q : Fin 512) : View.ld (b0 m c t) r0_0 (ix2 r q) = aU m c (ix3 (sq t r) (ps t r) q) := by
  refine Eq.trans ?_ (blkU m c t r q)
  pointwise [Common.emb_norm]
  try rfl
theorem ld1 (q : Fin 512) : View.ld (b1 m c t) r0_0 (ix2 r q) = aA m c (ix3 (sq t r) (ps t r) q) := by
  refine Eq.trans ?_ (blkA m c t r q)
  pointwise [Common.emb_norm]
  try rfl
theorem ld2 (q : Fin 1024) : View.ld (b2 m c t) r0_4 (ix2 r q) = aX m c (ix3 (sq t r) (ps t r) q) := by
  refine Eq.trans ?_ (blkX m c t r q)
  pointwise [Common.emb_norm]
  try rfl
theorem ld3_2 (q : Fin 1024) : View.ld (b3 m c t) r0_5 (ix3 0 0 q) = aMo m c (ix3 (sq t r) 2 q) := by
  refine Eq.trans ?_ (blkMo m c t r 2 q)
  pointwise [Common.emb_norm]
  try rfl
theorem ld3_4 (q : Fin 1024) : View.ld (b3 m c t) r0_7 (ix3 0 0 q) = aMo m c (ix3 (sq t r) 4 q) := by
  refine Eq.trans ?_ (blkMo m c t r 4 q)
  pointwise [Common.emb_norm]
  try rfl
theorem ld3_3 (q : Fin 1024) : View.ld (b3 m c t) r0_8 (ix3 0 0 q) = aMo m c (ix3 (sq t r) 3 q) := by
  refine Eq.trans ?_ (blkMo m c t r 3 q)
  pointwise [Common.emb_norm]
  try rfl
theorem ld4 (q : Fin 512) : View.ld (b4 m c t) r0_1 (ix2 0 q) = aG m c (ix2 0 q) := by
  refine Eq.trans ?_ (blkG m c t q)
  pointwise [Common.emb_norm]
  try rfl
theorem ld5 (q : Fin 512) : View.ld (b5 m c t) r0_1 (ix2 0 q) = aB m c (ix2 0 q) := by
  refine Eq.trans ?_ (blkB m c t q)
  pointwise [Common.emb_norm]
  try rfl
theorem ld6 (q : Fin 1024) : View.ld (b6 m c t) r0_6 (ix2 0 q) = aGf m c (ix2 0 q) := by
  refine Eq.trans ?_ (blkGf m c t q)
  pointwise [Common.emb_norm]
  try rfl
theorem ld7_lo (k : Fin 512) (q : Fin 1024) : View.ld (b7 m c t) r0_2 (ix2 k q) = aW m c (ix2 (lo k) q) := by
  refine Eq.trans ?_ (blkW m c t (lo k) q)
  unfold lo
  pointwise [Common.emb_norm]
  try rfl
theorem ld7_hi (k : Fin 512) (q : Fin 1024) : View.ld (b7 m c t) r0_3 (ix2 k q) = aW m c (ix2 (hi k) q) := by
  refine Eq.trans ?_ (blkW m c t (hi k) q)
  unfold hi
  pointwise [Common.emb_norm]
  try rfl

/-! What the point stores, as the arguments' tokens. -/

theorem conv_tok (q : Fin 512) : k0_pay2 (View.ld (b0 m c t) r0_0) (View.ld (b4 m c t) r0_1) (View.ld (b5 m c t) r0_1) (ix2 r q)
    = convT (aU m c) (aG m c) (aB m c) (sq t r) (ps t r) q := by
  rw [conv_apply]
  simp only [ld0, ld4, ld5, convT]

/-- The projection of the convolution's half. -/
def part1 : FVec Ideal S512x1024 .f32 := k0_pay3 (View.ld (b0 m c t) r0_0) (View.ld (b4 m c t) r0_1) (View.ld (b5 m c t) r0_1) (View.ld (b7 m c t) r0_2)

theorem mix_tok (q : Fin 1024) : k0_pay4 (part1 m c t) (View.ld (b1 m c t) r0_0) (View.ld (b7 m c t) r0_3) (ix2 r q)
    = mixT (aU m c) (aA m c) (aG m c) (aB m c) (aW m c) (sq t r) (ps t r) q := by
  unfold part1
  rw [mixed_apply, first_apply]
  simp only [ld0, ld1, ld4, ld5, ld7_lo, ld7_hi, mixT, mixed, convT]

theorem resid_tok (q : Fin 1024) : k0_pay6 (part1 m c t) (View.ld (b1 m c t) r0_0) (View.ld (b7 m c t) r0_3) (View.ld (b2 m c t) r0_4) (View.ld (b3 m c t) r0_5) (ix2 r q)
    = residT (aU m c) (aA m c) (aX m c) (aMo m c) (aG m c) (aB m c) (aW m c) (sq t r) (ps t r) q := by
  rw [resid_apply]
  simp only [mix_tok, ld2, ld3_2 m c t r, residT]

theorem norm_tok (q : Fin 1024) : k0_pay1 (k0_pay7 (part1 m c t) (View.ld (b1 m c t) r0_0) (View.ld (b7 m c t) r0_3) (View.ld (b2 m c t) r0_4) (View.ld (b3 m c t) r0_5) (View.ld (b6 m c t) r0_6) (View.ld (b3 m c t) r0_7)) (View.ld (b3 m c t) r0_8) (ix2 r q)
    = normT (aU m c) (aA m c) (aX m c) (aMo m c) (aG m c) (aB m c) (aGf m c) (aW m c) (sq t r) (ps t r) q := by
  rw [normed_apply]
  simp only [resid_tok, ld6, ld3_3 m c t r, ld3_4 m c t r, normT]
end Point

def R8 (c : Dev nD) : Vec Ideal S8192x512 .bf16 := fun j => convT (aU m c) (aG m c) (aB m c) (seqOf (j 0)) (posOf (j 0)) (j 1)
theorem arr8 (c : Dev nD) : (dats m 0 c).arrAt 8 cfg0.N = R8 m c := by
  refine (dats m 0 c).arrAt_eq_of_covers 8 _ (by decide +kernel) fun t hf y => ?_
  have ht : t.val < 16 := lt_of_lt_of_eq t.isLt N_0
  blk_simp
  rw [after0_8]
  unfold out0_8
  rw [View.canon_unit_zero (by funext a; fin_cases a <;> rfl)]
  idx_vars y
  refine (conv_tok m c t y0 y1).trans ?_
  change R8 m c (ix2 (tok t y0) y1) = _
  refine Eq.symm ?_
  unfold tok
  blk_ext [idx8 t]

def R9 (c : Dev nD) : Vec Ideal S8192x1024 .bf16 := fun j => mixT (aU m c) (aA m c) (aG m c) (aB m c) (aW m c) (seqOf (j 0)) (posOf (j 0)) (j 1)
theorem arr9 (c : Dev nD) : (dats m 0 c).arrAt 9 cfg0.N = R9 m c := by
  refine (dats m 0 c).arrAt_eq_of_covers 9 _ (by decide +kernel) fun t hf y => ?_
  have ht : t.val < 16 := lt_of_lt_of_eq t.isLt N_0
  blk_simp
  rw [after0_9]
  unfold out0_9 k0_pay8 k0_pay5
  rw [View.canon_unit_zero (by funext a; fin_cases a <;> rfl)]
  idx_vars y
  refine (mix_tok m c t y0 y1).trans ?_
  change R9 m c (ix2 (tok t y0) y1) = _
  refine Eq.symm ?_
  unfold tok
  blk_ext [idx9 t]

def R10 (c : Dev nD) : Vec Ideal S8192x1024 .f32 := fun j => residT (aU m c) (aA m c) (aX m c) (aMo m c) (aG m c) (aB m c) (aW m c) (seqOf (j 0)) (posOf (j 0)) (j 1)
theorem arr10 (c : Dev nD) : (dats m 0 c).arrAt 10 cfg0.N = R10 m c := by
  refine (dats m 0 c).arrAt_eq_of_covers 10 _ (by decide +kernel) fun t hf y => ?_
  have ht : t.val < 16 := lt_of_lt_of_eq t.isLt N_0
  blk_simp
  rw [after0_10]
  unfold out0_10 k0_pay8
  rw [View.canon_unit_zero (by funext a; fin_cases a <;> rfl)]
  idx_vars y
  refine (resid_tok m c t y0 y1).trans ?_
  change R10 m c (ix2 (tok t y0) y1) = _
  refine Eq.symm ?_
  unfold tok
  blk_ext [idx10 t]

def R11 (c : Dev nD) : Vec Ideal S8192x1024 .bf16 := fun j => normT (aU m c) (aA m c) (aX m c) (aMo m c) (aG m c) (aB m c) (aGf m c) (aW m c) (seqOf (j 0)) (posOf (j 0)) (j 1)
theorem arr11 (c : Dev nD) : (dats m 0 c).arrAt 11 cfg0.N = R11 m c := by
  refine (dats m 0 c).arrAt_eq_of_covers 11 _ (by decide +kernel) fun t hf y => ?_
  have ht : t.val < 16 := lt_of_lt_of_eq t.isLt N_0
  blk_simp
  rw [after0_11]
  unfold out0_11 k0_pay8
  rw [View.canon_unit_zero (by funext a; fin_cases a <;> rfl)]
  idx_vars y
  refine (norm_tok m c t y0 y1).trans ?_
  change R11 m c (ix2 (tok t y0) y1) = _
  refine Eq.symm ?_
  unfold tok
  blk_ext [idx11 t]

end Cert.MixOutIdeal.Own
end
-- ==== Proof.MixOutRef.lean ====
module
public import proofs.«01_k».proof.Defs
public import proofs.«01_k».proof.Proof.Gen.MixOutRefIdeal.Read
public import proofs.«01_k».proof.Proof.Common
public import proofs.«01_k».proof.Proof.Layer
public import proofs.«01_k».proof.Proof.MixOutMath
public import Idealize.ShloMosaic.Lib.KernelVsHost

/-! The reference's values, one token at a time, and its four results. -/

@[expose] public section
set_option maxRecDepth 16384
set_option maxHeartbeats 2000000
noncomputable section
namespace Cert.MixOutIdeal.Own
open Idealize.ShloMosaic Idealize.ShloMosaic.TcCoe Idealize.SL.Sem Cert.Common Cert.MixOutRefIdeal Cert.MixOutRefIdeal.Read Cert.MixOutRefIdeal.Gen
variable (U A : Vec Ideal S4x2048x512 .f32) (X : Vec Ideal S4x2048x1024 .f32) (Mo : Vec Ideal S4x6x1024 .f32) (G B : Vec Ideal S1x512 .f32) (Gf : Vec Ideal S1x1024 .f32) (W : Vec Ideal S1024x1024 .f32)

theorem ref_v11 (b : Fin 4) (t : Fin 2048) : (val_main_v11 (F := Ideal) U : Vec Ideal S4x2048x1 .f32) (ix3 b t 0) = lnMean fun k => U (ix3 b t k) := by
  unfold val_main_v11 val_main_v10 val_main_v9 val_main_v8 val_main_cst val_main_cst_0
  pointwise
  simp only [lnMean, half] <;> rfl

theorem ref_v18 (b : Fin 4) (t : Fin 2048) : (val_main_v18 (F := Ideal) U : Vec Ideal S4x2048x1 .f32) (ix3 b t 0) = lnVar fun k => U (ix3 b t k) := by
  unfold val_main_v18 val_main_v17 val_main_v16 val_main_v15 val_main_v14 val_main_v13 val_main_v12 val_main_cst_1 val_main_cst_2
  pointwise [ref_v11]
  simp only [lnVar, half] <;> rfl

theorem ref_v31 (b : Fin 4) (t : Fin 2048) (q : Fin 512) : (val_main_v31 (F := Ideal) U G B : Vec Ideal S4x2048x512 .f32) (ix3 b t q)
    = ln (fun k => U (ix3 b t k)) (fun k => G (ix2 0 k)) (fun k => B (ix2 0 k)) q := by
  unfold val_main_v31 val_main_v30 val_main_v29 val_main_v28 val_main_v27 val_main_v26 val_main_v25 val_main_v24 val_main_v23 val_main_v22 val_main_v21 val_main_v20 val_main_v19 val_main_v7 val_main_v6 val_main_cst_3
  pointwise [ref_v11, ref_v18]
  simp only [ln, eps] <;> rfl

theorem ref_v32 (b : Fin 4) (t : Fin 2048) (q : Fin 512) : (val_main_v32 (F := Ideal) U G B : Vec Ideal S4x2048x512 .f32) (ix3 b t q) = convT U G B b t q := by
  unfold val_main_v32 val_main_call0_v5 val_main_call0_v4 val_main_call0_v3 val_main_call0_v2 val_main_call0_v1 val_main_call0_v0 val_main_call0_cst val_main_call0_cst_0
  pointwise [ref_v31]
  simp only [convT, conv, sg, zero_sub] <;> rfl

/-- The two halves side by side, at a column of the first and of the second. -/
theorem cat_at (d0 d1 : Vec Ideal S4x2048x512 .f32) (a : Fin 4) (b : Fin 2048) (p : Fin 1024) (i : Fin 2) (k : Fin 512) (e : p.val = 512 * i.val + k.val) :
    (concatenate S4x2048x1024 2 [⟨S4x2048x512, d0⟩, ⟨S4x2048x512, d1⟩] concatenates_S4x2048x512_S4x2048x512_S4x2048x1024_d2 : Vec Ideal S4x2048x1024 .f32) (ix3 a b p) = (![d0, d1] : Fin 2 → Vec Ideal S4x2048x512 .f32) i (ix3 a b k) :=
  concatenate_ofFn_apply (t := S4x2048x1024) (s₁ := S4x2048x512) 2 (![d0, d1] : Fin 2 → Vec Ideal S4x2048x512 .f32)
    _ rfl 512 rfl (ix3 a b p) i (by change p.val / 512 = i.val; omega) (ix3 a b k) (by change k.val = p.val % 512; omega) (by
      intro w hw
      match w with
      | ⟨0, _⟩ => rfl
      | ⟨1, _⟩ => rfl
      | ⟨2, _⟩ => exact absurd rfl hw)

/-- A sum over the projection's rows is the sum over each half. -/
theorem sum_halves (f : Fin 1024 → EReal) : ∑ p, f p = ∑ k, f (lo k) + ∑ k, f (hi k) := Fin.sum_univ_add (a := 512) (b := 512) f

theorem ref_v34 (b : Fin 4) (t : Fin 2048) (q : Fin 1024) : (val_main_v34 (F := Ideal) U A G B W : Vec Ideal S4x2048x1024 .f32) (ix3 b t q) = mixT U A G B W b t q := by
  have e0 : ∀ k : Fin 512, (val_main_v33 (F := Ideal) U A G B : Vec Ideal S4x2048x1024 .f32) (ix3 b t (lo k)) = convT U G B b t k := fun k =>
    (cat_at _ _ b t (lo k) 0 k (by simp [lo])).trans (ref_v32 U G B b t k)
  have e1 : ∀ k : Fin 512, (val_main_v33 (F := Ideal) U A G B : Vec Ideal S4x2048x1024 .f32) (ix3 b t (hi k)) = A (ix3 b t k) := fun k =>
    cat_at _ _ b t (hi k) 1 k (by simp [hi])
  have e : (val_main_v34 (F := Ideal) U A G B W : Vec Ideal S4x2048x1024 .f32) (ix3 b t q) = ∑ p, (val_main_v33 (F := Ideal) U A G B : Vec Ideal S4x2048x1024 .f32) (ix3 b t p) * W (ix2 p q) := by
    unfold val_main_v34
    generalize val_main_v33 (F := Ideal) U A G B = y
    pointwise
    try rfl
  rw [e, sum_halves]
  simp only [e0, e1, mixT, mixed]

theorem ref_v38 (b : Fin 4) (t : Fin 2048) (q : Fin 1024) : (val_main_v38 (F := Ideal) U A X Mo G B W : Vec Ideal S4x2048x1024 .f32) (ix3 b t q) = residT U A X Mo G B W b t q := by
  unfold val_main_v38 val_main_v37 val_main_v36 val_main_v35 val_main_v1 val_main_v0
  pointwise [ref_v34]
  try rfl

theorem ref_v60 (b : Fin 4) (t : Fin 2048) (q : Fin 1024) : (val_main_v60 (F := Ideal) U A X Mo G B Gf W : Vec Ideal S4x2048x1024 .f32) (ix3 b t q) = normT U A X Mo G B Gf W b t q := by
  unfold val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v5 val_main_v4 val_main_v3 val_main_v2 val_main_cst_4 val_main_cst_5 val_main_cst_6 val_main_cst_7
  pointwise [ref_v38]
  simp only [normT, normed, wide, eps] <;> rfl

/-! The results. -/

variable (n : Fin 8192) (k : Fin 512) (q : Fin 1024)

theorem res_v62 : (val_main_v62 (F := Ideal) U G B : Vec Ideal S8192x512 .bf16) (ix2 n k) = convT U G B (seqOf n) (posOf n) k := by
  unfold val_main_v62 val_main_v61
  pointwise
  exact ref_v32 U G B _ _ _

theorem res_v64 : (val_main_v64 (F := Ideal) U A G B W : Vec Ideal S8192x1024 .bf16) (ix2 n q) = mixT U A G B W (seqOf n) (posOf n) q := by
  unfold val_main_v64 val_main_v63
  pointwise
  exact ref_v34 U A G B W _ _ _

theorem res_v65 : (val_main_v65 (F := Ideal) U A X Mo G B W : Vec Ideal S8192x1024 .f32) (ix2 n q) = residT U A X Mo G B W (seqOf n) (posOf n) q := by
  unfold val_main_v65
  pointwise
  exact ref_v38 U A X Mo G B W _ _ _

theorem res_v67 : (val_main_v67 (F := Ideal) U A X Mo G B Gf W : Vec Ideal S8192x1024 .bf16) (ix2 n q) = normT U A X Mo G B Gf W (seqOf n) (posOf n) q := by
  unfold val_main_v67 val_main_v66
  pointwise
  exact ref_v60 U A X Mo G B Gf W _ _ _

end Cert.MixOutIdeal.Own
end
-- ==== Proof.MixOutProof.lean ====
module
public import proofs.«01_k».proof.Defs
public import proofs.«01_k».proof.Proof.Gen.MixOut
public import proofs.«01_k».proof.Proof.Gen.MixOutIdeal
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixOutIdeal.Frame
public import proofs.«01_k».proof.Proof.MixOutArr
public import proofs.«01_k».proof.Proof.MixOutRef

/-! The call after the attention and the convolution: that it computes the norm, the projection, the residual and the next layer's input. -/

@[expose] public section
set_option maxRecDepth 16384
set_option maxHeartbeats 2000000
noncomputable section
namespace Cert.MixOutIdeal.Own
open Cert.MixOutIdeal Cert.MixOutIdeal.Gen Idealize.ShloMosaic Idealize.ShloMosaic.TcCoe Idealize.SL.Sem Cert.Common
variable (m : (ℓ : Loc nD τ sig) → Buf (Elt Ideal) ℓ)

theorem results (ρ : Dev nD → PrngReg) : θ_run defs (onTc (τ := τ) (main (F := Ideal))) ⟨m, fun _ => 0, ρ⟩ (fun r => ∀ c : Dev nD,
      r.2.mem ((c.tc : Thread nD τ).loc main_v6_0) = R8 m c
      ∧ r.2.mem ((c.tc : Thread nD τ).loc main_v6_1) = R9 m c
      ∧ r.2.mem ((c.tc : Thread nD τ).loc main_v6_2) = R10 m c
      ∧ r.2.mem ((c.tc : Thread nD τ).loc main_v6_3) = R11 m c) :=
  (θ_run defs _ _).mono (fun r h c => ⟨((h c).1 8).trans (arr8 m c), ((h c).1 9).trans (arr9 m c), ((h c).1 10).trans (arr10 m c), ((h c).1 11).trans (arr11 m c)⟩) (run_main m ρ)
end Cert.MixOutIdeal.Own

namespace Cert.MixOutProof
open Idealize.ShloMosaic Idealize.ShloMosaic.TcCoe Idealize.SL.Sem

theorem frame_ri : Cert.quiescent_MixOutRefIdeal := fun m ρ _ =>
  (θ_run Cert.MixOutRefIdeal.defs _ _).mono (fun r h => ⟨fun c => (h c).2.2.2.2, sem_eq_zero_of_no_sems (by decide) r.2⟩)
    (Cert.MixOutRefIdeal.Value.run (F := Ideal) m ρ)

open Cert.MixOutIdeal.Own Cert.MixOutRefIdeal.Read in
theorem algebraic : Cert.algebraic_MixOutIdeal_MixOutRefIdeal := by
  intro m g m' g' _ hagree
  refine ⟨R8 m, R9 m, R10 m, R11 m, ?_, ?_⟩
  · exact θ_run_and (results m g) (Cert.MixOutIdeal.Gen.unchanged m g) |> fun h => (θ_run _ _ _).mono (fun r h c => by
      obtain ⟨h, k⟩ := h
      obtain ⟨r0, r1, r2, r3⟩ := h c
      exact ⟨r0, r1, r2, r3, k c⟩) h
  · refine (θ_run Cert.MixOutRefIdeal.defs _ _).mono (fun r h c => ?_) (Cert.MixOutRefIdeal.Value.run (F := Ideal) m' g')
    obtain ⟨e0, e1, e2, e3, e4, e5, e6, e7⟩ := hagree c
    obtain ⟨r0, r1, r2, r3, k⟩ := h c
    refine ⟨r0.trans ?_, r1.trans ?_, r2.trans ?_, r3.trans ?_, k⟩
    · rw [val_main_v62_eq, e0, e4, e5]
      funext j
      idx_vars j
      exact res_v62 (aU m c) (aG m c) (aB m c) j0 j1
    · rw [val_main_v64_eq, e0, e1, e4, e5, e7]
      funext j
      idx_vars j
      exact res_v64 (aU m c) (aA m c) (aG m c) (aB m c) (aW m c) j0 j1
    · rw [val_main_v65_eq, e0, e1, e2, e3, e4, e5, e7]
      funext j
      idx_vars j
      exact res_v65 (aU m c) (aA m c) (aX m c) (aMo m c) (aG m c) (aB m c) (aW m c) j0 j1
    · rw [val_main_v67_eq, e0, e1, e2, e3, e4, e5, e6, e7]
      funext j
      idx_vars j
      exact res_v67 (aU m c) (aA m c) (aX m c) (aMo m c) (aG m c) (aB m c) (aGf m c) (aW m c) j0 j1

end Cert.MixOutProof
end
-- ==== Proof.MixInMath.lean ====
module
public import proofs.«01_k».proof.Defs
public import proofs.«01_k».proof.Proof.Common
public import proofs.«01_k».proof.Proof.Layer
public import proofs.«01_k».proof.Proof.Norm
public import proofs.«01_k».proof.Proof.Gen.MixInIdeal.Frame

/-! One token of the call, as formulas: the norm of its row and the projection; and the values of the body as these formulas. -/

@[expose] public section
set_option maxRecDepth 16384
set_option maxHeartbeats 2000000
noncomputable section
namespace Cert.MixInIdeal.Own
open Cert.MixInIdeal Cert.MixInIdeal.Gen Idealize.ShloMosaic Idealize.ShloMosaic.TcCoe Idealize.SL.Sem Cert.Common

/-- Column `l` of the projection's block `s`. -/
def col (s : Fin 20) (l : Fin 128) : Fin 2560 := ⟨s.val * 128 + l.val, by omega⟩

section Tokens
variable (X : Vec Ideal S4x2048x1024 .f32) (Mo : Vec Ideal S4x6x1024 .f32) (G : Vec Ideal S1x1024 .f32) (W : Vec Ideal S1024x2560 .f32)

/-- The two results at a token. -/
def hT (b : Fin 4) (t : Fin 2048) (q : Fin 1024) : EReal := normed (fun k => X (ix3 b t k)) (fun k => G (ix2 0 k)) (fun k => Mo (ix3 b 1 k)) (fun k => Mo (ix3 b 0 k)) q
def pT (b : Fin 4) (t : Fin 2048) (p : Fin 2560) : EReal := ∑ q, hT X Mo G b t q * W (ix2 q p)
end Tokens

/-! The same over a point's blocks. -/

def nrm (x0 : Vec Ideal S512x1024 .f32) (x1 : Vec Ideal S1x8x1024 .f32) (x2 : Vec Ideal S1x1024 .f32) (r : Fin 512) (q : Fin 1024) : EReal :=
  normed (fun k => x0 (ix2 r k)) (fun k => x2 (ix2 0 k)) (fun k => x1 (ix3 0 1 k)) (fun k => x1 (ix3 0 0 k)) q
def prj (x0 : Vec Ideal S512x1024 .f32) (x1 : Vec Ideal S1x8x1024 .f32) (x2 : Vec Ideal S1x1024 .f32) (w : Vec Ideal S1024x2560 .bf16) (s : Fin 20) (r : Fin 512) (l : Fin 128) : EReal :=
  ∑ q, nrm x0 x1 x2 r q * w (ix2 q (col s l))

/-- The weight block as the first point keeps it. -/
def turned (x3 : Vec Ideal S2560x1024 .bf16) : Vec Ideal S1024x2560 .bf16 := fun j => x3 (ix2 (j 1) (j 0))

/-! The body writes its chunk's norm in four ways and its product in four; each is the first. -/

def chunk (v : Vec Ideal S128x1024 .f32) (g : Vec Ideal S1x1024 .f32) (a b : Vec Ideal S1x1x1024 .f32) : FVec Ideal S128x1024 .bf16 := k0_pay3 v g a b
def times (h : FVec Ideal S128x1024 .bf16) (w : Vec Ideal S1024x2560 .bf16) : FVec Ideal S128x2560 .f32 := k0_pay7 h w
theorem chunk0 : k0_pay3 (F := Ideal) = chunk := rfl
theorem chunk1 (v : Vec Ideal S128x1024 .f32) (g : Vec Ideal S1x1024 .f32) (a b : Vec Ideal S1x1x1024 .f32) :
    k0_pay6 (k0_pay4 v) (k0_pay5 v) (Scalar.ofBits .f32 0x44800000#32) g a b = chunk v g a b := rfl
theorem chunk2 : k0_pay30 (F := Ideal) = chunk := rfl
theorem chunk3 (v : Vec Ideal S128x1024 .f32) (g : Vec Ideal S1x1024 .f32) (a b : Vec Ideal S1x1x1024 .f32) : k0_pay55 (k0_pay53 v) (k0_pay54 v) g a b = chunk v g a b := rfl
theorem times0 : k0_pay7 (F := Ideal) = times := rfl
theorem times1 : k0_pay31 (F := Ideal) = times := rfl
theorem times2 : k0_pay56 (F := Ideal) = times := rfl
theorem times3 : k0_pay80 (F := Ideal) = times := rfl

theorem chunk_apply (v : Vec Ideal S128x1024 .f32) (g : Vec Ideal S1x1024 .f32) (a b : Vec Ideal S1x1x1024 .f32) (r : Fin 128) (q : Fin 1024) :
    chunk v g a b (ix2 r q) = normed (fun k => v (ix2 r k)) (fun k => g (ix2 0 k)) (fun k => a (ix3 0 0 k)) (fun k => b (ix3 0 0 k)) q := by
  unfold chunk k0_pay3
  pointwise
  simp only [normed, wide, eps] <;> rfl

theorem times_apply (h : FVec Ideal S128x1024 .bf16) (w : Vec Ideal S1024x2560 .bf16) (r : Fin 128) (p : Fin 2560) :
    times h w (ix2 r p) = ∑ q, h (ix2 r q) * w (ix2 q p) := by
  unfold times k0_pay7
  pointwise
  try rfl

theorem turned_eq (x3 : Vec Ideal S2560x1024 .bf16) : k0_pay2 (View.ld x3 (Rect.unit ![0, 0] ![2560, 1024] inb_S2560x1024_S2560x1024_0_0)) = turned x3 := by
  funext j
  idx_vars j
  unfold k0_pay2 turned
  pointwise [Common.emb_norm]
  try rfl

theorem whole_eq (w : Vec Ideal S1024x2560 .bf16) : View.ld w (Rect.unit ![0, 0] ![1024, 2560] inb_S1024x2560_S1024x2560_0_0) = w := by
  funext j
  idx_vars j
  pointwise [Common.emb_norm]
  try rfl

end Cert.MixInIdeal.Own
end
-- ==== Proof.MixInPoint.lean ====
module
public import proofs.«01_k».proof.Defs
public import proofs.«01_k».proof.Proof.Common
public import proofs.«01_k».proof.Proof.Layer
public import proofs.«01_k».proof.Proof.Norm
public import proofs.«01_k».proof.Proof.MixInMath

/-! What one point writes in its two cases: A at the first point, which also keeps the weight turned, B at every other. -/

@[expose] public section
set_option maxRecDepth 16384
set_option maxHeartbeats 2000000
noncomputable section
namespace Cert.MixInIdeal.Own
open Cert.MixInIdeal Cert.MixInIdeal.Gen Idealize.ShloMosaic Idealize.ShloMosaic.TcCoe Idealize.SL.Sem Cert.Common
section Cases
variable (c : Dev nD) (i : grid0.Coords) (a1 : Memref sig .tc .vmem S512x1024 .f32) (h1 : a1.IsWhole) (a2 : Memref sig .tc .vmem S1x8x1024 .f32) (h2 : a2.IsWhole) (a3 : Memref sig .tc .vmem S1x1024 .f32) (h3 : a3.IsWhole) (a4 : Memref sig .tc .vmem S2560x1024 .bf16) (h4 : a4.IsWhole) (a5 : Memref sig .tc .vmem S512x1024 .bf16) (h5 : a5.IsWhole) (a6 : Memref sig .tc .vmem S20x512x128 .f32) (h6 : a6.IsWhole) (a7 : Memref sig .tc .vmem S1024x2560 .bf16) (h7 : a7.IsWhole)
    (x0 : Vec Ideal S512x1024 .f32) (x1 : Vec Ideal S1x8x1024 .f32) (x2 : Vec Ideal S1x1024 .f32) (x3 : Vec Ideal S2560x1024 .bf16) (xs0 : Vec Ideal S1024x2560 .bf16)

theorem out4_A (hc0 : cond0_0 i) : out0_A_4 c i a1 h1 a2 h2 a3 h3 a4 h4 a5 h5 a6 h6 a7 h7 hc0 x0 x1 x2 x3 = fun j => nrm x0 x1 x2 (j 0) (j 1) := by
  unfold out0_A_4
  refine read_writes_blocks _ _ _ _ ?_ fun y hy => absurd (cover0_A_4 c i a1 h1 a2 h2 a3 h3 a4 h4 a5 h5 a6 h6 a7 h7 hc0 x0 x1 x2 x3 y) fun ⟨p, hp, hm⟩ => hy p hp hm
  unfold kernelRun0_A
  dsimp only
  sl_unfold_words
  simp only [View.readAt_eq_ld, h1.read_unread, h2.read_unread, h3.read_unread, h4.read_unread, h5.read_unread, h6.read_unread, h7.read_unread]
  simp only [chunk1, chunk3]
  simp only [chunk0, chunk2]
  refine ⟨?_, ?_, ?_, ?_, trivial⟩
  all_goals
    intro x
    idx_vars x
    pointwise [Common.emb_norm, chunk_apply]
    first | rfl | (simp only [nrm, Fin.val_zero, zero_add] <;> rfl)

theorem out5_A (hc0 : cond0_0 i) : out0_A_5 c i a1 h1 a2 h2 a3 h3 a4 h4 a5 h5 a6 h6 a7 h7 hc0 x0 x1 x2 x3 = fun j => prj x0 x1 x2 (turned x3) (j 0) (j 1) (j 2) := by
  unfold out0_A_5
  refine read_writes_blocks _ _ _ _ ?_ fun y hy => absurd (cover0_A_5 c i a1 h1 a2 h2 a3 h3 a4 h4 a5 h5 a6 h6 a7 h7 hc0 x0 x1 x2 x3 y) fun ⟨p, hp, hm⟩ => hy p hp hm
  unfold kernelRun0_A
  dsimp only
  sl_unfold_words
  simp only [View.readAt_eq_ld, h1.read_unread, h2.read_unread, h3.read_unread, h4.read_unread, h5.read_unread, h6.read_unread, h7.read_unread]
  simp (disch := decide) only [↓View.readCov_fill]
  rw [turned_eq, whole_eq]
  simp only [chunk1, chunk3, k0_pay8, k0_pay9, k0_pay10]
  simp only [chunk0, chunk2, times0, times1, times2, times3]
  generalize (turned x3) = w
  unfold_payloads
  repeat' refine And.intro ?_ ?_
  all_goals first | exact trivial | skip
  all_goals
    intro x
    idx_vars x
    pointwise [Common.emb_norm, times_apply, chunk_apply]
    first | rfl | (simp only [prj, nrm, col, Fin.val_zero, zero_mul, zero_add] <;> rfl)

theorem sout0_A (hc0 : cond0_0 i) : sout0_A_0 c i a1 h1 a2 h2 a3 h3 a4 h4 a5 h5 a6 h6 a7 h7 hc0 x0 x1 x2 x3 = turned x3 := by
  unfold sout0_A_0
  unfold kernelRun0_A
  dsimp only
  sl_unfold_words
  simp only [View.readAt_eq_ld, h1.read_unread, h2.read_unread, h3.read_unread, h4.read_unread, h5.read_unread, h6.read_unread, h7.read_unread]
  rw [turned_eq]
  refine read_writes_blocks _ _ _ _ ⟨fun x => ?_, trivial⟩ fun y hy => absurd (scover0_A_0 c i a1 h1 a2 h2 a3 h3 a4 h4 a5 h5 a6 h6 a7 h7 hc0 x0 x1 x2 x3 y) fun ⟨p, hp, hm⟩ => ?_
  · exact congrFun (whole_eq (turned x3)).symm x
  · unfold kernelRun0_A at hp
    dsimp only at hp
    exact hy _ List.mem_cons_self (by
      rcases List.mem_cons.mp hp with e | e
      · rw [e] at hm; exact hm
      · exact absurd e List.not_mem_nil)

theorem out4_B (hc0 : ¬cond0_0 i) : out0_B_4 c i a1 h1 a2 h2 a3 h3 a4 h4 a5 h5 a6 h6 a7 h7 hc0 x0 x1 x2 x3 xs0 = fun j => nrm x0 x1 x2 (j 0) (j 1) := by
  unfold out0_B_4
  refine read_writes_blocks _ _ _ _ ?_ fun y hy => absurd (cover0_B_4 c i a1 h1 a2 h2 a3 h3 a4 h4 a5 h5 a6 h6 a7 h7 hc0 x0 x1 x2 x3 xs0 y) fun ⟨p, hp, hm⟩ => hy p hp hm
  unfold kernelRun0_B
  dsimp only
  sl_unfold_words
  simp only [View.readAt_eq_ld, h1.read_unread, h2.read_unread, h3.read_unread, h4.read_unread, h5.read_unread, h6.read_unread, h7.read_unread]
  simp only [chunk1, chunk3]
  simp only [chunk0, chunk2]
  refine ⟨?_, ?_, ?_, ?_, trivial⟩
  all_goals
    intro x
    idx_vars x
    pointwise [Common.emb_norm, chunk_apply]
    first | rfl | (simp only [nrm, Fin.val_zero, zero_add] <;> rfl)

theorem out5_B (hc0 : ¬cond0_0 i) : out0_B_5 c i a1 h1 a2 h2 a3 h3 a4 h4 a5 h5 a6 h6 a7 h7 hc0 x0 x1 x2 x3 xs0 = fun j => prj x0 x1 x2 xs0 (j 0) (j 1) (j 2) := by
  unfold out0_B_5
  refine read_writes_blocks _ _ _ _ ?_ fun y hy => absurd (cover0_B_5 c i a1 h1 a2 h2 a3 h3 a4 h4 a5 h5 a6 h6 a7 h7 hc0 x0 x1 x2 x3 xs0 y) fun ⟨p, hp, hm⟩ => hy p hp hm
  unfold kernelRun0_B
  dsimp only
  sl_unfold_words
  simp only [View.readAt_eq_ld, h1.read_unread, h2.read_unread, h3.read_unread, h4.read_unread, h5.read_unread, h6.read_unread, h7.read_unread]
  rw [whole_eq]
  simp only [chunk1, chunk3, k0_pay8, k0_pay9, k0_pay10]
  simp only [chunk0, chunk2, times0, times1, times2, times3]
  generalize xs0 = w
  unfold_payloads
  repeat' refine And.intro ?_ ?_
  all_goals first | exact trivial | skip
  all_goals
    intro x
    idx_vars x
    pointwise [Common.emb_norm, times_apply, chunk_apply]
    first | rfl | (simp only [prj, nrm, col, Fin.val_zero, zero_mul, zero_add] <;> rfl)

end Cases
end Cert.MixInIdeal.Own
end
-- ==== Proof.MixInBlocks.lean ====
module
public import proofs.«01_k».proof.Defs
public import proofs.«01_k».proof.Proof.Common
public import proofs.«01_k».proof.Proof.Layer
public import proofs.«01_k».proof.Proof.MixInMath
public import Idealize.ShloMosaic.Lib.KernelVsHost

/-! The blocks a point reads, as the arguments' tokens. -/

@[expose] public section
set_option maxRecDepth 16384
set_option maxHeartbeats 2000000
noncomputable section
namespace Cert.MixInIdeal.Own
open Cert.MixInIdeal Cert.MixInIdeal.Gen Idealize.ShloMosaic Idealize.ShloMosaic.TcCoe Idealize.SL.Sem Cert.Common
variable (m : (ℓ : Loc nD τ sig) → Buf (Elt Ideal) ℓ)

/-- The call's arguments. -/
abbrev aX (c : Dev nD) : Vec Ideal S4x2048x1024 .f32 := m ((c : Thread nD τ).loc main_arg0)
abbrev aMo (c : Dev nD) : Vec Ideal S4x6x1024 .f32 := m ((c : Thread nD τ).loc main_arg1)
abbrev aG (c : Dev nD) : Vec Ideal S1x1024 .f32 := m ((c : Thread nD τ).loc main_arg2)
abbrev aW (c : Dev nD) : Vec Ideal S1024x2560 .f32 := m ((c : Thread nD τ).loc main_arg3)

/-- Row `r` of point `t`'s block of tokens. -/
def tok (t : Fin cfg0.N) (r : Fin 512) : Fin 8192 := ⟨512 * t.val + r.val, by have : t.val < 16 := lt_of_lt_of_eq t.isLt N_0; omega⟩

theorem entX (c : Dev nD) (n : Fin 8192) (q : Fin 1024) : (V m c main_v1 : Vec Ideal S8192x1024 .f32) (ix2 n q) = aX m c (ix3 (seqOf n) (posOf n) q) := by
  unfold V hostOps0 hostOps0_1 hostOps0_2
  simp only [List.flatten_cons, List.flatten_nil, List.cons_append, List.nil_append, List.append_nil]
  entry_read
  pointwise
  try rfl

theorem entW (c : Dev nD) (p : Fin 2560) (q : Fin 1024) : (V m c main_v3 : Vec Ideal S2560x1024 .bf16) (ix2 p q) = aW m c (ix2 q p) := by
  unfold V hostOps0 hostOps0_1 hostOps0_2
  simp only [List.flatten_cons, List.flatten_nil, List.cons_append, List.nil_append, List.append_nil]
  entry_read
  pointwise
  try rfl

theorem entMo (c : Dev nD) (b : Fin 4) (i : Fin 6) (q : Fin 1024) :
    (V m c main_v0 : Vec Ideal S4x8x1024 .f32) (ix3 b ⟨i.val, by omega⟩ q) = aMo m c (ix3 b i q) := by
  unfold V hostOps0 hostOps0_1 hostOps0_2
  simp only [List.flatten_cons, List.flatten_nil, List.cons_append, List.nil_append, List.append_nil]
  entry_read
  refine pad_apply_of_inside (t := S4x8x1024) ![0, 0, 0] ![0, 2, 0] ![0, 0, 0] (aMo m c) (sitofp (F := Ideal) FTy.f32 (constantI S_ 32 0#32)) pads_S4x6x1024_S4x8x1024_000_020_000 h_S_ (ix3 b ⟨i.val, by omega⟩ q) (ix3 b i q) ?_
  intro a
  fin_cases a <;> simp [ix3]

theorem idx0 : ∀ t : Fin cfg0.N, win0_0.index t = ![t.val, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

theorem blkX (c : Dev nD) (t : Fin cfg0.N) (r : Fin 512) (q : Fin 1024) : (iblk m c 0 t : Vec Ideal S512x1024 .f32) (ix2 r q) = aX m c (ix3 (seqOf (tok t r)) (posOf (tok t r)) q) := by
  have ht : t.val < 16 := lt_of_lt_of_eq t.isLt N_0
  refine Eq.trans (b := (V m c main_v1 : Vec Ideal S8192x1024 .f32) (ix2 (tok t r) q)) ?_ (entX m c _ _)
  blk_simp [iblk, idx0 t]
  unfold tok
  blk_ext [idx0 t]

theorem blkMo (c : Dev nD) (t : Fin cfg0.N) (r : Fin 512) (i : Fin 6) (q : Fin 1024) : (iblk m c 1 t : Vec Ideal S1x8x1024 .f32) (ix3 0 ⟨i.val, by omega⟩ q) = aMo m c (ix3 (seqOf (tok t r)) i q) := by
  have ht : t.val < 16 := lt_of_lt_of_eq t.isLt N_0
  refine Eq.trans (b := (V m c main_v0 : Vec Ideal S4x8x1024 .f32) (ix3 (seqOf (tok t r)) ⟨i.val, by omega⟩ q)) ?_ (entMo m c _ _ _)
  blk_simp [iblk, idx1 t]
  unfold tok seqOf
  blk_ext [idx1 t]

theorem blkG (c : Dev nD) (t : Fin cfg0.N) (q : Fin 1024) : (iblk m c 2 t : Vec Ideal S1x1024 .f32) (ix2 0 q) = aG m c (ix2 0 q) := by
  have ht : t.val < 16 := lt_of_lt_of_eq t.isLt N_0
  refine Eq.trans (b := (V m c main_arg2 : Vec Ideal S1x1024 .f32) (ix2 0 q)) ?_ (by rw [V_main_arg2])
  blk_simp [iblk, idx2 t]
  blk_ext [idx2 t]

theorem blkW (c : Dev nD) (t : Fin cfg0.N) (p : Fin 2560) (q : Fin 1024) : (iblk m c 3 t : Vec Ideal S2560x1024 .bf16) (ix2 p q) = aW m c (ix2 q p) := by
  have ht : t.val < 16 := lt_of_lt_of_eq t.isLt N_0
  refine Eq.trans (b := (V m c main_v3 : Vec Ideal S2560x1024 .bf16) (ix2 p q)) ?_ (entW m c _ _)
  blk_simp [iblk, idx3 t]
  blk_ext [idx3 t]

end Cert.MixInIdeal.Own
end
-- ==== Proof.MixInArr.lean ====
module
public import proofs.«01_k».proof.Defs
public import proofs.«01_k».proof.Proof.Common
public import proofs.«01_k».proof.Proof.Layer
public import proofs.«01_k».proof.Proof.MixInMath
public import proofs.«01_k».proof.Proof.MixInPoint
public import proofs.«01_k».proof.Proof.MixInBlocks

/-! What the points leave, and the two result arrays of the call, as functions of its arguments. -/

@[expose] public section
set_option maxRecDepth 16384
set_option maxHeartbeats 2000000
noncomputable section
namespace Cert.MixInIdeal.Own
open Cert.MixInIdeal Cert.MixInIdeal.Gen Idealize.ShloMosaic Idealize.ShloMosaic.TcCoe Idealize.SL.Sem Cert.Common
variable (m : (ℓ : Loc nD τ sig) → Buf (Elt Ideal) ℓ)
theorem idx4 : ∀ t : Fin cfg0.N, win0_4.index t = ![t.val, 0] := (by decide +kernel : ∀ t : Fin grid0.N, _)
theorem idx5 : ∀ t : Fin cfg0.N, win0_5.index t = ![0, t.val, 0] := (by decide +kernel : ∀ t : Fin grid0.N, _)

/-- The blocks point `t` reads, and the weight every point finds. -/
def b0 (c : Dev nD) (t : Fin cfg0.N) : Vec Ideal S512x1024 .f32 := iblk m c 0 t
def b1 (c : Dev nD) (t : Fin cfg0.N) : Vec Ideal S1x8x1024 .f32 := iblk m c 1 t
def b2 (c : Dev nD) (t : Fin cfg0.N) : Vec Ideal S1x1024 .f32 := iblk m c 2 t
def W (c : Dev nD) : Vec Ideal S1024x2560 .bf16 := aW m c
theorem turned_W (c : Dev nD) (t : Fin cfg0.N) : turned (iblk m c 3 t) = W m c := by
  funext j
  idx_vars j
  exact blkW m c t j1 j0

/-- What point `t` leaves. -/
abbrev leaves (c : Dev nD) (t : Fin cfg0.N) : Vec Ideal S512x1024 .bf16 × Vec Ideal S20x512x128 .f32 × Vec Ideal S1024x2560 .bf16 :=
  (fun j => nrm (b0 m c t) (b1 m c t) (b2 m c t) (j 0) (j 1), fun j => prj (b0 m c t) (b1 m c t) (b2 m c t) (W m c) (j 0) (j 1) (j 2), W m c)

theorem leaves_A (c : Dev nD) (t : Fin cfg0.N) (h0 : t.val % 16 = 0) : outsAt0 m c t.val t.isLt = leaves m c t := by
  rw [outsAt0_A m c t h0, out4_A, out5_A, sout0_A, turned_W]
  rfl

theorem leaves_of (c : Dev nD) : ∀ (n : ℕ) (h : n < cfg0.N), outsAt0 m c n h = leaves m c ⟨n, h⟩ := by
  intro n
  induction n with
  | zero => exact fun h => leaves_A m c ⟨0, h⟩ (Nat.zero_mod _)
  | succ n ih =>
    intro h
    by_cases h0 : (n + 1) % 16 = 0
    · exact leaves_A m c ⟨n + 1, h⟩ h0
    · have e : (outsAt0 m c n (Nat.lt_of_succ_lt h)).2.2 = W m c := by rw [ih]
      refine (outsAt0_B m c ⟨n + 1, h⟩ h0).trans ?_
      rw [out4_B, out5_B]
      exact congrArg₂ Prod.mk rfl (congrArg₂ Prod.mk (congrArg (fun w => fun j : S20x512x128.Idx => prj (b0 m c ⟨n + 1, h⟩) (b1 m c ⟨n + 1, h⟩) (b2 m c ⟨n + 1, h⟩) w (j 0) (j 1) (j 2)) e) e)

theorem nrm_tok (c : Dev nD) (t : Fin cfg0.N) (r : Fin 512) (q : Fin 1024) :
    nrm (b0 m c t) (b1 m c t) (b2 m c t) r q = hT (aX m c) (aMo m c) (aG m c) (seqOf (tok t r)) (posOf (tok t r)) q := by
  have e0 : ∀ k, b0 m c t (ix2 r k) = _ := blkX m c t r
  have e1 : ∀ k, b1 m c t (ix3 0 1 k) = _ := blkMo m c t r 1
  have e1' : ∀ k, b1 m c t (ix3 0 0 k) = _ := blkMo m c t r 0
  have e2 : ∀ k, b2 m c t (ix2 0 k) = _ := blkG m c t
  simp only [nrm, e0, e1, e1', e2, hT]
theorem prj_tok (c : Dev nD) (t : Fin cfg0.N) (s : Fin 20) (r : Fin 512) (l : Fin 128) :
    prj (b0 m c t) (b1 m c t) (b2 m c t) (W m c) s r l = pT (aX m c) (aMo m c) (aG m c) (aW m c) (seqOf (tok t r)) (posOf (tok t r)) (col s l) := by
  simp only [prj, nrm_tok, pT, W]

/-! The two result arrays. -/

def R4 (c : Dev nD) : Vec Ideal S8192x1024 .bf16 := fun j => hT (aX m c) (aMo m c) (aG m c) (seqOf (j 0)) (posOf (j 0)) (j 1)
def R5 (c : Dev nD) : Vec Ideal S20x8192x128 .f32 := fun j => pT (aX m c) (aMo m c) (aG m c) (aW m c) (seqOf (j 1)) (posOf (j 1)) (col (j 0) (j 2))
theorem arr4 (c : Dev nD) : (dats m 0 c).arrAt 4 cfg0.N = R4 m c := by
  refine (dats m 0 c).arrAt_eq_of_covers 4 _ (by decide +kernel) fun t hf y => ?_
  have ht : t.val < 16 := lt_of_lt_of_eq t.isLt N_0
  blk_simp
  rw [after0_4, leaves_of]
  idx_vars y
  refine (nrm_tok m c t y0 y1).trans ?_
  change R4 m c (ix2 (tok t y0) y1) = _
  refine Eq.symm ?_
  unfold tok
  blk_ext [idx4 t]
theorem arr5 (c : Dev nD) : (dats m 0 c).arrAt 5 cfg0.N = R5 m c := by
  refine (dats m 0 c).arrAt_eq_of_covers 5 _ (by decide +kernel) fun t hf y => ?_
  have ht : t.val < 16 := lt_of_lt_of_eq t.isLt N_0
  blk_simp
  rw [after0_5, leaves_of]
  idx_vars y
  refine (prj_tok m c t y0 y1 y2).trans ?_
  change R5 m c (ix3 y0 (tok t y1) y2) = _
  refine Eq.symm ?_
  unfold tok
  blk_ext [idx5 t]

end Cert.MixInIdeal.Own
end
-- ==== Proof.MixInRef.lean ====
module
public import proofs.«01_k».proof.Defs
public import proofs.«01_k».proof.Proof.Gen.MixInRefIdeal.Read
public import proofs.«01_k».proof.Proof.Common
public import proofs.«01_k».proof.Proof.Layer
public import proofs.«01_k».proof.Proof.Norm
public import proofs.«01_k».proof.Proof.MixInMath
public import Idealize.ShloMosaic.Lib.KernelVsHost

/-! The reference's values, one token at a time, and its two results. -/

@[expose] public section
set_option maxRecDepth 16384
set_option maxHeartbeats 2000000
noncomputable section
namespace Cert.MixInIdeal.Own
open Idealize.ShloMosaic Idealize.ShloMosaic.TcCoe Idealize.SL.Sem Cert.Common Cert.MixInRefIdeal Cert.MixInRefIdeal.Read Cert.MixInRefIdeal.Gen
variable (X : Vec Ideal S4x2048x1024 .f32) (Mo : Vec Ideal S4x6x1024 .f32) (G : Vec Ideal S1x1024 .f32) (W : Vec Ideal S1024x2560 .f32)

theorem ref_v25 (b : Fin 4) (t : Fin 2048) (q : Fin 1024) : (val_main_v25 (F := Ideal) X Mo G : Vec Ideal S4x2048x1024 .f32) (ix3 b t q) = hT X Mo G b t q := by
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  simp only [hT, normed, wide, eps] <;> rfl

theorem ref_v28 (b : Fin 4) (t : Fin 2048) (p : Fin 2560) : (val_main_v28 (F := Ideal) X Mo G W : Vec Ideal S4x2048x2560 .f32) (ix3 b t p) = pT X Mo G W b t p := by
  unfold val_main_v28
  generalize hy : val_main_v25 (F := Ideal) X Mo G = y
  have e : ∀ q, y (ix3 b t q) = hT X Mo G b t q := fun q => hy ▸ ref_v25 X Mo G b t q
  pointwise
  simp only [e, pT] <;> rfl

/-! The results. -/

theorem res_v27 (n : Fin 8192) (q : Fin 1024) : (val_main_v27 (F := Ideal) X Mo G : Vec Ideal S8192x1024 .bf16) (ix2 n q) = hT X Mo G (seqOf n) (posOf n) q := by
  unfold val_main_v27 val_main_v26
  pointwise
  exact ref_v25 X Mo G _ _ _

theorem res_v30 (s : Fin 20) (n : Fin 8192) (l : Fin 128) : (val_main_v30 (F := Ideal) X Mo G W : Vec Ideal S20x8192x128 .f32) (ix3 s n l) = pT X Mo G W (seqOf n) (posOf n) (col s l) := by
  unfold val_main_v30 val_main_v29
  pointwise
  refine Eq.trans ?_ (ref_v28 X Mo G W (seqOf n) (posOf n) (col s l))
  unfold col seqOf posOf
  blk_ext

end Cert.MixInIdeal.Own
end
-- ==== Proof.MixInProof.lean ====
module
public import proofs.«01_k».proof.Defs
public import proofs.«01_k».proof.Proof.Gen.MixIn
public import proofs.«01_k».proof.Proof.Gen.MixInIdeal
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixInIdeal.Frame
public import proofs.«01_k».proof.Proof.MixInArr
public import proofs.«01_k».proof.Proof.MixInRef

/-! The call before the mixer: that it computes the norm, its modulation and the mixer's input projection. -/

@[expose] public section
set_option maxRecDepth 16384
set_option maxHeartbeats 2000000
noncomputable section
namespace Cert.MixInIdeal.Own
open Cert.MixInIdeal Cert.MixInIdeal.Gen Idealize.ShloMosaic Idealize.ShloMosaic.TcCoe Idealize.SL.Sem Cert.Common
variable (m : (ℓ : Loc nD τ sig) → Buf (Elt Ideal) ℓ)

theorem results (ρ : Dev nD → PrngReg) : θ_run defs (onTc (τ := τ) (main (F := Ideal))) ⟨m, fun _ => 0, ρ⟩ (fun r => ∀ c : Dev nD,
      r.2.mem ((c.tc : Thread nD τ).loc main_v4_0) = R4 m c
      ∧ r.2.mem ((c.tc : Thread nD τ).loc main_v4_1) = R5 m c) :=
  (θ_run defs _ _).mono (fun r h c => ⟨((h c).1 4).trans (arr4 m c), ((h c).1 5).trans (arr5 m c)⟩) (run_main m ρ)
end Cert.MixInIdeal.Own

namespace Cert.MixInProof
open Idealize.ShloMosaic Idealize.ShloMosaic.TcCoe Idealize.SL.Sem

theorem frame_ri : Cert.quiescent_MixInRefIdeal := fun m ρ _ =>
  (θ_run Cert.MixInRefIdeal.defs _ _).mono (fun r h => ⟨fun c => (h c).2.2, sem_eq_zero_of_no_sems (by decide) r.2⟩)
    (Cert.MixInRefIdeal.Value.run (F := Ideal) m ρ)

open Cert.MixInIdeal.Own Cert.MixInRefIdeal.Read in
theorem algebraic : Cert.algebraic_MixInIdeal_MixInRefIdeal := by
  intro m g m' g' _ hagree
  refine ⟨R4 m, R5 m, ?_, ?_⟩
  · exact θ_run_and (results m g) (Cert.MixInIdeal.Gen.unchanged m g) |> fun h => (θ_run _ _ _).mono (fun r h c => by
      obtain ⟨h, k⟩ := h
      obtain ⟨r0, r1⟩ := h c
      exact ⟨r0, r1, k c⟩) h
  · refine (θ_run Cert.MixInRefIdeal.defs _ _).mono (fun r h c => ?_) (Cert.MixInRefIdeal.Value.run (F := Ideal) m' g')
    obtain ⟨e0, e1, e2, e3⟩ := hagree c
    obtain ⟨r0, r1, k⟩ := h c
    refine ⟨r0.trans ?_, r1.trans ?_, k⟩
    · rw [val_main_v27_eq, e0, e1, e2]
      funext j
      idx_vars j
      exact res_v27 (aX m c) (aMo m c) (aG m c) j0 j1
    · rw [val_main_v30_eq, e0, e1, e2, e3]
      funext j
      idx_vars j
      exact res_v30 (aX m c) (aMo m c) (aG m c) (aW m c) j0 j1 j2

end Cert.MixInProof
end
-- ==== Proof.MixInBwdForms.lean ====
module
public import proofs.«01_k».proof.Defs
public import proofs.«01_k».proof.Proof.Common
public import proofs.«01_k».proof.Proof.Layer
public import proofs.«01_k».proof.Proof.FfnBwdMath
public import proofs.«01_k».proof.Proof.Gen.MixInBwdIdeal.Frame

/-! What a point of the mixer's backward entry computes from the blocks it reads: the five parts of the projection's cotangent,
the weight, the layer's input, the cotangent that goes round the mixer, the modulation and the norm's weight. -/

@[expose] public section
set_option maxRecDepth 16384
set_option maxHeartbeats 4000000
noncomputable section
namespace Cert.MixInBwdIdeal.Own
open Cert.MixInBwdIdeal Cert.MixInBwdIdeal.Gen Idealize.ShloMosaic Idealize.ShloMosaic.TcCoe Idealize.SL.Sem Cert.Common
/-- Column `k` of part `s`. -/
def wrow (s : Fin 5) (k : Fin 512) : Fin 2560 := ⟨s.val * 512 + k.val, by omega⟩

theorem sum_parts (f : Fin 2560 → EReal) : ∑ p, f p = ∑ s : Fin 5, ∑ k : Fin 512, f (wrow s k) := by
  have := Fintype.sum_equiv (finProdFinEquiv (m := 5) (n := 512)).symm f (fun p => f (wrow p.1 p.2)) (fun p => ?_)
  · rw [this, Fintype.sum_prod_type]
  · congr 1
    apply Fin.ext
    show p.val = (p.val / 512) * 512 + p.val % 512
    omega

/-- One part's share of the cotangent. -/
def part (x : Vec Ideal S512x512 .bf16) (w : Vec Ideal S2560x1024 .bf16) (s : Fin 5) (r : Fin 512) (j : Fin 1024) : EReal :=
  ∑ k : Fin 512, x (ix2 r k) * w (ix2 (wrow s k) j)

/-- The cotangent of the normed and modulated input. -/
def dh (x0 x1 x2 x3 x4 : Vec Ideal S512x512 .bf16) (w : Vec Ideal S2560x1024 .bf16) (r : Fin 512) (j : Fin 1024) : EReal :=
  part x0 w 0 r j + part x1 w 1 r j + part x2 w 2 r j + part x3 w 3 r j + part x4 w 4 r j

/-- The five products as the point runs them. -/
def dhVec (x0 x1 x2 x3 x4 : Vec Ideal S512x512 .bf16) (w : Vec Ideal S2560x1024 .bf16) : FVec Ideal S512x1024 .f32 :=
  k0_pay6 (k0_pay4 (View.ld x0 (Rect.unit ![0, 0] ![512, 512] inb_S512x512_S512x512_0_0)) (View.ld w (Rect.unit ![0, 0] ![512, 1024] inb_S2560x1024_S512x1024_0_0))
    (View.ld x1 (Rect.unit ![0, 0] ![512, 512] inb_S512x512_S512x512_0_0)) (View.ld w (Rect.unit ![512, 0] ![512, 1024] inb_S2560x1024_S512x1024_512_0)))
    (k0_pay5 (View.ld x2 (Rect.unit ![0, 0] ![512, 512] inb_S512x512_S512x512_0_0))) (View.ld w (Rect.unit ![1024, 0] ![512, 1024] inb_S2560x1024_S512x1024_1024_0))
    (View.ld x3 (Rect.unit ![0, 0] ![512, 512] inb_S512x512_S512x512_0_0)) (View.ld w (Rect.unit ![1536, 0] ![512, 1024] inb_S2560x1024_S512x1024_1536_0))
    (View.ld x4 (Rect.unit ![0, 0] ![512, 512] inb_S512x512_S512x512_0_0)) (View.ld w (Rect.unit ![2048, 0] ![512, 1024] inb_S2560x1024_S512x1024_2048_0))

theorem dhVec_eq (x0 x1 x2 x3 x4 : Vec Ideal S512x512 .bf16) (w : Vec Ideal S2560x1024 .bf16) :
    dhVec x0 x1 x2 x3 x4 w = fun j => dh x0 x1 x2 x3 x4 w (j 0) (j 1) := by
  funext j
  idx_vars j
  unfold dhVec
  unfold_payloads
  pointwise
  first | rfl | (simp only [dh, part, wrow, Fin.val_zero, zero_mul, zero_add] <;> rfl)

open Cert.FfnBwdIdeal.Own (tiny)

/-- One over the root of the mean of a row's squares. -/
def rs (x : Vec Ideal S512x1024 .f32) (r : Fin 512) : EReal := Ideal.rsqrt (Ideal.div (∑ q : Fin 1024, x (ix2 r q) * x (ix2 r q)) wide + tiny)

/-- The cotangent `D` past the modulation and the norm's weight. -/
def dxh (D : Fin 512 → Fin 1024 → EReal) (g : Vec Ideal S1x1024 .f32) (mo : Vec Ideal S1x8x1024 .f32) (r : Fin 512) (j : Fin 1024) : EReal :=
  D r j * (1 + mo (ix3 0 1 j)) * g (ix2 0 j)

/-- The cotangent of the layer's input. -/
def dx (D : Fin 512 → Fin 1024 → EReal) (x y : Vec Ideal S512x1024 .f32) (g : Vec Ideal S1x1024 .f32) (mo : Vec Ideal S1x8x1024 .f32) (r : Fin 512) (j : Fin 1024) : EReal :=
  y (ix2 r j) + rs x r * (dxh D g mo r j - x (ix2 r j) * rs x r * Ideal.div (∑ q, dxh D g mo r q * (x (ix2 r q) * rs x r)) wide)

/-- What the point adds to row `a` of the norm's gradient: only row 0 is used. -/
def dgAdd (D : Fin 512 → Fin 1024 → EReal) (x : Vec Ideal S512x1024 .f32) (mo : Vec Ideal S1x8x1024 .f32) (a : Fin 8) (j : Fin 1024) : EReal :=
  if a = 0 then ∑ r, D r j * (1 + mo (ix3 0 1 j)) * (x (ix2 r j) * rs x r) else 0

/-- What the point adds to row `a` of the modulation's gradient: rows 0 and 1 are used. -/
def dmAdd (D : Fin 512 → Fin 1024 → EReal) (x : Vec Ideal S512x1024 .f32) (g : Vec Ideal S1x1024 .f32) (a : Fin 8) (j : Fin 1024) : EReal :=
  if a = 0 then ∑ r, D r j else if a = 1 then ∑ r, D r j * (x (ix2 r j) * rs x r * g (ix2 0 j)) else 0

end Cert.MixInBwdIdeal.Own
end
-- ==== Proof.MixInBwdMath.lean ====
module
public import proofs.«01_k».proof.Defs
public import proofs.«01_k».proof.Proof.Common
public import proofs.«01_k».proof.Proof.Layer
public import proofs.«01_k».proof.Proof.FfnBwdMath
public import proofs.«01_k».proof.Proof.MixInBwdForms

/-! The derivative as formulas in the call's arguments, one token at a time: `Dp` the projection's cotangent, `X` the layer's input,
`Y` the cotangent that goes round the mixer, `Mo` the modulation, `G` the norm's weight, `W` the projection's weight. -/

@[expose] public section
set_option maxRecDepth 16384
set_option maxHeartbeats 4000000
noncomputable section
namespace Cert.MixInBwdIdeal.Own
open Cert.MixInBwdIdeal Cert.MixInBwdIdeal.Gen Idealize.ShloMosaic Idealize.ShloMosaic.TcCoe Idealize.SL.Sem Cert.Common
open Cert.FfnBwdIdeal.Own (IsReal root row_forms mhalf tiny)
section Token
variable (Dp : Vec Ideal S4x2048x2560 .f32) (X Y : Vec Ideal S4x2048x1024 .f32) (Mo : Vec Ideal S4x6x1024 .f32) (G : Vec Ideal S1x1024 .f32) (W : Vec Ideal S1024x2560 .f32)
variable (b : Fin 4) (t : Fin 2048)

def rsT : EReal := Ideal.rsqrt (Ideal.div (∑ q, X (ix3 b t q) * X (ix3 b t q)) wide + tiny)
def dhT (q : Fin 1024) : EReal := ∑ p, Dp (ix3 b t p) * W (ix2 q p)
def dxhT (q : Fin 1024) : EReal := dhT Dp W b t q * (1 + Mo (ix3 b 1 q)) * G (ix2 0 q)
def dxT (q : Fin 1024) : EReal := Y (ix3 b t q) + rsT X b t * (dxhT Dp Mo G W b t q - X (ix3 b t q) * rsT X b t
  * Ideal.div (∑ j, dxhT Dp Mo G W b t j * (X (ix3 b t j) * rsT X b t)) wide)
def dgnT (q : Fin 1024) : EReal := dhT Dp W b t q * (1 + Mo (ix3 b 1 q)) * (X (ix3 b t q) * rsT X b t)
def dscT (q : Fin 1024) : EReal := dhT Dp W b t q * (X (ix3 b t q) * rsT X b t * G (ix2 0 q))

/-- The derivative's own forms. -/
def qR : EReal := Ideal.div ((∑ j, X (ix3 b t j) * dxhT Dp Mo G W b t j) * (mhalf * Ideal.div (rsT X b t)
  (Ideal.div (∑ q, X (ix3 b t q) * X (ix3 b t q)) wide + tiny))) wide
def dxR (q : Fin 1024) : EReal := Y (ix3 b t q) + (dxhT Dp Mo G W b t q * rsT X b t + X (ix3 b t q) * qR Dp X Mo G W b t
  + qR Dp X Mo G W b t * X (ix3 b t q))

theorem dxT_eq (hD : ∀ j, IsReal (Dp j)) (hX : ∀ j, IsReal (X j)) (hMo : ∀ j, IsReal (Mo j)) (hG : ∀ j, IsReal (G j)) (hW : ∀ j, IsReal (W j))
    (q : Fin 1024) : dxT Dp X Y Mo G W b t q = dxR Dp X Y Mo G W b t q := by
  have he : ∀ q, IsReal (dxhT Dp Mo G W b t q) := fun q =>
    ((IsReal.sum _ fun p => (hD _).mul (hW _)).mul (IsReal.one.add (hMo _))).mul (hG _)
  have h := row_forms (x := fun q => X (ix3 b t q)) (e := dxhT Dp Mo G W b t) (y := 0) (fun q => hX _) he ⟨0, rfl⟩ q
  rw [zero_add, zero_add] at h
  exact congrArg (Y (ix3 b t q) + ·) h
end Token

end Cert.MixInBwdIdeal.Own
end
-- ==== Proof.MixInBwdPoint.lean ====
module
public import proofs.«01_k».proof.Defs
public import proofs.«01_k».proof.Proof.Common
public import proofs.«01_k».proof.Proof.MixInBwdForms

/-! What one point of the call writes in each of its three cases: A at the first point, C at the first point of a later sequence,
B at every other. -/

@[expose] public section
set_option maxRecDepth 16384
set_option maxHeartbeats 4000000
noncomputable section
namespace Cert.MixInBwdIdeal.Own
open Cert.MixInBwdIdeal Cert.MixInBwdIdeal.Gen Idealize.ShloMosaic Idealize.ShloMosaic.TcCoe Idealize.SL.Sem Cert.Common
section Cases
variable (c : Dev nD) (i : grid0.Coords) (a1 : Memref sig .tc .vmem S512x512 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S2560x1024 .bf16) (h6 : a6.IsWhole) (a7 : Memref sig .tc .vmem S512x1024 .f32) (h7 : a7.IsWhole) (a8 : Memref sig .tc .vmem S512x1024 .f32) (h8 : a8.IsWhole) (a9 : Memref sig .tc .vmem S1x8x1024 .f32) (h9 : a9.IsWhole) (a10 : Memref sig .tc .vmem S1x1024 .f32) (h10 : a10.IsWhole) (a11 : Memref sig .tc .vmem S512x1024 .f32) (h11 : a11.IsWhole) (a12 : Memref sig .tc .vmem S8x1024 .f32) (h12 : a12.IsWhole) (a13 : Memref sig .tc .vmem S1x8x1024 .f32) (h13 : a13.IsWhole)
    (x0 : Vec Ideal S512x512 .bf16) (x1 : Vec Ideal S512x512 .bf16) (x2 : Vec Ideal S512x512 .bf16) (x3 : Vec Ideal S512x512 .bf16) (x4 : Vec Ideal S512x512 .bf16) (x5 : Vec Ideal S2560x1024 .bf16) (x6 : Vec Ideal S512x1024 .f32) (x7 : Vec Ideal S512x1024 .f32) (x8 : Vec Ideal S1x8x1024 .f32) (x9 : Vec Ideal S1x1024 .f32) (xo11 : Vec Ideal S8x1024 .f32) (xo12 : Vec Ideal S1x8x1024 .f32)

theorem out10_A (hc0 : cond0_0 i) (hc1 : cond0_1 i) :
    out0_A_10 c i a1 h1 a2 h2 a3 h3 a4 h4 a5 h5 a6 h6 a7 h7 a8 h8 a9 h9 a10 h10 a11 h11 a12 h12 a13 h13 hc0 hc1 x0 x1 x2 x3 x4 x5 x6 x7 x8 x9 = fun j => dx (dh x0 x1 x2 x3 x4 x5) x6 x7 x9 x8 (j 0) (j 1) := by
  unfold out0_A_10
  refine read_writes_blocks _ _ _ _ ?_ fun y hy => absurd (cover0_A_10 c i a1 h1 a2 h2 a3 h3 a4 h4 a5 h5 a6 h6 a7 h7 a8 h8 a9 h9 a10 h10 a11 h11 a12 h12 a13 h13 hc0 hc1 x0 x1 x2 x3 x4 x5 x6 x7 x8 x9 y) fun ⟨p, hp, hm⟩ => hy p hp hm
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  unfold_payloads
  refine ⟨?_, trivial⟩
  intro x
  idx_vars x
  pointwise [Common.emb_norm]
  first | rfl | (simp only [dx, dxh, rs, zero_add] <;> rfl)

theorem out11_A (hc0 : cond0_0 i) (hc1 : cond0_1 i) :
    out0_A_11 c i a1 h1 a2 h2 a3 h3 a4 h4 a5 h5 a6 h6 a7 h7 a8 h8 a9 h9 a10 h10 a11 h11 a12 h12 a13 h13 hc0 hc1 x0 x1 x2 x3 x4 x5 x6 x7 x8 x9 = fun j => dgAdd (dh x0 x1 x2 x3 x4 x5) x6 x8 (j 0) (j 1) := by
  unfold out0_A_11
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  simp (disch := decide) only [↓View.readCov_skip, ↓View.readCov_fill]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  refine read_writes_over_fill _ _ _ (by funext a; fin_cases a <;> rfl) _ [_] _ ?_ fun y hy => ?_
  · unfold_payloads
    refine ⟨?_, trivial⟩
    all_goals
      intro x
      idx_vars x
      pointwise [Common.emb_norm]
      first | rfl | (simp only [zero_add]; rfl)
  · have n0 : ¬@Eq (Fin 8) (y 0) 0 := fun h => hy _ List.mem_cons_self (mem_row2 0 inb_S8x1024_S1x1024_0_0 y h)
    simp only [dgAdd, n0, if_false]
    unfold_payloads
    idx_vars y
    pointwise

theorem out12_A (hc0 : cond0_0 i) (hc1 : cond0_1 i) :
    out0_A_12 c i a1 h1 a2 h2 a3 h3 a4 h4 a5 h5 a6 h6 a7 h7 a8 h8 a9 h9 a10 h10 a11 h11 a12 h12 a13 h13 hc0 hc1 x0 x1 x2 x3 x4 x5 x6 x7 x8 x9 = fun j => dmAdd (dh x0 x1 x2 x3 x4 x5) x6 x9 (j 1) (j 2) := by
  unfold out0_A_12
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  simp (disch := decide) only [↓View.readCov_skip, ↓View.readCov_fill]
  simp only [k0_pay10]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  refine read_writes_over_fill _ _ _ (by funext a; fin_cases a <;> rfl) _ [_, _] _ ?_ fun y hy => ?_
  · unfold_payloads
    refine ⟨?_, ?_, trivial⟩
    all_goals
      intro x
      idx_vars x
      pointwise [Common.emb_norm]
      first | rfl | (simp only [zero_add]; rfl)
  · have n0 : ¬@Eq (Fin 8) (y 1) 0 := fun h => hy _ (List.mem_cons_of_mem _ List.mem_cons_self) (mem_row3 0 inb_S1x8x1024_S1x1x1024_0_0_0 y h)
    have n1 : ¬@Eq (Fin 8) (y 1) 1 := fun h => hy _ List.mem_cons_self (mem_row3 1 inb_S1x8x1024_S1x1x1024_0_1_0 y h)
    simp only [dmAdd, n0, n1, if_false]
    unfold_payloads
    idx_vars y
    pointwise

theorem out10_B (hc0 : ¬cond0_0 i) (hc1 : ¬cond0_1 i) :
    out0_B_10 c i a1 h1 a2 h2 a3 h3 a4 h4 a5 h5 a6 h6 a7 h7 a8 h8 a9 h9 a10 h10 a11 h11 a12 h12 a13 h13 hc0 hc1 x0 x1 x2 x3 x4 x5 x6 x7 x8 x9 xo11 xo12 = fun j => dx (dh x0 x1 x2 x3 x4 x5) x6 x7 x9 x8 (j 0) (j 1) := by
  unfold out0_B_10
  refine read_writes_blocks _ _ _ _ ?_ fun y hy => absurd (cover0_B_10 c i a1 h1 a2 h2 a3 h3 a4 h4 a5 h5 a6 h6 a7 h7 a8 h8 a9 h9 a10 h10 a11 h11 a12 h12 a13 h13 hc0 hc1 x0 x1 x2 x3 x4 x5 x6 x7 x8 x9 xo11 xo12 y) fun ⟨p, hp, hm⟩ => hy p hp hm
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  unfold_payloads
  refine ⟨?_, trivial⟩
  intro x
  idx_vars x
  pointwise [Common.emb_norm]
  first | rfl | (simp only [dx, dxh, rs, zero_add] <;> rfl)

theorem out11_B (hc0 : ¬cond0_0 i) (hc1 : ¬cond0_1 i) :
    out0_B_11 c i a1 h1 a2 h2 a3 h3 a4 h4 a5 h5 a6 h6 a7 h7 a8 h8 a9 h9 a10 h10 a11 h11 a12 h12 a13 h13 hc0 hc1 x0 x1 x2 x3 x4 x5 x6 x7 x8 x9 xo11 xo12 = fun j => xo11 j + dgAdd (dh x0 x1 x2 x3 x4 x5) x6 x8 (j 0) (j 1) := by
  unfold out0_B_11
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  refine read_writes_blocks _ _ [_] _ ?_ fun y hy => ?_
  · unfold_payloads
    refine ⟨?_, trivial⟩
    all_goals
      intro x
      idx_vars x
      pointwise [Common.emb_norm]
      first | rfl | (simp only [zero_add]; rfl)
  · have n0 : ¬@Eq (Fin 8) (y 0) 0 := fun h => hy _ List.mem_cons_self (mem_row2 0 inb_S8x1024_S1x1024_0_0 y h)
    rw [h12.read_unread]
    simp only [dgAdd, n0, if_false, add_zero]

theorem out12_B (hc0 : ¬cond0_0 i) (hc1 : ¬cond0_1 i) :
    out0_B_12 c i a1 h1 a2 h2 a3 h3 a4 h4 a5 h5 a6 h6 a7 h7 a8 h8 a9 h9 a10 h10 a11 h11 a12 h12 a13 h13 hc0 hc1 x0 x1 x2 x3 x4 x5 x6 x7 x8 x9 xo11 xo12 = fun j => xo12 j + dmAdd (dh x0 x1 x2 x3 x4 x5) x6 x9 (j 1) (j 2) := by
  unfold out0_B_12
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  simp only [k0_pay10]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  refine read_writes_blocks _ _ [_, _] _ ?_ fun y hy => ?_
  · unfold_payloads
    refine ⟨?_, ?_, trivial⟩
    all_goals
      intro x
      idx_vars x
      pointwise [Common.emb_norm]
      first | rfl | (simp only [zero_add]; rfl)
  · have n0 : ¬@Eq (Fin 8) (y 1) 0 := fun h => hy _ (List.mem_cons_of_mem _ List.mem_cons_self) (mem_row3 0 inb_S1x8x1024_S1x1x1024_0_0_0 y h)
    have n1 : ¬@Eq (Fin 8) (y 1) 1 := fun h => hy _ List.mem_cons_self (mem_row3 1 inb_S1x8x1024_S1x1x1024_0_1_0 y h)
    rw [h13.read_unread]
    simp only [dmAdd, n0, n1, if_false, add_zero]

theorem out10_C (hc0 : ¬cond0_0 i) (hc1 : cond0_1 i) :
    out0_C_10 c i a1 h1 a2 h2 a3 h3 a4 h4 a5 h5 a6 h6 a7 h7 a8 h8 a9 h9 a10 h10 a11 h11 a12 h12 a13 h13 hc0 hc1 x0 x1 x2 x3 x4 x5 x6 x7 x8 x9 xo11 = fun j => dx (dh x0 x1 x2 x3 x4 x5) x6 x7 x9 x8 (j 0) (j 1) := by
  unfold out0_C_10
  refine read_writes_blocks _ _ _ _ ?_ fun y hy => absurd (cover0_C_10 c i a1 h1 a2 h2 a3 h3 a4 h4 a5 h5 a6 h6 a7 h7 a8 h8 a9 h9 a10 h10 a11 h11 a12 h12 a13 h13 hc0 hc1 x0 x1 x2 x3 x4 x5 x6 x7 x8 x9 xo11 y) fun ⟨p, hp, hm⟩ => hy p hp hm
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  unfold_payloads
  refine ⟨?_, trivial⟩
  intro x
  idx_vars x
  pointwise [Common.emb_norm]
  first | rfl | (simp only [dx, dxh, rs, zero_add] <;> rfl)

theorem out11_C (hc0 : ¬cond0_0 i) (hc1 : cond0_1 i) :
    out0_C_11 c i a1 h1 a2 h2 a3 h3 a4 h4 a5 h5 a6 h6 a7 h7 a8 h8 a9 h9 a10 h10 a11 h11 a12 h12 a13 h13 hc0 hc1 x0 x1 x2 x3 x4 x5 x6 x7 x8 x9 xo11 = fun j => xo11 j + dgAdd (dh x0 x1 x2 x3 x4 x5) x6 x8 (j 0) (j 1) := by
  unfold out0_C_11
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  refine read_writes_blocks _ _ [_] _ ?_ fun y hy => ?_
  · unfold_payloads
    refine ⟨?_, trivial⟩
    all_goals
      intro x
      idx_vars x
      pointwise [Common.emb_norm]
      first | rfl | (simp only [zero_add]; rfl)
  · have n0 : ¬@Eq (Fin 8) (y 0) 0 := fun h => hy _ List.mem_cons_self (mem_row2 0 inb_S8x1024_S1x1024_0_0 y h)
    rw [h12.read_unread]
    simp only [dgAdd, n0, if_false, add_zero]

theorem out12_C (hc0 : ¬cond0_0 i) (hc1 : cond0_1 i) :
    out0_C_12 c i a1 h1 a2 h2 a3 h3 a4 h4 a5 h5 a6 h6 a7 h7 a8 h8 a9 h9 a10 h10 a11 h11 a12 h12 a13 h13 hc0 hc1 x0 x1 x2 x3 x4 x5 x6 x7 x8 x9 xo11 = fun j => dmAdd (dh x0 x1 x2 x3 x4 x5) x6 x9 (j 1) (j 2) := by
  unfold out0_C_12
  unfold kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread]
  simp (disch := decide) only [↓View.readCov_skip, ↓View.readCov_fill]
  simp only [k0_pay10]
  generalize hD : k0_pay6 (F := Ideal) _ _ _ _ _ _ _ = D
  replace hD : D = fun j => dh x0 x1 x2 x3 x4 x5 (j 0) (j 1) := hD.symm.trans (dhVec_eq x0 x1 x2 x3 x4 x5)
  subst hD
  refine read_writes_over_fill _ _ _ (by funext a; fin_cases a <;> rfl) _ [_, _] _ ?_ fun y hy => ?_
  · unfold_payloads
    refine ⟨?_, ?_, trivial⟩
    all_goals
      intro x
      idx_vars x
      pointwise [Common.emb_norm]
      first | rfl | (simp only [zero_add]; rfl)
  · have n0 : ¬@Eq (Fin 8) (y 1) 0 := fun h => hy _ (List.mem_cons_of_mem _ List.mem_cons_self) (mem_row3 0 inb_S1x8x1024_S1x1x1024_0_0_0 y h)
    have n1 : ¬@Eq (Fin 8) (y 1) 1 := fun h => hy _ List.mem_cons_self (mem_row3 1 inb_S1x8x1024_S1x1x1024_0_1_0 y h)
    simp only [dmAdd, n0, n1, if_false]
    unfold_payloads
    idx_vars y
    pointwise

end Cases

end Cert.MixInBwdIdeal.Own
end
-- ==== Proof.MixInBwdBlocks.lean ====
module
public import proofs.«01_k».proof.Defs
public import proofs.«01_k».proof.Proof.Common
public import proofs.«01_k».proof.Proof.Layer
public import proofs.«01_k».proof.Proof.Gen.MixInBwdIdeal.Frame
public import proofs.«01_k».proof.Proof.MixInBwdForms
public import Idealize.ShloMosaic.Lib.KernelVsHost

/-! The blocks a point reads, as the arguments' tokens. -/

@[expose] public section
set_option maxRecDepth 16384
set_option maxHeartbeats 4000000
noncomputable section
namespace Cert.MixInBwdIdeal.Own
open Cert.MixInBwdIdeal Cert.MixInBwdIdeal.Gen Idealize.ShloMosaic Idealize.ShloMosaic.TcCoe Idealize.SL.Sem Cert.Common
variable (m : (ℓ : Loc nD τ sig) → Buf (Elt Ideal) ℓ)

/-- The call's arguments. -/
abbrev aD (c : Dev nD) : Vec Ideal S4x2048x2560 .f32 := m ((c : Thread nD τ).loc main_arg0)
abbrev aX (c : Dev nD) : Vec Ideal S4x2048x1024 .f32 := m ((c : Thread nD τ).loc main_arg1)
abbrev aY (c : Dev nD) : Vec Ideal S4x2048x1024 .f32 := m ((c : Thread nD τ).loc main_arg2)
abbrev aMo (c : Dev nD) : Vec Ideal S4x6x1024 .f32 := m ((c : Thread nD τ).loc main_arg3)
abbrev aG (c : Dev nD) : Vec Ideal S1x1024 .f32 := m ((c : Thread nD τ).loc main_arg4)
abbrev aW (c : Dev nD) : Vec Ideal S1024x2560 .f32 := m ((c : Thread nD τ).loc main_arg5)

/-- Row `r` of point `t`'s block of tokens. -/
def tok (t : Fin cfg0.N) (r : Fin 512) : Fin 8192 := ⟨512 * t.val + r.val, by have : t.val < 16 := lt_of_lt_of_eq t.isLt N_0; omega⟩

/-- Part `s` of the projection's cotangent, its rows in the flat order. -/
def dpart (c : Dev nD) (s : Fin 5) (n : Fin 8192) (k : Fin 512) : EReal := aD m c (ix3 (seqOf n) (posOf n) (wrow s k))

theorem entD0 (c : Dev nD) (n : Fin 8192) (k : Fin 512) : (V m c main_v2 : Vec Ideal S8192x512 .bf16) (ix2 n k) = dpart m c 0 n k := by
  unfold V hostOps0 hostOps0_1 hostOps0_2
  simp only [List.flatten_cons, List.flatten_nil, List.cons_append, List.nil_append, List.append_nil]
  entry_read
  pointwise
  unfold dpart wrow
  congr 3
  simp

theorem entD1 (c : Dev nD) (n : Fin 8192) (k : Fin 512) : (V m c main_v5 : Vec Ideal S8192x512 .bf16) (ix2 n k) = dpart m c 1 n k := by
  unfold V hostOps0 hostOps0_1 hostOps0_2
  simp only [List.flatten_cons, List.flatten_nil, List.cons_append, List.nil_append, List.append_nil]
  entry_read
  pointwise
  unfold dpart wrow
  congr 3

theorem entD2 (c : Dev nD) (n : Fin 8192) (k : Fin 512) : (V m c main_v8 : Vec Ideal S8192x512 .bf16) (ix2 n k) = dpart m c 2 n k := by
  unfold V hostOps0 hostOps0_1 hostOps0_2
  simp only [List.flatten_cons, List.flatten_nil, List.cons_append, List.nil_append, List.append_nil]
  entry_read
  pointwise
  unfold dpart wrow
  congr 3

theorem entD3 (c : Dev nD) (n : Fin 8192) (k : Fin 512) : (V m c main_v11 : Vec Ideal S8192x512 .bf16) (ix2 n k) = dpart m c 3 n k := by
  unfold V hostOps0 hostOps0_1 hostOps0_2
  simp only [List.flatten_cons, List.flatten_nil, List.cons_append, List.nil_append, List.append_nil]
  entry_read
  pointwise
  unfold dpart wrow
  congr 3

theorem entD4 (c : Dev nD) (n : Fin 8192) (k : Fin 512) : (V m c main_v14 : Vec Ideal S8192x512 .bf16) (ix2 n k) = dpart m c 4 n k := by
  unfold V hostOps0 hostOps0_1 hostOps0_2
  simp only [List.flatten_cons, List.flatten_nil, List.cons_append, List.nil_append, List.append_nil]
  entry_read
  pointwise
  unfold dpart wrow
  congr 3

theorem entX (c : Dev nD) (n : Fin 8192) (q : Fin 1024) : (V m c main_v18 : Vec Ideal S8192x1024 .f32) (ix2 n q) = aX m c (ix3 (seqOf n) (posOf n) q) := by
  unfold V hostOps0 hostOps0_1 hostOps0_2
  simp only [List.flatten_cons, List.flatten_nil, List.cons_append, List.nil_append, List.append_nil]
  entry_read
  pointwise
  try rfl

theorem entY (c : Dev nD) (n : Fin 8192) (q : Fin 1024) : (V m c main_v19 : Vec Ideal S8192x1024 .f32) (ix2 n q) = aY m c (ix3 (seqOf n) (posOf n) q) := by
  unfold V hostOps0 hostOps0_1 hostOps0_2
  simp only [List.flatten_cons, List.flatten_nil, List.cons_append, List.nil_append, List.append_nil]
  entry_read
  pointwise
  try rfl

theorem entW (c : Dev nD) (p : Fin 2560) (q : Fin 1024) : (V m c main_v17 : Vec Ideal S2560x1024 .bf16) (ix2 p q) = aW m c (ix2 q p) := by
  unfold V hostOps0 hostOps0_1 hostOps0_2
  simp only [List.flatten_cons, List.flatten_nil, List.cons_append, List.nil_append, List.append_nil]
  entry_read
  pointwise
  try rfl

theorem entMo (c : Dev nD) (b : Fin 4) (i : Fin 6) (q : Fin 1024) :
    (V m c main_v15 : Vec Ideal S4x8x1024 .f32) (ix3 b ⟨i.val, by omega⟩ q) = aMo m c (ix3 b i q) := by
  unfold V hostOps0 hostOps0_1 hostOps0_2
  simp only [List.flatten_cons, List.flatten_nil, List.cons_append, List.nil_append, List.append_nil]
  entry_read
  refine pad_apply_of_inside (t := S4x8x1024) ![0, 0, 0] ![0, 2, 0] ![0, 0, 0] (aMo m c) (sitofp (F := Ideal) FTy.f32 (constantI S_ 32 0#32)) pads_S4x6x1024_S4x8x1024_000_020_000 h_S_ (ix3 b ⟨i.val, by omega⟩ q) (ix3 b i q) ?_
  intro a
  fin_cases a <;> simp [ix3]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val / 4, 0, 0] := (by decide +kernel : ∀ t : Fin grid0.N, _)
theorem idx9 : ∀ t : Fin cfg0.N, win0_9.index t = ![0, 0] := (by decide +kernel : ∀ t : Fin grid0.N, _)

theorem blkD0 (c : Dev nD) (t : Fin cfg0.N) (r k : Fin 512) : (iblk m c 0 t : Vec Ideal S512x512 .bf16) (ix2 r k) = dpart m c 0 (tok t r) k := by
  have ht : t.val < 16 := lt_of_lt_of_eq t.isLt N_0
  refine Eq.trans (b := (V m c main_v2 : Vec Ideal S8192x512 .bf16) (ix2 (tok t r) k)) ?_ (entD0 m c _ _)
  blk_simp [iblk, idx0 t]
  unfold tok
  blk_ext [idx0 t]

theorem blkD1 (c : Dev nD) (t : Fin cfg0.N) (r k : Fin 512) : (iblk m c 1 t : Vec Ideal S512x512 .bf16) (ix2 r k) = dpart m c 1 (tok t r) k := by
  have ht : t.val < 16 := lt_of_lt_of_eq t.isLt N_0
  refine Eq.trans (b := (V m c main_v5 : Vec Ideal S8192x512 .bf16) (ix2 (tok t r) k)) ?_ (entD1 m c _ _)
  blk_simp [iblk, idx1 t]
  unfold tok
  blk_ext [idx1 t]

theorem blkD2 (c : Dev nD) (t : Fin cfg0.N) (r k : Fin 512) : (iblk m c 2 t : Vec Ideal S512x512 .bf16) (ix2 r k) = dpart m c 2 (tok t r) k := by
  have ht : t.val < 16 := lt_of_lt_of_eq t.isLt N_0
  refine Eq.trans (b := (V m c main_v8 : Vec Ideal S8192x512 .bf16) (ix2 (tok t r) k)) ?_ (entD2 m c _ _)
  blk_simp [iblk, idx2 t]
  unfold tok
  blk_ext [idx2 t]

theorem blkD3 (c : Dev nD) (t : Fin cfg0.N) (r k : Fin 512) : (iblk m c 3 t : Vec Ideal S512x512 .bf16) (ix2 r k) = dpart m c 3 (tok t r) k := by
  have ht : t.val < 16 := lt_of_lt_of_eq t.isLt N_0
  refine Eq.trans (b := (V m c main_v11 : Vec Ideal S8192x512 .bf16) (ix2 (tok t r) k)) ?_ (entD3 m c _ _)
  blk_simp [iblk, idx3 t]
  unfold tok
  blk_ext [idx3 t]

theorem blkD4 (c : Dev nD) (t : Fin cfg0.N) (r k : Fin 512) : (iblk m c 4 t : Vec Ideal S512x512 .bf16) (ix2 r k) = dpart m c 4 (tok t r) k := by
  have ht : t.val < 16 := lt_of_lt_of_eq t.isLt N_0
  refine Eq.trans (b := (V m c main_v14 : Vec Ideal S8192x512 .bf16) (ix2 (tok t r) k)) ?_ (entD4 m c _ _)
  blk_simp [iblk, idx4 t]
  unfold tok
  blk_ext [idx4 t]

theorem blkX (c : Dev nD) (t : Fin cfg0.N) (r : Fin 512) (q : Fin 1024) : (iblk m c 6 t : Vec Ideal S512x1024 .f32) (ix2 r q) = aX m c (ix3 (seqOf (tok t r)) (posOf (tok t r)) q) := by
  have ht : t.val < 16 := lt_of_lt_of_eq t.isLt N_0
  refine Eq.trans (b := (V m c main_v18 : Vec Ideal S8192x1024 .f32) (ix2 (tok t r) q)) ?_ (entX m c _ _)
  blk_simp [iblk, idx6 t]
  unfold tok
  blk_ext [idx6 t]

theorem blkY (c : Dev nD) (t : Fin cfg0.N) (r : Fin 512) (q : Fin 1024) : (iblk m c 7 t : Vec Ideal S512x1024 .f32) (ix2 r q) = aY m c (ix3 (seqOf (tok t r)) (posOf (tok t r)) q) := by
  have ht : t.val < 16 := lt_of_lt_of_eq t.isLt N_0
  refine Eq.trans (b := (V m c main_v19 : Vec Ideal S8192x1024 .f32) (ix2 (tok t r) q)) ?_ (entY m c _ _)
  blk_simp [iblk, idx7 t]
  unfold tok
  blk_ext [idx7 t]

theorem blkW (c : Dev nD) (t : Fin cfg0.N) (p : Fin 2560) (q : Fin 1024) : (iblk m c 5 t : Vec Ideal S2560x1024 .bf16) (ix2 p q) = aW m c (ix2 q p) := by
  have ht : t.val < 16 := lt_of_lt_of_eq t.isLt N_0
  refine Eq.trans (b := (V m c main_v17 : Vec Ideal S2560x1024 .bf16) (ix2 p q)) ?_ (entW m c _ _)
  blk_simp [iblk, idx5 t]
  blk_ext [idx5 t]

theorem blkMo (c : Dev nD) (t : Fin cfg0.N) (r : Fin 512) (i : Fin 6) (q : Fin 1024) : (iblk m c 8 t : Vec Ideal S1x8x1024 .f32) (ix3 0 ⟨i.val, by omega⟩ q) = aMo m c (ix3 (seqOf (tok t r)) i q) := by
  have ht : t.val < 16 := lt_of_lt_of_eq t.isLt N_0
  refine Eq.trans (b := (V m c main_v15 : Vec Ideal S4x8x1024 .f32) (ix3 (seqOf (tok t r)) ⟨i.val, by omega⟩ q)) ?_ (entMo m c _ _ _)
  blk_simp [iblk, idx8 t]
  unfold tok seqOf
  blk_ext [idx8 t]

theorem blkG (c : Dev nD) (t : Fin cfg0.N) (q : Fin 1024) : (iblk m c 9 t : Vec Ideal S1x1024 .f32) (ix2 0 q) = aG m c (ix2 0 q) := by
  have ht : t.val < 16 := lt_of_lt_of_eq t.isLt N_0
  refine Eq.trans (b := (V m c main_arg4 : Vec Ideal S1x1024 .f32) (ix2 0 q)) ?_ (by rw [V_main_arg4])
  blk_simp [iblk, idx9 t]
  blk_ext [idx9 t]

end Cert.MixInBwdIdeal.Own
end
-- ==== Proof.MixInBwdArr.lean ====
module
public import proofs.«01_k».proof.Defs
public import proofs.«01_k».proof.Proof.Common
public import proofs.«01_k».proof.Proof.Layer
public import proofs.«01_k».proof.Proof.MixInBwdMath
public import proofs.«01_k».proof.Proof.MixInBwdPoint
public import proofs.«01_k».proof.Proof.MixInBwdBlocks

/-! What the points leave, and the three result arrays of the call, as functions of its arguments. -/

@[expose] public section
set_option maxRecDepth 16384
set_option maxHeartbeats 4000000
noncomputable section
namespace Cert.MixInBwdIdeal.Own
open Cert.MixInBwdIdeal Cert.MixInBwdIdeal.Gen Idealize.ShloMosaic Idealize.ShloMosaic.TcCoe Idealize.SL.Sem Cert.Common
variable (m : (ℓ : Loc nD τ sig) → Buf (Elt Ideal) ℓ)

/-- The blocks point `t` reads. -/
def b0 (c : Dev nD) (t : Fin cfg0.N) : Vec Ideal S512x512 .bf16 := iblk m c 0 t
def b1 (c : Dev nD) (t : Fin cfg0.N) : Vec Ideal S512x512 .bf16 := iblk m c 1 t
def b2 (c : Dev nD) (t : Fin cfg0.N) : Vec Ideal S512x512 .bf16 := iblk m c 2 t
def b3 (c : Dev nD) (t : Fin cfg0.N) : Vec Ideal S512x512 .bf16 := iblk m c 3 t
def b4 (c : Dev nD) (t : Fin cfg0.N) : Vec Ideal S512x512 .bf16 := iblk m c 4 t
def b5 (c : Dev nD) (t : Fin cfg0.N) : Vec Ideal S2560x1024 .bf16 := iblk m c 5 t
def b6 (c : Dev nD) (t : Fin cfg0.N) : Vec Ideal S512x1024 .f32 := iblk m c 6 t
def b7 (c : Dev nD) (t : Fin cfg0.N) : Vec Ideal S512x1024 .f32 := iblk m c 7 t
def b8 (c : Dev nD) (t : Fin cfg0.N) : Vec Ideal S1x8x1024 .f32 := iblk m c 8 t
def b9 (c : Dev nD) (t : Fin cfg0.N) : Vec Ideal S1x1024 .f32 := iblk m c 9 t

/-- The cotangent of the normed input over point `t`'s block of tokens. -/
def D (c : Dev nD) (t : Fin cfg0.N) : Fin 512 → Fin 1024 → EReal := dh (b0 m c t) (b1 m c t) (b2 m c t) (b3 m c t) (b4 m c t) (b5 m c t)
/-- What point `t` adds to the two sums. -/
def add11 (c : Dev nD) (t : Fin cfg0.N) (j : S8x1024.Idx) : EReal := dgAdd (D m c t) (b6 m c t) (b8 m c t) (j 0) (j 1)
def add12 (c : Dev nD) (t : Fin cfg0.N) (j : S1x8x1024.Idx) : EReal := dmAdd (D m c t) (b6 m c t) (b9 m c t) (j 1) (j 2)

/-- What point `t` leaves, its two sums being `s11` and `s12`. -/
abbrev leaves (c : Dev nD) (t : Fin cfg0.N) (s11 : Vec Ideal S8x1024 .f32) (s12 : Vec Ideal S1x8x1024 .f32) :
    Vec Ideal S512x1024 .f32 × Vec Ideal S8x1024 .f32 × Vec Ideal S1x8x1024 .f32 :=
  (fun j => dx (D m c t) (b6 m c t) (b7 m c t) (b9 m c t) (b8 m c t) (j 0) (j 1), s11, s12)

/-- The two sums before point `t`. -/
def bef11 (c : Dev nD) (t : Fin cfg0.N) : Vec Ideal S8x1024 .f32 := (outsAt0 m c (t.val - 1) (Nat.lt_of_le_of_lt (Nat.sub_le _ _) t.isLt)).2.1
def bef12 (c : Dev nD) (t : Fin cfg0.N) : Vec Ideal S1x8x1024 .f32 := (outsAt0 m c (t.val - 1) (Nat.lt_of_le_of_lt (Nat.sub_le _ _) t.isLt)).2.2

theorem leaves_A (c : Dev nD) (t : Fin cfg0.N) (h0 : t.val % 16 = 0) (h1 : t.val % 4 = 0) :
    outsAt0 m c t.val t.isLt = leaves m c t (add11 m c t) (add12 m c t) :=
  (outsAt0_A m c t h0 h1).trans <| congrArg₂ Prod.mk (out10_A ..) <| congrArg₂ Prod.mk (out11_A ..) (out12_A ..)
theorem leaves_B (c : Dev nD) (t : Fin cfg0.N) (h0 : ¬t.val % 16 = 0) (h1 : ¬t.val % 4 = 0) :
    outsAt0 m c t.val t.isLt = leaves m c t (fun j => bef11 m c t j + add11 m c t j) (fun j => bef12 m c t j + add12 m c t j) :=
  (outsAt0_B m c t h0 h1).trans <| congrArg₂ Prod.mk (out10_B ..) <| congrArg₂ Prod.mk (out11_B ..) (out12_B ..)
theorem leaves_C (c : Dev nD) (t : Fin cfg0.N) (h0 : ¬t.val % 16 = 0) (h1 : t.val % 4 = 0) :
    outsAt0 m c t.val t.isLt = leaves m c t (fun j => bef11 m c t j + add11 m c t j) (add12 m c t) :=
  (outsAt0_C m c t h0 h1).trans <| congrArg₂ Prod.mk (out10_C ..) <| congrArg₂ Prod.mk (out11_C ..) (out12_C ..)

theorem left10 (c : Dev nD) (t : Fin cfg0.N) : (outsAt0 m c t.val t.isLt).1 = (leaves m c t (add11 m c t) (add12 m c t)).1 := by
  by_cases h0 : t.val % 16 = 0
  · rw [leaves_A m c t h0 (by omega)]
  · by_cases h1 : t.val % 4 = 0
    · rw [leaves_C m c t h0 h1]
    · rw [leaves_B m c t h0 h1]
theorem sum11_A (c : Dev nD) (t : Fin cfg0.N) (h0 : t.val % 16 = 0) : (outsAt0 m c t.val t.isLt).2.1 = add11 m c t := by
  rw [leaves_A m c t h0 (by omega)]
theorem sum11_BC (c : Dev nD) (t : Fin cfg0.N) (h0 : ¬t.val % 16 = 0) : (outsAt0 m c t.val t.isLt).2.1 = fun j => bef11 m c t j + add11 m c t j := by
  by_cases h1 : t.val % 4 = 0
  · rw [leaves_C m c t h0 h1]
  · rw [leaves_B m c t h0 h1]
theorem sum12_AC (c : Dev nD) (t : Fin cfg0.N) (h1 : t.val % 4 = 0) : (outsAt0 m c t.val t.isLt).2.2 = add12 m c t := by
  by_cases h0 : t.val % 16 = 0
  · rw [leaves_A m c t h0 h1]
  · rw [leaves_C m c t h0 h1]
theorem sum12_B (c : Dev nD) (t : Fin cfg0.N) (h1 : ¬t.val % 4 = 0) : (outsAt0 m c t.val t.isLt).2.2 = fun j => bef12 m c t j + add12 m c t j := by
  rw [leaves_B m c t (by omega) h1]

/-! A point's forms as the arguments' tokens. -/

section Tokens
variable (c : Dev nD) (t : Fin cfg0.N)
abbrev sq (t : Fin cfg0.N) (r : Fin 512) : Fin 4 := seqOf (tok t r)
abbrev ps (t : Fin cfg0.N) (r : Fin 512) : Fin 2048 := posOf (tok t r)

theorem b6_tok (r : Fin 512) (q : Fin 1024) : b6 m c t (ix2 r q) = aX m c (ix3 (sq t r) (ps t r) q) := blkX m c t r q
theorem b7_tok (r : Fin 512) (q : Fin 1024) : b7 m c t (ix2 r q) = aY m c (ix3 (sq t r) (ps t r) q) := blkY m c t r q
theorem b8_tok (r : Fin 512) (q : Fin 1024) : b8 m c t (ix3 0 1 q) = aMo m c (ix3 (sq t r) 1 q) := blkMo m c t r 1 q
theorem b9_tok (q : Fin 1024) : b9 m c t (ix2 0 q) = aG m c (ix2 0 q) := blkG m c t q

theorem part_tok (x : Vec Ideal S512x512 .bf16) (s : Fin 5) (h : ∀ r k, x (ix2 r k) = dpart m c s (tok t r) k) (r : Fin 512) (q : Fin 1024) :
    part x (b5 m c t) s r q = ∑ k, aD m c (ix3 (sq t r) (ps t r) (wrow s k)) * aW m c (ix2 q (wrow s k)) := by
  refine Finset.sum_congr rfl fun k _ => ?_
  rw [h]
  exact congrArg (_ * ·) (blkW m c t (wrow s k) q)
theorem dh_tok (r : Fin 512) (q : Fin 1024) : D m c t r q = dhT (aD m c) (aW m c) (sq t r) (ps t r) q := by
  rw [dhT, sum_parts, Fin.sum_univ_five]
  unfold D dh
  rw [part_tok m c t (b0 m c t) 0 (blkD0 m c t), part_tok m c t (b1 m c t) 1 (blkD1 m c t), part_tok m c t (b2 m c t) 2 (blkD2 m c t),
    part_tok m c t (b3 m c t) 3 (blkD3 m c t), part_tok m c t (b4 m c t) 4 (blkD4 m c t)]
theorem rs_tok (r : Fin 512) : rs (b6 m c t) r = rsT (aX m c) (sq t r) (ps t r) := by
  simp only [rs, b6_tok, rsT]
theorem dxh_tok (r : Fin 512) (q : Fin 1024) : dxh (D m c t) (b9 m c t) (b8 m c t) r q = dxhT (aD m c) (aMo m c) (aG m c) (aW m c) (sq t r) (ps t r) q := by
  simp only [dxh, dh_tok, b8_tok m c t r, b9_tok, dxhT]
theorem dx_tok (r : Fin 512) (q : Fin 1024) : dx (D m c t) (b6 m c t) (b7 m c t) (b9 m c t) (b8 m c t) r q = dxT (aD m c) (aX m c) (aY m c) (aMo m c) (aG m c) (aW m c) (sq t r) (ps t r) q := by
  simp only [dx, dxh_tok, rs_tok, b6_tok, b7_tok, dxT]

theorem flat_tok (g : Fin 4 → Fin 2048 → EReal) (r : Fin 512) : g (sq t r) (ps t r) = flat g (512 * t.val + r.val) := by
  have ht : t.val < 16 := lt_of_lt_of_eq t.isLt N_0
  have e : sq t r = ⟨(512 * t.val + r.val) / 2048 % 4, by omega⟩ := Fin.ext (by simp only [sq, seqOf, tok]; omega)
  rw [e]
  rfl

/-- Per-token terms of the sums' rows. -/
def g11 (a : Fin 8) (q : Fin 1024) (b : Fin 4) (p : Fin 2048) : EReal :=
  if a = 0 then dgnT (aD m c) (aX m c) (aMo m c) (aW m c) b p q else 0
def g12 (a : Fin 8) (q : Fin 1024) (b : Fin 4) (p : Fin 2048) : EReal :=
  if a = 0 then dhT (aD m c) (aW m c) b p q else if a = 1 then dscT (aD m c) (aX m c) (aG m c) (aW m c) b p q else 0

theorem dgAdd_tok (a : Fin 8) (q : Fin 1024) : dgAdd (D m c t) (b6 m c t) (b8 m c t) a q = ∑ r : Fin 512, g11 m c a q (sq t r) (ps t r) := by
  by_cases h : a = 0
  · simp only [dgAdd, g11, if_pos h, dgnT]
    refine Finset.sum_congr rfl fun r _ => ?_
    rw [dh_tok, rs_tok, b8_tok m c t r, b6_tok]
  · simp only [dgAdd, g11, if_neg h, Finset.sum_const_zero]
theorem dmAdd_tok (a : Fin 8) (q : Fin 1024) : dmAdd (D m c t) (b6 m c t) (b9 m c t) a q = ∑ r : Fin 512, g12 m c a q (sq t r) (ps t r) := by
  by_cases h : a = 0
  · simp only [dmAdd, g12, if_pos h, dh_tok]
  by_cases h1 : a = 1
  · simp only [dmAdd, g12, if_neg h, if_pos h1, dh_tok, rs_tok, b9_tok, b6_tok, dscT]
  · simp only [dmAdd, g12, if_neg h, if_neg h1, Finset.sum_const_zero]
theorem add11_tok (j : S8x1024.Idx) : add11 m c t j = ∑ r : Fin 512, flat (g11 m c (j 0) (j 1)) (512 * t.val + r.val) := by
  simp only [← flat_tok]
  exact dgAdd_tok m c t (j 0) (j 1)
theorem add12_tok (j : S1x8x1024.Idx) : add12 m c t j = ∑ r : Fin 512, flat (g12 m c (j 1) (j 2)) (512 * t.val + r.val) := by
  simp only [← flat_tok]
  exact dmAdd_tok m c t (j 1) (j 2)

theorem sum11_eq (j : S8x1024.Idx) : (outsAt0 m c t.val t.isLt).2.1 j
    = 0 + ∑ n ∈ Finset.range (t.val + 1), ∑ r : Fin 512, flat (g11 m c (j 0) (j 1)) (512 * n + r.val) := by
  refine Pipeline.eq_sum_of_reset_step_apply_single (fun n h => (outsAt0 m c n h).2.1) 16 (fun _ => 0)
    (fun n j => ∑ r : Fin 512, flat (g11 m c (j 0) (j 1)) (512 * n + r.val)) ?_ ?_ (le_of_eq N_0) t j
  · intro t h0 j
    rw [← add11_tok, zero_add]
    exact congrFun (sum11_A m c t h0) j
  · intro t h0 j
    rw [← add11_tok]
    exact congrFun (sum11_BC m c t h0) j
theorem sum12_eq (j : S1x8x1024.Idx) : (outsAt0 m c t.val t.isLt).2.2 j
    = 0 + ∑ n ∈ Finset.range (t.val % 4 + 1), ∑ r : Fin 512, flat (g12 m c (j 1) (j 2)) (512 * (4 * (t.val / 4) + n) + r.val) := by
  refine Pipeline.eq_sum_of_reset_step_apply (fun n h => (outsAt0 m c n h).2.2) 4 (fun _ => 0)
    (fun n j => ∑ r : Fin 512, flat (g12 m c (j 1) (j 2)) (512 * n + r.val)) ?_ ?_ t j
  · intro t h0 j
    rw [← add12_tok, zero_add]
    exact congrFun (sum12_AC m c t h0) j
  · intro t h0 j
    rw [← add12_tok]
    exact congrFun (sum12_B m c t h0) j

theorem sum11_last (ht : t.val % 16 = 15) (a : Fin 8) (q : Fin 1024) : (outsAt0 m c t.val t.isLt).2.1 (ix2 a q) = ∑ b, ∑ p, g11 m c a q b p := by
  have h : t.val < 16 := lt_of_lt_of_eq t.isLt N_0
  have e : t.val + 1 = 16 := by omega
  rw [sum11_eq, e, zero_add, Common.sum_blocks]
  change ∑ n ∈ Finset.range (2048 * 4), flat (g11 m c a q) n = _
  rw [← Common.sum_blocks_fin]
  simp only [flat_seq]
theorem sum12_last (ht : t.val % 4 = 3) (b : Fin 4) (hb : b.val = t.val / 4) (a : Fin 8) (q : Fin 1024) :
    (outsAt0 m c t.val t.isLt).2.2 (ix3 0 a q) = ∑ p, g12 m c a q b p := by
  have e (n : ℕ) (r : Fin 512) : 512 * (4 * b.val + n) + r.val = 2048 * b.val + (512 * n + r.val) := by omega
  rw [sum12_eq, ht, zero_add, ← hb]
  simp only [e]
  change ∑ n ∈ Finset.range 4, ∑ r : Fin 512, (fun x => flat (g12 m c a q) (2048 * b.val + x)) (512 * n + r.val) = _
  rw [Common.sum_blocks 512 (fun x => flat (g12 m c a q) (2048 * b.val + x))]
  change ∑ n ∈ Finset.range 2048, _ = _
  rw [Finset.sum_range]
  simp only [flat_seq]
end Tokens

/-! The arrays. -/

theorem idx10 : ∀ t : Fin cfg0.N, win0_10.index t = ![t.val, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val / 4, 0, 0] := (by decide +kernel : ∀ t : Fin grid0.N, _)

def R10 (c : Dev nD) : Vec Ideal S8192x1024 .f32 := fun j => dxT (aD m c) (aX m c) (aY m c) (aMo m c) (aG m c) (aW m c) (seqOf (j 0)) (posOf (j 0)) (j 1)
theorem arr10 (c : Dev nD) : (dats m 0 c).arrAt 10 cfg0.N = R10 m c := by
  refine (dats m 0 c).arrAt_eq_of_covers 10 _ (by decide +kernel) fun t hf y => ?_
  have ht : t.val < 16 := lt_of_lt_of_eq t.isLt N_0
  blk_simp
  rw [after0_10, left10]
  idx_vars y
  refine (dx_tok m c t y0 y1).trans ?_
  change R10 m c (ix2 (tok t y0) y1) = _
  refine Eq.symm ?_
  unfold tok
  blk_ext [idx10 t]

def R11 (c : Dev nD) : Vec Ideal S8x1024 .f32 := fun j => ∑ b, ∑ p, g11 m c (j 0) (j 1) b p
theorem arr11 (c : Dev nD) : (dats m 0 c).arrAt 11 cfg0.N = R11 m c := by
  refine (dats m 0 c).arrAt_eq_of_covers 11 _ (by decide +kernel) fun t hf y => ?_
  have h := (flush0_11 t).mp hf
  blk_simp
  rw [after0_11]
  idx_vars y
  refine (sum11_last m c t h y0 y1).trans ?_
  change R11 m c (ix2 y0 y1) = _
  refine Eq.symm ?_
  blk_ext [idx11 t]

def R12 (c : Dev nD) : Vec Ideal S4x8x1024 .f32 := fun j => ∑ p, g12 m c (j 1) (j 2) (j 0) p
theorem arr12 (c : Dev nD) : (dats m 0 c).arrAt 12 cfg0.N = R12 m c := by
  refine (dats m 0 c).arrAt_eq_of_covers 12 _ (by decide +kernel) fun t hf y => ?_
  have h := (flush0_12 t).mp hf
  have ht : t.val < 16 := lt_of_lt_of_eq t.isLt N_0
  blk_simp
  rw [after0_12]
  idx_vars y
  obtain rfl : y0 = 0 := Subsingleton.elim _ _
  refine (sum12_last m c t h ⟨t.val / 4, by omega⟩ rfl y1 y2).trans ?_
  change R12 m c (ix3 ⟨t.val / 4, by omega⟩ y1 y2) = _
  refine Eq.symm ?_
  blk_ext [idx12 t]

end Cert.MixInBwdIdeal.Own
end
-- ==== Proof.MixInBwdRef.lean ====
module
public import proofs.«01_k».proof.Defs
public import proofs.«01_k».proof.Proof.Common
public import proofs.«01_k».proof.Proof.Layer
public import proofs.«01_k».proof.Proof.MixInBwdMath
public import proofs.«01_k».proof.Proof.Gen.MixInBwdRefIdeal
public import proofs.«01_k».proof.Proof.Gen.MixInBwdRefIdeal.Read
public import Idealize.ShloMosaic.Lib.KernelVsHost

/-! The reference's values, one token at a time. -/

@[expose] public section
set_option maxRecDepth 16384
set_option maxHeartbeats 4000000
noncomputable section
namespace Cert.MixInBwdIdeal.Own
open Idealize.ShloMosaic Idealize.ShloMosaic.TcCoe Idealize.SL.Sem Cert.MixInBwdRefIdeal Cert.MixInBwdRefIdeal.Read Cert.MixInBwdRefIdeal.Gen Cert.Common
open Cert.FfnBwdIdeal.Own (IsReal mhalf tiny)
variable (Dp : Vec Ideal S4x2048x2560 .f32) (X Y : Vec Ideal S4x2048x1024 .f32) (Mo : Vec Ideal S4x6x1024 .f32) (G : Vec Ideal S1x1024 .f32) (W : Vec Ideal S1024x2560 .f32)

theorem ref_v11 (b : Fin 4) (t : Fin 2048) : (val_main_v11 (F := Ideal) X : Vec Ideal S4x2048x1 .f32) (ix3 b t 0) = Ideal.div (∑ q, X (ix3 b t q) * X (ix3 b t q)) wide + tiny := by
  unfold val_main_v11 val_main_v10 val_main_v9 val_main_v8 val_main_v7 val_main_v6 val_main_v5 val_main_cst val_main_cst_0 val_main_cst_1
  pointwise
  rfl

theorem ref_v12 (b : Fin 4) (t : Fin 2048) : (val_main_v12 (F := Ideal) X : Vec Ideal S4x2048x1 .f32) (ix3 b t 0) = rsT X b t := by
  unfold val_main_v12
  pointwise [ref_v11]
  rfl

theorem ref_v15 (b : Fin 4) (t : Fin 2048) : (val_main_v15 (F := Ideal) X : Vec Ideal S4x2048x1 .f32) (ix3 b t 0) = mhalf * Ideal.div (rsT X b t) (Ideal.div (∑ q, X (ix3 b t q) * X (ix3 b t q)) wide + tiny) := by
  unfold val_main_v15 val_main_v14 val_main_v13 val_main_cst_2
  pointwise [ref_v11, ref_v12]
  rfl

theorem ref_v20 (b : Fin 4) (t : Fin 2048) (q : Fin 1024) : (val_main_v20 (F := Ideal) X G : Vec Ideal S4x2048x1024 .f32) (ix3 b t q) = X (ix3 b t q) * rsT X b t * G (ix2 0 q) := by
  unfold val_main_v20 val_main_v19 val_main_v18 val_main_v17 val_main_v16 val_main_v4
  pointwise [ref_v12]

theorem ref_v23 (b : Fin 4) (q : Fin 1024) : (val_main_v23 (F := Ideal) Mo : Vec Ideal S4x1x1024 .f32) (ix3 b 0 q) = 1 + Mo (ix3 b 1 q) := by
  unfold val_main_v23 val_main_v22 val_main_v21 val_main_v3 val_main_v2 val_main_cst_3
  pointwise

theorem ref_v30 (b : Fin 4) (t : Fin 2048) (q : Fin 1024) : (val_main_v30 (F := Ideal) Dp W : Vec Ideal S4x2048x1024 .f32) (ix3 b t q) = dhT Dp W b t q := by
  unfold val_main_v30
  pointwise
  rfl

theorem ref_v44 (b : Fin 4) (t : Fin 2048) (q : Fin 1024) : (val_main_v44 (F := Ideal) Dp Mo G W : Vec Ideal S4x2048x1024 .f32) (ix3 b t q) = dxhT Dp Mo G W b t q := by
  unfold val_main_v44 val_main_v43 val_main_v18 val_main_v4 val_main_v38 val_main_v37
  pointwise [ref_v30, ref_v23]
  rfl

theorem ref_v54 (b : Fin 4) (t : Fin 2048) : (val_main_v54 (F := Ideal) Dp X Mo G W : Vec Ideal S4x2048 .f32) (ix2 b t) = qR Dp X Mo G W b t := by
  unfold val_main_v54 val_main_v53 val_main_v52 val_main_v51 val_main_v48 val_main_v47 val_main_v46 val_main_cst_10 val_main_cst_11 val_main_cst_12
  pointwise [ref_v44, ref_v15]
  simp only [Fin.sum_univ_one]
  simp only [ref_v15]
  rfl

theorem ref_v33 (b : Fin 4) (q : Fin 1024) : (val_main_v33 (F := Ideal) Dp W : Vec Ideal S4x1024 .f32) (ix2 b q) = ∑ t, dhT Dp W b t q := by
  unfold val_main_v33 val_main_v32 val_main_v31 val_main_cst_4 val_main_cst_5
  pointwise [ref_v30]
  simp only [Fin.sum_univ_one]

theorem ref_v39 (b : Fin 4) (q : Fin 1024) : (val_main_v39 (F := Ideal) Dp X G W : Vec Ideal S4x1024 .f32) (ix2 b q) = ∑ t, dscT Dp X G W b t q := by
  unfold val_main_v39 val_main_v36 val_main_v35 val_main_v34 val_main_cst_6 val_main_cst_7
  pointwise [ref_v30, ref_v20]
  simp only [Fin.sum_univ_one, dscT]
  exact Finset.sum_congr rfl fun t _ => mul_comm (_ : EReal) _

theorem ref_v45 (q : Fin 1024) : (val_main_v45 (F := Ideal) Dp X Mo W : Vec Ideal S1024 .f32) (ix1 q) = ∑ b, ∑ t, dgnT Dp X Mo W b t q := by
  unfold val_main_v45 val_main_v42 val_main_v41 val_main_v40 val_main_v38 val_main_v37 val_main_v17 val_main_v16 val_main_cst_8 val_main_cst_9
  pointwise [host_sum01, ref_v30, ref_v23, ref_v12]
  simp only [Fin.sum_univ_one, dgnT]
  exact Finset.sum_congr rfl fun b _ => Finset.sum_congr rfl fun t _ => mul_comm (_ : EReal) _

theorem ref_v63 (b : Fin 4) (t : Fin 2048) (q : Fin 1024) : (val_main_v63 (F := Ideal) Dp X Y Mo G W : Vec Ideal S4x2048x1024 .f32) (ix3 b t q) = dxR Dp X Y Mo G W b t q := by
  unfold val_main_v63 val_main_v59 val_main_v58 val_main_v57 val_main_v56 val_main_v55 val_main_v50 val_main_v49
  pointwise [ref_v44, ref_v54, ref_v12]
  rfl

/-! The results. -/

theorem pad_value : (sitofp (F := Ideal) .f32 (constantI S_ 32 0#32) : Vec Ideal S_ .f32) (Shape.Idx.first h_S_) = 0 := by
  change ((((0#32 : BitVec 32).toInt : ℝ)) : EReal) = 0
  simp

theorem res_v64 (hD : ∀ j, IsReal (Dp j)) (hX : ∀ j, IsReal (X j)) (hMo : ∀ j, IsReal (Mo j)) (hG : ∀ j, IsReal (G j)) (hW : ∀ j, IsReal (W j))
    (n : Fin 8192) (q : Fin 1024) : (val_main_v64 (F := Ideal) Dp X Y Mo G W : Vec Ideal S8192x1024 .f32) (ix2 n q) = dxT Dp X Y Mo G W (seqOf n) (posOf n) q := by
  rw [dxT_eq Dp X Y Mo G W _ _ hD hX hMo hG hW]
  unfold val_main_v64
  pointwise
  exact ref_v63 Dp X Y Mo G W _ _ _

theorem res_v66 (a : Fin 8) (q : Fin 1024) : (val_main_v66 (F := Ideal) Dp X Mo W : Vec Ideal S8x1024 .f32) (ix2 a q)
    = ∑ b, ∑ p, if a = 0 then dgnT Dp X Mo W b p q else 0 := by
  unfold val_main_v66
  by_cases h : a = 0
  · subst h
    simp only [if_pos]
    refine (pad_apply_of_inside (t := S8x1024) ![0, 0] ![7, 0] ![0, 0] (val_main_v65 (F := Ideal) Dp X Mo W) (val_main_call0_v0 (F := Ideal)) pads_S1x1024_S8x1024_070_000 h_S_ (ix2 0 q) (ix2 0 q) ?_).trans ?_
    · intro i
      fin_cases i <;> simp [ix2]
    · unfold val_main_v65
      pointwise
      exact ref_v45 Dp X Mo W q
  · simp only [if_neg h, Finset.sum_const_zero]
    refine (pad_apply_of_not_inside (t := S8x1024) ![0, 0] ![7, 0] ![0, 0] (val_main_v65 (F := Ideal) Dp X Mo W) (val_main_call0_v0 (F := Ideal)) pads_S1x1024_S8x1024_070_000 h_S_ (ix2 a q) 0 ?_).trans pad_value
    rintro ⟨-, -, h3⟩
    have h3 : (a.val - 0) / (0 + 1) < 1 := h3
    exact h (Fin.ext (by change a.val = 0; omega))

theorem res_v62 (b : Fin 4) (q : Fin 1024) : (val_main_v62 (F := Ideal) Dp X G W : Vec Ideal S4x2x1024 .f32) (ix3 b 0 q) = ∑ t, dhT Dp W b t q
    ∧ (val_main_v62 (F := Ideal) Dp X G W : Vec Ideal S4x2x1024 .f32) (ix3 b 1 q) = ∑ t, dscT Dp X G W b t q := by
  unfold val_main_v62 val_main_v60 val_main_v61
  refine ⟨?_, ?_⟩
  · pointwise
    exact ref_v33 Dp W b q
  · pointwise
    exact ref_v39 Dp X G W b q

theorem res_v67 (b : Fin 4) (a : Fin 8) (q : Fin 1024) : (val_main_v67 (F := Ideal) Dp X G W : Vec Ideal S4x8x1024 .f32) (ix3 b a q)
    = ∑ p, if a = 0 then dhT Dp W b p q else if a = 1 then dscT Dp X G W b p q else 0 := by
  have inside (a' : Fin 2) (e : a.val = a'.val) : (val_main_v67 (F := Ideal) Dp X G W : Vec Ideal S4x8x1024 .f32) (ix3 b a q)
      = (val_main_v62 (F := Ideal) Dp X G W : Vec Ideal S4x2x1024 .f32) (ix3 b a' q) := by
    refine pad_apply_of_inside (t := S4x8x1024) ![0, 0, 0] ![0, 6, 0] ![0, 0, 0] (val_main_v62 (F := Ideal) Dp X G W) (val_main_call1_v0 (F := Ideal)) pads_S4x2x1024_S4x8x1024_000_060_000 h_S_ (ix3 b a q) (ix3 b a' q) ?_
    intro i
    fin_cases i <;> simp [ix3, e]
  obtain ⟨r0, r1⟩ := res_v62 Dp X G W b q
  by_cases h0 : a = 0
  · subst h0
    simp only [if_pos]
    exact (inside 0 rfl).trans r0
  by_cases h1 : a = 1
  · subst h1
    simp only [if_neg h0, if_pos]
    exact (inside 1 rfl).trans r1
  · simp only [if_neg h0, if_neg h1, Finset.sum_const_zero]
    refine (pad_apply_of_not_inside (t := S4x8x1024) ![0, 0, 0] ![0, 6, 0] ![0, 0, 0] (val_main_v62 (F := Ideal) Dp X G W) (val_main_call1_v0 (F := Ideal)) pads_S4x2x1024_S4x8x1024_000_060_000 h_S_ (ix3 b a q) 1 ?_).trans pad_value
    rintro ⟨-, -, h3⟩
    have h3 : (a.val - 0) / (0 + 1) < 2 := h3
    have e0 : a.val ≠ 0 := fun e => h0 (Fin.ext e)
    have e1 : a.val ≠ 1 := fun e => h1 (Fin.ext e)
    omega

end Cert.MixInBwdIdeal.Own
end
-- ==== Proof.MixInBwdProof.lean ====
module
public import proofs.«01_k».proof.Defs
public import proofs.«01_k».proof.Proof.Gen.MixInBwd
public import proofs.«01_k».proof.Proof.Gen.MixInBwdIdeal
public import proofs.«01_k».proof.Proof.Gen.MixInBwdRefIdeal
public import proofs.«01_k».proof.Proof.Gen.MixInBwdRefIdeal.Run
public import proofs.«01_k».proof.Proof.Gen.MixInBwdRefIdeal.Read
public import proofs.«01_k».proof.Proof.Gen.MixInBwdIdeal.Frame
public import proofs.«01_k».proof.Proof.MixInBwdArr
public import proofs.«01_k».proof.Proof.MixInBwdRef
public import proofs.«01_k».proof.Proof.FfnBwdPre

/-! The mixer's backward entry: what its precondition gives, and that the call computes the derivative. -/

@[expose] public section
set_option maxRecDepth 16384
set_option maxHeartbeats 4000000
noncomputable section
namespace Cert.MixInBwdIdeal.Own
open Cert.MixInBwdIdeal Cert.MixInBwdIdeal.Gen Idealize.ShloMosaic Idealize.ShloMosaic.TcCoe Idealize.SL.Sem Cert.Common
variable (m : (ℓ : Loc nD τ sig) → Buf (Elt Ideal) ℓ)

theorem results (ρ : Dev nD → PrngReg) : θ_run defs (onTc (τ := τ) (main (F := Ideal))) ⟨m, fun _ => 0, ρ⟩ (fun r => ∀ c : Dev nD,
      r.2.mem ((c.tc : Thread nD τ).loc main_v20_0) = R10 m c
      ∧ r.2.mem ((c.tc : Thread nD τ).loc main_v20_1) = R11 m c
      ∧ r.2.mem ((c.tc : Thread nD τ).loc main_v20_2) = R12 m c) :=
  (θ_run defs _ _).mono (fun r h c => ⟨((h c).1 10).trans (arr10 m c), ((h c).1 11).trans (arr11 m c), ((h c).1 12).trans (arr12 m c)⟩) (run_main m ρ)
end Cert.MixInBwdIdeal.Own

namespace Cert.MixInBwdProof
open Idealize.ShloMosaic Idealize.ShloMosaic.TcCoe Idealize.SL.Sem
open Cert.FfnBwdIdeal.Own (IsReal real_of_all)

theorem both {u v : BitVec 1} (h : IntOp.andi u v = 1#1) : u = 1#1 ∧ v = 1#1 := by
  revert u v; decide

theorem finite_of [Cert.Pre_mix_finite.Facts] (x0 : FVec Ideal Cert.Pre_mix_finite.S4x2048x2560 .f32) (x1 x2 : FVec Ideal Cert.Pre_mix_finite.S4x2048x1024 .f32) (x3 : FVec Ideal Cert.Pre_mix_finite.S4x6x1024 .f32)
    (x4 : FVec Ideal Cert.Pre_mix_finite.S1x1024 .f32) (x5 : FVec Ideal Cert.Pre_mix_finite.S1024x2560 .f32)
    (h : Cert.Pre_mix_finite.fn (F := Ideal) x0 x1 x2 x3 x4 x5 = fun _ => 1#1) :
    (∀ j, IsReal (x0 j)) ∧ (∀ j, IsReal (x1 j)) ∧ (∀ j, IsReal (x3 j)) ∧ (∀ j, IsReal (x4 j)) ∧ (∀ j, IsReal (x5 j)) := by
  have i0 : Cert.Pre_mix_finite.S_.Idx := fun a => a.elim0
  haveI : Subsingleton Cert.Pre_mix_finite.S_.Idx := ⟨fun a b => funext fun k => k.elim0⟩
  have e := congrFun h i0
  unfold Cert.Pre_mix_finite.fn Cert.Pre_mix_finite.fn_part1 at e
  dsimp only at e
  obtain ⟨e, k4⟩ := both e
  obtain ⟨e, k3⟩ := both e
  obtain ⟨e, k2⟩ := both e
  obtain ⟨k0, k1⟩ := both e
  clear e h
  exact ⟨real_of_all x0 _ _ _ _ _ k0, real_of_all x1 _ _ _ _ _ k1, real_of_all x3 _ _ _ _ _ k2, real_of_all x4 _ _ _ _ _ k3, real_of_all x5 _ _ _ _ _ k4⟩

theorem frame_ri : Cert.quiescent_MixInBwdRefIdeal := fun m ρ _ =>
  (θ_run Cert.MixInBwdRefIdeal.defs _ _).mono (fun r h => ⟨fun c => (h c).2.2.2, sem_eq_zero_of_no_sems (by decide) r.2⟩)
    (Cert.MixInBwdRefIdeal.Value.run (F := Ideal) m ρ)

theorem frame_ri_pre [Cert.Pre_mix_finite.Facts] : Cert.quiescent_MixInBwdRefIdeal_pre_mix_finite := fun m ρ _ => frame_ri m ρ trivial

open Cert.MixInBwdIdeal.Own Cert.MixInBwdRefIdeal.Read in
theorem algebraic [Cert.Pre_mix_finite.Facts] : Cert.algebraic_MixInBwdIdeal_MixInBwdRefIdeal_pre_mix_finite := by
  intro m g m' g' hpre hagree
  refine ⟨R10 m, R11 m, R12 m, ?_, ?_⟩
  · exact θ_run_and (results m g) (Cert.MixInBwdIdeal.Gen.unchanged m g) |> fun h => (θ_run _ _ _).mono (fun r h c => by
      obtain ⟨h, k⟩ := h
      obtain ⟨r0, r1, r2⟩ := h c
      exact ⟨r0, r1, r2, k c⟩) h
  · refine (θ_run Cert.MixInBwdRefIdeal.defs _ _).mono (fun r h c => ?_) (Cert.MixInBwdRefIdeal.Value.run (F := Ideal) m' g')
    obtain ⟨e0, e1, e2, e3, e4, e5⟩ := hagree c
    obtain ⟨hD, hX, hMo, hG, hW⟩ := finite_of _ _ _ _ _ _ (hpre c)
    obtain ⟨r0, r1, r2, k⟩ := h c
    refine ⟨r0.trans ?_, r1.trans ?_, r2.trans ?_, k⟩
    · rw [val_main_v64_eq, e0, e1, e2, e3, e4, e5]
      funext j
      idx_vars j
      exact res_v64 (aD m c) (aX m c) (aY m c) (aMo m c) (aG m c) (aW m c) hD hX hMo hG hW j0 j1
    · rw [val_main_v66_eq, e0, e1, e3, e5]
      funext j
      idx_vars j
      exact res_v66 (aD m c) (aX m c) (aMo m c) (aW m c) j0 j1
    · rw [val_main_v67_eq, e0, e1, e4, e5]
      funext j
      idx_vars j
      exact res_v67 (aD m c) (aX m c) (aG m c) (aW m c) j0 j1 j2

end Cert.MixInBwdProof
end
-- ==== Proof.lean ====
module

public import proofs.«01_k».proof.Defs
public import proofs.«01_k».proof.Proof.Gen.GradUp
public import proofs.«01_k».proof.Proof.Gen.GradUp.Frame
public import proofs.«01_k».proof.Proof.Gen.GradUpIdeal
public import proofs.«01_k».proof.Proof.Gen.GradUpIdeal.Frame
public import proofs.«01_k».proof.Proof.Gen.GradUpRefIdeal
public import proofs.«01_k».proof.Proof.GradUp
public import proofs.«01_k».proof.Proof.Gen.GradDown
public import proofs.«01_k».proof.Proof.Gen.GradDown.Frame
public import proofs.«01_k».proof.Proof.Gen.GradDownIdeal
public import proofs.«01_k».proof.Proof.Gen.GradDownIdeal.Frame
public import proofs.«01_k».proof.Proof.Gen.GradDownRefIdeal
public import proofs.«01_k».proof.Proof.GradDown
public import proofs.«01_k».proof.Proof.Gen.GradIn
public import proofs.«01_k».proof.Proof.Gen.GradIn.Frame
public import proofs.«01_k».proof.Proof.Gen.GradInIdeal
public import proofs.«01_k».proof.Proof.Gen.GradInIdeal.Frame
public import proofs.«01_k».proof.Proof.Gen.GradInRefIdeal
public import proofs.«01_k».proof.Proof.GradIn
public import proofs.«01_k».proof.Proof.Gen.GradOut
public import proofs.«01_k».proof.Proof.Gen.GradOut.Frame
public import proofs.«01_k».proof.Proof.Gen.GradOutIdeal
public import proofs.«01_k».proof.Proof.Gen.GradOutIdeal.Frame
public import proofs.«01_k».proof.Proof.Gen.GradOutRefIdeal
public import proofs.«01_k».proof.Proof.GradOut
public import proofs.«01_k».proof.Proof.Gen.FfnBwd
public import proofs.«01_k».proof.Proof.Gen.FfnBwdIdeal
public import proofs.«01_k».proof.Proof.Gen.FfnBwdRefIdeal
public import proofs.«01_k».proof.Proof.FfnBwdProof
public import proofs.«01_k».proof.Proof.Gen.FfnFwd
public import proofs.«01_k».proof.Proof.Gen.FfnFwdIdeal
public import proofs.«01_k».proof.Proof.Gen.FfnFwdRefIdeal
public import proofs.«01_k».proof.Proof.FfnFwdProof
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutRefIdeal
public import proofs.«01_k».proof.Proof.MixOutProof
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInRefIdeal
public import proofs.«01_k».proof.Proof.MixInProof
public import proofs.«01_k».proof.Proof.Gen.MixInBwd
public import proofs.«01_k».proof.Proof.Gen.MixInBwd.Frame
public import proofs.«01_k».proof.Proof.Gen.MixInBwdIdeal
public import proofs.«01_k».proof.Proof.Gen.MixInBwdIdeal.Frame
public import proofs.«01_k».proof.Proof.Gen.MixInBwdRefIdeal
public import proofs.«01_k».proof.Proof.MixInBwdProof
public import proofs.«01_k».proof.Proof.Gen.Pre_mix_finite

/-! Every claim of the certificate, in the order of `Claim`. -/

@[expose] public section
noncomputable section
namespace Cert.Proof

theorem claim : Cert.Claim :=
  ⟨Cert.GradUp.Gen.facts, Cert.GradUpIdeal.Gen.facts, Cert.GradUpRefIdeal.Gen.facts,
    Cert.GradDown.Gen.facts, Cert.GradDownIdeal.Gen.facts, Cert.GradDownRefIdeal.Gen.facts,
    Cert.GradIn.Gen.facts, Cert.GradInIdeal.Gen.facts, Cert.GradInRefIdeal.Gen.facts,
    Cert.GradOut.Gen.facts, Cert.GradOutIdeal.Gen.facts, Cert.GradOutRefIdeal.Gen.facts,
    Cert.FfnBwd.Gen.facts, Cert.FfnBwdIdeal.Gen.facts, Cert.FfnBwdRefIdeal.Gen.facts,
    Cert.FfnFwd.Gen.facts, Cert.FfnFwdIdeal.Gen.facts, Cert.FfnFwdRefIdeal.Gen.facts,
    Cert.MixOut.Gen.facts, Cert.MixOutIdeal.Gen.facts, Cert.MixOutRefIdeal.Gen.facts,
    Cert.MixIn.Gen.facts, Cert.MixInIdeal.Gen.facts, Cert.MixInRefIdeal.Gen.facts,
    Cert.MixInBwd.Gen.facts, Cert.MixInBwdIdeal.Gen.facts, Cert.MixInBwdRefIdeal.Gen.facts,
    Cert.FfnBwdIdeal.Own.facts_finite,
    Cert.Pre_mix_finite.Gen.facts,
    fun m ρ _ => Cert.GradUp.Gen.frame m ρ, fun m ρ _ => Cert.GradUpIdeal.Gen.frame m ρ, Cert.GradUpProof.frame_ri,
    fun m ρ _ => Cert.GradDown.Gen.frame m ρ, fun m ρ _ => Cert.GradDownIdeal.Gen.frame m ρ, Cert.GradDownProof.frame_ri,
    fun m ρ _ => Cert.GradIn.Gen.frame m ρ, fun m ρ _ => Cert.GradInIdeal.Gen.frame m ρ, Cert.GradInProof.frame_ri,
    fun m ρ _ => Cert.GradOut.Gen.frame m ρ, fun m ρ _ => Cert.GradOutIdeal.Gen.frame m ρ, Cert.GradOutProof.frame_ri,
    Cert.FfnBwdProof.frame_p, Cert.FfnBwdProof.frame_pi, @Cert.FfnBwdProof.frame_pi_pre Cert.FfnBwdIdeal.Own.facts_finite,
    Cert.FfnBwdProof.frame_ri, @Cert.FfnBwdProof.frame_ri_pre Cert.FfnBwdIdeal.Own.facts_finite,
    Cert.FfnFwdProof.frame_p, Cert.FfnFwdProof.frame_pi, Cert.FfnFwdProof.frame_ri,
    fun m ρ _ => Cert.MixOut.Gen.frame m ρ, fun m ρ _ => Cert.MixOutIdeal.Gen.frame m ρ, Cert.MixOutProof.frame_ri,
    fun m ρ _ => Cert.MixIn.Gen.frame m ρ, fun m ρ _ => Cert.MixInIdeal.Gen.frame m ρ, Cert.MixInProof.frame_ri,
    fun m ρ _ => Cert.MixInBwd.Gen.frame m ρ, fun m ρ _ => Cert.MixInBwdIdeal.Gen.frame m ρ, fun m ρ _ => Cert.MixInBwdIdeal.Gen.frame m ρ,
    Cert.MixInBwdProof.frame_ri, Cert.MixInBwdProof.frame_ri_pre,
    trivial, Cert.GradUpProof.algebraic,
    trivial, Cert.GradDownProof.algebraic,
    trivial, Cert.GradInProof.algebraic,
    trivial, Cert.GradOutProof.algebraic,
    trivial, @Cert.FfnBwdProof.algebraic Cert.FfnBwdIdeal.Own.facts_finite,
    trivial, Cert.FfnFwdProof.algebraic,
    trivial, Cert.MixOutProof.algebraic,
    trivial, Cert.MixInProof.algebraic,
    trivial, Cert.MixInBwdProof.algebraic⟩

end Cert.Proof
end
